-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v46_0) i = v0 c i)
          ∧ (∀ i : (⟨2, ![8192, 384]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v46_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v95) i = v0 c i)
          ∧ (∀ i : (⟨2, ![8192, 384]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v99) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v5)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v5) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v1) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v5_0)) (v1 : (c : Dev Cert.UpDwIdeal.nD) → Buf (Elt Ideal) ((c.tc : Thread Cert.UpDwIdeal.nD Cert.UpDwIdeal.τ).loc Cert.UpDwIdeal.main_v5_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v5_0) = v0 c
          ∧ r.2.mem ((c.tc : Thread Cert.UpDwIdeal.nD Cert.UpDwIdeal.τ).loc Cert.UpDwIdeal.main_v5_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v2) = v0 c
          ∧ r.2.mem ((c.tc : Thread Cert.UpDwRefIdeal.nD Cert.UpDwRefIdeal.τ).loc Cert.UpDwRefIdeal.main_v3) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v1) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v1) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v1) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v1) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v1) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v1) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v2_0)) (v1 : (c : Dev Cert.InFwdIdeal.nD) → Buf (Elt Ideal) ((c.tc : Thread Cert.InFwdIdeal.nD Cert.InFwdIdeal.τ).loc Cert.InFwdIdeal.main_v2_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2_0) = v0 c
          ∧ r.2.mem ((c.tc : Thread Cert.InFwdIdeal.nD Cert.InFwdIdeal.τ).loc Cert.InFwdIdeal.main_v2_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v13) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v2_0)) (v1 : (c : Dev Cert.UpFwdIdeal.nD) → Buf (Elt Ideal) ((c.tc : Thread Cert.UpFwdIdeal.nD Cert.UpFwdIdeal.τ).loc Cert.UpFwdIdeal.main_v2_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2_0) = v0 c
          ∧ r.2.mem ((c.tc : Thread Cert.UpFwdIdeal.nD Cert.UpFwdIdeal.τ).loc Cert.UpFwdIdeal.main_v2_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v17) = v0 c
          ∧ r.2.mem ((c.tc : Thread Cert.UpFwdRefIdeal.nD Cert.UpFwdRefIdeal.τ).loc Cert.UpFwdRefIdeal.main_v18) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v1) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_v38) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)
      ∧ m' ((c.tc : Thread Cert.OutNormRefIdeal.nD Cert.OutNormRefIdeal.τ).loc Cert.OutNormRefIdeal.main_arg4) = m ((c.tc : Thread Cert.OutNormIdeal.nD Cert.OutNormIdeal.τ).loc Cert.OutNormIdeal.main_arg4)) →
    ∃ (v0 : (c : Dev Cert.OutNormIdeal.nD) → Buf (Elt Ideal) ((c.tc : Thread Cert.OutNormIdeal.nD Cert.OutNormIdeal.τ).loc Cert.OutNormIdeal.main_v3_0)) (v1 : (c : Dev Cert.OutNormIdeal.nD) → Buf (Elt Ideal) ((c.tc : Thread Cert.OutNormIdeal.nD Cert.OutNormIdeal.τ).loc Cert.OutNormIdeal.main_v3_1)) (v2 : (c : Dev Cert.OutNormIdeal.nD) → Buf (Elt Ideal) ((c.tc : Thread Cert.OutNormIdeal.nD Cert.OutNormIdeal.τ).loc Cert.OutNormIdeal.main_v3_2)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v3_0) = v0 c
          ∧ r.2.mem ((c.tc : Thread Cert.OutNormIdeal.nD Cert.OutNormIdeal.τ).loc Cert.OutNormIdeal.main_v3_1) = v1 c
          ∧ r.2.mem ((c.tc : Thread Cert.OutNormIdeal.nD Cert.OutNormIdeal.τ).loc Cert.OutNormIdeal.main_v3_2) = v2 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v52) = v0 c
          ∧ r.2.mem ((c.tc : Thread Cert.OutNormRefIdeal.nD Cert.OutNormRefIdeal.τ).loc Cert.OutNormRefIdeal.main_v73) = v1 c
          ∧ r.2.mem ((c.tc : Thread Cert.OutNormRefIdeal.nD Cert.OutNormRefIdeal.τ).loc Cert.OutNormRefIdeal.main_v77) = v2 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3)
          ∧ r.2.mem ((c.tc : Thread Cert.OutNormRefIdeal.nD Cert.OutNormRefIdeal.τ).loc Cert.OutNormRefIdeal.main_arg4) = m' ((c.tc : Thread Cert.OutNormRefIdeal.nD Cert.OutNormRefIdeal.τ).loc Cert.OutNormRefIdeal.main_arg4))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hNormBwd : Cert.NormBwd.Facts) (hNormBwdIdeal : Cert.NormBwdIdeal.Facts) (hNormBwdRefIdeal : Cert.NormBwdRefIdeal.Facts) (hOutNorm : Cert.OutNorm.Facts) (hOutNormIdeal : Cert.OutNormIdeal.Facts) (hOutNormRefIdeal : Cert.OutNormRefIdeal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_OutNorm_OutNormIdeal
    ∧ algebraic_OutNormIdeal_OutNormRefIdeal (hOutNormIdeal := hOutNormIdeal) (hOutNormRefIdeal := hOutNormRefIdeal)
-- ==== On_written.lean ====
abbrev S8192x384 : Shape := ⟨2, ![8192, 384]⟩
abbrev S8192x6 : Shape := ⟨2, ![8192, 6]⟩
abbrev S3072 : Shape := ⟨1, ![3072]⟩
abbrev S1x3072 : Shape := ⟨2, ![1, 3072]⟩
abbrev S_ : Shape := ⟨0, ![]⟩
abbrev S8192x3072 : Shape := ⟨2, ![8192, 3072]⟩

class Facts : Prop where
  bcast_S3072_S1x3072_1 : S3072.BroadcastsInDim S1x3072 (![1] : Fin 1 → Fin S1x3072.rank)
  bcast_S_S1x3072 : S_.BroadcastsInDim S1x3072 (![] : Fin 0 → Fin S1x3072.rank)
  bcast_S1x3072_S8192x3072_0_1 : S1x3072.BroadcastsInDim S8192x3072 (![0, 1] : Fin 2 → Fin S8192x3072.rank)
  bcast_S_S8192x384 : S_.BroadcastsInDim S8192x384 (![] : Fin 0 → Fin S8192x384.rank)

variable [Facts]

def fn {F : FTy → Type} [FloatOps F] (main_arg0 : FVec F S8192x384 .f32) (main_arg1 : FVec F S8192x384 .f32) (main_arg2 : FVec F S8192x384 .f32) (main_arg3 : FVec F S8192x6 .f32) (main_arg4 : FVec F S8192x384 .f32) : IVec S8192x3072 1 × IVec S8192x384 1 :=
  let main_v0 : IVec S3072 32 := iotaInDim S3072 32 0
  let main_v1 : IVec S1x3072 32 := broadcastInDim S1x3072 ![1] bcast_S3072_S1x3072_1 main_v0
  let main_c : IVec S_ 32 := constantI S_ 32 1152#32
  let main_v2 : IVec S1x3072 32 := broadcastInDim S1x3072 ![] bcast_S_S1x3072 main_c
  let main_v3 : IVec S1x3072 1 := cmpi .slt main_v1 main_v2
  let main_v4 : IVec S8192x3072 1 := broadcastInDim S8192x3072 ![0, 1] bcast_S1x3072_S8192x3072_0_1 main_v3
  let main_c_0 : IVec S_ 1 := constantI S_ 1 1#1
  let main_v5 : IVec S8192x384 1 := broadcastInDim S8192x384 ![] bcast_S_S8192x384 main_c_0
  (main_v4, main_v5)
-- ==== Pre_finite.lean ====
abbrev S8192x384 : Shape := ⟨2, ![8192, 384]⟩
abbrev S8192x6 : Shape := ⟨2, ![8192, 6]⟩
abbrev S_ : Shape := ⟨0, ![]⟩

class Facts : Prop where
  bcast_S_S8192x384 : S_.BroadcastsInDim S8192x384 (![] : Fin 0 → Fin S8192x384.rank)
  reducesTo_S8192x384_S_d0_1 : S8192x384.ReducesTo [0, 1] S_
  h_S_ : 0 < S_.numel
  bcast_S_S8192x6 : S_.BroadcastsInDim S8192x6 (![] : Fin 0 → Fin S8192x6.rank)
  reducesTo_S8192x6_S_d0_1 : S8192x6.ReducesTo [0, 1] S_

variable [Facts]

def fn_part1 {F : FTy → Type} [FloatOps F] (main_arg4 : FVec F S8192x384 .f32) (main_v3 : IVec S_ 1) (main_v7 : IVec S_ 1) (main_v11 : IVec S_ 1) (main_v15 : IVec S_ 1) : IVec S_ 1 :=
  let main_v16 : FVec F S8192x384 .f32 := Host.absf main_arg4
  let main_cst_6 : FVec F S_ .f32 := constant S_ .f32 0x7F800000#32
  let main_v17 : FVec F S8192x384 .f32 := broadcastInDim S8192x384 ![] bcast_S_S8192x384 main_cst_6
  let main_v18 : IVec S8192x384 1 := cmpf .olt main_v16 main_v17
  let main_c_7 : IVec S_ 1 := constantI S_ 1 1#1
  let main_v19 : IVec S_ 1 := (fun x v => Host.reduce IntOp.andi x v reducesTo_S8192x384_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x384 .f32) (main_arg1 : FVec F S8192x384 .f32) (main_arg2 : FVec F S8192x384 .f32) (main_arg3 : FVec F S8192x6 .f32) (main_arg4 : FVec F S8192x384 .f32) : IVec S_ 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_c : IVec S_ 1 := constantI S_ 1 1#1
  let main_v3 : IVec S_ 1 := (fun x v => Host.reduce IntOp.andi x v reducesTo_S8192x384_S_d0_1 h_S_) main_v2 main_c
  let main_v4 : FVec F S8192x384 .f32 := Host.absf main_arg1
  let main_cst_0 : FVec F S_ .f32 := constant S_ .f32 0x7F800000#32
  let main_v5 : FVec F S8192x384 .f32 := broadcastInDim S8192x384 ![] bcast_S_S8192x384 main_cst_0
  let main_v6 : IVec S8192x384 1 := cmpf .olt main_v4 main_v5
  let main_c_1 : IVec S_ 1 := constantI S_ 1 1#1
  let main_v7 : IVec S_ 1 := (fun x v => Host.reduce IntOp.andi x v reducesTo_S8192x384_S_d0_1 h_S_) main_v6 main_c_1
  let main_v8 : FVec F S8192x384 .f32 := Host.absf main_arg2
  let main_cst_2 : FVec F S_ .f32 := constant S_ .f32 0x7F800000#32
  let main_v9 : FVec F S8192x384 .f32 := broadcastInDim S8192x384 ![] bcast_S_S8192x384 main_cst_2
  let main_v10 : IVec S8192x384 1 := cmpf .olt main_v8 main_v9
  let main_c_3 : IVec S_ 1 := constantI S_ 1 1#1
  let main_v11 : IVec S_ 1 := (fun x v => Host.reduce IntOp.andi x v reducesTo_S8192x384_S_d0_1 h_S_) main_v10 main_c_3
  let main_v12 : FVec F S8192x6 .f32 := Host.absf main_arg3
  let main_cst_4 : FVec F S_ .f32 := constant S_ .f32 0x7F800000#32
  let main_v13 : FVec F S8192x6 .f32 := broadcastInDim S8192x6 ![] bcast_S_S8192x6 main_cst_4
  let main_v14 : IVec S8192x6 1 := cmpf .olt main_v12 main_v13
  let main_c_5 : IVec S_ 1 := constantI S_ 1 1#1
  let main_v15 : IVec S_ 1 := (fun x v => Host.reduce IntOp.andi x v reducesTo_S8192x6_S_d0_1 h_S_) main_v14 main_c_5
  fn_part1 (F := F) main_arg4 main_v3 main_v7 main_v11 main_v15
-- ==== Kernel.lean ====
abbrev S8192x384 : Shape := ⟨2, ![8192, 384]⟩
abbrev S8192x6 : Shape := ⟨2, ![8192, 6]⟩
abbrev S4x2048x6x64 : Shape := ⟨4, ![4, 2048, 6, 64]⟩
abbrev S4x2048x6 : Shape := ⟨3, ![4, 2048, 6]⟩
abbrev S4x6x2048 : Shape := ⟨3, ![4, 6, 2048]⟩
abbrev S4x6x2048x2048 : Shape := ⟨4, ![4, 6, 2048, 2048]⟩
abbrev S_ : Shape := ⟨0, ![]⟩
abbrev S4x6x2048x1 : Shape := ⟨4, ![4, 6, 2048, 1]⟩
abbrev S4x6x1x2048 : Shape := ⟨4, ![4, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x6x64x2048 : Shape := ⟨4, ![4, 6, 64, 2048]⟩
abbrev S4x2048x6x1 : Shape := ⟨4, ![4, 2048, 6, 1]⟩
abbrev S8192x3x1x128 : Shape := ⟨4, ![8192, 3, 1, 128]⟩
abbrev S8192x3x3x128 : Shape := ⟨4, ![8192, 3, 3, 128]⟩
abbrev S8192x1152 : Shape := ⟨2, ![8192, 1152]⟩
abbrev S8192x3072 : Shape := ⟨2, ![8192, 3072]⟩
abbrev S8192x128 : Shape := ⟨2, ![8192, 128]⟩
abbrev S2048x128 : Shape := ⟨2, ![2048, 128]⟩
abbrev S2048x384 : Shape := ⟨2, ![2048, 384]⟩
abbrev S2048x256 : Shape := ⟨2, ![2048, 256]⟩
abbrev S128x2048 : Shape := ⟨2, ![128, 2048]⟩
abbrev S8x2048 : Shape := ⟨2, ![8, 2048]⟩
abbrev S64x2048 : Shape := ⟨2, ![64, 2048]⟩
abbrev S256x128 : Shape := ⟨2, ![256, 128]⟩
abbrev S512x256 : Shape := ⟨2, ![512, 256]⟩
abbrev S256x256 : Shape := ⟨2, ![256, 256]⟩
abbrev S512x128 : Shape := ⟨2, ![512, 128]⟩
abbrev S128x256 : Shape := ⟨2, ![128, 256]⟩
abbrev S128x512 : Shape := ⟨2, ![128, 512]⟩
abbrev S512x1 : Shape := ⟨2, ![512, 1]⟩
abbrev S1x256 : Shape := ⟨2, ![1, 256]⟩
abbrev S8x256 : Shape := ⟨2, ![8, 256]⟩
abbrev S32x8x256 : Shape := ⟨3, ![32, 8, 256]⟩
abbrev S512 : Shape := ⟨1, ![512]⟩
abbrev S1792x256 : Shape := ⟨2, ![1792, 256]⟩
abbrev S1792x128 : Shape := ⟨2, ![1792, 128]⟩
abbrev S512x1792 : Shape := ⟨2, ![512, 1792]⟩
abbrev S256x1792 : Shape := ⟨2, ![256, 1792]⟩
abbrev S1x1792 : Shape := ⟨2, ![1, 1792]⟩
abbrev S8x1792 : Shape := ⟨2, ![8, 1792]⟩
abbrev S32x8x1792 : Shape := ⟨3, ![32, 8, 1792]⟩
abbrev S128x1792 : Shape := ⟨2, ![128, 1792]⟩
abbrev S1536x256 : Shape := ⟨2, ![1536, 256]⟩
abbrev S1536x128 : Shape := ⟨2, ![1536, 128]⟩
abbrev S512x1536 : Shape := ⟨2, ![512, 1536]⟩
abbrev S256x1536 : Shape := ⟨2, ![256, 1536]⟩
abbrev S1x1536 : Shape := ⟨2, ![1, 1536]⟩
abbrev S8x1536 : Shape := ⟨2, ![8, 1536]⟩
abbrev S32x8x1536 : Shape := ⟨3, ![32, 8, 1536]⟩
abbrev S128x1536 : Shape := ⟨2, ![128, 1536]⟩
abbrev S1280x256 : Shape := ⟨2, ![1280, 256]⟩
abbrev S1280x128 : Shape := ⟨2, ![1280, 128]⟩
abbrev S512x1280 : Shape := ⟨2, ![512, 1280]⟩
abbrev S256x1280 : Shape := ⟨2, ![256, 1280]⟩
abbrev S1x1280 : Shape := ⟨2, ![1, 1280]⟩
abbrev S8x1280 : Shape := ⟨2, ![8, 1280]⟩
abbrev S32x8x1280 : Shape := ⟨3, ![32, 8, 1280]⟩
abbrev S128x1280 : Shape := ⟨2, ![128, 1280]⟩
abbrev S1024x256 : Shape := ⟨2, ![1024, 256]⟩
abbrev S1024x128 : Shape := ⟨2, ![1024, 128]⟩
abbrev S512x1024 : Shape := ⟨2, ![512, 1024]⟩
abbrev S256x1024 : Shape := ⟨2, ![256, 1024]⟩
abbrev S1x1024 : Shape := ⟨2, ![1, 1024]⟩
abbrev S8x1024 : Shape := ⟨2, ![8, 1024]⟩
abbrev S32x8x1024 : Shape := ⟨3, ![32, 8, 1024]⟩
abbrev S128x1024 : Shape := ⟨2, ![128, 1024]⟩
abbrev S768x256 : Shape := ⟨2, ![768, 256]⟩
abbrev S768x128 : Shape := ⟨2, ![768, 128]⟩
abbrev S512x768 : Shape := ⟨2, ![512, 768]⟩
abbrev S256x768 : Shape := ⟨2, ![256, 768]⟩
abbrev S1x768 : Shape := ⟨2, ![1, 768]⟩
abbrev S8x768 : Shape := ⟨2, ![8, 768]⟩
abbrev S32x8x768 : Shape := ⟨3, ![32, 8, 768]⟩
abbrev S128x768 : Shape := ⟨2, ![128, 768]⟩
abbrev S512x512 : Shape := ⟨2, ![512, 512]⟩
abbrev S256x512 : Shape := ⟨2, ![256, 512]⟩
abbrev S1x512 : Shape := ⟨2, ![1, 512]⟩
abbrev S8x512 : Shape := ⟨2, ![8, 512]⟩
abbrev S32x8x512 : Shape := ⟨3, ![32, 8, 512]⟩

abbrev nBuf : Space → Nat
  | .hbm => 64
  | .vmem => 29
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x384, .f32⟩
  | .hbm, ⟨3, _⟩ => ⟨S8192x6, .f32⟩
  | .hbm, ⟨4, _⟩ => ⟨S8192x384, .f32⟩
  | .hbm, ⟨5, _⟩ => ⟨S4x2048x6x64, .f32⟩
  | .hbm, ⟨6, _⟩ => ⟨S4x2048x6x64, .f32⟩
  | .hbm, ⟨7, _⟩ => ⟨S4x2048x6x64, .f32⟩
  | .hbm, ⟨8, _⟩ => ⟨S4x2048x6, .f32⟩
  | .hbm, ⟨9, _⟩ => ⟨S4x6x2048, .f32⟩
  | .hbm, ⟨10, _⟩ => ⟨S4x6x2048x2048, .f32⟩
  | .hbm, ⟨11, _⟩ => ⟨S_, .f32⟩
  | .hbm, ⟨12, _⟩ => ⟨S4x6x2048x2048, .f32⟩
  | .hbm, ⟨13, _⟩ => ⟨S4x6x2048x2048, .f32⟩
  | .hbm, ⟨14, _⟩ => ⟨S4x6x2048x1, .f32⟩
  | .hbm, ⟨15, _⟩ => ⟨S4x6x2048x2048, .f32⟩
  | .hbm, ⟨16, _⟩ => ⟨S4x6x2048x2048, .f32⟩
  | .hbm, ⟨17, _⟩ => ⟨S4x6x1x2048, .f32⟩
  | .hbm, ⟨18, _⟩ => ⟨S4x6x2048x2048, .f32⟩
  | .hbm, ⟨19, _⟩ => ⟨S4x6x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S4x6x2048x2048, .i1⟩
  | .hbm, ⟨29, _⟩ => ⟨S4x6x2048x2048, .f32⟩
  | .hbm, ⟨30, _⟩ => ⟨S4x6x2048x2048, .f32⟩
  | .hbm, ⟨31, _⟩ => ⟨S_, .f32⟩
  | .hbm, ⟨32, _⟩ => ⟨S4x6x2048, .f32⟩
  | .hbm, ⟨33, _⟩ => ⟨S4x6x2048x1, .f32⟩
  | .hbm, ⟨34, _⟩ => ⟨S4x6x2048x2048, .f32⟩
  | .hbm, ⟨35, _⟩ => ⟨S4x6x2048x2048, .f32⟩
  | .hbm, ⟨36, _⟩ => ⟨S4x6x2048x2048, .f32⟩
  | .hbm, ⟨37, _⟩ => ⟨S_, .f32⟩
  | .hbm, ⟨38, _⟩ => ⟨S4x6x2048, .f32⟩
  | .hbm, ⟨39, _⟩ => ⟨S4x6x2048x1, .f32⟩
  | .hbm, ⟨40, _⟩ => ⟨S4x6x2048x2048, .f32⟩
  | .hbm, ⟨41, _⟩ => ⟨S4x6x2048x2048, .f32⟩
  | .hbm, ⟨42, _⟩ => ⟨S4x6x64x2048, .f32⟩
  | .hbm, ⟨43, _⟩ => ⟨S4x2048x6x64, .f32⟩
  | .hbm, ⟨44, _⟩ => ⟨S8192x384, .f32⟩
  | .hbm, ⟨45, _⟩ => ⟨S4x6x2048, .f32⟩
  | .hbm, ⟨46, _⟩ => ⟨S4x6x2048, .f32⟩
  | .hbm, ⟨47, _⟩ => ⟨S4x2048x6, .f32⟩
  | .hbm, ⟨48, _⟩ => ⟨S4x2048x6x1, .f32⟩
  | .hbm, ⟨49, _⟩ => ⟨S4x2048x6x64, .f32⟩
  | .hbm, ⟨50, _⟩ => ⟨S8192x384, .f32⟩
  | .hbm, ⟨51, _⟩ => ⟨S8192x3x1x128, .f32⟩
  | .hbm, ⟨52, _⟩ => ⟨S8192x3x1x128, .f32⟩
  | .hbm, ⟨53, _⟩ => ⟨S8192x3x1x128, .f32⟩
  | .hbm, ⟨54, _⟩ => ⟨S8192x3x3x128, .f32⟩
  | .hbm, ⟨55, _⟩ => ⟨S8192x1152, .f32⟩
  | .hbm, ⟨56, _⟩ => ⟨S_, .i32⟩
  | .hbm, ⟨57, _⟩ => ⟨S_, .f32⟩
  | .hbm, ⟨58, _⟩ => ⟨S8192x3072, .f32⟩
  | .hbm, ⟨59, _⟩ => ⟨S_, .i32⟩
  | .hbm, ⟨60, _⟩ => ⟨S_, .f32⟩
  | .hbm, ⟨61, _⟩ => ⟨S8192x128, .f32⟩
  | .hbm, ⟨62, _⟩ => ⟨S8192x3072, .bf16⟩
  | .hbm, ⟨63, _⟩ => ⟨S8192x384, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x384, .bf16⟩
  | .local _ .vmem, ⟨15, _⟩ => ⟨S2048x384, .bf16⟩
  | .local _ .vmem, ⟨16, _⟩ => ⟨S2048x128, .f32⟩
  | .local _ .vmem, ⟨17, _⟩ => ⟨S2048x128, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S128x2048, .bf16⟩
  | .local _ .vmem, ⟨25, _⟩ => ⟨S128x2048, .bf16⟩
  | .local _ .vmem, ⟨26, _⟩ => ⟨S8x2048, .f32⟩
  | .local _ .vmem, ⟨27, _⟩ => ⟨S128x2048, .f32⟩
  | .local _ .vmem, ⟨28, _⟩ => ⟨S128x2048, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call1_v0 : Ref sig .tc := ⟨.hbm, 57, rfl⟩
abbrev main_v44 : Ref sig .tc := ⟨.hbm, 58, rfl⟩
abbrev main_c_3 : Ref sig .tc := ⟨.hbm, 59, rfl⟩
abbrev main_call2_v0 : Ref sig .tc := ⟨.hbm, 60, rfl⟩
abbrev main_v45 : Ref sig .tc := ⟨.hbm, 61, rfl⟩
abbrev main_v46_0 : Ref sig .tc := ⟨.hbm, 62, rfl⟩
abbrev main_v46_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c0_i32 : BitVec 32 := 0#32
  let v1 : BitVec 32 := Scalar.addi c0_i32 v0
  let c2_i32 : BitVec 32 := 2#32
  let v2 : BitVec 32 := Scalar.addi v1 c2_i32
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x384 : Shape := ⟨2, ![8192, 384]⟩
abbrev S8192x6 : Shape := ⟨2, ![8192, 6]⟩
abbrev S4x2048x6x64 : Shape := ⟨4, ![4, 2048, 6, 64]⟩
abbrev S4x2048x6 : Shape := ⟨3, ![4, 2048, 6]⟩
abbrev S4x6x2048 : Shape := ⟨3, ![4, 6, 2048]⟩
abbrev S4x6x2048x2048 : Shape := ⟨4, ![4, 6, 2048, 2048]⟩
abbrev S_ : Shape := ⟨0, ![]⟩
abbrev S4x6x2048x1 : Shape := ⟨4, ![4, 6, 2048, 1]⟩
abbrev S4x6x1x2048 : Shape := ⟨4, ![4, 6, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x6x64x2048 : Shape := ⟨4, ![4, 6, 64, 2048]⟩
abbrev S4x6x2048x64 : Shape := ⟨4, ![4, 6, 2048, 64]⟩
abbrev S8192x3x1x128 : Shape := ⟨4, ![8192, 3, 1, 128]⟩
abbrev S8192x3x3x128 : Shape := ⟨4, ![8192, 3, 3, 128]⟩
abbrev S8192x1152 : Shape := ⟨2, ![8192, 1152]⟩
abbrev S8192x3072 : Shape := ⟨2, ![8192, 3072]⟩
abbrev S8192x6x1 : Shape := ⟨3, ![8192, 6, 1]⟩
abbrev S8192x6x64 : Shape := ⟨3, ![8192, 6, 64]⟩

abbrev nBuf : Space → Nat
  | .hbm => 133
  | .vmem => 0
  | .smem => 0
  | _ => 0

abbrev hbmTy0_0 (i : Nat) : BufTy := match i % 128 with
  | 0 => ⟨S8192x384, .f32⟩
  | 1 => ⟨S8192x384, .f32⟩
  | 2 => ⟨S8192x384, .f32⟩
  | 3 => ⟨S8192x6, .f32⟩
  | 4 => ⟨S8192x384, .f32⟩
  | 5 => ⟨S4x2048x6x64, .f32⟩
  | 6 => ⟨S4x2048x6x64, .f32⟩
  | 7 => ⟨S4x2048x6x64, .f32⟩
  | 8 => ⟨S4x2048x6, .f32⟩
  | 9 => ⟨S4x6x2048, .f32⟩
  | 10 => ⟨S4x6x2048x2048, .f32⟩
  | 11 => ⟨S_, .f32⟩
  | 12 => ⟨S4x6x2048x2048, .f32⟩
  | 13 => ⟨S4x6x2048x2048, .f32⟩
  | 14 => ⟨S4x6x2048x1, .f32⟩
  | 15 => ⟨S4x6x2048x2048, .f32⟩
  | 16 => ⟨S4x6x2048x2048, .f32⟩
  | 17 => ⟨S4x6x1x2048, .f32⟩
  | 18 => ⟨S4x6x2048x2048, .f32⟩
  | 19 => ⟨S4x6x2048x2048, .f32⟩
  | 20 => ⟨S2048, .i32⟩
  | 21 => ⟨S1x2048, .i32⟩
  | 22 => ⟨S2048x1, .i32⟩
  | 23 => ⟨S2048x2048, .i32⟩
  | 24 => ⟨S2048x2048, .i32⟩
  | 25 => ⟨S2048x2048, .i1⟩
  | 26 => ⟨S_, .f32⟩
  | 27 => ⟨S_, .f32⟩
  | 28 => ⟨S4x6x2048x2048, .i1⟩
  | 29 => ⟨S4x6x2048x2048, .f32⟩
  | 30 => ⟨S4x6x2048x2048, .f32⟩
  | 31 => ⟨S_, .f32⟩
  | 32 => ⟨S4x6x2048x2048, .f32⟩
  | 33 => ⟨S_, .f32⟩
  | 34 => ⟨S4x6x2048, .f32⟩
  | 35 => ⟨S4x6x2048x1, .f32⟩
  | 36 => ⟨S4x6x2048x2048, .f32⟩
  | 37 => ⟨S4x6x2048x2048, .i1⟩
  | 38 => ⟨S4x6x2048x2048, .f32⟩
  | 39 => ⟨S_, .f32⟩
  | 40 => ⟨S4x6x2048, .f32⟩
  | 41 => ⟨S_, .f32⟩
  | 42 => ⟨S4x6x2048, .f32⟩
  | 43 => ⟨S4x6x2048, .f32⟩
  | 44 => ⟨S_, .f32⟩
  | 45 => ⟨S4x6x2048, .f32⟩
  | 46 => ⟨S4x6x2048, .i1⟩
  | 47 => ⟨S_, .f32⟩
  | 48 => ⟨S4x6x2048, .f32⟩
  | 49 => ⟨S4x6x2048, .i1⟩
  | 50 => ⟨S_, .f32⟩
  | 51 => ⟨S4x6x2048, .f32⟩
  | 52 => ⟨S_, .f32⟩
  | 53 => ⟨S4x6x2048, .f32⟩
  | 54 => ⟨S_, .f32⟩
  | 55 => ⟨S4x6x2048, .f32⟩
  | 56 => ⟨S4x6x2048, .f32⟩
  | 57 => ⟨S4x6x2048, .f32⟩
  | 58 => ⟨S4x6x2048x1, .f32⟩
  | 59 => ⟨S4x6x2048x2048, .f32⟩
  | 60 => ⟨S4x6x2048x2048, .f32⟩
  | 61 => ⟨S4x6x2048x2048, .f32⟩
  | 62 => ⟨S_, .f32⟩
  | 63 => ⟨S4x6x2048, .f32⟩
  | 64 => ⟨S4x6x2048x1, .f32⟩
  | 65 => ⟨S4x6x2048x2048, .f32⟩
  | 66 => ⟨S4x6x2048x2048, .f32⟩
  | 67 => ⟨S4x6x2048x1, .f32⟩
  | 68 => ⟨S_, .f32⟩
  | 69 => ⟨S4x6x2048x1, .f32⟩
  | 70 => ⟨S4x6x2048x1, .f32⟩
  | 71 => ⟨S4x6x64x2048, .f32⟩
  | 72 => ⟨S4x2048x6x64, .f32⟩
  | 73 => ⟨S8192x384, .f32⟩
  | 74 => ⟨S4x2048x6x64, .f32⟩
  | 75 => ⟨S4x6x64x2048, .f32⟩
  | 76 => ⟨S4x6x2048x2048, .f32⟩
  | 77 => ⟨S4x6x64x2048, .f32⟩
  | 78 => ⟨S4x2048x6x64, .f32⟩
  | 79 => ⟨S4x6x2048x2048, .f32⟩
  | 80 => ⟨S4x6x2048x2048, .f32⟩
  | 81 => ⟨S4x6x2048x2048, .f32⟩
  | 82 => ⟨S_, .f32⟩
  | 83 => ⟨S4x6x2048, .f32⟩
  | 84 => ⟨S4x6x2048x1, .f32⟩
  | 85 => ⟨S4x6x2048x1, .f32⟩
  | 86 => ⟨S4x6x2048x2048, .f32⟩
  | 87 => ⟨S4x6x2048x2048, .f32⟩
  | 88 => ⟨S_, .f32⟩
  | 89 => ⟨S4x6x2048, .f32⟩
  | 90 => ⟨S4x6x2048x2048, .f32⟩
  | 91 => ⟨S4x6x2048x2048, .f32⟩
  | 92 => ⟨S4x6x2048x2048, .f32⟩
  | 93 => ⟨S_, .f32⟩
  | 94 => ⟨S4x6x2048x2048, .f32⟩
  | 95 => ⟨S4x6x2048x2048, .f32⟩
  | 96 => ⟨S4x6x2048x2048, .f32⟩
  | 97 => ⟨S_, .f32⟩
  | 98 => ⟨S4x6x2048, .f32⟩
  | 99 => ⟨S4x6x1x2048, .f32⟩
  | 100 => ⟨S_, .f32⟩
  | 101 => ⟨S4x6x2048, .f32⟩
  | 102 => ⟨S_, .f32⟩
  | 103 => ⟨S4x6x2048, .f32⟩
  | 104 => ⟨S4x6x2048x1, .f32⟩
  | 105 => ⟨S_, .f32⟩
  | 106 => ⟨S4x6x2048, .f32⟩
  | 107 => ⟨S4x6x2048, .f32⟩
  | 108 => ⟨S_, .f32⟩
  | 109 => ⟨S4x6x2048x2048, .f32⟩
  | 110 => ⟨S4x6x2048x2048, .f32⟩
  | 111 => ⟨S4x6x2048x64, .f32⟩
  | 112 => ⟨S4x2048x6x64, .f32⟩
  | 113 => ⟨S4x6x2048x64, .f32⟩
  | 114 => ⟨S4x2048x6x64, .f32⟩
  | 115 => ⟨S4x2048x6, .f32⟩
  | 116 => ⟨S8192x6, .f32⟩
  | 117 => ⟨S8192x384, .f32⟩
  | 118 => ⟨S8192x384, .f32⟩
  | 119 => ⟨S8192x384, .f32⟩
  | 120 => ⟨S8192x3x1x128, .f32⟩
  | 121 => ⟨S8192x3x1x128, .f32⟩
  | 122 => ⟨S8192x3x1x128, .f32⟩
  | 123 => ⟨S8192x3x3x128, .f32⟩
  | 124 => ⟨S8192x1152, .f32⟩
  | 125 => ⟨S_, .i32⟩
  | 126 => ⟨S_, .f32⟩
  | 127 => ⟨S8192x3072, .f32⟩
  | _ => ⟨S8192x384, .f32⟩

abbrev hbmTy0_1 (i : Nat) : BufTy := match i % 128 with
  | 0 => ⟨S8192x3072, .bf16⟩
  | 1 => ⟨S8192x6x1, .f32⟩
  | 2 => ⟨S8192x6x1, .f32⟩
  | 3 => ⟨S8192x6x64, .f32⟩
  | 4 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== UpDx.lean ====
abbrev S1024x5632 : Shape := ⟨2, ![1024, 5632]⟩
abbrev S8192x5632 : Shape := ⟨2, ![8192, 5632]⟩
abbrev S8192x2x11x256 : Shape := ⟨4, ![8192, 2, 11, 256]⟩
abbrev S8192x11x2x256 : Shape := ⟨4, ![8192, 11, 2, 256]⟩
abbrev S8192x1024 : Shape := ⟨2, ![8192, 1024]⟩
abbrev S512x5632 : Shape := ⟨2, ![512, 5632]⟩
abbrev S512x1024 : Shape := ⟨2, ![512, 1024]⟩
abbrev S512x256 : Shape := ⟨2, ![512, 256]⟩
abbrev S1024x256 : Shape := ⟨2, ![1024, 256]⟩

abbrev nBuf : Space → Nat
  | .hbm => 8
  | .vmem => 5
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S8192x2x11x256, .f32⟩
  | .hbm, ⟨3, _⟩ => ⟨S8192x11x2x256, .f32⟩
  | .hbm, ⟨4, _⟩ => ⟨S8192x5632, .f32⟩
  | .hbm, ⟨5, _⟩ => ⟨S8192x5632, .bf16⟩
  | .hbm, ⟨6, _⟩ => ⟨S1024x5632, .bf16⟩
  | .hbm, ⟨7, _⟩ => ⟨S8192x1024, .bf16⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .bf16⟩
  | .local _ .vmem, ⟨4, _⟩ => ⟨S512x1024, .bf16⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpDxRefIdeal.lean ====
abbrev S1024x5632 : Shape := ⟨2, ![1024, 5632]⟩
abbrev S8192x5632 : Shape := ⟨2, ![8192, 5632]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8192x5632, .f32⟩
  | .hbm, ⟨2, _⟩ => ⟨S8192x1024, .f32⟩
  | .hbm, ⟨3, _⟩ => ⟨S8192x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S8192x2x11x256 : Shape := ⟨4, ![8192, 2, 11, 256]⟩
abbrev S8192x11x2x256 : Shape := ⟨4, ![8192, 11, 2, 256]⟩
abbrev S1024x2816 : Shape := ⟨2, ![1024, 2816]⟩
abbrev S4096x1024 : Shape := ⟨2, ![4096, 1024]⟩
abbrev S4096x512 : Shape := ⟨2, ![4096, 512]⟩
abbrev S1024x256 : Shape := ⟨2, ![1024, 256]⟩
abbrev S1024x512 : Shape := ⟨2, ![1024, 512]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x2x11x256, .f32⟩
  | .hbm, ⟨4, _⟩ => ⟨S8192x11x2x256, .f32⟩
  | .hbm, ⟨5, _⟩ => ⟨S8192x5632, .f32⟩
  | .hbm, ⟨6, _⟩ => ⟨S8192x5632, .bf16⟩
  | .hbm, ⟨7, _⟩ => ⟨S1024x2816, .f32⟩
  | .hbm, ⟨8, _⟩ => ⟨S1024x2816, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpDwRefIdeal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S5632x1024, .f32⟩
  | .hbm, ⟨3, _⟩ => ⟨S1024x5632, .f32⟩
  | .hbm, ⟨4, _⟩ => ⟨S1024x2816, .f32⟩
  | .hbm, ⟨5, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1024x2816 : Shape := ⟨2, ![1024, 2816]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x1024, .bf16⟩
  | .hbm, ⟨3, _⟩ => ⟨S2816x1024, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | .local _ .vmem, ⟨5, _⟩ => ⟨S8x128, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x2816, .f32⟩
  | .hbm, ⟨3, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDx.lean ====
abbrev S1024x1024 : Shape := ⟨2, ![1024, 1024]⟩
abbrev S8192x1024 : Shape := ⟨2, ![8192, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDx.lean ====
abbrev S1024x3072 : Shape := ⟨2, ![1024, 3072]⟩
abbrev S8192x3072 : Shape := ⟨2, ![8192, 3072]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S1024x3072, .f32⟩
  | .hbm, ⟨1, _⟩ => ⟨S8192x3072, .f32⟩
  | .hbm, ⟨2, _⟩ => ⟨S8192x3072, .bf16⟩
  | .hbm, ⟨3, _⟩ => ⟨S1024x3072, .bf16⟩
  | .hbm, ⟨4, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S1024x3072 : Shape := ⟨2, ![1024, 3072]⟩
abbrev S8192x3072 : Shape := ⟨2, ![8192, 3072]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S8192x3072, .f32⟩
  | .hbm, ⟨2, _⟩ => ⟨S8192x1024, .f32⟩
  | .hbm, ⟨3, _⟩ => ⟨S8192x1024, .bf16⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDw.lean ====
abbrev S8192x1024 : Shape := ⟨2, ![8192, 1024]⟩
abbrev S8192x3072 : Shape := ⟨2, ![8192, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S3072x1024, .f32⟩
  | .hbm, ⟨3, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InFwd.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S8192x1024, .bf16⟩
  | .hbm, ⟨6, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .f32⟩
  | .local _ .vmem, ⟨7, _⟩ => ⟨S512x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== UpFwd.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S8192x1024, .bf16⟩
  | .hbm, ⟨6, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpFwdRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2x11x256 : Shape := ⟨4, ![8192, 2, 11, 256]⟩
abbrev S8192x11x2x256 : Shape := ⟨4, ![8192, 11, 2, 256]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x2x11x256, .f32⟩
  | .hbm, ⟨21, _⟩ => ⟨S8192x11x2x256, .f32⟩
  | .hbm, ⟨22, _⟩ => ⟨S8192x5632, .f32⟩
  | .hbm, ⟨23, _⟩ => ⟨S8192x1024, .bf16⟩
  | .hbm, ⟨24, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩
abbrev S8x128 : Shape := ⟨2, ![8, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== OutNorm.lean ====
abbrev S8192x384 : Shape := ⟨2, ![8192, 384]⟩
abbrev S8192x1024 : Shape := ⟨2, ![8192, 1024]⟩
abbrev S384 : Shape := ⟨1, ![384]⟩
abbrev S1x384 : Shape := ⟨2, ![1, 384]⟩
abbrev S8x384 : Shape := ⟨2, ![8, 384]⟩
abbrev S512x384 : Shape := ⟨2, ![512, 384]⟩
abbrev S512x768 : Shape := ⟨2, ![512, 768]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x1024, .f32⟩
  | .hbm, ⟨3, _⟩ => ⟨S384, .f32⟩
  | .hbm, ⟨4, _⟩ => ⟨S384, .f32⟩
  | .hbm, ⟨5, _⟩ => ⟨S8192x1024, .bf16⟩
  | .hbm, ⟨6, _⟩ => ⟨S1x384, .f32⟩
  | .hbm, ⟨7, _⟩ => ⟨S1x384, .f32⟩
  | .hbm, ⟨8, _⟩ => ⟨S8192x384, .f32⟩
  | .hbm, ⟨9, _⟩ => ⟨S8192x384, .f32⟩
  | .hbm, ⟨10, _⟩ => ⟨S8x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x768, .bf16⟩
  | .local _ .vmem, ⟨5, _⟩ => ⟨S512x768, .bf16⟩
  | .local _ .vmem, ⟨6, _⟩ => ⟨S1x384, .f32⟩
  | .local _ .vmem, ⟨7, _⟩ => ⟨S1x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S8x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OutNormRefIdeal.lean ====
abbrev S8192x384 : Shape := ⟨2, ![8192, 384]⟩
abbrev S8192x1024 : Shape := ⟨2, ![8192, 1024]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S6x384 : Shape := ⟨2, ![6, 384]⟩
abbrev S8x384 : Shape := ⟨2, ![8, 384]⟩

abbrev nBuf : Space → Nat
  | .hbm => 102
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x384, .f32⟩
  | .hbm, ⟨2, _⟩ => ⟨S8192x1024, .f32⟩
  | .hbm, ⟨3, _⟩ => ⟨S384, .f32⟩
  | .hbm, ⟨4, _⟩ => ⟨S384, .f32⟩
  | .hbm, ⟨5, _⟩ => ⟨S8192x384, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x384, .f32⟩
  | .hbm, ⟨21, _⟩ => ⟨S8192x384, .f32⟩
  | .hbm, ⟨22, _⟩ => ⟨S1x384, .f32⟩
  | .hbm, ⟨23, _⟩ => ⟨S8192x384, .f32⟩
  | .hbm, ⟨24, _⟩ => ⟨S8192x384, .f32⟩
  | .hbm, ⟨25, _⟩ => ⟨S8192x384, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x384, .f32⟩
  | .hbm, ⟨41, _⟩ => ⟨S8192x384, .f32⟩
  | .hbm, ⟨42, _⟩ => ⟨S1x384, .f32⟩
  | .hbm, ⟨43, _⟩ => ⟨S8192x384, .f32⟩
  | .hbm, ⟨44, _⟩ => ⟨S8192x384, .f32⟩
  | .hbm, ⟨45, _⟩ => ⟨S8192x384, .f32⟩
  | .hbm, ⟨46, _⟩ => ⟨S8192x384, .f32⟩
  | .hbm, ⟨47, _⟩ => ⟨S_, .f32⟩
  | .hbm, ⟨48, _⟩ => ⟨S384, .f32⟩
  | .hbm, ⟨49, _⟩ => ⟨S1x384, .f32⟩
  | .hbm, ⟨50, _⟩ => ⟨S8192x384, .f32⟩
  | .hbm, ⟨51, _⟩ => ⟨S8192x384, .f32⟩
  | .hbm, ⟨52, _⟩ => ⟨S_, .f32⟩
  | .hbm, ⟨53, _⟩ => ⟨S384, .f32⟩
  | .hbm, ⟨54, _⟩ => ⟨S8192x384, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x384, .f32⟩
  | .hbm, ⟨59, _⟩ => ⟨S8192x384, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x384, .f32⟩
  | .hbm, ⟨67, _⟩ => ⟨S8192x384, .f32⟩
  | .hbm, ⟨68, _⟩ => ⟨S8192x384, .f32⟩
  | .hbm, ⟨69, _⟩ => ⟨S8192x384, .f32⟩
  | .hbm, ⟨70, _⟩ => ⟨S8192x384, .f32⟩
  | .hbm, ⟨71, _⟩ => ⟨S8192x384, .f32⟩
  | .hbm, ⟨72, _⟩ => ⟨S8192x384, .f32⟩
  | .hbm, ⟨73, _⟩ => ⟨S_, .f32⟩
  | .hbm, ⟨74, _⟩ => ⟨S384, .f32⟩
  | .hbm, ⟨75, _⟩ => ⟨S1x384, .f32⟩
  | .hbm, ⟨76, _⟩ => ⟨S8192x384, .f32⟩
  | .hbm, ⟨77, _⟩ => ⟨S8192x384, .f32⟩
  | .hbm, ⟨78, _⟩ => ⟨S_, .f32⟩
  | .hbm, ⟨79, _⟩ => ⟨S384, .f32⟩
  | .hbm, ⟨80, _⟩ => ⟨S8192x384, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x384, .f32⟩
  | .hbm, ⟨85, _⟩ => ⟨S8192x384, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x384, .f32⟩
  | .hbm, ⟨93, _⟩ => ⟨S8192x384, .f32⟩
  | .hbm, ⟨94, _⟩ => ⟨S8192x384, .f32⟩
  | .hbm, ⟨95, _⟩ => ⟨S8192x384, .f32⟩
  | .hbm, ⟨96, _⟩ => ⟨S8192x384, .f32⟩
  | .hbm, ⟨97, _⟩ => ⟨S1x384, .f32⟩
  | .hbm, ⟨98, _⟩ => ⟨S1x384, .f32⟩
  | .hbm, ⟨99, _⟩ => ⟨S_, .f32⟩
  | .hbm, ⟨100, _⟩ => ⟨S6x384, .f32⟩
  | .hbm, ⟨101, _⟩ => ⟨S8x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_cst_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.Span.lean ====
/- One span of queries against one block of 256 keys of a pair of heads: the operations that the backward pass of the
   attention does there, for any number `n` of queries, and what each of them holds at an index. -/
module

public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.Pointwise
public import Idealize.ShloMosaic.PureOps

@[expose] public section

noncomputable section

open Idealize.ShloMosaic hiding ix1 ix2 ix3 ix4 ix5 eq_ix1 eq_ix2 eq_ix3 eq_ix4
open Idealize.ShloMosaic.ValueIdx

open scoped BigOperators

namespace Cert.Fox

/-- The shape of a matrix. -/
abbrev sh (a b : ℕ) : Shape := ⟨2, ![a, b]⟩
/-- The shape of a stack of matrices. -/
abbrev sh3 (a b c : ℕ) : Shape := ⟨3, ![a, b, c]⟩

/-! ## Reading a matrix at natural numbers -/

/-- The element of a matrix at a row and a column, zero outside of it. -/
def at2 {a b : ℕ} (x : (sh a b).Idx → EReal) (r c : ℕ) : EReal := if h : r < a ∧ c < b then x (ix2 ⟨r, h.1⟩ ⟨c, h.2⟩) else 0

theorem at2_of_lt {a b : ℕ} (x : (sh a b).Idx → EReal) {r c : ℕ} (hr : r < a) (hc : c < b) : at2 x r c = x (ix2 ⟨r, hr⟩ ⟨c, hc⟩) :=
  dif_pos ⟨hr, hc⟩

theorem at2_ix2 {a b : ℕ} (x : (sh a b).Idx → EReal) (r : Fin a) (c : Fin b) : at2 x r c = x (ix2 r c) :=
  at2_of_lt x r.2 c.2

/-- A matrix is known by its elements. -/
theorem at2_ext {a b : ℕ} {x y : (sh a b).Idx → EReal} (h : ∀ r < a, ∀ c < b, at2 x r c = at2 y r c) : x = y := by
  funext j
  have e := h _ (idx2_lt0 j) _ (idx2_lt1 j)
  rw [at2_of_lt x (idx2_lt0 j) (idx2_lt1 j), at2_of_lt y (idx2_lt0 j) (idx2_lt1 j)] at e
  rw [eq_ix2 j]
  exact e

/-- Two indices of a matrix are equal where their rows and columns are. -/
theorem ext2 {a b : ℕ} {i j : (⟨2, ![a, b]⟩ : Shape).Idx} (h0 : (i 0).val = (j 0).val) (h1 : (i 1).val = (j 1).val) : i = j := by
  funext x; match x with
  | ⟨0, _⟩ => exact Fin.ext h0
  | ⟨1, _⟩ => exact Fin.ext h1

/-! ## The operations -/

/-- The layout facts of a span of `n` queries. -/
structure SpanFacts (n : ℕ) : Prop where
  sl0 : (sh 512 n).Slices ![0, 0] (sh 256 n)
  sl1 : (sh 512 n).Slices ![256, 0] (sh 256 n)
  bc : (sh 1 n).Broadcasts (sh 256 n)
  cc : Shape.Concatenates [sh 256 n, sh 256 n] (sh 512 n) 0
  sc : (sh 256 n).ShapeCasts (sh3 32 8 n)
  rd : (sh3 32 8 n).Reduces [0] (sh 8 n)
  rr : (sh 512 n).Reduces [1] ⟨1, ![512]⟩
  s8 : (sh 8 n).ShapeCasts (sh 8 n)
  s128 : (sh 128 n).ShapeCasts (sh 128 n)
  c1 : (⟨1, ![512]⟩ : Shape).ShapeCasts (sh 512 1)
  cv : FTy.bits .bf16 < FTy.bits .f32

section Ops
variable {F : FTy → Type} [FloatOps F] {n : ℕ} (h : SpanFacts n)

/-- The logits of a span, transposed: keys of both heads by queries. -/
def gST (n : ℕ) (kte : FVec F (sh 512 256) .bf16) (qs : FVec F (sh n 256) .bf16) : FVec F (sh 512 n) .f32 :=
  matmul (DotDims.transposedRhs 512 256 n) none kte qs (constant (sh 512 n) .f32 0x00000000#32)

/-- The gradients of the probabilities, transposed. -/
def gDP (n : ℕ) (vte : FVec F (sh 512 128) .bf16) (dos : FVec F (sh n 128) .bf16) : FVec F (sh 512 n) .f32 :=
  matmul (DotDims.transposedRhs 512 128 n) none vte dos (constant (sh 512 n) .f32 0x00000000#32)

/-- The first head's probabilities. -/
def gP0 (st : FVec F (sh 512 n) .f32) (r : FVec F (sh 1 n) .f32) : FVec F (sh 256 n) .f32 :=
  exp (subf (extractStridedSlice (sh 256 n) ![0, 0] st h.sl0) (broadcastTo (sh 256 n) r h.bc))

/-- The second head's probabilities. -/
def gP1 (st : FVec F (sh 512 n) .f32) (r : FVec F (sh 1 n) .f32) : FVec F (sh 256 n) .f32 :=
  exp (subf (extractStridedSlice (sh 256 n) ![256, 0] st h.sl1) (broadcastTo (sh 256 n) r h.bc))

/-- The first head's gradients of the logits. -/
def gD0 (st dpt : FVec F (sh 512 n) .f32) (r d : FVec F (sh 1 n) .f32) : FVec F (sh 256 n) .f32 :=
  mulf (gP0 h st r) (subf (extractStridedSlice (sh 256 n) ![0, 0] dpt h.sl0) (broadcastTo (sh 256 n) d h.bc))

/-- The second head's gradients of the logits. -/
def gD1 (st dpt : FVec F (sh 512 n) .f32) (r d : FVec F (sh 1 n) .f32) : FVec F (sh 256 n) .f32 :=
  mulf (gP1 h st r) (subf (extractStridedSlice (sh 256 n) ![256, 0] dpt h.sl1) (broadcastTo (sh 256 n) d h.bc))

/-- Two heads' matrices, one below the other. -/
def gCat (x y : FVec F (sh 256 n) .f32) : FVec F (sh 512 n) .f32 :=
  concatenate (sh 512 n) 0 [⟨sh 256 n, x⟩, ⟨sh 256 n, y⟩] h.cc

/-- A head's sums over the groups of eight keys, added to what was there. -/
def gRS (old : FVec F (sh 8 n) .f32) (de : FVec F (sh 256 n) .f32) : FVec F (sh 8 n) .f32 :=
  shapeCast (sh 8 n) (addf old (multiReduction .add [0] (sh 8 n) (shapeCast (sh3 32 8 n) de h.sc) 0x00000000#32 h.rd (.inl rfl) rfl)) h.s8

/-- A product of the span with the queries' rows, added to what was there. -/
def gAcc (m : ℕ) (old : FVec F (sh 512 m) .f32) (x : FVec F (sh 512 n) .f32) (y : FVec F (sh n m) .bf16) : FVec F (sh 512 m) .f32 :=
  addf old (matmul (DotDims.plain 512 n m) none (truncf .bf16 x h.cv) y (constant (sh 512 m) .f32 0x00000000#32))

/-- The queries' gradients, transposed, added to what was there. -/
def gDQ (old : FVec F (sh 128 n) .f32) (ktt : FVec F (sh 128 512) .bf16) (x : FVec F (sh 512 n) .f32) : FVec F (sh 128 n) .f32 :=
  shapeCast (sh 128 n) (addf old (matmul (DotDims.plain 128 512 n) none ktt (truncf .bf16 x h.cv) (constant (sh 128 n) .f32 0x00000000#32))) h.s128

/-- The keys' sums, added to what was there. -/
def gCS (old : FVec F (sh 512 1) .f32) (x : FVec F (sh 512 n) .f32) : FVec F (sh 512 1) .f32 :=
  addf old (shapeCast (sh 512 1) (multiReduction .add [1] ⟨1, ![512]⟩ x 0x00000000#32 h.rr (.inl rfl) rfl) h.c1)

end Ops

/-! ## What they hold -/

section Apply
variable {n : ℕ} (h : SpanFacts n)

theorem zero_word : (FloatOps.ofBits (F := Ideal) .f32 0x00000000#32 : EReal) = 0 := Ideal.ofBits_zero .f32

theorem at2_mmT {M K N : ℕ} {φ₁ φ₂ : FTy} (x : FVec Ideal (sh M K) φ₁) (y : FVec Ideal (sh N K) φ₂) {r c : ℕ} (hr : r < M) (hc : c < N) :
    at2 (matmul (DotDims.transposedRhs M K N) none x y (constant (sh M N) .f32 0x00000000#32)) r c
      = ∑ k ∈ Finset.range K, at2 x r k * at2 y c k := by
  rw [at2_of_lt _ hr hc]
  refine (Ideal.matmul_transposedRhs_apply none x y _ ⟨r, hr⟩ ⟨c, hc⟩).trans ?_
  rw [show (constant (F := Ideal) (sh M N) .f32 0x00000000#32) (ix2 ⟨r, hr⟩ ⟨c, hc⟩) = (0 : EReal) from zero_word, zero_add,
    ← Fin.sum_univ_eq_sum_range (fun k => at2 x r k * at2 y c k)]
  refine Finset.sum_congr rfl fun k _ => ?_
  rw [at2_of_lt x hr k.2, at2_of_lt y hc k.2]

theorem at2_mm {M K N : ℕ} {φ₁ φ₂ : FTy} (x : FVec Ideal (sh M K) φ₁) (y : FVec Ideal (sh K N) φ₂) {r c : ℕ} (hr : r < M) (hc : c < N) :
    at2 (matmul (DotDims.plain M K N) none x y (constant (sh M N) .f32 0x00000000#32)) r c
      = ∑ k ∈ Finset.range K, at2 x r k * at2 y k c := by
  rw [at2_of_lt _ hr hc]
  refine (Ideal.matmul_plain_apply none x y _ ⟨r, hr⟩ ⟨c, hc⟩).trans ?_
  rw [show (constant (F := Ideal) (sh M N) .f32 0x00000000#32) (ix2 ⟨r, hr⟩ ⟨c, hc⟩) = (0 : EReal) from zero_word, zero_add,
    ← Fin.sum_univ_eq_sum_range (fun k => at2 x r k * at2 y k c)]
  refine Finset.sum_congr rfl fun k _ => ?_
  rw [at2_of_lt x hr k.2, at2_of_lt y k.2 hc]

theorem at2_gST (kte : FVec Ideal (sh 512 256) .bf16) (qs : FVec Ideal (sh n 256) .bf16) {r t : ℕ} (hr : r < 512) (ht : t < n) :
    at2 (gST n kte qs) r t = ∑ l ∈ Finset.range 256, at2 kte r l * at2 qs t l := at2_mmT _ _ hr ht

theorem at2_gDP (vte : FVec Ideal (sh 512 128) .bf16) (dos : FVec Ideal (sh n 128) .bf16) {r t : ℕ} (hr : r < 512) (ht : t < n) :
    at2 (gDP n vte dos) r t = ∑ l ∈ Finset.range 128, at2 vte r l * at2 dos t l := at2_mmT _ _ hr ht

/-- A slice of rows. -/
theorem at2_slice0 {a b m : ℕ} (o : ℕ) (x : (sh a b).Idx → EReal) (hs : (sh a b).Slices ![o, 0] (sh m b)) {r c : ℕ} (hr : r < m) (hc : c < b) :
    at2 (extractStridedSlice (sh m b) ![o, 0] x hs) r c = at2 x (o + r) c := by
  rw [at2_of_lt _ hr hc, slice2_axis0_eq, at2_of_lt x (Nat.lt_of_lt_of_le (Nat.add_lt_add_left hr o) (hs.2 0)) hc]

/-- A row, repeated. -/
theorem at2_bcast {a b : ℕ} (x : (sh 1 b).Idx → EReal) (hb : (sh 1 b).Broadcasts (sh a b)) {r c : ℕ} (hr : r < a) (hc : c < b) :
    at2 (broadcastTo (sh a b) x hb) r c = at2 x 0 c := by
  rw [at2_of_lt _ hr hc, broadcastTo_1b_ab_apply, at2_of_lt x Nat.one_pos hc]; rfl

theorem at2_gP0 (st : FVec Ideal (sh 512 n) .f32) (r : FVec Ideal (sh 1 n) .f32) {s t : ℕ} (hs : s < 256) (ht : t < n) :
    at2 (gP0 h st r) s t = Ideal.exp (at2 st s t - at2 r 0 t) := by
  rw [← at2_bcast (a := 256) r h.bc hs ht, show s = 0 + s from (Nat.zero_add s).symm, ← at2_slice0 0 st h.sl0 hs ht, Nat.zero_add]
  simp only [at2_of_lt _ hs ht]; rfl

theorem at2_gP1 (st : FVec Ideal (sh 512 n) .f32) (r : FVec Ideal (sh 1 n) .f32) {s t : ℕ} (hs : s < 256) (ht : t < n) :
    at2 (gP1 h st r) s t = Ideal.exp (at2 st (256 + s) t - at2 r 0 t) := by
  rw [← at2_bcast (a := 256) r h.bc hs ht, ← at2_slice0 256 st h.sl1 hs ht]
  simp only [at2_of_lt _ hs ht]; rfl

theorem at2_gD0 (st dpt : FVec Ideal (sh 512 n) .f32) (r d : FVec Ideal (sh 1 n) .f32) {s t : ℕ} (hs : s < 256) (ht : t < n) :
    at2 (gD0 h st dpt r d) s t = at2 (gP0 h st r) s t * (at2 dpt s t - at2 d 0 t) := by
  rw [← at2_bcast (a := 256) d h.bc hs ht, show at2 dpt s t = at2 dpt (0 + s) t by rw [Nat.zero_add], ← at2_slice0 0 dpt h.sl0 hs ht]
  simp only [at2_of_lt _ hs ht]; rfl

theorem at2_gD1 (st dpt : FVec Ideal (sh 512 n) .f32) (r d : FVec Ideal (sh 1 n) .f32) {s t : ℕ} (hs : s < 256) (ht : t < n) :
    at2 (gD1 h st dpt r d) s t = at2 (gP1 h st r) s t * (at2 dpt (256 + s) t - at2 d 0 t) := by
  rw [← at2_bcast (a := 256) d h.bc hs ht, ← at2_slice0 256 dpt h.sl1 hs ht]
  simp only [at2_of_lt _ hs ht]; rfl

/-- Two matrices, one below the other. -/
theorem at2_cat0 {a b m : ℕ} (x : (sh a m).Idx → EReal) (y : (sh b m).Idx → EReal) (hc : Shape.Concatenates [sh a m, sh b m] (sh (a + b) m) 0)
    {r c : ℕ} (hr : r < a + b) (hm : c < m) :
    at2 (concatenate (sh (a + b) m) 0 [⟨sh a m, x⟩, ⟨sh b m, y⟩] hc) r c = if r < a then at2 x r c else at2 y (r - a) c := by
  rw [at2_of_lt _ hr hm]
  split
  · rename_i hlt
    rw [at2_of_lt x hlt hm]
    exact concatenate_pair_apply_left 0 x y hc _ rfl _ fun b => by
      match b with
      | ⟨0, _⟩ => rfl
      | ⟨1, _⟩ => rfl
  · rename_i hlt
    rw [at2_of_lt y (by omega) hm]
    refine concatenate_pair_apply_right 0 x y hc _ rfl rfl _ (fun b hb => ?_) ?_
    · match b with
      | ⟨0, _⟩ => exact absurd rfl hb
      | ⟨1, _⟩ => rfl
    · show (r - a) + a = r
      omega

theorem at2_gCat (x y : FVec Ideal (sh 256 n) .f32) {s t : ℕ} (hs : s < 512) (ht : t < n) :
    at2 (gCat h x y) s t = if s < 256 then at2 x s t else at2 y (s - 256) t :=
  at2_cat0 x y h.cc hs ht

theorem at2_gRS (old : FVec Ideal (sh 8 n) .f32) (de : FVec Ideal (sh 256 n) .f32) {i t : ℕ} (hi : i < 8) (ht : t < n) :
    at2 (gRS h old de) i t = at2 old i t + ∑ g ∈ Finset.range 32, at2 de (8 * g + i) t := by
  have e : gRS h old de = addf old (multiReduction .add [0] (sh 8 n) (shapeCast (sh3 32 8 n) de h.sc) 0x00000000#32 h.rd (.inl rfl) rfl) :=
    shapeCast_self _ _
  rw [e, at2_of_lt _ hi ht, at2_of_lt old hi ht, ← Fin.sum_univ_eq_sum_range (fun g => at2 de (8 * g + i) t)]
  refine congrArg (old (ix2 ⟨i, hi⟩ ⟨t, ht⟩) + ·) ?_
  refine (Ideal.reduceAdd_r3_a0 h.rd _ _).trans (Finset.sum_congr rfl fun g _ => ?_)
  rw [at2_of_lt de (show 8 * g.val + i < 256 by have := g.2; omega) ht]
  refine shapeCast_apply de h.sc _ _ ?_
  rw [rowMajor_val3 _ (8 * n) n rfl rfl, rowMajor_val2 _ n rfl]
  show (8 * g.val + i) * n + t = g.val * (8 * n) + i * n + t
  ring

theorem at2_gAcc (m : ℕ) (old : FVec Ideal (sh 512 m) .f32) (x : FVec Ideal (sh 512 n) .f32) (y : FVec Ideal (sh n m) .bf16) {s l : ℕ}
    (hs : s < 512) (hl : l < m) :
    at2 (gAcc h m old x y) s l = at2 old s l + ∑ t ∈ Finset.range n, at2 x s t * at2 y t l := by
  rw [← at2_mm (φ₁ := .bf16) (φ₂ := .bf16) x y hs hl]
  simp only [at2_of_lt _ hs hl]; rfl

theorem at2_gDQ (old : FVec Ideal (sh 128 n) .f32) (ktt : FVec Ideal (sh 128 512) .bf16) (x : FVec Ideal (sh 512 n) .f32) {l t : ℕ}
    (hl : l < 128) (ht : t < n) :
    at2 (gDQ h old ktt x) l t = at2 old l t + ∑ s ∈ Finset.range 512, at2 ktt l s * at2 x s t := by
  have e : gDQ h old ktt x = addf old (matmul (DotDims.plain 128 512 n) none ktt (truncf .bf16 x h.cv) (constant (sh 128 n) .f32 0x00000000#32)) :=
    shapeCast_self _ _
  rw [e, ← at2_mm (φ₁ := .bf16) (φ₂ := .bf16) ktt x hl ht]
  simp only [at2_of_lt _ hl ht]; rfl

theorem at2_gCS (old : FVec Ideal (sh 512 1) .f32) (x : FVec Ideal (sh 512 n) .f32) {s : ℕ} (hs : s < 512) :
    at2 (gCS h old x) s 0 = at2 old s 0 + ∑ t ∈ Finset.range n, at2 x s t := by
  rw [at2_of_lt _ hs Nat.one_pos, at2_of_lt old hs Nat.one_pos, ← Fin.sum_univ_eq_sum_range (fun t => at2 x s t)]
  refine congrArg (old (ix2 ⟨s, hs⟩ ⟨0, Nat.one_pos⟩) + ·) ?_
  rw [shapeCast_a_a1_apply]
  refine (Ideal.reduceAdd_r2_a1 h.rr _ _).trans (Finset.sum_congr rfl fun t _ => ?_)
  rw [at2_of_lt x hs t.2]
  rfl

end Apply

end Cert.Fox

end
-- ==== Proof.Block.lean ====
/- One block of 256 keys of a pair of heads: the terms that the backward pass of the attention computes for it, over the buffers that it
   reads, and what each of them holds at an index. -/
module

public import proofs.«01_k».proof.Proof.Span
public import Idealize.ShloMosaic.Lib.WordCmp
public import Idealize.ShloMosaic.Lib.Pipeline.Value
public import Idealize.ShloMosaic.Lib.Pipeline.FrameBody

@[expose] public section

noncomputable section

open Idealize.ShloMosaic hiding ix1 ix2 ix3 ix4 ix5 eq_ix1 eq_ix2 eq_ix3 eq_ix4
open Idealize.ShloMosaic.ValueIdx

open scoped BigOperators

namespace Cert.Fox

/-! ## Buffers -/

/-- A rectangle lies in a matrix. -/
theorem inb2 {A B r c a b : ℕ} (hr : r + a ≤ A) (hc : c + b ≤ B) :
    ∀ x : Fin 2, (![r, c] : Fin 2 → ℕ) x + (sh a b).size x ≤ (sh A B).size x := by
  intro x
  match x with
  | ⟨0, _⟩ => exact hr
  | ⟨1, _⟩ => exact hc

/-- A list of writes of rectangles to a matrix of floats, the last of them first. -/
abbrev Writes (A B : ℕ) (e : EltTy) : Type := List (View.Piece (Elt Ideal) (sh A B) e)

/-- After one more write of a rectangle the matrix holds what was written, and outside of it what it held. -/
theorem canon_cons2 {A B : ℕ} {e : EltTy} [∀ e, Nonempty (Elt Ideal e)] (L : Writes A B e) {r c a b : ℕ} (hr : r + a ≤ A) (hc : c + b ≤ B)
    (inb) (w : (sh a b).Idx → Elt Ideal e) (i : Fin A) (j : Fin B) :
    View.canon (⟨Rect.unit ![r, c] (sh a b).size inb, w⟩ :: L : Writes A B e) (ix2 i j)
      = if h : (r ≤ i.val ∧ i.val < r + a) ∧ (c ≤ j.val ∧ j.val < c + b) then w (ix2 ⟨i.val - r, by omega⟩ ⟨j.val - c, by omega⟩)
        else View.canon L (ix2 i j) := by
  split
  · rename_i h
    have e : (ix2 i j : (sh A B).Idx) = (Rect.unit (s := sh A B) ![r, c] (sh a b).size inb).emb
        (ix2 (⟨i.val - r, by omega⟩ : Fin a) (⟨j.val - c, by omega⟩ : Fin b)) := by
      funext x
      match x with
      | ⟨0, _⟩ => exact Fin.ext (show i.val = r + 1 * (i.val - r) by omega)
      | ⟨1, _⟩ => exact Fin.ext (show j.val = c + 1 * (j.val - c) by omega)
    rw [e]
    exact View.canon_cons_emb _ _ _ _
  · rename_i h
    refine View.canon_cons_of_not_mem _ _ fun hm => h ?_
    have := (Rect.mem_set_unit (s := sh A B) (off := ![r, c]) (size := (sh a b).size) (inb := inb)).mp hm
    exact ⟨this 0, this 1⟩

theorem at2_canon_f32 {A B : ℕ} (L : Writes A B .f32) {r c a b : ℕ} (hr : r + a ≤ A) (hc : c + b ≤ B)
    (inb) (w : (sh a b).Idx → Elt Ideal .f32) {i j : ℕ} (hi : i < A) (hj : j < B) :
    at2 (View.canon (⟨Rect.unit ![r, c] (sh a b).size inb, w⟩ :: L : Writes A B .f32)) i j
      = if (r ≤ i ∧ i < r + a) ∧ (c ≤ j ∧ j < c + b) then at2 w (i - r) (j - c) else at2 (View.canon L) i j := by
  rw [at2_of_lt _ hi hj, canon_cons2 L hr hc, at2_of_lt _ hi hj]
  split
  · rename_i h
    have h' : (r ≤ i ∧ i < r + a) ∧ (c ≤ j ∧ j < c + b) := h
    rw [at2_of_lt w (show i - r < a by omega) (show j - c < b by omega)]
  · rename_i h
    rfl

theorem at2_canon_bf16 {A B : ℕ} (L : Writes A B .bf16) {r c a b : ℕ} (hr : r + a ≤ A) (hc : c + b ≤ B)
    (inb) (w : (sh a b).Idx → Elt Ideal .bf16) {i j : ℕ} (hi : i < A) (hj : j < B) :
    at2 (View.canon (⟨Rect.unit ![r, c] (sh a b).size inb, w⟩ :: L : Writes A B .bf16)) i j
      = if (r ≤ i ∧ i < r + a) ∧ (c ≤ j ∧ j < c + b) then at2 w (i - r) (j - c) else at2 (View.canon L) i j := by
  rw [at2_of_lt _ hi hj, canon_cons2 L hr hc, at2_of_lt _ hi hj]
  split
  · rename_i h
    have h' : (r ≤ i ∧ i < r + a) ∧ (c ≤ j ∧ j < c + b) := h
    rw [at2_of_lt w (show i - r < a by omega) (show j - c < b by omega)]
  · rename_i h
    rfl

/-- A buffer and what was written to it. -/
structure Src (A B : ℕ) (e : EltTy) where
  sig : RefSig
  κ : Kind
  sp : Space
  view : View sig κ sp (sh A B) e
  L : Writes A B e

/-- What a buffer holds. -/
def Src.val {A B : ℕ} {e : EltTy} (S : Src A B e) : (sh A B).Idx → Elt Ideal e := View.canon S.L

/-- A load of a rectangle of a buffer. -/
def Src.ld {A B : ℕ} {e : EltTy} (S : Src A B e) (r c a b : ℕ) (hr : r + a ≤ A) (hc : c + b ≤ B) : (sh a b).Idx → Elt Ideal e :=
  S.view.readCov S.L (Rect.unit (s := sh A B) ![r, c] (sh a b).size (inb2 hr hc)).toLoadRect

theorem Src.ld_apply {A B : ℕ} {e : EltTy} (S : Src A B e) (r c a b : ℕ) (hr : r + a ≤ A) (hc : c + b ≤ B) (i : Fin a) (j : Fin b) :
    S.ld r c a b hr hc (ix2 i j) = S.val (ix2 ⟨r + i.val, by omega⟩ ⟨c + j.val, by omega⟩) := by
  refine (congrFun (View.readCov_eq_canon' S.view S.L (Rect.unit (s := sh A B) ![r, c] (sh a b).size (inb2 hr hc)).toLoadRect)
    (ix2 i j)).trans (congrArg (View.canon S.L) ?_)
  funext x
  match x with
  | ⟨0, _⟩ => exact Fin.ext (show r + 1 * i.val = r + i.val by omega)
  | ⟨1, _⟩ => exact Fin.ext (show c + 1 * j.val = c + j.val by omega)

theorem at2_ld_bf16 {A B : ℕ} (S : Src A B .bf16) {r c a b : ℕ} (hr : r + a ≤ A) (hc : c + b ≤ B) {i j : ℕ} (hi : i < a) (hj : j < b) :
    at2 (S.ld r c a b hr hc) i j = at2 S.val (r + i) (c + j) := by
  rw [at2_of_lt _ hi hj, at2_of_lt S.val (show r + i < A by omega) (show c + j < B by omega)]
  exact S.ld_apply r c a b hr hc ⟨i, hi⟩ ⟨j, hj⟩

theorem at2_ld_f32 {A B : ℕ} (S : Src A B .f32) {r c a b : ℕ} (hr : r + a ≤ A) (hc : c + b ≤ B) {i j : ℕ} (hi : i < a) (hj : j < b) :
    at2 (S.ld r c a b hr hc) i j = at2 S.val (r + i) (c + j) := by
  rw [at2_of_lt _ hi hj, at2_of_lt S.val (show r + i < A by omega) (show c + j < B by omega)]
  exact S.ld_apply r c a b hr hc ⟨i, hi⟩ ⟨j, hj⟩

/-! ## The terms of a block -/

/-- The buffers that every block reads: the keys of either head with its bias, the queries, the values of either head, the output's
    gradient, the keys of either head transposed, and the four rows (each head's log-sums, then each head's row sums). -/
structure Scr where
  km0 : Src 2048 256 .bf16
  km1 : Src 2048 256 .bf16
  qx : Src 2048 256 .bf16
  vm0 : Src 2048 128 .bf16
  vm1 : Src 2048 128 .bf16
  dob : Src 2048 128 .bf16
  kt0 : Src 128 2048 .bf16
  kt1 : Src 128 2048 .bf16
  rows : Src 8 2048 .f32
  mask : EReal

theorem cat_k : Shape.Concatenates [sh 256 256, sh 256 256] (sh 512 256) 0 := by decide
theorem cat_v : Shape.Concatenates [sh 256 128, sh 256 128] (sh 512 128) 0 := by decide
theorem cat_t : Shape.Concatenates [sh 128 256, sh 128 256] (sh 128 512) 1 := by decide

variable (S : Scr)

/-- The keys of a block, the first head's above the second's. -/
def Scr.kte (k0 : ℕ) (hk : k0 + 256 ≤ 2048) : FVec Ideal (sh 512 256) .bf16 :=
  concatenate (sh 512 256) 0 [⟨sh 256 256, S.km0.ld k0 0 256 256 hk (by decide)⟩, ⟨sh 256 256, S.km1.ld k0 0 256 256 hk (by decide)⟩] cat_k

/-- The values of a block, the first head's above the second's. -/
def Scr.vte (k0 : ℕ) (hk : k0 + 256 ≤ 2048) : FVec Ideal (sh 512 128) .bf16 :=
  concatenate (sh 512 128) 0 [⟨sh 256 128, S.vm0.ld k0 0 256 128 hk (by decide)⟩, ⟨sh 256 128, S.vm1.ld k0 0 256 128 hk (by decide)⟩] cat_v

/-- The keys of a block, transposed, the first head's beside the second's. -/
def Scr.ktt (k0 : ℕ) (hk : k0 + 256 ≤ 2048) : FVec Ideal (sh 128 512) .bf16 :=
  concatenate (sh 128 512) 1 [⟨sh 128 256, S.kt0.ld 0 k0 128 256 (by decide) hk⟩, ⟨sh 128 256, S.kt1.ld 0 k0 128 256 (by decide) hk⟩] cat_t

/-- The queries of a span. -/
def Scr.qs (q0 n : ℕ) (hq : q0 + n ≤ 2048) : FVec Ideal (sh n 256) .bf16 := S.qx.ld q0 0 n 256 hq (by decide)

/-- The output's gradients of a span. -/
def Scr.dos (q0 n : ℕ) (hq : q0 + n ≤ 2048) : FVec Ideal (sh n 128) .bf16 := S.dob.ld q0 0 n 128 hq (by decide)

/-- One of the rows, over a span. -/
def Scr.row (i : ℕ) (q0 n : ℕ) (hi : i + 1 ≤ 8) (hq : q0 + n ≤ 2048) : FVec Ideal (sh 1 n) .f32 := S.rows.ld i q0 1 n hi hq

/-- The logits of a span beside the diagonal, transposed. -/
def Scr.st (k0 q0 n : ℕ) (hk : k0 + 256 ≤ 2048) (hq : q0 + n ≤ 2048) : FVec Ideal (sh 512 n) .f32 := gST n (S.kte k0 hk) (S.qs q0 n hq)

/-- The logits of the span on the diagonal, transposed, the keys after their query masked. -/
def Scr.stm (k0 : ℕ) (hk : k0 + 256 ≤ 2048) : FVec Ideal (sh 512 256) .f32 :=
  select (cmpi .sge (iota .tc (sh 512 256) 32 [1]) (andi (iota .tc (sh 512 256) 32 [0]) (broadcast (sh 512 256) 255#32)))
    (gST 256 (S.kte k0 hk) (S.qs k0 256 hk)) (broadcast (sh 512 256) S.mask)

/-- The gradients of the probabilities of a span, transposed. -/
def Scr.dp (k0 q0 n : ℕ) (hk : k0 + 256 ≤ 2048) (hq : q0 + n ≤ 2048) : FVec Ideal (sh 512 n) .f32 := gDP n (S.vte k0 hk) (S.dos q0 n hq)

/-- The probabilities of a span, from its logits. -/
def Scr.pt {n : ℕ} (h : SpanFacts n) (st : FVec Ideal (sh 512 n) .f32) (q0 : ℕ) (hq : q0 + n ≤ 2048) : FVec Ideal (sh 512 n) .f32 :=
  gCat h (gP0 h st (S.row 0 q0 n (by decide) hq)) (gP1 h st (S.row 1 q0 n (by decide) hq))

/-- The first head's gradients of the logits of a span. -/
def Scr.d0 {n : ℕ} (h : SpanFacts n) (st dp : FVec Ideal (sh 512 n) .f32) (q0 : ℕ) (hq : q0 + n ≤ 2048) : FVec Ideal (sh 256 n) .f32 :=
  gD0 h st dp (S.row 0 q0 n (by decide) hq) (S.row 2 q0 n (by decide) hq)

/-- The second head's. -/
def Scr.d1 {n : ℕ} (h : SpanFacts n) (st dp : FVec Ideal (sh 512 n) .f32) (q0 : ℕ) (hq : q0 + n ≤ 2048) : FVec Ideal (sh 256 n) .f32 :=
  gD1 h st dp (S.row 1 q0 n (by decide) hq) (S.row 3 q0 n (by decide) hq)

/-- Both heads' gradients of the logits of a span. -/
def Scr.dt {n : ℕ} (h : SpanFacts n) (st dp : FVec Ideal (sh 512 n) .f32) (q0 : ℕ) (hq : q0 + n ≤ 2048) : FVec Ideal (sh 512 n) .f32 :=
  gCat h (S.d0 h st dp q0 hq) (S.d1 h st dp q0 hq)

/-- Of the two heads' rows the lanes that belong to each. -/
def halves {m : ℕ} (h0 : (sh 512 m).Slices ![0, 0] (sh 256 128)) (h1 : (sh 512 m).Slices ![256, 0] (sh 256 128))
    (x : FVec Ideal (sh 512 m) .f32) : FVec Ideal (sh 256 128) .f32 :=
  select (cmpi .slt (iota .tc (sh 256 128) 32 [1]) (broadcast (sh 256 128) 64#32))
    (extractStridedSlice (sh 256 128) ![0, 0] x h0) (extractStridedSlice (sh 256 128) ![256, 0] x h1)

/-- A matrix of zeros. -/
def zero (m : ℕ) : FVec Ideal (sh 512 m) .f32 := broadcast (sh 512 m) (FloatOps.ofBits .f32 0x00000000#32)

theorem hl256 : (sh 512 256).Slices ![0, 0] (sh 256 128) ∧ (sh 512 256).Slices ![256, 0] (sh 256 128) := by decide
theorem hl128 : (sh 512 128).Slices ![0, 0] (sh 256 128) ∧ (sh 512 128).Slices ![256, 0] (sh 256 128) := by decide

/-- What a block writes of a gradient: the lanes of each head, in the narrow format. -/
def out256 (x : FVec Ideal (sh 512 256) .f32) : FVec Ideal (sh 256 128) .bf16 := truncf .bf16 (halves hl256.1 hl256.2 x)
def out128 (x : FVec Ideal (sh 512 128) .f32) : FVec Ideal (sh 256 128) .bf16 := truncf .bf16 (halves hl128.1 hl128.2 x)

theorem bc1 : (sh 512 1).Broadcasts (sh 512 128) := by decide
theorem sc1 : (sh 512 1).ShapeCasts (sh 512 1) := by decide

/-- What a block writes of the keys' sums. -/
def outCS (x : FVec Ideal (sh 512 1) .f32) : FVec Ideal (sh 256 128) .f32 :=
  halves hl128.1 hl128.2 (broadcastTo (sh 512 128) (shapeCast (sh 512 1) x sc1) bc1)

/-! ## What they hold -/

/-- The keys of a head with its bias. -/
def Scr.KM (e s l : ℕ) : EReal := if e = 0 then at2 S.km0.val s l else at2 S.km1.val s l
/-- The values of a head. -/
def Scr.VM (e s l : ℕ) : EReal := if e = 0 then at2 S.vm0.val s l else at2 S.vm1.val s l
/-- The keys of a head, transposed. -/
def Scr.KT (e l s : ℕ) : EReal := if e = 0 then at2 S.kt0.val l s else at2 S.kt1.val l s
/-- The logit of a key and a query. -/
def Scr.X (e s t : ℕ) : EReal := ∑ l ∈ Finset.range 256, S.KM e s l * at2 S.qx.val t l
/-- The gradient of the probability of a key and a query. -/
def Scr.W (e s t : ℕ) : EReal := ∑ l ∈ Finset.range 128, S.VM e s l * at2 S.dob.val t l
/-- The masked logit. -/
def Scr.XM (e s t : ℕ) : EReal := if s ≤ t then S.X e s t else S.mask
/-- The probability. -/
def Scr.P (e s t : ℕ) : EReal := Ideal.exp (S.XM e s t - at2 S.rows.val e t)
/-- The gradient of the logit. -/
def Scr.G (e s t : ℕ) : EReal := S.P e s t * (S.W e s t - at2 S.rows.val (2 + e) t)

theorem div_lt2 {r : ℕ} (hr : r < 512) : r / 256 = if r < 256 then 0 else 1 := by split <;> omega
theorem mod_lt2 {r : ℕ} (hr : r < 512) : r % 256 = if r < 256 then r else r - 256 := by split <;> omega

theorem Scr.at2_kte {k0 : ℕ} (hk : k0 + 256 ≤ 2048) {r l : ℕ} (hr : r < 512) (hl : l < 256) :
    at2 (S.kte k0 hk) r l = S.KM (r / 256) (k0 + r % 256) l := by
  rw [Scr.kte, Scr.KM, div_lt2 hr, mod_lt2 hr]
  refine (at2_cat0 _ _ cat_k hr hl).trans ?_
  by_cases h : r < 256
  · simp only [if_pos h, if_true]
    rw [at2_ld_bf16 _ _ _ h hl, Nat.zero_add]
  · simp only [if_neg h, one_ne_zero, if_false]
    rw [at2_ld_bf16 _ _ _ (show r - 256 < 256 by omega) hl, Nat.zero_add]

theorem Scr.at2_vte {k0 : ℕ} (hk : k0 + 256 ≤ 2048) {r l : ℕ} (hr : r < 512) (hl : l < 128) :
    at2 (S.vte k0 hk) r l = S.VM (r / 256) (k0 + r % 256) l := by
  rw [Scr.vte, Scr.VM, div_lt2 hr, mod_lt2 hr]
  refine (at2_cat0 _ _ cat_v hr hl).trans ?_
  by_cases h : r < 256
  · simp only [if_pos h, if_true]
    rw [at2_ld_bf16 _ _ _ h hl, Nat.zero_add]
  · simp only [if_neg h, one_ne_zero, if_false]
    rw [at2_ld_bf16 _ _ _ (show r - 256 < 256 by omega) hl, Nat.zero_add]

/-- Two matrices, one beside the other. -/
theorem at2_cat1 {a b m : ℕ} (x : (sh m a).Idx → EReal) (y : (sh m b).Idx → EReal) (hc : Shape.Concatenates [sh m a, sh m b] (sh m (a + b)) 1)
    {r c : ℕ} (hr : r < m) (hm : c < a + b) :
    at2 (concatenate (sh m (a + b)) 1 [⟨sh m a, x⟩, ⟨sh m b, y⟩] hc) r c = if c < a then at2 x r c else at2 y r (c - a) := by
  rw [at2_of_lt _ hr hm]
  split
  · rename_i hlt
    rw [at2_of_lt x hr hlt]
    exact concatenate_pair_apply_left 1 x y hc _ rfl _ fun b => by
      match b with
      | ⟨0, _⟩ => rfl
      | ⟨1, _⟩ => rfl
  · rename_i hlt
    rw [at2_of_lt y hr (by omega)]
    refine concatenate_pair_apply_right 1 x y hc _ rfl rfl _ (fun b hb => ?_) ?_
    · match b with
      | ⟨0, _⟩ => rfl
      | ⟨1, _⟩ => exact absurd rfl hb
    · show (c - a) + a = c
      omega

theorem Scr.at2_ktt {k0 : ℕ} (hk : k0 + 256 ≤ 2048) {r l : ℕ} (hr : r < 512) (hl : l < 128) :
    at2 (S.ktt k0 hk) l r = S.KT (r / 256) l (k0 + r % 256) := by
  rw [Scr.ktt, Scr.KT, div_lt2 hr, mod_lt2 hr]
  refine (at2_cat1 _ _ cat_t hl hr).trans ?_
  by_cases h : r < 256
  · simp only [if_pos h, if_true]
    rw [at2_ld_bf16 _ _ _ hl h, Nat.zero_add]
  · simp only [if_neg h, one_ne_zero, if_false]
    rw [at2_ld_bf16 _ _ _ hl (show r - 256 < 256 by omega), Nat.zero_add]

theorem Scr.at2_qs {q0 n : ℕ} (hq : q0 + n ≤ 2048) {t l : ℕ} (ht : t < n) (hl : l < 256) :
    at2 (S.qs q0 n hq) t l = at2 S.qx.val (q0 + t) l := by
  rw [Scr.qs, at2_ld_bf16 _ _ _ ht hl, Nat.zero_add]

theorem Scr.at2_dos {q0 n : ℕ} (hq : q0 + n ≤ 2048) {t l : ℕ} (ht : t < n) (hl : l < 128) :
    at2 (S.dos q0 n hq) t l = at2 S.dob.val (q0 + t) l := by
  rw [Scr.dos, at2_ld_bf16 _ _ _ ht hl, Nat.zero_add]

theorem Scr.at2_row {i q0 n : ℕ} (hi : i + 1 ≤ 8) (hq : q0 + n ≤ 2048) {t : ℕ} (ht : t < n) :
    at2 (S.row i q0 n hi hq) 0 t = at2 S.rows.val i (q0 + t) := by
  rw [Scr.row, at2_ld_f32 _ _ _ Nat.one_pos ht, Nat.add_zero]

theorem Scr.at2_st {k0 q0 n : ℕ} (hk : k0 + 256 ≤ 2048) (hq : q0 + n ≤ 2048) {r t : ℕ} (hr : r < 512) (ht : t < n) :
    at2 (S.st k0 q0 n hk hq) r t = S.X (r / 256) (k0 + r % 256) (q0 + t) := by
  rw [Scr.st, at2_gST _ _ hr ht, Scr.X]
  refine Finset.sum_congr rfl fun l hl => ?_
  have hl := Finset.mem_range.mp hl
  rw [S.at2_kte hk hr hl, S.at2_qs hq ht hl]

theorem Scr.at2_dp {k0 q0 n : ℕ} (hk : k0 + 256 ≤ 2048) (hq : q0 + n ≤ 2048) {r t : ℕ} (hr : r < 512) (ht : t < n) :
    at2 (S.dp k0 q0 n hk hq) r t = S.W (r / 256) (k0 + r % 256) (q0 + t) := by
  rw [Scr.dp, at2_gDP _ _ hr ht, Scr.W]
  refine Finset.sum_congr rfl fun l hl => ?_
  have hl := Finset.mem_range.mp hl
  rw [S.at2_vte hk hr hl, S.at2_dos hq ht hl]

/-- The low eight bits of a small number. -/
theorem and_255 (r : ℕ) : IntOp.andi (BitVec.ofNat 32 r) 255#32 = BitVec.ofNat 32 (r % 256) := by
  refine BitVec.eq_of_toNat_eq ?_
  show (BitVec.ofNat 32 r &&& 255#32).toNat = _
  rw [BitVec.toNat_and, BitVec.toNat_ofNat, BitVec.toNat_ofNat, BitVec.toNat_ofNat]
  rw [show 255 % 2 ^ 32 = 2 ^ 8 - 1 from rfl, Nat.and_two_pow_sub_one_eq_mod]
  omega

theorem Scr.at2_stm {k0 : ℕ} (hk : k0 + 256 ≤ 2048) {r t : ℕ} (hr : r < 512) (ht : t < 256) :
    at2 (S.stm k0 hk) r t = S.XM (r / 256) (k0 + r % 256) (k0 + t) := by
  have e : at2 (S.stm k0 hk) r t
      = Scalar.select (IntOp.cmpi .sge (BitVec.ofNat 32 t) (IntOp.andi (BitVec.ofNat 32 r) 255#32)) (at2 (S.st k0 k0 256 hk hk) r t) S.mask := by
    rw [at2_of_lt _ hr ht, at2_of_lt _ hr ht]
    show Scalar.select (IntOp.cmpi .sge (BitVec.ofNat 32 (0 * 256 + t)) (IntOp.andi (BitVec.ofNat 32 (0 * 512 + r)) 255#32)) _ _ = _
    simp only [Nat.zero_mul, Nat.zero_add]
    rfl
  rw [e, and_255, WordCmp.cmpi_sge_ofNat (by omega) (by omega), S.at2_st hk hk hr ht, Scr.XM, Scalar.select]
  by_cases h : r % 256 ≤ t
  · rw [if_pos (by rw [decide_eq_true h]; rfl), if_pos (by omega)]
  · rw [if_neg (by rw [decide_eq_false h]; decide), if_neg (by omega)]

section Span
variable {n : ℕ} (h : SpanFacts n) {st dp : FVec Ideal (sh 512 n) .f32} {k0 q0 : ℕ} (hq : q0 + n ≤ 2048)
  (hst : ∀ r < 512, ∀ t < n, at2 st r t = S.XM (r / 256) (k0 + r % 256) (q0 + t))
  (hdp : ∀ r < 512, ∀ t < n, at2 dp r t = S.W (r / 256) (k0 + r % 256) (q0 + t))
include hst

theorem Scr.at2_p0 {r t : ℕ} (hr : r < 256) (ht : t < n) :
    at2 (gP0 h st (S.row 0 q0 n (by decide) hq)) r t = S.P 0 (k0 + r) (q0 + t) := by
  rw [at2_gP0 h _ _ hr ht, hst r (by omega) t ht, S.at2_row _ hq ht, Nat.div_eq_of_lt hr, Nat.mod_eq_of_lt hr]; rfl

theorem Scr.at2_p1 {r t : ℕ} (hr : r < 256) (ht : t < n) :
    at2 (gP1 h st (S.row 1 q0 n (by decide) hq)) r t = S.P 1 (k0 + r) (q0 + t) := by
  rw [at2_gP1 h _ _ hr ht, hst (256 + r) (by omega) t ht, S.at2_row _ hq ht, show (256 + r) / 256 = 1 by omega,
    show (256 + r) % 256 = r by omega]; rfl

theorem Scr.at2_pt {r t : ℕ} (hr : r < 512) (ht : t < n) : at2 (S.pt h st q0 hq) r t = S.P (r / 256) (k0 + r % 256) (q0 + t) := by
  rw [Scr.pt, at2_gCat h _ _ hr ht, div_lt2 hr, mod_lt2 hr]
  split
  · rename_i hlt
    exact S.at2_p0 h hq hst hlt ht
  · exact S.at2_p1 h hq hst (by omega) ht

include hdp

theorem Scr.at2_d0 {r t : ℕ} (hr : r < 256) (ht : t < n) : at2 (S.d0 h st dp q0 hq) r t = S.G 0 (k0 + r) (q0 + t) := by
  rw [Scr.d0, at2_gD0 h _ _ _ _ hr ht, S.at2_p0 h hq hst hr ht, hdp r (by omega) t ht, S.at2_row _ hq ht, Nat.div_eq_of_lt hr,
    Nat.mod_eq_of_lt hr]; rfl

theorem Scr.at2_d1 {r t : ℕ} (hr : r < 256) (ht : t < n) : at2 (S.d1 h st dp q0 hq) r t = S.G 1 (k0 + r) (q0 + t) := by
  rw [Scr.d1, at2_gD1 h _ _ _ _ hr ht, S.at2_p1 h hq hst hr ht, hdp (256 + r) (by omega) t ht, S.at2_row _ hq ht,
    show (256 + r) / 256 = 1 by omega, show (256 + r) % 256 = r by omega]; rfl

theorem Scr.at2_dt {r t : ℕ} (hr : r < 512) (ht : t < n) : at2 (S.dt h st dp q0 hq) r t = S.G (r / 256) (k0 + r % 256) (q0 + t) := by
  rw [Scr.dt, at2_gCat h _ _ hr ht, div_lt2 hr, mod_lt2 hr]
  split
  · rename_i hlt
    exact S.at2_d0 h hq hst hdp hlt ht
  · exact S.at2_d1 h hq hst hdp (by omega) ht

end Span

/-- Beside the diagonal no key is masked. -/
theorem Scr.hst_rest {k0 q0 n : ℕ} (hk : k0 + 256 ≤ 2048) (hq : q0 + n ≤ 2048) (hkq : k0 + 256 ≤ q0) :
    ∀ r < 512, ∀ t < n, at2 (S.st k0 q0 n hk hq) r t = S.XM (r / 256) (k0 + r % 256) (q0 + t) := fun r hr t ht => by
  rw [S.at2_st hk hq hr ht, Scr.XM, if_pos (by omega)]

theorem Scr.hst_diag {k0 : ℕ} (hk : k0 + 256 ≤ 2048) :
    ∀ r < 512, ∀ t < 256, at2 (S.stm k0 hk) r t = S.XM (r / 256) (k0 + r % 256) (k0 + t) := fun _ hr _ ht => S.at2_stm hk hr ht

theorem Scr.hdp_all {k0 q0 n : ℕ} (hk : k0 + 256 ≤ 2048) (hq : q0 + n ≤ 2048) :
    ∀ r < 512, ∀ t < n, at2 (S.dp k0 q0 n hk hq) r t = S.W (r / 256) (k0 + r % 256) (q0 + t) := fun _ hr _ ht => S.at2_dp hk hq hr ht

/-- A key after its query has no weight. -/
theorem Scr.P_zero (hm : S.mask = ⊥) {e s t : ℕ} (h : t < s) : S.P e s t = 0 := by
  rw [Scr.P, Scr.XM, if_neg (by omega), hm, sub_eq_add_neg, EReal.bot_add, Ideal.exp_bot]

theorem Scr.G_zero (hm : S.mask = ⊥) {e s t : ℕ} (h : t < s) : S.G e s t = 0 := by
  rw [Scr.G, S.P_zero hm h, zero_mul]

/-- A sum over the queries, where those before the block add nothing. -/
theorem sum_queries {k0 n : ℕ} (hn : k0 + 256 + n = 2048) {f : ℕ → EReal} (hz : ∀ t < k0, f t = 0) :
    ∑ t ∈ Finset.range 256, f (k0 + t) + ∑ t ∈ Finset.range n, f (k0 + 256 + t) = ∑ t ∈ Finset.range 2048, f t := by
  rw [← hn, Finset.sum_range_add, Finset.sum_range_add, Finset.sum_eq_zero (s := Finset.range k0) (fun t ht => hz t (Finset.mem_range.mp ht)),
    zero_add]

theorem at2_zero {m r c : ℕ} (hr : r < 512) (hc : c < m) : at2 (zero m) r c = 0 := by
  rw [at2_of_lt _ hr hc]; exact zero_word

theorem at2_halves {m : ℕ} (h0 h1) (x : FVec Ideal (sh 512 m) .f32) {r l : ℕ} (hr : r < 256) (hl : l < 128) (hm : 128 ≤ m) :
    at2 (halves h0 h1 x) r l = at2 x (256 * (l / 64) + r) l := by
  have e : at2 (halves h0 h1 x) r l
      = Scalar.select (IntOp.cmpi .slt (BitVec.ofNat 32 l) 64#32) (at2 x r l) (at2 x (256 + r) l) := by
    rw [at2_of_lt _ hr hl, at2_of_lt x (show r < 512 by omega) (show l < m by omega), at2_of_lt x (show 256 + r < 512 by omega) (show l < m by omega)]
    show Scalar.select (IntOp.cmpi .slt (BitVec.ofNat 32 (0 * 128 + l)) 64#32) _ _ = _
    rw [Nat.zero_mul, Nat.zero_add]
    congr 1
    · refine congrArg x (funext fun a => ?_)
      match a with
      | ⟨0, _⟩ => exact Fin.ext (Nat.zero_add _)
      | ⟨1, _⟩ => exact Fin.ext (Nat.zero_add _)
    · refine congrArg x (funext fun a => ?_)
      match a with
      | ⟨0, _⟩ => rfl
      | ⟨1, _⟩ => exact Fin.ext (Nat.zero_add _)
  rw [e, show (64#32 : BitVec 32) = BitVec.ofNat 32 64 from rfl, WordCmp.cmpi_slt_ofNat (by omega) (by omega), Scalar.select]
  by_cases h : l < 64
  · rw [if_pos (by rw [decide_eq_true h]; rfl), show l / 64 = 0 by omega, Nat.mul_zero, Nat.zero_add]
  · rw [if_neg (by rw [decide_eq_false h]; decide), show l / 64 = 1 by omega]

theorem at2_out256 (x : FVec Ideal (sh 512 256) .f32) {r l : ℕ} (hr : r < 256) (hl : l < 128) :
    at2 (out256 x) r l = at2 x (256 * (l / 64) + r) l := at2_halves _ _ x hr hl (by decide)
theorem at2_out128 (x : FVec Ideal (sh 512 128) .f32) {r l : ℕ} (hr : r < 256) (hl : l < 128) :
    at2 (out128 x) r l = at2 x (256 * (l / 64) + r) l := at2_halves _ _ x hr hl (by decide)

theorem at2_outCS (x : FVec Ideal (sh 512 1) .f32) {r l : ℕ} (hr : r < 256) (hl : l < 128) :
    at2 (outCS x) r l = at2 x (256 * (l / 64) + r) 0 := by
  have hx : 256 * (l / 64) + r < 512 := by omega
  rw [outCS, at2_halves _ _ _ hr hl (by decide), shapeCast_self, at2_of_lt _ hx hl, at2_of_lt x hx Nat.one_pos]
  refine congrArg x (funext fun a => ?_)
  match a with
  | ⟨0, _⟩ => rfl
  | ⟨1, _⟩ => rfl

end Cert.Fox

end
-- ==== Proof.Chain.lean ====
/- The blocks of keys one after the other: what the accumulated buffers of the backward pass hold after all of them, and what each block
   writes of the gradients of its keys and values. -/
module

public import proofs.«01_k».proof.Proof.Block

@[expose] public section

noncomputable section

open Idealize.ShloMosaic hiding ix1 ix2 ix3 ix4 ix5 eq_ix1 eq_ix2 eq_ix3 eq_ix4
open Idealize.ShloMosaic.ValueIdx

open scoped BigOperators

namespace Cert.Fox

/-- A write of a rectangle to a matrix. -/
abbrev Write (A B : ℕ) (e : EltTy) : Type := View.Piece (Elt Ideal) (sh A B) e

/-- A buffer after one more write. -/
def Src.push {A B : ℕ} {e : EltTy} (R : Src A B e) (w : Write A B e) : Src A B e := ⟨R.sig, R.κ, R.sp, R.view, w :: R.L⟩

/-- The write of a head's row sums of a span. -/
def rsW (R : Src 128 2048 .f32) {n : ℕ} (h : SpanFacts n) (r q0 : ℕ) (hr : r + 8 ≤ 128) (hq : q0 + n ≤ 2048) (d : FVec Ideal (sh 256 n) .f32) :
    Write 128 2048 .f32 := ⟨Rect.unit (s := sh 128 2048) ![r, q0] (sh 8 n).size (inb2 hr hq), gRS h (R.ld r q0 8 n hr hq) d⟩

/-- The write of the queries' gradients of a span. -/
def dqW (R : Src 128 2048 .f32) {n : ℕ} (h : SpanFacts n) (q0 : ℕ) (hq : q0 + n ≤ 2048) (ktt : FVec Ideal (sh 128 512) .bf16)
    (x : FVec Ideal (sh 512 n) .f32) : Write 128 2048 .f32 :=
  ⟨Rect.unit (s := sh 128 2048) ![0, q0] (sh 128 n).size (inb2 (by decide) hq), gDQ h (R.ld 0 q0 128 n (by decide) hq) ktt x⟩

theorem at2_rsW (R : Src 128 2048 .f32) {n : ℕ} (h : SpanFacts n) {r q0 : ℕ} (hr : r + 8 ≤ 128) (hq : q0 + n ≤ 2048)
    (d : FVec Ideal (sh 256 n) .f32) {i t : ℕ} (hi : i < 128) (ht : t < 2048) :
    at2 (R.push (rsW R h r q0 hr hq d)).val i t
      = at2 R.val i t + if (r ≤ i ∧ i < r + 8) ∧ (q0 ≤ t ∧ t < q0 + n) then ∑ g ∈ Finset.range 32, at2 d (8 * g + (i - r)) (t - q0) else 0 := by
  refine (at2_canon_f32 R.L hr hq _ _ hi ht).trans ?_
  split
  · rename_i hh
    rw [at2_gRS h _ _ (show i - r < 8 by omega) (show t - q0 < n by omega), at2_ld_f32 R hr hq (show i - r < 8 by omega) (show t - q0 < n by omega),
      show r + (i - r) = i by omega, show q0 + (t - q0) = t by omega]
  · rw [add_zero]; rfl

theorem at2_dqW (R : Src 128 2048 .f32) {n : ℕ} (h : SpanFacts n) {q0 : ℕ} (hq : q0 + n ≤ 2048) (ktt : FVec Ideal (sh 128 512) .bf16)
    (x : FVec Ideal (sh 512 n) .f32) {l t : ℕ} (hl : l < 128) (ht : t < 2048) :
    at2 (R.push (dqW R h q0 hq ktt x)).val l t
      = at2 R.val l t + if q0 ≤ t ∧ t < q0 + n then ∑ s ∈ Finset.range 512, at2 ktt l s * at2 x s (t - q0) else 0 := by
  refine (at2_canon_f32 R.L (by decide) hq _ _ hl ht).trans ?_
  by_cases hh : q0 ≤ t ∧ t < q0 + n
  · rw [if_pos ⟨⟨Nat.zero_le _, by omega⟩, hh⟩, if_pos hh, Nat.sub_zero, at2_gDQ h _ _ _ hl (show t - q0 < n by omega),
      at2_ld_f32 R (by decide) hq hl (show t - q0 < n by omega), Nat.zero_add, show q0 + (t - q0) = t by omega]
  · rw [if_neg fun c => hh c.2, if_neg hh, add_zero]; rfl

variable (S : Scr)

/-- The gradients of the logits on the diagonal of a block. -/
def Scr.dtD (h : SpanFacts 256) (k0 : ℕ) (hk : k0 + 256 ≤ 2048) : FVec Ideal (sh 512 256) .f32 := S.dt h (S.stm k0 hk) (S.dp k0 k0 256 hk hk) k0 hk
def Scr.d0D (h : SpanFacts 256) (k0 : ℕ) (hk : k0 + 256 ≤ 2048) : FVec Ideal (sh 256 256) .f32 := S.d0 h (S.stm k0 hk) (S.dp k0 k0 256 hk hk) k0 hk
def Scr.d1D (h : SpanFacts 256) (k0 : ℕ) (hk : k0 + 256 ≤ 2048) : FVec Ideal (sh 256 256) .f32 := S.d1 h (S.stm k0 hk) (S.dp k0 k0 256 hk hk) k0 hk
def Scr.ptD (h : SpanFacts 256) (k0 : ℕ) (hk : k0 + 256 ≤ 2048) : FVec Ideal (sh 512 256) .f32 := S.pt h (S.stm k0 hk) k0 hk

/-- … and beside it, in the queries after the block. -/
def Scr.dtR {n : ℕ} (h : SpanFacts n) (k0 : ℕ) (hk : k0 + 256 ≤ 2048) (hn : k0 + 256 + n ≤ 2048) : FVec Ideal (sh 512 n) .f32 :=
  S.dt h (S.st k0 (k0 + 256) n hk hn) (S.dp k0 (k0 + 256) n hk hn) (k0 + 256) hn
def Scr.d0R {n : ℕ} (h : SpanFacts n) (k0 : ℕ) (hk : k0 + 256 ≤ 2048) (hn : k0 + 256 + n ≤ 2048) : FVec Ideal (sh 256 n) .f32 :=
  S.d0 h (S.st k0 (k0 + 256) n hk hn) (S.dp k0 (k0 + 256) n hk hn) (k0 + 256) hn
def Scr.d1R {n : ℕ} (h : SpanFacts n) (k0 : ℕ) (hk : k0 + 256 ≤ 2048) (hn : k0 + 256 + n ≤ 2048) : FVec Ideal (sh 256 n) .f32 :=
  S.d1 h (S.st k0 (k0 + 256) n hk hn) (S.dp k0 (k0 + 256) n hk hn) (k0 + 256) hn
def Scr.ptR {n : ℕ} (h : SpanFacts n) (k0 : ℕ) (hk : k0 + 256 ≤ 2048) (hn : k0 + 256 + n ≤ 2048) : FVec Ideal (sh 512 n) .f32 :=
  S.pt h (S.st k0 (k0 + 256) n hk hn) (k0 + 256) hn

section Vals
variable {n : ℕ} (h2 : SpanFacts 256) (h : SpanFacts n) {k0 : ℕ} (hk : k0 + 256 ≤ 2048) (hn : k0 + 256 + n ≤ 2048)

theorem Scr.at2_dtD {r t : ℕ} (hr : r < 512) (ht : t < 256) : at2 (S.dtD h2 k0 hk) r t = S.G (r / 256) (k0 + r % 256) (k0 + t) :=
  S.at2_dt h2 hk (S.hst_diag hk) (S.hdp_all hk hk) hr ht
theorem Scr.at2_d0D {r t : ℕ} (hr : r < 256) (ht : t < 256) : at2 (S.d0D h2 k0 hk) r t = S.G 0 (k0 + r) (k0 + t) :=
  S.at2_d0 h2 hk (S.hst_diag hk) (S.hdp_all hk hk) hr ht
theorem Scr.at2_d1D {r t : ℕ} (hr : r < 256) (ht : t < 256) : at2 (S.d1D h2 k0 hk) r t = S.G 1 (k0 + r) (k0 + t) :=
  S.at2_d1 h2 hk (S.hst_diag hk) (S.hdp_all hk hk) hr ht
theorem Scr.at2_ptD {r t : ℕ} (hr : r < 512) (ht : t < 256) : at2 (S.ptD h2 k0 hk) r t = S.P (r / 256) (k0 + r % 256) (k0 + t) :=
  S.at2_pt h2 hk (S.hst_diag hk) hr ht
theorem Scr.at2_dtR {r t : ℕ} (hr : r < 512) (ht : t < n) : at2 (S.dtR h k0 hk hn) r t = S.G (r / 256) (k0 + r % 256) (k0 + 256 + t) :=
  S.at2_dt h hn (S.hst_rest hk hn le_rfl) (S.hdp_all hk hn) hr ht
theorem Scr.at2_d0R {r t : ℕ} (hr : r < 256) (ht : t < n) : at2 (S.d0R h k0 hk hn) r t = S.G 0 (k0 + r) (k0 + 256 + t) :=
  S.at2_d0 h hn (S.hst_rest hk hn le_rfl) (S.hdp_all hk hn) hr ht
theorem Scr.at2_d1R {r t : ℕ} (hr : r < 256) (ht : t < n) : at2 (S.d1R h k0 hk hn) r t = S.G 1 (k0 + r) (k0 + 256 + t) :=
  S.at2_d1 h hn (S.hst_rest hk hn le_rfl) (S.hdp_all hk hn) hr ht
theorem Scr.at2_ptR {r t : ℕ} (hr : r < 512) (ht : t < n) : at2 (S.ptR h k0 hk hn) r t = S.P (r / 256) (k0 + r % 256) (k0 + 256 + t) :=
  S.at2_pt h hn (S.hst_rest hk hn le_rfl) hr ht
end Vals

/-! ## The gradients of a block's keys and values, and the keys' sums -/

/-- The keys' gradients of the last block, and of one before it. -/
def Scr.dkL (h2 : SpanFacts 256) (k0 : ℕ) (hk : k0 + 256 ≤ 2048) : FVec Ideal (sh 512 256) .f32 :=
  gAcc h2 256 (zero 256) (S.dtD h2 k0 hk) (S.qs k0 256 hk)
def Scr.dkB {n : ℕ} (h2 : SpanFacts 256) (h : SpanFacts n) (k0 : ℕ) (hk : k0 + 256 ≤ 2048) (hn : k0 + 256 + n ≤ 2048) :
    FVec Ideal (sh 512 256) .f32 := gAcc h 256 (S.dkL h2 k0 hk) (S.dtR h k0 hk hn) (S.qs (k0 + 256) n hn)
/-- The values' gradients. -/
def Scr.dvL (h2 : SpanFacts 256) (k0 : ℕ) (hk : k0 + 256 ≤ 2048) : FVec Ideal (sh 512 128) .f32 :=
  gAcc h2 128 (zero 128) (S.ptD h2 k0 hk) (S.dos k0 256 hk)
def Scr.dvB {n : ℕ} (h2 : SpanFacts 256) (h : SpanFacts n) (k0 : ℕ) (hk : k0 + 256 ≤ 2048) (hn : k0 + 256 + n ≤ 2048) :
    FVec Ideal (sh 512 128) .f32 := gAcc h 128 (S.dvL h2 k0 hk) (S.ptR h k0 hk hn) (S.dos (k0 + 256) n hn)
/-- The keys' sums. -/
def Scr.csL (h2 : SpanFacts 256) (k0 : ℕ) (hk : k0 + 256 ≤ 2048) : FVec Ideal (sh 512 1) .f32 := gCS h2 (zero 1) (S.dtD h2 k0 hk)
def Scr.csB {n : ℕ} (h2 : SpanFacts 256) (h : SpanFacts n) (k0 : ℕ) (hk : k0 + 256 ≤ 2048) (hn : k0 + 256 + n ≤ 2048) :
    FVec Ideal (sh 512 1) .f32 := gCS h (S.csL h2 k0 hk) (S.dtR h k0 hk hn)

/-- The key's gradient, in the lanes with the bias. -/
def Scr.DK (e s l : ℕ) : EReal := ∑ t ∈ Finset.range 2048, S.G e s t * at2 S.qx.val t l
/-- The value's gradient. -/
def Scr.DV (e s l : ℕ) : EReal := ∑ t ∈ Finset.range 2048, S.P e s t * at2 S.dob.val t l
/-- The key's sum. -/
def Scr.CS (e s : ℕ) : EReal := ∑ t ∈ Finset.range 2048, S.G e s t

section Outs
variable (hm : S.mask = ⊥) {n : ℕ} (h2 : SpanFacts 256) (h : SpanFacts n) {k0 : ℕ} (hk : k0 + 256 ≤ 2048) (hn : k0 + 256 + n ≤ 2048)

theorem Scr.at2_dkL {r l : ℕ} (hr : r < 512) (hl : l < 256) :
    at2 (S.dkL h2 k0 hk) r l = ∑ t ∈ Finset.range 256, S.G (r / 256) (k0 + r % 256) (k0 + t) * at2 S.qx.val (k0 + t) l := by
  rw [Scr.dkL, at2_gAcc h2 256 _ _ _ hr hl, at2_zero hr hl, zero_add]
  refine Finset.sum_congr rfl fun t ht => ?_
  have ht := Finset.mem_range.mp ht
  rw [S.at2_dtD h2 hk hr ht, S.at2_qs hk ht hl]

theorem Scr.at2_dvL {r l : ℕ} (hr : r < 512) (hl : l < 128) :
    at2 (S.dvL h2 k0 hk) r l = ∑ t ∈ Finset.range 256, S.P (r / 256) (k0 + r % 256) (k0 + t) * at2 S.dob.val (k0 + t) l := by
  rw [Scr.dvL, at2_gAcc h2 128 _ _ _ hr hl, at2_zero hr hl, zero_add]
  refine Finset.sum_congr rfl fun t ht => ?_
  have ht := Finset.mem_range.mp ht
  rw [S.at2_ptD h2 hk hr ht, S.at2_dos hk ht hl]

theorem Scr.at2_csL {r : ℕ} (hr : r < 512) : at2 (S.csL h2 k0 hk) r 0 = ∑ t ∈ Finset.range 256, S.G (r / 256) (k0 + r % 256) (k0 + t) := by
  rw [Scr.csL, at2_gCS h2 _ _ hr, at2_zero hr Nat.one_pos, zero_add]
  exact Finset.sum_congr rfl fun t ht => S.at2_dtD h2 hk hr (Finset.mem_range.mp ht)

theorem row_div {r l : ℕ} (hr : r < 256) (hl : l < 128) : (256 * (l / 64) + r) / 256 = l / 64 ∧ (256 * (l / 64) + r) % 256 = r := by omega

include hm

theorem Scr.at2_dkB (hN : k0 + 256 + n = 2048) {r l : ℕ} (hr : r < 512) (hl : l < 256) :
    at2 (S.dkB h2 h k0 hk hn) r l = S.DK (r / 256) (k0 + r % 256) l := by
  rw [Scr.dkB, at2_gAcc h 256 _ _ _ hr hl, S.at2_dkL h2 hk hr hl, Scr.DK,
    ← sum_queries hN (f := fun t => S.G (r / 256) (k0 + r % 256) t * at2 S.qx.val t l) fun t ht => by rw [S.G_zero hm (by omega), zero_mul]]
  refine congrArg _ (Finset.sum_congr rfl fun t ht => ?_)
  have ht := Finset.mem_range.mp ht
  rw [S.at2_dtR h hk hn hr ht, S.at2_qs hn ht hl]

theorem Scr.at2_dvB (hN : k0 + 256 + n = 2048) {r l : ℕ} (hr : r < 512) (hl : l < 128) :
    at2 (S.dvB h2 h k0 hk hn) r l = S.DV (r / 256) (k0 + r % 256) l := by
  rw [Scr.dvB, at2_gAcc h 128 _ _ _ hr hl, S.at2_dvL h2 hk hr hl, Scr.DV,
    ← sum_queries hN (f := fun t => S.P (r / 256) (k0 + r % 256) t * at2 S.dob.val t l) fun t ht => by rw [S.P_zero hm (by omega), zero_mul]]
  refine congrArg _ (Finset.sum_congr rfl fun t ht => ?_)
  have ht := Finset.mem_range.mp ht
  rw [S.at2_ptR h hk hn hr ht, S.at2_dos hn ht hl]

theorem Scr.at2_csB (hN : k0 + 256 + n = 2048) {r : ℕ} (hr : r < 512) : at2 (S.csB h2 h k0 hk hn) r 0 = S.CS (r / 256) (k0 + r % 256) := by
  rw [Scr.csB, at2_gCS h _ _ hr, S.at2_csL h2 hk hr, Scr.CS,
    ← sum_queries hN (f := fun t => S.G (r / 256) (k0 + r % 256) t) fun t ht => S.G_zero hm (by omega)]
  exact congrArg _ (Finset.sum_congr rfl fun t ht => S.at2_dtR h hk hn hr (Finset.mem_range.mp ht))

/-- What a block writes of its keys' gradients. -/
theorem Scr.at2_outDK (hN : k0 + 256 + n = 2048) {r l : ℕ} (hr : r < 256) (hl : l < 128) :
    at2 (out256 (S.dkB h2 h k0 hk hn)) r l = S.DK (l / 64) (k0 + r) l := by
  rw [at2_out256 _ hr hl, S.at2_dkB hm h2 h hk hn hN (by omega) (by omega), (row_div hr hl).1, (row_div hr hl).2]
theorem Scr.at2_outDV (hN : k0 + 256 + n = 2048) {r l : ℕ} (hr : r < 256) (hl : l < 128) :
    at2 (out128 (S.dvB h2 h k0 hk hn)) r l = S.DV (l / 64) (k0 + r) l := by
  rw [at2_out128 _ hr hl, S.at2_dvB hm h2 h hk hn hN (by omega) (by omega), (row_div hr hl).1, (row_div hr hl).2]
theorem Scr.at2_outCS' (hN : k0 + 256 + n = 2048) {r l : ℕ} (hr : r < 256) (hl : l < 128) :
    at2 (outCS (S.csB h2 h k0 hk hn)) r l = S.CS (l / 64) (k0 + r) := by
  rw [at2_outCS _ hr hl, S.at2_csB hm h2 h hk hn hN (by omega), (row_div hr hl).1, (row_div hr hl).2]

/-- The same of the last block. -/
theorem Scr.at2_outDKL (hN : k0 + 256 = 2048) {r l : ℕ} (hr : r < 256) (hl : l < 128) :
    at2 (out256 (S.dkL h2 k0 hk)) r l = S.DK (l / 64) (k0 + r) l := by
  rw [at2_out256 _ hr hl, S.at2_dkL h2 hk (by omega) (by omega), (row_div hr hl).1, (row_div hr hl).2, Scr.DK,
    ← sum_queries (n := 0) hN (f := fun t => S.G (l / 64) (k0 + r) t * at2 S.qx.val t l) fun t ht => by rw [S.G_zero hm (by omega), zero_mul],
    Finset.sum_range_zero, add_zero]
theorem Scr.at2_outDVL (hN : k0 + 256 = 2048) {r l : ℕ} (hr : r < 256) (hl : l < 128) :
    at2 (out128 (S.dvL h2 k0 hk)) r l = S.DV (l / 64) (k0 + r) l := by
  rw [at2_out128 _ hr hl, S.at2_dvL h2 hk (by omega) (by omega), (row_div hr hl).1, (row_div hr hl).2, Scr.DV,
    ← sum_queries (n := 0) hN (f := fun t => S.P (l / 64) (k0 + r) t * at2 S.dob.val t l) fun t ht => by rw [S.P_zero hm (by omega), zero_mul],
    Finset.sum_range_zero, add_zero]
theorem Scr.at2_outCSL (hN : k0 + 256 = 2048) {r l : ℕ} (hr : r < 256) (hl : l < 128) :
    at2 (outCS (S.csL h2 k0 hk)) r l = S.CS (l / 64) (k0 + r) := by
  rw [at2_outCS _ hr hl, S.at2_csL h2 hk (by omega), (row_div hr hl).1, (row_div hr hl).2, Scr.CS,
    ← sum_queries (n := 0) hN (f := fun t => S.G (l / 64) (k0 + r) t) fun t ht => S.G_zero hm (by omega),
    Finset.sum_range_zero, add_zero]

end Outs

/-! ## The accumulated buffers -/

/-- What a block adds to the queries' gradients. -/
def Scr.BQ (k0 l t : ℕ) : EReal := ∑ r ∈ Finset.range 512, S.KT (r / 256) l (k0 + r % 256) * S.G (r / 256) (k0 + r % 256) t
/-- What a block adds to the row sums: eight partial sums of either head. -/
def Scr.BR (k0 i t : ℕ) : EReal :=
  if i < 8 then ∑ g ∈ Finset.range 32, S.G 0 (k0 + (8 * g + i)) t
  else if 64 ≤ i ∧ i < 72 then ∑ g ∈ Finset.range 32, S.G 1 (k0 + (8 * g + (i - 64))) t else 0

section Acc
variable (hm : S.mask = ⊥) {n : ℕ} (h2 : SpanFacts 256) (h : SpanFacts n) {k0 : ℕ} (hk : k0 + 256 ≤ 2048) (hn : k0 + 256 + n ≤ 2048)
  (R : Src 128 2048 .f32)

/-- The queries' gradients after the last block, and after one before it. -/
def Scr.dqL (k0 : ℕ) (hk : k0 + 256 ≤ 2048) : Src 128 2048 .f32 := R.push (dqW R h2 k0 hk (S.ktt k0 hk) (S.dtD h2 k0 hk))
def Scr.dqB (k0 : ℕ) (hk : k0 + 256 ≤ 2048) (hn : k0 + 256 + n ≤ 2048) : Src 128 2048 .f32 :=
  (S.dqL h2 R k0 hk).push (dqW (S.dqL h2 R k0 hk) h (k0 + 256) hn (S.ktt k0 hk) (S.dtR h k0 hk hn))

theorem Scr.at2_dqL {l t : ℕ} (hl : l < 128) (ht : t < 2048) :
    at2 (S.dqL h2 R k0 hk).val l t = at2 R.val l t + if k0 ≤ t ∧ t < k0 + 256 then S.BQ k0 l t else 0 := by
  rw [Scr.dqL, at2_dqW R h2 hk _ _ hl ht]
  congr 1
  split
  · rename_i hh
    refine Finset.sum_congr rfl fun r hr => ?_
    have hr := Finset.mem_range.mp hr
    rw [S.at2_ktt hk hr hl, S.at2_dtD h2 hk hr (by omega), show k0 + (t - k0) = t by omega]
  · rfl

include hm in
theorem Scr.BQ_zero {k0 l t : ℕ} (ht : t < k0) : S.BQ k0 l t = 0 := by
  refine Finset.sum_eq_zero fun r _ => ?_
  rw [S.G_zero hm (show t < k0 + r % 256 by omega), mul_zero]

include hm in
theorem Scr.at2_dqB (hN : k0 + 256 + n = 2048) {l t : ℕ} (hl : l < 128) (ht : t < 2048) :
    at2 (S.dqB h2 h R k0 hk hn).val l t = at2 R.val l t + S.BQ k0 l t := by
  rw [Scr.dqB, at2_dqW _ h hn _ _ hl ht, S.at2_dqL h2 hk R hl ht, add_assoc]
  congr 1
  by_cases h1 : t < k0
  · rw [if_neg (by omega), if_neg (by omega), S.BQ_zero hm h1, zero_add]
  · by_cases h3 : t < k0 + 256
    · rw [if_pos (by omega), if_neg (by omega), add_zero]
    · rw [if_neg (by omega), if_pos (by omega), zero_add, Scr.BQ]
      refine Finset.sum_congr rfl fun r hr => ?_
      have hr := Finset.mem_range.mp hr
      rw [S.at2_ktt hk hr hl, S.at2_dtR h hk hn hr (by omega), show k0 + 256 + (t - (k0 + 256)) = t by omega]

include hm in
theorem Scr.at2_dqL' (hN : k0 + 256 = 2048) {l t : ℕ} (hl : l < 128) (ht : t < 2048) :
    at2 (S.dqL h2 R k0 hk).val l t = at2 R.val l t + S.BQ k0 l t := by
  rw [S.at2_dqL h2 hk R hl ht]
  by_cases h1 : t < k0
  · rw [if_neg (by omega), S.BQ_zero hm h1]
  · rw [if_pos (by omega)]

/-- The row sums after the first head's diagonal, after both heads', after the first head's rest, and after the block. -/
def Scr.rs1 (k0 : ℕ) (hk : k0 + 256 ≤ 2048) : Src 128 2048 .f32 := R.push (rsW R h2 0 k0 (by decide) hk (S.d0D h2 k0 hk))
def Scr.rs2 (k0 : ℕ) (hk : k0 + 256 ≤ 2048) : Src 128 2048 .f32 :=
  (S.rs1 h2 R k0 hk).push (rsW (S.rs1 h2 R k0 hk) h2 64 k0 (by decide) hk (S.d1D h2 k0 hk))
def Scr.rs3 (k0 : ℕ) (hk : k0 + 256 ≤ 2048) (hn : k0 + 256 + n ≤ 2048) : Src 128 2048 .f32 :=
  (S.rs2 h2 R k0 hk).push (rsW (S.rs2 h2 R k0 hk) h 0 (k0 + 256) (by decide) hn (S.d0R h k0 hk hn))
def Scr.rs4 (k0 : ℕ) (hk : k0 + 256 ≤ 2048) (hn : k0 + 256 + n ≤ 2048) : Src 128 2048 .f32 :=
  (S.rs3 h2 h R k0 hk hn).push (rsW (S.rs3 h2 h R k0 hk hn) h 64 (k0 + 256) (by decide) hn (S.d1R h k0 hk hn))

theorem Scr.at2_rs2 {i t : ℕ} (hi : i < 128) (ht : t < 2048) :
    at2 (S.rs2 h2 R k0 hk).val i t = at2 R.val i t + if k0 ≤ t ∧ t < k0 + 256 then S.BR k0 i t else 0 := by
  rw [Scr.rs2, at2_rsW _ h2 _ hk _ hi ht, Scr.rs1, at2_rsW R h2 _ hk _ hi ht, add_assoc]
  congr 1
  by_cases hh : k0 ≤ t ∧ t < k0 + 256
  · rw [if_pos hh, Scr.BR]
    by_cases h1 : i < 8
    · rw [if_pos (by omega), if_neg (by omega), if_pos h1, add_zero]
      refine Finset.sum_congr rfl fun g hg => ?_
      have hg := Finset.mem_range.mp hg
      rw [S.at2_d0D h2 hk (by omega) (by omega), show k0 + (t - k0) = t by omega, Nat.sub_zero]
    · rw [if_neg (by omega), if_neg h1, zero_add]
      by_cases h3 : 64 ≤ i ∧ i < 72
      · rw [if_pos (by omega), if_pos h3]
        refine Finset.sum_congr rfl fun g hg => ?_
        have hg := Finset.mem_range.mp hg
        rw [S.at2_d1D h2 hk (by omega) (by omega), show k0 + (t - k0) = t by omega]
      · rw [if_neg (by omega), if_neg h3]
  · rw [if_neg (by tauto), if_neg (by tauto), if_neg hh, add_zero]

theorem Scr.at2_rs4' {i t : ℕ} (hi : i < 128) (ht : t < 2048) :
    at2 (S.rs4 h2 h R k0 hk hn).val i t
      = at2 (S.rs2 h2 R k0 hk).val i t + if k0 + 256 ≤ t ∧ t < k0 + 256 + n then S.BR k0 i t else 0 := by
  rw [Scr.rs4, at2_rsW _ h _ hn _ hi ht, Scr.rs3, at2_rsW _ h _ hn _ hi ht, add_assoc]
  congr 1
  by_cases hh : k0 + 256 ≤ t ∧ t < k0 + 256 + n
  · rw [if_pos hh, Scr.BR]
    by_cases h1 : i < 8
    · rw [if_pos (by omega), if_neg (by omega), if_pos h1, add_zero]
      refine Finset.sum_congr rfl fun g hg => ?_
      have hg := Finset.mem_range.mp hg
      rw [S.at2_d0R h hk hn (by omega) (by omega), show k0 + 256 + (t - (k0 + 256)) = t by omega, Nat.sub_zero]
    · rw [if_neg (by omega), if_neg h1, zero_add]
      by_cases h3 : 64 ≤ i ∧ i < 72
      · rw [if_pos (by omega), if_pos h3]
        refine Finset.sum_congr rfl fun g hg => ?_
        have hg := Finset.mem_range.mp hg
        rw [S.at2_d1R h hk hn (by omega) (by omega), show k0 + 256 + (t - (k0 + 256)) = t by omega]
      · rw [if_neg (by omega), if_neg h3]
  · rw [if_neg (by tauto), if_neg (by tauto), if_neg hh, add_zero]

include hm in
theorem Scr.BR_zero {k0 i t : ℕ} (ht : t < k0) : S.BR k0 i t = 0 := by
  rw [Scr.BR]
  split
  · exact Finset.sum_eq_zero fun g _ => S.G_zero hm (by omega)
  · split
    · exact Finset.sum_eq_zero fun g _ => S.G_zero hm (by omega)
    · rfl

include hm in
theorem Scr.at2_rs4 (hN : k0 + 256 + n = 2048) {i t : ℕ} (hi : i < 128) (ht : t < 2048) :
    at2 (S.rs4 h2 h R k0 hk hn).val i t = at2 R.val i t + S.BR k0 i t := by
  rw [S.at2_rs4' h2 h hk hn R hi ht, S.at2_rs2 h2 hk R hi ht, add_assoc]
  congr 1
  by_cases h1 : t < k0
  · rw [if_neg (by omega), if_neg (by omega), S.BR_zero hm h1, zero_add]
  · by_cases h3 : t < k0 + 256
    · rw [if_pos (by omega), if_neg (by omega), add_zero]
    · rw [if_neg (by omega), if_pos (by omega), zero_add]

include hm in
theorem Scr.at2_rs2' (hN : k0 + 256 = 2048) {i t : ℕ} (hi : i < 128) (ht : t < 2048) :
    at2 (S.rs2 h2 R k0 hk).val i t = at2 R.val i t + S.BR k0 i t := by
  rw [S.at2_rs2 h2 hk R hi ht]
  by_cases h1 : t < k0
  · rw [if_neg (by omega), S.BR_zero hm h1]
  · rw [if_pos (by omega)]

end Acc

/-! ## All blocks -/

/-- Eight blocks of 256 keys are all of them. -/
theorem sum_blocks (f : ℕ → EReal) :
    ∑ s ∈ Finset.range 256, f (0 + s) + ∑ s ∈ Finset.range 256, f (256 + s) + ∑ s ∈ Finset.range 256, f (512 + s)
      + ∑ s ∈ Finset.range 256, f (768 + s) + ∑ s ∈ Finset.range 256, f (1024 + s) + ∑ s ∈ Finset.range 256, f (1280 + s)
      + ∑ s ∈ Finset.range 256, f (1536 + s) + ∑ s ∈ Finset.range 256, f (1792 + s) = ∑ s ∈ Finset.range 2048, f s := by
  have e : ∑ s ∈ Finset.range (256 + 256 + 256 + 256 + 256 + 256 + 256 + 256), f s = ∑ s ∈ Finset.range 2048, f s := by norm_num only
  rw [← e]
  simp only [Finset.sum_range_add]
  simp only [Nat.reduceAdd, Nat.zero_add]

/-- A sum over the two heads' keys of a block. -/
theorem sum_heads (f : ℕ → ℕ → EReal) :
    ∑ r ∈ Finset.range 512, f (r / 256) (r % 256) = ∑ s ∈ Finset.range 256, (f 0 s + f 1 s) := by
  refine (Finset.sum_range_add (fun r => f (r / 256) (r % 256)) 256 256).trans ?_
  rw [← Finset.sum_add_distrib]
  refine Finset.sum_congr rfl fun s hs => ?_
  have hs := Finset.mem_range.mp hs
  rw [show s / 256 = 0 by omega, show s % 256 = s by omega, show (256 + s) / 256 = 1 by omega, show (256 + s) % 256 = s by omega]

/-- A sum over 256 keys in 32 groups of eight. -/
theorem sum_groups (f : ℕ → EReal) :
    ∑ i ∈ Finset.range 8, ∑ g ∈ Finset.range 32, f (8 * g + i) = ∑ s ∈ Finset.range 256, f s := by
  have e (m : ℕ) : ∑ g ∈ Finset.range m, ∑ i ∈ Finset.range 8, f (8 * g + i) = ∑ s ∈ Finset.range (8 * m), f s := by
    induction m with
    | zero => simp
    | succ m ih => rw [Finset.sum_range_succ, ih, Nat.mul_succ, Finset.sum_range_add]
  exact Finset.sum_comm.trans (e 32)

/-- The queries' gradient, transposed. -/
def Scr.DQT (l t : ℕ) : EReal := ∑ s ∈ Finset.range 2048, (S.KT 0 l s * S.G 0 s t + S.KT 1 l s * S.G 1 s t)

theorem Scr.sum_BQ (l t : ℕ) :
    S.BQ 0 l t + S.BQ 256 l t + S.BQ 512 l t + S.BQ 768 l t + S.BQ 1024 l t + S.BQ 1280 l t + S.BQ 1536 l t + S.BQ 1792 l t = S.DQT l t := by
  have e (k0 : ℕ) : S.BQ k0 l t = ∑ s ∈ Finset.range 256, (fun s => S.KT 0 l s * S.G 0 s t + S.KT 1 l s * S.G 1 s t) (k0 + s) :=
    sum_heads fun e s => S.KT e l (k0 + s) * S.G e (k0 + s) t
  simp only [e]
  exact sum_blocks (fun s => S.KT 0 l s * S.G 0 s t + S.KT 1 l s * S.G 1 s t)

/-- A query's row sum. -/
def Scr.TOT (e t : ℕ) : EReal := ∑ s ∈ Finset.range 2048, S.G e s t

theorem Scr.sum_BR0 (t : ℕ) : ∑ i ∈ Finset.range 8, (S.BR 0 i t + S.BR 256 i t + S.BR 512 i t + S.BR 768 i t + S.BR 1024 i t + S.BR 1280 i t
    + S.BR 1536 i t + S.BR 1792 i t) = S.TOT 0 t := by
  have e (k0 : ℕ) : ∑ i ∈ Finset.range 8, S.BR k0 i t = ∑ s ∈ Finset.range 256, (fun s => S.G 0 s t) (k0 + s) := by
    rw [← sum_groups]
    refine Finset.sum_congr rfl fun i hi => ?_
    rw [Scr.BR, if_pos (Finset.mem_range.mp hi)]
  simp only [Finset.sum_add_distrib, e]
  exact sum_blocks (fun s => S.G 0 s t)

theorem Scr.sum_BR1 (t : ℕ) : ∑ i ∈ Finset.range 8, (S.BR 0 (64 + i) t + S.BR 256 (64 + i) t + S.BR 512 (64 + i) t + S.BR 768 (64 + i) t
    + S.BR 1024 (64 + i) t + S.BR 1280 (64 + i) t + S.BR 1536 (64 + i) t + S.BR 1792 (64 + i) t) = S.TOT 1 t := by
  have e (k0 : ℕ) : ∑ i ∈ Finset.range 8, S.BR k0 (64 + i) t = ∑ s ∈ Finset.range 256, (fun s => S.G 1 s t) (k0 + s) := by
    rw [← sum_groups]
    refine Finset.sum_congr rfl fun i hi => ?_
    have hi := Finset.mem_range.mp hi
    rw [Scr.BR, if_neg (by omega), if_pos (by omega), show 64 + i - 64 = i by omega]
  simp only [Finset.sum_add_distrib, e]
  exact sum_blocks (fun s => S.G 1 s t)

end Cert.Fox

end
-- ==== Proof.Ident.lean ====
/- The words that the backward pass's run computes, at the extended reals, identified with the terms of the blocks. -/
module

public import proofs.«01_k».proof.Proof.Chain
public import proofs.«01_k».proof.Proof.Gen.KernelIdeal.Value

@[expose] public section

set_option maxRecDepth 16384

noncomputable section

open Idealize.ShloMosaic hiding ix1 ix2 ix3 ix4 ix5 eq_ix1 eq_ix2 eq_ix3 eq_ix4
open Idealize.ShloMosaic.ValueIdx
open Cert.KernelIdeal

namespace Cert.Fox

/-- What a run of the body is given: the device and the grid point, its buffers, and the blocks of q, k, v, c, o, the log-sums and do. -/
structure Env where
  c : Dev nD
  i : grid0.Coords
  arg2 : Memref sig .tc .vmem S2048x128 .f32
  harg2 : arg2.IsWhole
  arg3 : Memref sig .tc .vmem S2048x128 .f32
  harg3 : arg3.IsWhole
  arg4 : Memref sig .tc .vmem S2048x128 .f32
  harg4 : arg4.IsWhole
  arg5 : Memref sig .tc .vmem S2048x128 .f32
  harg5 : arg5.IsWhole
  arg6 : Memref sig .tc .vmem S2048x128 .f32
  harg6 : arg6.IsWhole
  arg7 : Memref sig .tc .vmem S2048x128 .f32
  harg7 : arg7.IsWhole
  arg8 : Memref sig .tc .vmem S2048x128 .f32
  harg8 : arg8.IsWhole
  arg9 : Memref sig .tc .vmem S2048x384 .bf16
  harg9 : arg9.IsWhole
  arg10 : Memref sig .tc .vmem S2048x128 .f32
  harg10 : arg10.IsWhole
  arg11 : Memref sig .tc .vmem S2048x256 .bf16
  harg11 : arg11.IsWhole
  arg12 : Memref sig .tc .vmem S2048x256 .bf16
  harg12 : arg12.IsWhole
  arg13 : Memref sig .tc .vmem S2048x256 .bf16
  harg13 : arg13.IsWhole
  arg14 : Memref sig .tc .vmem S2048x128 .bf16
  harg14 : arg14.IsWhole
  arg15 : Memref sig .tc .vmem S2048x128 .bf16
  harg15 : arg15.IsWhole
  arg16 : Memref sig .tc .vmem S2048x128 .bf16
  harg16 : arg16.IsWhole
  arg17 : Memref sig .tc .vmem S128x2048 .bf16
  harg17 : arg17.IsWhole
  arg18 : Memref sig .tc .vmem S128x2048 .bf16
  harg18 : arg18.IsWhole
  arg19 : Memref sig .tc .vmem S8x2048 .f32
  harg19 : arg19.IsWhole
  arg20 : Memref sig .tc .vmem S128x2048 .f32
  harg20 : arg20.IsWhole
  arg21 : Memref sig .tc .vmem S128x2048 .f32
  harg21 : arg21.IsWhole
  x0 : Vec Ideal S2048x128 .f32
  x1 : Vec Ideal S2048x128 .f32
  x2 : Vec Ideal S2048x128 .f32
  x3 : Vec Ideal S2048x128 .f32
  x4 : Vec Ideal S2048x128 .f32
  x5 : Vec Ideal S2048x128 .f32
  x6 : Vec Ideal S2048x128 .f32

variable (E : Env)

theorem sf256 : SpanFacts 256 := by constructor <;> decide +kernel
theorem sf512 : SpanFacts 512 := by constructor <;> decide +kernel
theorem sf768 : SpanFacts 768 := by constructor <;> decide +kernel
theorem sf1024 : SpanFacts 1024 := by constructor <;> decide +kernel
theorem sf1280 : SpanFacts 1280 := by constructor <;> decide +kernel
theorem sf1536 : SpanFacts 1536 := by constructor <;> decide +kernel
theorem sf1792 : SpanFacts 1792 := by constructor <;> decide +kernel

/-! ## The words -/

def Env.HS0_1 := Cert.KernelIdeal.Gen.kernelRun0_A.sl.HS0_1 (F := Ideal) E.c E.i E.arg3 E.harg3 E.arg5 E.harg5 E.x1 E.x3
def Env.HS1_1 := Cert.KernelIdeal.Gen.kernelRun0_A.sl.HS1_1 (F := Ideal) E.c E.i E.arg3 E.harg3 E.arg5 E.harg5 E.x1 E.x3
def Env.HS2_1 := Cert.KernelIdeal.Gen.kernelRun0_A.sl.HS2_1 (F := Ideal) E.c E.i E.arg2 E.harg2 E.arg5 E.harg5 E.x0 E.x3
def Env.HS3_1 := Cert.KernelIdeal.Gen.kernelRun0_A.sl.HS3_1 (F := Ideal) E.c E.arg4 E.harg4 E.x2
def Env.HS4_1 := Cert.KernelIdeal.Gen.kernelRun0_A.sl.HS4_1 (F := Ideal) E.c E.arg4 E.harg4 E.x2
def Env.HS5_1 := Cert.KernelIdeal.Gen.kernelRun0_A.sl.HS5_1 (F := Ideal) E.c E.arg8 E.harg8 E.x6
def Env.HS6_1 := Cert.KernelIdeal.Gen.kernelRun0_A.sl.HS6_1 (F := Ideal) E.c E.arg3 E.harg3 E.x1
def Env.HS7_1 := Cert.KernelIdeal.Gen.kernelRun0_A.sl.HS7_1 (F := Ideal) E.c E.arg3 E.harg3 E.x1
def Env.HS8_4 := Cert.KernelIdeal.Gen.kernelRun0_A.sl.HS8_4 (F := Ideal) E.c E.arg6 E.harg6 E.arg7 E.harg7 E.arg8 E.harg8 E.x4 E.x5 E.x6
def Env.HS9_2 := Cert.KernelIdeal.Gen.kernelRun0_A.sl.HS9_2 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_3 := Cert.KernelIdeal.Gen.kernelRun0_A.sl.HS9_3 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_4 := Cert.KernelIdeal.Gen.kernelRun0_A.sl.HS9_4 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_5 := Cert.KernelIdeal.Gen.kernelRun0_A.sl.HS9_5 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_6 := Cert.KernelIdeal.Gen.kernelRun0_A.sl.HS9_6 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_7 := Cert.KernelIdeal.Gen.kernelRun0_A.sl.HS9_7 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_8 := Cert.KernelIdeal.Gen.kernelRun0_A.sl.HS9_8 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_9 := Cert.KernelIdeal.Gen.kernelRun0_A.sl.HS9_9 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_10 := Cert.KernelIdeal.Gen.kernelRun0_A.sl.HS9_10 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_11 := Cert.KernelIdeal.Gen.kernelRun0_A.sl.HS9_11 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_12 := Cert.KernelIdeal.Gen.kernelRun0_A.sl.HS9_12 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_13 := Cert.KernelIdeal.Gen.kernelRun0_A.sl.HS9_13 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_14 := Cert.KernelIdeal.Gen.kernelRun0_A.sl.HS9_14 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_15 := Cert.KernelIdeal.Gen.kernelRun0_A.sl.HS9_15 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS9_16 := Cert.KernelIdeal.Gen.kernelRun0_A.sl.HS9_16 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.HS10_2 := Cert.KernelIdeal.Gen.kernelRun0_A.sl.HS10_2 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_3 := Cert.KernelIdeal.Gen.kernelRun0_A.sl.HS10_3 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_4 := Cert.KernelIdeal.Gen.kernelRun0_A.sl.HS10_4 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_5 := Cert.KernelIdeal.Gen.kernelRun0_A.sl.HS10_5 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_6 := Cert.KernelIdeal.Gen.kernelRun0_A.sl.HS10_6 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_7 := Cert.KernelIdeal.Gen.kernelRun0_A.sl.HS10_7 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_8 := Cert.KernelIdeal.Gen.kernelRun0_A.sl.HS10_8 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_9 := Cert.KernelIdeal.Gen.kernelRun0_A.sl.HS10_9 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_10 := Cert.KernelIdeal.Gen.kernelRun0_A.sl.HS10_10 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_11 := Cert.KernelIdeal.Gen.kernelRun0_A.sl.HS10_11 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_12 := Cert.KernelIdeal.Gen.kernelRun0_A.sl.HS10_12 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_13 := Cert.KernelIdeal.Gen.kernelRun0_A.sl.HS10_13 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_14 := Cert.KernelIdeal.Gen.kernelRun0_A.sl.HS10_14 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_15 := Cert.KernelIdeal.Gen.kernelRun0_A.sl.HS10_15 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_16 := Cert.KernelIdeal.Gen.kernelRun0_A.sl.HS10_16 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_17 := Cert.KernelIdeal.Gen.kernelRun0_A.sl.HS10_17 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_18 := Cert.KernelIdeal.Gen.kernelRun0_A.sl.HS10_18 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_19 := Cert.KernelIdeal.Gen.kernelRun0_A.sl.HS10_19 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_20 := Cert.KernelIdeal.Gen.kernelRun0_A.sl.HS10_20 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_21 := Cert.KernelIdeal.Gen.kernelRun0_A.sl.HS10_21 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_22 := Cert.KernelIdeal.Gen.kernelRun0_A.sl.HS10_22 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_23 := Cert.KernelIdeal.Gen.kernelRun0_A.sl.HS10_23 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_24 := Cert.KernelIdeal.Gen.kernelRun0_A.sl.HS10_24 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_25 := Cert.KernelIdeal.Gen.kernelRun0_A.sl.HS10_25 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_26 := Cert.KernelIdeal.Gen.kernelRun0_A.sl.HS10_26 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_27 := Cert.KernelIdeal.Gen.kernelRun0_A.sl.HS10_27 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_28 := Cert.KernelIdeal.Gen.kernelRun0_A.sl.HS10_28 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_29 := Cert.KernelIdeal.Gen.kernelRun0_A.sl.HS10_29 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_30 := Cert.KernelIdeal.Gen.kernelRun0_A.sl.HS10_30 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.HS10_31 := Cert.KernelIdeal.Gen.kernelRun0_A.sl.HS10_31 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.v421 := Cert.KernelIdeal.Gen.kernelRun0_A.sl.v421 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v562 := Cert.KernelIdeal.Gen.kernelRun0_A.sl.v562 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v703 := Cert.KernelIdeal.Gen.kernelRun0_A.sl.v703 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v844 := Cert.KernelIdeal.Gen.kernelRun0_A.sl.v844 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v985 := Cert.KernelIdeal.Gen.kernelRun0_A.sl.v985 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v1126 := Cert.KernelIdeal.Gen.kernelRun0_A.sl.v1126 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v1247 := Cert.KernelIdeal.Gen.kernelRun0_A.sl.v1247 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v1353 := Cert.KernelIdeal.Gen.kernelRun0_A.sl.v1353 (F := Ideal) E.c E.i E.arg2 E.harg2 E.arg3 E.harg3 E.arg5 E.harg5 E.arg6 E.harg6 E.arg7 E.harg7 E.arg8 E.harg8 E.arg11 E.arg12 E.arg13 E.arg16 E.arg19 E.x0 E.x1 E.x3 E.x4 E.x5 E.x6
def Env.v416 := Cert.KernelIdeal.Gen.kernelRun0_A.sl.v416 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v557 := Cert.KernelIdeal.Gen.kernelRun0_A.sl.v557 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v698 := Cert.KernelIdeal.Gen.kernelRun0_A.sl.v698 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v839 := Cert.KernelIdeal.Gen.kernelRun0_A.sl.v839 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v980 := Cert.KernelIdeal.Gen.kernelRun0_A.sl.v980 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1121 := Cert.KernelIdeal.Gen.kernelRun0_A.sl.v1121 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1261 := Cert.KernelIdeal.Gen.kernelRun0_A.sl.v1261 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1348 := Cert.KernelIdeal.Gen.kernelRun0_A.sl.v1348 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v427 := Cert.KernelIdeal.Gen.kernelRun0_A.sl.v427 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v568 := Cert.KernelIdeal.Gen.kernelRun0_A.sl.v568 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v709 := Cert.KernelIdeal.Gen.kernelRun0_A.sl.v709 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v850 := Cert.KernelIdeal.Gen.kernelRun0_A.sl.v850 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v991 := Cert.KernelIdeal.Gen.kernelRun0_A.sl.v991 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1132 := Cert.KernelIdeal.Gen.kernelRun0_A.sl.v1132 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1258 := Cert.KernelIdeal.Gen.kernelRun0_A.sl.v1258 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1359 := Cert.KernelIdeal.Gen.kernelRun0_A.sl.v1359 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.v1365 := Cert.KernelIdeal.Gen.kernelRun0_A.sl.v1365 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg17 E.arg18 E.arg19 E.arg20 E.x0 E.x1 E.x2 E.x3 E.x4 E.x5 E.x6
def Env.H8_8 := Cert.KernelIdeal.Gen.kernelRun0_A.sl.H8_8 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.x0 E.x1 E.x2 E.x3 E.x4 E.x5 E.x6
def Env.r_40 := Cert.KernelIdeal.Gen.kernelRun0_A.sl.r_40 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.r_41 := Cert.KernelIdeal.Gen.kernelRun0_A.sl.r_41 (F := Ideal) E.c E.i E.arg2 E.harg2 E.arg3 E.harg3 E.arg4 E.harg4 E.arg5 E.harg5 E.arg6 E.harg6 E.arg7 E.harg7 E.arg8 E.harg8 E.arg11 E.arg12 E.arg13 E.arg14 E.arg15 E.arg16 E.arg19 E.arg21 E.x0 E.x1 E.x2 E.x3 E.x4 E.x5 E.x6
def Env.r_42 := Cert.KernelIdeal.Gen.kernelRun0_A.sl.r_42 (F := Ideal) E.c E.i E.arg2 E.harg2 E.arg3 E.harg3 E.arg4 E.harg4 E.arg5 E.harg5 E.arg6 E.harg6 E.arg7 E.harg7 E.arg8 E.harg8 E.arg10 E.arg11 E.arg12 E.arg13 E.arg14 E.arg15 E.arg16 E.arg19 E.x0 E.x1 E.x2 E.x3 E.x4 E.x5 E.x6
def Env.Z := Cert.KernelIdeal.Gen.kernelRun0_A.sl.HS10_1 (F := Ideal)

/-- The buffer of the queries' gradients, and that of the row sums, with what was written to them. -/
def Env.src9 (L : Writes 128 2048 .f32) : Src 128 2048 .f32 := ⟨sig, .tc, .vmem, E.arg20.view, L⟩
def Env.src10 (L : Writes 128 2048 .f32) : Src 128 2048 .f32 := ⟨sig, .tc, .vmem, E.arg21.view, L⟩

/-- The buffers that every block reads. -/
def Env.scr : Scr where
  km0 := ⟨sig, .tc, .vmem, E.arg11.view, E.HS0_1⟩
  km1 := ⟨sig, .tc, .vmem, E.arg12.view, E.HS1_1⟩
  qx := ⟨sig, .tc, .vmem, E.arg13.view, E.HS2_1⟩
  vm0 := ⟨sig, .tc, .vmem, E.arg14.view, E.HS3_1⟩
  vm1 := ⟨sig, .tc, .vmem, E.arg15.view, E.HS4_1⟩
  dob := ⟨sig, .tc, .vmem, E.arg16.view, E.HS5_1⟩
  kt0 := ⟨sig, .tc, .vmem, E.arg17.view, E.HS6_1⟩
  kt1 := ⟨sig, .tc, .vmem, E.arg18.view, E.HS7_1⟩
  rows := ⟨sig, .tc, .vmem, E.arg19.view, E.HS8_4⟩
  mask := (Named.named κ "mask" 0xF149F2CA#32 : Ideal .f32)

theorem Env.mask : E.scr.mask = ⊥ := rfl

/-! ## The accumulated buffers -/

theorem Env.dqL0 : E.src9 E.HS9_2 = E.scr.dqL sf256 (E.src9 Env.Z) 0 (by decide) := rfl
theorem Env.dqR0 : E.src9 E.HS9_3 = (E.src9 E.HS9_2).push (dqW (E.src9 E.HS9_2) sf1792 (0 + 256) (by decide) (E.scr.ktt 0 (by decide))
    (E.scr.dtR sf1792 0 (by decide) (by decide))) := rfl
theorem Env.dqB0 : E.src9 E.HS9_3 = E.scr.dqB sf256 sf1792 (E.src9 Env.Z) 0 (by decide) (by decide) := by rw [E.dqR0, E.dqL0]; rfl
theorem Env.dqL1 : E.src9 E.HS9_4 = E.scr.dqL sf256 (E.src9 E.HS9_3) 256 (by decide) := rfl
theorem Env.dqR1 : E.src9 E.HS9_5 = (E.src9 E.HS9_4).push (dqW (E.src9 E.HS9_4) sf1536 (256 + 256) (by decide) (E.scr.ktt 256 (by decide))
    (E.scr.dtR sf1536 256 (by decide) (by decide))) := rfl
theorem Env.dqB1 : E.src9 E.HS9_5 = E.scr.dqB sf256 sf1536 (E.src9 E.HS9_3) 256 (by decide) (by decide) := by rw [E.dqR1, E.dqL1]; rfl
theorem Env.dqL2 : E.src9 E.HS9_6 = E.scr.dqL sf256 (E.src9 E.HS9_5) 512 (by decide) := rfl
theorem Env.dqR2 : E.src9 E.HS9_7 = (E.src9 E.HS9_6).push (dqW (E.src9 E.HS9_6) sf1280 (512 + 256) (by decide) (E.scr.ktt 512 (by decide))
    (E.scr.dtR sf1280 512 (by decide) (by decide))) := rfl
theorem Env.dqB2 : E.src9 E.HS9_7 = E.scr.dqB sf256 sf1280 (E.src9 E.HS9_5) 512 (by decide) (by decide) := by rw [E.dqR2, E.dqL2]; rfl
theorem Env.dqL3 : E.src9 E.HS9_8 = E.scr.dqL sf256 (E.src9 E.HS9_7) 768 (by decide) := rfl
theorem Env.dqR3 : E.src9 E.HS9_9 = (E.src9 E.HS9_8).push (dqW (E.src9 E.HS9_8) sf1024 (768 + 256) (by decide) (E.scr.ktt 768 (by decide))
    (E.scr.dtR sf1024 768 (by decide) (by decide))) := rfl
theorem Env.dqB3 : E.src9 E.HS9_9 = E.scr.dqB sf256 sf1024 (E.src9 E.HS9_7) 768 (by decide) (by decide) := by rw [E.dqR3, E.dqL3]; rfl
theorem Env.dqL4 : E.src9 E.HS9_10 = E.scr.dqL sf256 (E.src9 E.HS9_9) 1024 (by decide) := rfl
theorem Env.dqR4 : E.src9 E.HS9_11 = (E.src9 E.HS9_10).push (dqW (E.src9 E.HS9_10) sf768 (1024 + 256) (by decide) (E.scr.ktt 1024 (by decide))
    (E.scr.dtR sf768 1024 (by decide) (by decide))) := rfl
theorem Env.dqB4 : E.src9 E.HS9_11 = E.scr.dqB sf256 sf768 (E.src9 E.HS9_9) 1024 (by decide) (by decide) := by rw [E.dqR4, E.dqL4]; rfl
theorem Env.dqL5 : E.src9 E.HS9_12 = E.scr.dqL sf256 (E.src9 E.HS9_11) 1280 (by decide) := rfl
theorem Env.dqR5 : E.src9 E.HS9_13 = (E.src9 E.HS9_12).push (dqW (E.src9 E.HS9_12) sf512 (1280 + 256) (by decide) (E.scr.ktt 1280 (by decide))
    (E.scr.dtR sf512 1280 (by decide) (by decide))) := rfl
theorem Env.dqB5 : E.src9 E.HS9_13 = E.scr.dqB sf256 sf512 (E.src9 E.HS9_11) 1280 (by decide) (by decide) := by rw [E.dqR5, E.dqL5]; rfl
theorem Env.dqL6 : E.src9 E.HS9_14 = E.scr.dqL sf256 (E.src9 E.HS9_13) 1536 (by decide) := rfl
theorem Env.dqR6 : E.src9 E.HS9_15 = (E.src9 E.HS9_14).push (dqW (E.src9 E.HS9_14) sf256 (1536 + 256) (by decide) (E.scr.ktt 1536 (by decide))
    (E.scr.dtR sf256 1536 (by decide) (by decide))) := rfl
theorem Env.dqB6 : E.src9 E.HS9_15 = E.scr.dqB sf256 sf256 (E.src9 E.HS9_13) 1536 (by decide) (by decide) := by rw [E.dqR6, E.dqL6]; rfl
theorem Env.dqL7 : E.src9 E.HS9_16 = E.scr.dqL sf256 (E.src9 E.HS9_15) 1792 (by decide) := rfl
theorem Env.rsA0 : E.src10 E.HS10_2 = E.scr.rs1 sf256 (E.src10 Env.Z) 0 (by decide) := rfl
theorem Env.rsB0 : E.src10 E.HS10_3 = (E.src10 E.HS10_2).push (rsW (E.src10 E.HS10_2) sf256 64 0 (by decide) (by decide)
    (E.scr.d1D sf256 0 (by decide))) := rfl
theorem Env.rsL0 : E.src10 E.HS10_3 = E.scr.rs2 sf256 (E.src10 Env.Z) 0 (by decide) := by rw [E.rsB0, E.rsA0]; rfl
theorem Env.rsC0 : E.src10 E.HS10_4 = (E.src10 E.HS10_3).push (rsW (E.src10 E.HS10_3) sf1792 0 (0 + 256) (by decide) (by decide)
    (E.scr.d0R sf1792 0 (by decide) (by decide))) := rfl
theorem Env.rsD0 : E.src10 E.HS10_5 = (E.src10 E.HS10_4).push (rsW (E.src10 E.HS10_4) sf1792 64 (0 + 256) (by decide) (by decide)
    (E.scr.d1R sf1792 0 (by decide) (by decide))) := rfl
theorem Env.rsX0 : E.src10 E.HS10_5 = E.scr.rs4 sf256 sf1792 (E.src10 Env.Z) 0 (by decide) (by decide) := by
  rw [E.rsD0, E.rsC0, E.rsL0]; rfl
theorem Env.rsA1 : E.src10 E.HS10_6 = E.scr.rs1 sf256 (E.src10 E.HS10_5) 256 (by decide) := rfl
theorem Env.rsB1 : E.src10 E.HS10_7 = (E.src10 E.HS10_6).push (rsW (E.src10 E.HS10_6) sf256 64 256 (by decide) (by decide)
    (E.scr.d1D sf256 256 (by decide))) := rfl
theorem Env.rsL1 : E.src10 E.HS10_7 = E.scr.rs2 sf256 (E.src10 E.HS10_5) 256 (by decide) := by rw [E.rsB1, E.rsA1]; rfl
theorem Env.rsC1 : E.src10 E.HS10_8 = (E.src10 E.HS10_7).push (rsW (E.src10 E.HS10_7) sf1536 0 (256 + 256) (by decide) (by decide)
    (E.scr.d0R sf1536 256 (by decide) (by decide))) := rfl
theorem Env.rsD1 : E.src10 E.HS10_9 = (E.src10 E.HS10_8).push (rsW (E.src10 E.HS10_8) sf1536 64 (256 + 256) (by decide) (by decide)
    (E.scr.d1R sf1536 256 (by decide) (by decide))) := rfl
theorem Env.rsX1 : E.src10 E.HS10_9 = E.scr.rs4 sf256 sf1536 (E.src10 E.HS10_5) 256 (by decide) (by decide) := by
  rw [E.rsD1, E.rsC1, E.rsL1]; rfl
theorem Env.rsA2 : E.src10 E.HS10_10 = E.scr.rs1 sf256 (E.src10 E.HS10_9) 512 (by decide) := rfl
theorem Env.rsB2 : E.src10 E.HS10_11 = (E.src10 E.HS10_10).push (rsW (E.src10 E.HS10_10) sf256 64 512 (by decide) (by decide)
    (E.scr.d1D sf256 512 (by decide))) := rfl
theorem Env.rsL2 : E.src10 E.HS10_11 = E.scr.rs2 sf256 (E.src10 E.HS10_9) 512 (by decide) := by rw [E.rsB2, E.rsA2]; rfl
theorem Env.rsC2 : E.src10 E.HS10_12 = (E.src10 E.HS10_11).push (rsW (E.src10 E.HS10_11) sf1280 0 (512 + 256) (by decide) (by decide)
    (E.scr.d0R sf1280 512 (by decide) (by decide))) := rfl
theorem Env.rsD2 : E.src10 E.HS10_13 = (E.src10 E.HS10_12).push (rsW (E.src10 E.HS10_12) sf1280 64 (512 + 256) (by decide) (by decide)
    (E.scr.d1R sf1280 512 (by decide) (by decide))) := rfl
theorem Env.rsX2 : E.src10 E.HS10_13 = E.scr.rs4 sf256 sf1280 (E.src10 E.HS10_9) 512 (by decide) (by decide) := by
  rw [E.rsD2, E.rsC2, E.rsL2]; rfl
theorem Env.rsA3 : E.src10 E.HS10_14 = E.scr.rs1 sf256 (E.src10 E.HS10_13) 768 (by decide) := rfl
theorem Env.rsB3 : E.src10 E.HS10_15 = (E.src10 E.HS10_14).push (rsW (E.src10 E.HS10_14) sf256 64 768 (by decide) (by decide)
    (E.scr.d1D sf256 768 (by decide))) := rfl
theorem Env.rsL3 : E.src10 E.HS10_15 = E.scr.rs2 sf256 (E.src10 E.HS10_13) 768 (by decide) := by rw [E.rsB3, E.rsA3]; rfl
theorem Env.rsC3 : E.src10 E.HS10_16 = (E.src10 E.HS10_15).push (rsW (E.src10 E.HS10_15) sf1024 0 (768 + 256) (by decide) (by decide)
    (E.scr.d0R sf1024 768 (by decide) (by decide))) := rfl
theorem Env.rsD3 : E.src10 E.HS10_17 = (E.src10 E.HS10_16).push (rsW (E.src10 E.HS10_16) sf1024 64 (768 + 256) (by decide) (by decide)
    (E.scr.d1R sf1024 768 (by decide) (by decide))) := rfl
theorem Env.rsX3 : E.src10 E.HS10_17 = E.scr.rs4 sf256 sf1024 (E.src10 E.HS10_13) 768 (by decide) (by decide) := by
  rw [E.rsD3, E.rsC3, E.rsL3]; rfl
theorem Env.rsA4 : E.src10 E.HS10_18 = E.scr.rs1 sf256 (E.src10 E.HS10_17) 1024 (by decide) := rfl
theorem Env.rsB4 : E.src10 E.HS10_19 = (E.src10 E.HS10_18).push (rsW (E.src10 E.HS10_18) sf256 64 1024 (by decide) (by decide)
    (E.scr.d1D sf256 1024 (by decide))) := rfl
theorem Env.rsL4 : E.src10 E.HS10_19 = E.scr.rs2 sf256 (E.src10 E.HS10_17) 1024 (by decide) := by rw [E.rsB4, E.rsA4]; rfl
theorem Env.rsC4 : E.src10 E.HS10_20 = (E.src10 E.HS10_19).push (rsW (E.src10 E.HS10_19) sf768 0 (1024 + 256) (by decide) (by decide)
    (E.scr.d0R sf768 1024 (by decide) (by decide))) := rfl
theorem Env.rsD4 : E.src10 E.HS10_21 = (E.src10 E.HS10_20).push (rsW (E.src10 E.HS10_20) sf768 64 (1024 + 256) (by decide) (by decide)
    (E.scr.d1R sf768 1024 (by decide) (by decide))) := rfl
theorem Env.rsX4 : E.src10 E.HS10_21 = E.scr.rs4 sf256 sf768 (E.src10 E.HS10_17) 1024 (by decide) (by decide) := by
  rw [E.rsD4, E.rsC4, E.rsL4]; rfl
theorem Env.rsA5 : E.src10 E.HS10_22 = E.scr.rs1 sf256 (E.src10 E.HS10_21) 1280 (by decide) := rfl
theorem Env.rsB5 : E.src10 E.HS10_23 = (E.src10 E.HS10_22).push (rsW (E.src10 E.HS10_22) sf256 64 1280 (by decide) (by decide)
    (E.scr.d1D sf256 1280 (by decide))) := rfl
theorem Env.rsL5 : E.src10 E.HS10_23 = E.scr.rs2 sf256 (E.src10 E.HS10_21) 1280 (by decide) := by rw [E.rsB5, E.rsA5]; rfl
theorem Env.rsC5 : E.src10 E.HS10_24 = (E.src10 E.HS10_23).push (rsW (E.src10 E.HS10_23) sf512 0 (1280 + 256) (by decide) (by decide)
    (E.scr.d0R sf512 1280 (by decide) (by decide))) := rfl
theorem Env.rsD5 : E.src10 E.HS10_25 = (E.src10 E.HS10_24).push (rsW (E.src10 E.HS10_24) sf512 64 (1280 + 256) (by decide) (by decide)
    (E.scr.d1R sf512 1280 (by decide) (by decide))) := rfl
theorem Env.rsX5 : E.src10 E.HS10_25 = E.scr.rs4 sf256 sf512 (E.src10 E.HS10_21) 1280 (by decide) (by decide) := by
  rw [E.rsD5, E.rsC5, E.rsL5]; rfl
theorem Env.rsA6 : E.src10 E.HS10_26 = E.scr.rs1 sf256 (E.src10 E.HS10_25) 1536 (by decide) := rfl
theorem Env.rsB6 : E.src10 E.HS10_27 = (E.src10 E.HS10_26).push (rsW (E.src10 E.HS10_26) sf256 64 1536 (by decide) (by decide)
    (E.scr.d1D sf256 1536 (by decide))) := rfl
theorem Env.rsL6 : E.src10 E.HS10_27 = E.scr.rs2 sf256 (E.src10 E.HS10_25) 1536 (by decide) := by rw [E.rsB6, E.rsA6]; rfl
theorem Env.rsC6 : E.src10 E.HS10_28 = (E.src10 E.HS10_27).push (rsW (E.src10 E.HS10_27) sf256 0 (1536 + 256) (by decide) (by decide)
    (E.scr.d0R sf256 1536 (by decide) (by decide))) := rfl
theorem Env.rsD6 : E.src10 E.HS10_29 = (E.src10 E.HS10_28).push (rsW (E.src10 E.HS10_28) sf256 64 (1536 + 256) (by decide) (by decide)
    (E.scr.d1R sf256 1536 (by decide) (by decide))) := rfl
theorem Env.rsX6 : E.src10 E.HS10_29 = E.scr.rs4 sf256 sf256 (E.src10 E.HS10_25) 1536 (by decide) (by decide) := by
  rw [E.rsD6, E.rsC6, E.rsL6]; rfl
theorem Env.rsA7 : E.src10 E.HS10_30 = E.scr.rs1 sf256 (E.src10 E.HS10_29) 1792 (by decide) := rfl
theorem Env.rsB7 : E.src10 E.HS10_31 = (E.src10 E.HS10_30).push (rsW (E.src10 E.HS10_30) sf256 64 1792 (by decide) (by decide)
    (E.scr.d1D sf256 1792 (by decide))) := rfl
theorem Env.rsL7 : E.src10 E.HS10_31 = E.scr.rs2 sf256 (E.src10 E.HS10_29) 1792 (by decide) := by rw [E.rsB7, E.rsA7]; rfl

/-! ## What the blocks write -/

/-- The lanes of each head. -/
def lanes : IVec (sh 256 128) 1 := cmpi .slt (iota .tc (sh 256 128) 32 [1]) (broadcast (sh 256 128) 64#32)

theorem Env.dv0 : E.v421 = out128 (E.scr.dvB sf256 sf1792 0 (by decide) (by decide)) := rfl
theorem Env.dk0 : E.v416 = out256 (E.scr.dkB sf256 sf1792 0 (by decide) (by decide)) := rfl
theorem Env.cs0 : E.v427 = outCS (E.scr.csB sf256 sf1792 0 (by decide) (by decide)) := rfl
theorem Env.dv1 : E.v562 = out128 (E.scr.dvB sf256 sf1536 256 (by decide) (by decide)) := rfl
theorem Env.dk1 : E.v557 = out256 (E.scr.dkB sf256 sf1536 256 (by decide) (by decide)) := rfl
theorem Env.cs1 : E.v568 = outCS (E.scr.csB sf256 sf1536 256 (by decide) (by decide)) := rfl
theorem Env.dv2 : E.v703 = out128 (E.scr.dvB sf256 sf1280 512 (by decide) (by decide)) := rfl
theorem Env.dk2 : E.v698 = out256 (E.scr.dkB sf256 sf1280 512 (by decide) (by decide)) := rfl
theorem Env.cs2 : E.v709 = outCS (E.scr.csB sf256 sf1280 512 (by decide) (by decide)) := rfl
theorem Env.dv3 : E.v844 = out128 (E.scr.dvB sf256 sf1024 768 (by decide) (by decide)) := rfl
theorem Env.dk3 : E.v839 = out256 (E.scr.dkB sf256 sf1024 768 (by decide) (by decide)) := rfl
theorem Env.cs3 : E.v850 = outCS (E.scr.csB sf256 sf1024 768 (by decide) (by decide)) := rfl
theorem Env.dv4 : E.v985 = out128 (E.scr.dvB sf256 sf768 1024 (by decide) (by decide)) := rfl
theorem Env.dk4 : E.v980 = out256 (E.scr.dkB sf256 sf768 1024 (by decide) (by decide)) := rfl
theorem Env.cs4 : E.v991 = outCS (E.scr.csB sf256 sf768 1024 (by decide) (by decide)) := rfl
theorem Env.dv5 : E.v1126 = out128 (E.scr.dvB sf256 sf512 1280 (by decide) (by decide)) := rfl
theorem Env.dk5 : E.v1121 = out256 (E.scr.dkB sf256 sf512 1280 (by decide) (by decide)) := rfl
theorem Env.cs5 : E.v1132 = outCS (E.scr.csB sf256 sf512 1280 (by decide) (by decide)) := rfl
theorem Env.dv6 : Cert.KernelIdeal.Gen.k0_pay306 lanes E.v1247 = out128 (E.scr.dvB sf256 sf256 1536 (by decide) (by decide)) := rfl
theorem Env.dk6 : Cert.KernelIdeal.Gen.k0_pay305 E.v1261 = out256 (E.scr.dkB sf256 sf256 1536 (by decide) (by decide)) := rfl
theorem Env.cs6 : Cert.KernelIdeal.Gen.k0_pay307 lanes E.v1258 = outCS (E.scr.csB sf256 sf256 1536 (by decide) (by decide)) := rfl
theorem Env.dv7 : E.v1353 = out128 (E.scr.dvL sf256 1792 (by decide)) := rfl
theorem Env.dk7 : E.v1348 = out256 (E.scr.dkL sf256 1792 (by decide)) := rfl
theorem Env.cs7 : E.v1359 = outCS (E.scr.csL sf256 1792 (by decide)) := rfl

end Cert.Fox

end
-- ==== Proof.Outs.lean ====
/- What a run of the backward pass's body writes to its two outputs, in terms of the buffers that its blocks read. -/
module

public import proofs.«01_k».proof.Proof.Ident

@[expose] public section

set_option maxRecDepth 16384

noncomputable section

open Idealize.ShloMosaic hiding ix1 ix2 ix3 ix4 ix5 eq_ix1 eq_ix2 eq_ix3 eq_ix4
open Idealize.ShloMosaic.ValueIdx
open Cert.KernelIdeal
open scoped BigOperators

namespace Cert.Fox

/-! ## Operations -/

theorem at2_tr {a b : ℕ} (x : (sh a b).Idx → EReal) (h : (sh a b).Transposes [1, 0] (sh b a)) {r c : ℕ} (hr : r < b) (hc : c < a) :
    at2 (transpose (sh b a) [1, 0] x h) r c = at2 x c r := by
  rw [at2_of_lt _ hr hc, at2_of_lt x hc hr]
  exact transpose_ix2_apply x h _ _

/-- The sum of a matrix's rows, as a row. -/
theorem at2_colsum {m n : ℕ} (x : FVec Ideal (sh m n) .f32) (hr : (sh m n).Reduces [0] ⟨1, ![n]⟩) (hs : (⟨1, ![n]⟩ : Shape).ShapeCasts (sh 1 n))
    {t : ℕ} (ht : t < n) :
    at2 (shapeCast (sh 1 n) (multiReduction .add [0] ⟨1, ![n]⟩ x 0x00000000#32 hr (.inl rfl) rfl) hs) 0 t = ∑ g ∈ Finset.range m, at2 x g t := by
  rw [at2_of_lt _ Nat.one_pos ht, ← Fin.sum_univ_eq_sum_range (fun g => at2 x g t)]
  refine (shapeCast_apply _ hs _ (ix1 ⟨t, ht⟩) ?_).trans ?_
  · rw [rowMajor_val2 _ n rfl, rowMajor_val1]
    show t = 0 * n + t
    omega
  refine (Ideal.reduceAdd_r2_a0 hr _ _).trans (Finset.sum_congr rfl fun g _ => ?_)
  rw [at2_of_lt x g.2 ht]
  rfl

theorem at2_pay332 (x : FVec Ideal (sh 8 2048) .f32) {t : ℕ} (ht : t < 2048) :
    at2 (Cert.KernelIdeal.Gen.k0_pay332 (F := Ideal) x : (sh 1 2048).Idx → EReal) 0 t = ∑ g ∈ Finset.range 8, at2 x g t := at2_colsum x _ _ ht

theorem at2_pay333 (x : FVec Ideal (sh 8 2048) .f32) {t : ℕ} (ht : t < 2048) :
    at2 (Cert.KernelIdeal.Gen.k0_pay333 (F := Ideal) x : (sh 1 2048).Idx → EReal) 0 t = ∑ g ∈ Finset.range 8, at2 x g t := at2_colsum x _ _ ht

/-- The rows of the transposed matrices. -/
def rowsI : IVec (sh 128 2048) 32 := iota .tc (sh 128 2048) 32 [0]

theorem at2_pay1 (a b : FVec Ideal (sh 1 2048) .f32) (z : FVec Ideal (sh 2048 128) .f32) {r l : ℕ} (hr : r < 2048) (hl : l < 128) :
    at2 (Cert.KernelIdeal.Gen.k0_pay1 a b z (Cert.KernelIdeal.Gen.k0_pay335 rowsI) (Cert.KernelIdeal.Gen.k0_pay336 rowsI)
        (FloatOps.ofBits .f32 0x00000000#32)) r l
      = at2 z r l - (if l = 0 then at2 a 0 r else if l = 64 then at2 b 0 r else 0) := by
  have e : at2 (Cert.KernelIdeal.Gen.k0_pay1 a b z (Cert.KernelIdeal.Gen.k0_pay335 rowsI) (Cert.KernelIdeal.Gen.k0_pay336 rowsI)
        (FloatOps.ofBits .f32 0x00000000#32)) r l
      = at2 z r l - Scalar.select (IntOp.cmpi .eq (BitVec.ofNat 32 l) (BitVec.ofNat 32 0)) (at2 a 0 r)
          (Scalar.select (IntOp.cmpi .eq (BitVec.ofNat 32 l) (BitVec.ofNat 32 64)) (at2 b 0 r) 0) := by
    unfold Cert.KernelIdeal.Gen.k0_pay1
    simp only [shapeCast_self]
    rw [at2_of_lt _ hr hl, at2_of_lt z hr hl]
    refine congrArg (z (ix2 ⟨r, hr⟩ ⟨l, hl⟩) - ·) ?_
    refine (transpose_ix2_apply _ _ _ _).trans ?_
    refine Eq.trans (b := Scalar.select (IntOp.cmpi .eq (BitVec.ofNat 32 (0 * 128 + l)) (BitVec.ofNat 32 0)) _
      (Scalar.select (IntOp.cmpi .eq (BitVec.ofNat 32 (0 * 128 + l)) (BitVec.ofNat 32 64)) _ _)) rfl ?_
    rw [Nat.zero_mul, Nat.zero_add]
    congr 1
    · refine (broadcastTo_1b_ab_apply a _ _ _).trans ?_
      rw [at2_of_lt a Nat.one_pos hr]; rfl
    · congr 1
      · refine (broadcastTo_1b_ab_apply b _ _ _).trans ?_
        rw [at2_of_lt b Nat.one_pos hr]; rfl
      · exact zero_word
  rw [e, WordCmp.cmpi_eq_ofNat (by omega) (by omega), WordCmp.cmpi_eq_ofNat (by omega) (by omega), Scalar.select, Scalar.select]
  congr 1
  by_cases h0 : l = 0
  · rw [if_pos h0, if_pos (by rw [decide_eq_true h0]; rfl)]
  · rw [if_neg h0, if_neg (by rw [decide_eq_false h0]; decide)]
    by_cases h1 : l = 64
    · rw [if_pos h1, if_pos (by rw [decide_eq_true h1]; rfl)]
    · rw [if_neg h1, if_neg (by rw [decide_eq_false h1]; decide)]

/-- The gradients of a block's values and keys, written over those of the blocks before it. -/
theorem canon_pair {f : ℕ → ℕ → EReal} {L : Writes 2048 384 .bf16} {k0 : ℕ} (hk : k0 + 256 ≤ 2048)
    {dv dk : FVec Ideal (sh 256 128) .bf16}
    (hL : ∀ r < k0, ∀ c < 384, 128 ≤ c → at2 (View.canon L) r c = f r c)
    (hv : ∀ r < 256, ∀ l < 128, at2 dv r l = f (k0 + r) (256 + l)) (hd : ∀ r < 256, ∀ l < 128, at2 dk r l = f (k0 + r) (128 + l)) :
    ∀ r < k0 + 256, ∀ c < 384, 128 ≤ c → at2 (View.canon (⟨Rect.unit (s := sh 2048 384) ![k0, 256] (sh 256 128).size (inb2 hk (by decide)), dv⟩
      :: ⟨Rect.unit (s := sh 2048 384) ![k0, 128] (sh 256 128).size (inb2 hk (by decide)), dk⟩ :: L : Writes 2048 384 .bf16)) r c = f r c := by
  intro r hr c hc hc1
  rw [at2_canon_bf16 _ hk (by decide) _ dv (by omega) hc, at2_canon_bf16 _ hk (by decide) _ dk (by omega) hc]
  by_cases h : k0 ≤ r
  · by_cases h1 : 256 ≤ c
    · rw [if_pos (by omega), hv _ (by omega) _ (by omega), show k0 + (r - k0) = r by omega, show 256 + (c - 256) = c by omega]
    · rw [if_neg (by omega), if_pos (by omega), hd _ (by omega) _ (by omega), show k0 + (r - k0) = r by omega, show 128 + (c - 128) = c by omega]
  · rw [if_neg (by omega), if_neg (by omega), hL r (by omega) c hc hc1]

/-- The sums of a block's keys, written over those of the blocks before it. -/
theorem canon_one {f : ℕ → ℕ → EReal} {L : Writes 2048 128 .f32} {k0 : ℕ} (hk : k0 + 256 ≤ 2048) {x : FVec Ideal (sh 256 128) .f32}
    (hL : ∀ r < k0, ∀ c < 128, at2 (View.canon L) r c = f r c) (hx : ∀ r < 256, ∀ l < 128, at2 x r l = f (k0 + r) l) :
    ∀ r < k0 + 256, ∀ c < 128, at2 (View.canon (⟨Rect.unit (s := sh 2048 128) ![k0, 0] (sh 256 128).size (inb2 hk (by decide)), x⟩
      :: L : Writes 2048 128 .f32)) r c = f r c := by
  intro r hr c hc
  rw [at2_canon_f32 _ hk (by decide) _ x (by omega) hc]
  by_cases h : k0 ≤ r
  · rw [if_pos (by omega), hx _ (by omega) _ (by omega), show k0 + (r - k0) = r by omega, Nat.sub_zero]
  · rw [if_neg (by omega), hL r (by omega) c hc]

variable (E : Env)

/-! ## The accumulated buffers at the end -/

theorem at2_Z {i t : ℕ} (hi : i < 128) (ht : t < 2048) : at2 (View.canon (Env.Z : Writes 128 2048 .f32)) i t = 0 := by
  have e : (Env.Z : Writes 128 2048 .f32)
      = [⟨Rect.unit (s := sh 128 2048) ![0, 0] (sh 128 2048).size (inb2 (by decide) (by decide)),
          shapeCast (sh 128 2048) (broadcast (sh 128 2048) (FloatOps.ofBits (F := Ideal) .f32 0x00000000#32)) (by decide)⟩] := rfl
  rw [e, at2_canon_f32 [] (by decide) (by decide) _ _ hi ht, if_pos (by omega), shapeCast_self, at2_of_lt _ (by omega) (by omega)]
  exact zero_word

theorem Env.dq_end {l t : ℕ} (hl : l < 128) (ht : t < 2048) : at2 (E.src9 E.HS9_16).val l t = E.scr.DQT l t := by
  rw [E.dqL7, E.scr.at2_dqL' E.mask sf256 (by decide) _ (by decide) hl ht
    , E.dqB6, E.scr.at2_dqB E.mask sf256 sf256 (by decide) (by decide) _ (by decide) hl ht
    , E.dqB5, E.scr.at2_dqB E.mask sf256 sf512 (by decide) (by decide) _ (by decide) hl ht
    , E.dqB4, E.scr.at2_dqB E.mask sf256 sf768 (by decide) (by decide) _ (by decide) hl ht
    , E.dqB3, E.scr.at2_dqB E.mask sf256 sf1024 (by decide) (by decide) _ (by decide) hl ht
    , E.dqB2, E.scr.at2_dqB E.mask sf256 sf1280 (by decide) (by decide) _ (by decide) hl ht
    , E.dqB1, E.scr.at2_dqB E.mask sf256 sf1536 (by decide) (by decide) _ (by decide) hl ht
    , E.dqB0, E.scr.at2_dqB E.mask sf256 sf1792 (by decide) (by decide) _ (by decide) hl ht
    , show at2 (E.src9 Env.Z).val l t = 0 from at2_Z hl ht, zero_add]
  exact E.scr.sum_BQ l t

theorem Env.rs_end {i t : ℕ} (hi : i < 128) (ht : t < 2048) : at2 (E.src10 E.HS10_31).val i t
    = E.scr.BR 0 i t + E.scr.BR 256 i t + E.scr.BR 512 i t + E.scr.BR 768 i t + E.scr.BR 1024 i t + E.scr.BR 1280 i t + E.scr.BR 1536 i t
      + E.scr.BR 1792 i t := by
  rw [E.rsL7, E.scr.at2_rs2' E.mask sf256 (by decide) _ (by decide) hi ht
    , E.rsX6, E.scr.at2_rs4 E.mask sf256 sf256 (by decide) (by decide) _ (by decide) hi ht
    , E.rsX5, E.scr.at2_rs4 E.mask sf256 sf512 (by decide) (by decide) _ (by decide) hi ht
    , E.rsX4, E.scr.at2_rs4 E.mask sf256 sf768 (by decide) (by decide) _ (by decide) hi ht
    , E.rsX3, E.scr.at2_rs4 E.mask sf256 sf1024 (by decide) (by decide) _ (by decide) hi ht
    , E.rsX2, E.scr.at2_rs4 E.mask sf256 sf1280 (by decide) (by decide) _ (by decide) hi ht
    , E.rsX1, E.scr.at2_rs4 E.mask sf256 sf1536 (by decide) (by decide) _ (by decide) hi ht
    , E.rsX0, E.scr.at2_rs4 E.mask sf256 sf1792 (by decide) (by decide) _ (by decide) hi ht
    , show at2 (E.src10 Env.Z).val i t = 0 from at2_Z hi ht, zero_add]

theorem Env.tot0 {t : ℕ} (ht : t < 2048) : at2 (E.r_40 : (sh 1 2048).Idx → EReal) 0 t = E.scr.TOT 0 t := by
  have e : E.r_40 = Cert.KernelIdeal.Gen.k0_pay332 ((E.src10 E.HS10_31).ld 0 0 8 2048 (by decide) (by decide)) := rfl
  rw [e, at2_pay332 _ ht, ← E.scr.sum_BR0]
  refine Finset.sum_congr rfl fun g hg => ?_
  have hg := Finset.mem_range.mp hg
  rw [at2_ld_f32 _ _ _ hg ht, Nat.zero_add, Nat.zero_add, E.rs_end (by omega) ht]

theorem Env.tot1 {t : ℕ} (ht : t < 2048) : at2 (E.r_41 : (sh 1 2048).Idx → EReal) 0 t = E.scr.TOT 1 t := by
  have e : E.r_41 = Cert.KernelIdeal.Gen.k0_pay333 ((E.src10 E.HS10_31).ld 64 0 8 2048 (by decide) (by decide)) := rfl
  rw [e, at2_pay333 _ ht, ← E.scr.sum_BR1]
  refine Finset.sum_congr rfl fun g hg => ?_
  have hg := Finset.mem_range.mp hg
  rw [at2_ld_f32 _ _ _ hg ht, Nat.zero_add, E.rs_end (by omega) ht]

/-! ## The outputs -/

/-- An eighth. -/
def eighth : EReal := FloatOps.ofBits (F := Ideal) .f32 0x3E000000#32

theorem Env.dq {r l : ℕ} (hr : r < 2048) (hl : l < 128) : at2 (E.v1365 : (sh 2048 128).Idx → EReal) r l = E.scr.DQT l r * eighth := by
  have e : E.v1365 = truncf (F := Ideal) (φ := .f32) .bf16 (mulf (transpose (sh 2048 128) [1, 0] ((E.src9 E.HS9_16).ld 0 0 128 2048 (by decide) (by decide)) (by decide))
      (broadcast (sh 2048 128) eighth)) := rfl
  have e2 : at2 (E.v1365 : (sh 2048 128).Idx → EReal) r l = at2 ((E.src9 E.HS9_16).ld 0 0 128 2048 (by decide) (by decide)) l r * eighth := by
    rw [← at2_tr _ (by decide : (sh 128 2048).Transposes [1, 0] (sh 2048 128)) hr hl, e, at2_of_lt _ hr hl, at2_of_lt _ hr hl]
    rfl
  rw [e2, at2_ld_f32 _ _ _ hl hr, Nat.zero_add, Nat.zero_add, E.dq_end hl hr]

/-- The run of the body. -/
def Env.run := Cert.KernelIdeal.Gen.kernelRun0_A (F := Ideal) E.c E.i E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 E.arg20 E.harg20 E.arg21 E.harg21 E.x0 E.x1 E.x2 E.x3 E.x4 E.x5 E.x6

/-- The gradients of the keys and values that the blocks write. -/
def Env.kv : Writes 2048 384 .bf16 :=
  [⟨Rect.unit (s := sh 2048 384) ![1792, 256] (sh 256 128).size (inb2 (by decide) (by decide)), E.v1353⟩,
   ⟨Rect.unit (s := sh 2048 384) ![1792, 128] (sh 256 128).size (inb2 (by decide) (by decide)), E.v1348⟩,
   ⟨Rect.unit (s := sh 2048 384) ![1536, 256] (sh 256 128).size (inb2 (by decide) (by decide)), Cert.KernelIdeal.Gen.k0_pay306 lanes E.v1247⟩,
   ⟨Rect.unit (s := sh 2048 384) ![1536, 128] (sh 256 128).size (inb2 (by decide) (by decide)), Cert.KernelIdeal.Gen.k0_pay305 E.v1261⟩,
   ⟨Rect.unit (s := sh 2048 384) ![1280, 256] (sh 256 128).size (inb2 (by decide) (by decide)), E.v1126⟩,
   ⟨Rect.unit (s := sh 2048 384) ![1280, 128] (sh 256 128).size (inb2 (by decide) (by decide)), E.v1121⟩,
   ⟨Rect.unit (s := sh 2048 384) ![1024, 256] (sh 256 128).size (inb2 (by decide) (by decide)), E.v985⟩,
   ⟨Rect.unit (s := sh 2048 384) ![1024, 128] (sh 256 128).size (inb2 (by decide) (by decide)), E.v980⟩,
   ⟨Rect.unit (s := sh 2048 384) ![768, 256] (sh 256 128).size (inb2 (by decide) (by decide)), E.v844⟩,
   ⟨Rect.unit (s := sh 2048 384) ![768, 128] (sh 256 128).size (inb2 (by decide) (by decide)), E.v839⟩,
   ⟨Rect.unit (s := sh 2048 384) ![512, 256] (sh 256 128).size (inb2 (by decide) (by decide)), E.v703⟩,
   ⟨Rect.unit (s := sh 2048 384) ![512, 128] (sh 256 128).size (inb2 (by decide) (by decide)), E.v698⟩,
   ⟨Rect.unit (s := sh 2048 384) ![256, 256] (sh 256 128).size (inb2 (by decide) (by decide)), E.v562⟩,
   ⟨Rect.unit (s := sh 2048 384) ![256, 128] (sh 256 128).size (inb2 (by decide) (by decide)), E.v557⟩,
   ⟨Rect.unit (s := sh 2048 384) ![0, 256] (sh 256 128).size (inb2 (by decide) (by decide)), E.v421⟩,
   ⟨Rect.unit (s := sh 2048 384) ![0, 128] (sh 256 128).size (inb2 (by decide) (by decide)), E.v416⟩]

theorem Env.run1 : E.run.1
    = (⟨Rect.unit (s := sh 2048 384) ![0, 0] (sh 2048 128).size (inb2 (by decide) (by decide)), E.v1365⟩ :: E.kv : Writes 2048 384 .bf16) := rfl

theorem Env.run2 : E.run.2.1
    = (⟨Rect.unit (s := sh 2048 128) ![0, 0] (sh 2048 128).size (inb2 (by decide) (by decide)),
        Cert.KernelIdeal.Gen.k0_pay1 E.r_40 E.r_41 E.r_42 (Cert.KernelIdeal.Gen.k0_pay335 rowsI) (Cert.KernelIdeal.Gen.k0_pay336 rowsI)
          (FloatOps.ofBits .f32 0x00000000#32)⟩ :: E.H8_8 : Writes 2048 128 .f32) := rfl

/-- The gradients of the keys and of the values, by column. -/
def Scr.KV (S : Scr) (r c : ℕ) : EReal := if c < 256 then S.DK ((c - 128) / 64) r (c - 128) else S.DV ((c - 256) / 64) r (c - 256)

theorem Scr.KV_dv (S : Scr) {r l : ℕ} : S.KV r (256 + l) = S.DV (l / 64) r l := by
  rw [Scr.KV, if_neg (by omega), show 256 + l - 256 = l by omega]
theorem Scr.KV_dk (S : Scr) {r l : ℕ} (hl : l < 128) : S.KV r (128 + l) = S.DK (l / 64) r l := by
  rw [Scr.KV, if_pos (by omega), show 128 + l - 128 = l by omega]

theorem Env.kv_end : ∀ r < 2048, ∀ c < 384, 128 ≤ c → at2 (View.canon E.kv) r c = E.scr.KV r c := by
  refine canon_pair (k0 := 1792) (by decide) ?_
    (fun r hr l hl => by rw [E.dv7, E.scr.at2_outDVL E.mask sf256 _ (by decide) hr hl, Scr.KV_dv])
    (fun r hr l hl => by rw [E.dk7, E.scr.at2_outDKL E.mask sf256 _ (by decide) hr hl, Scr.KV_dk _ hl])
  refine canon_pair (k0 := 1536) (by decide) ?_
    (fun r hr l hl => by rw [E.dv6, E.scr.at2_outDV E.mask sf256 sf256 _ _ (by decide) hr hl, Scr.KV_dv])
    (fun r hr l hl => by rw [E.dk6, E.scr.at2_outDK E.mask sf256 sf256 _ _ (by decide) hr hl, Scr.KV_dk _ hl])
  refine canon_pair (k0 := 1280) (by decide) ?_
    (fun r hr l hl => by rw [E.dv5, E.scr.at2_outDV E.mask sf256 sf512 _ _ (by decide) hr hl, Scr.KV_dv])
    (fun r hr l hl => by rw [E.dk5, E.scr.at2_outDK E.mask sf256 sf512 _ _ (by decide) hr hl, Scr.KV_dk _ hl])
  refine canon_pair (k0 := 1024) (by decide) ?_
    (fun r hr l hl => by rw [E.dv4, E.scr.at2_outDV E.mask sf256 sf768 _ _ (by decide) hr hl, Scr.KV_dv])
    (fun r hr l hl => by rw [E.dk4, E.scr.at2_outDK E.mask sf256 sf768 _ _ (by decide) hr hl, Scr.KV_dk _ hl])
  refine canon_pair (k0 := 768) (by decide) ?_
    (fun r hr l hl => by rw [E.dv3, E.scr.at2_outDV E.mask sf256 sf1024 _ _ (by decide) hr hl, Scr.KV_dv])
    (fun r hr l hl => by rw [E.dk3, E.scr.at2_outDK E.mask sf256 sf1024 _ _ (by decide) hr hl, Scr.KV_dk _ hl])
  refine canon_pair (k0 := 512) (by decide) ?_
    (fun r hr l hl => by rw [E.dv2, E.scr.at2_outDV E.mask sf256 sf1280 _ _ (by decide) hr hl, Scr.KV_dv])
    (fun r hr l hl => by rw [E.dk2, E.scr.at2_outDK E.mask sf256 sf1280 _ _ (by decide) hr hl, Scr.KV_dk _ hl])
  refine canon_pair (k0 := 256) (by decide) ?_
    (fun r hr l hl => by rw [E.dv1, E.scr.at2_outDV E.mask sf256 sf1536 _ _ (by decide) hr hl, Scr.KV_dv])
    (fun r hr l hl => by rw [E.dk1, E.scr.at2_outDK E.mask sf256 sf1536 _ _ (by decide) hr hl, Scr.KV_dk _ hl])
  refine canon_pair (k0 := 0) (by decide) ?_
    (fun r hr l hl => by rw [E.dv0, E.scr.at2_outDV E.mask sf256 sf1792 _ _ (by decide) hr hl, Scr.KV_dv])
    (fun r hr l hl => by rw [E.dk0, E.scr.at2_outDK E.mask sf256 sf1792 _ _ (by decide) hr hl, Scr.KV_dk _ hl])
  exact fun r hr => absurd hr (Nat.not_lt_zero r)

/-- The first output: the gradients of the queries, the keys and the values side by side. -/
theorem Env.out7 {r c : ℕ} (hr : r < 2048) (hc : c < 384) :
    at2 (View.canon (E.run.1 : Writes 2048 384 .bf16)) r c = if c < 128 then E.scr.DQT c r * eighth else E.scr.KV r c := by
  rw [E.run1, at2_canon_bf16 _ (by decide) (by decide) _ _ hr hc]
  by_cases h : c < 128
  · rw [if_pos (by omega), if_pos h, Nat.sub_zero, Nat.sub_zero]
    exact E.dq hr h
  · rw [if_neg (by omega), if_neg h]
    exact E.kv_end r hr c hc (by omega)

theorem Env.cs_end : ∀ r < 2048, ∀ l < 128, at2 (View.canon (E.H8_8 : Writes 2048 128 .f32)) r l = E.scr.CS (l / 64) r := by
  refine canon_one (f := fun r l => E.scr.CS (l / 64) r) (k0 := 1792) (x := E.v1359) (by decide) ?_
    (fun r hr l hl => by rw [E.cs7, E.scr.at2_outCSL E.mask sf256 _ (by decide) hr hl])
  refine canon_one (f := fun r l => E.scr.CS (l / 64) r) (k0 := 1536) (x := Cert.KernelIdeal.Gen.k0_pay307 lanes E.v1258) (by decide) ?_
    (fun r hr l hl => by rw [E.cs6, E.scr.at2_outCS' E.mask sf256 sf256 _ _ (by decide) hr hl])
  refine canon_one (f := fun r l => E.scr.CS (l / 64) r) (k0 := 1280) (x := E.v1132) (by decide) ?_
    (fun r hr l hl => by rw [E.cs5, E.scr.at2_outCS' E.mask sf256 sf512 _ _ (by decide) hr hl])
  refine canon_one (f := fun r l => E.scr.CS (l / 64) r) (k0 := 1024) (x := E.v991) (by decide) ?_
    (fun r hr l hl => by rw [E.cs4, E.scr.at2_outCS' E.mask sf256 sf768 _ _ (by decide) hr hl])
  refine canon_one (f := fun r l => E.scr.CS (l / 64) r) (k0 := 768) (x := E.v850) (by decide) ?_
    (fun r hr l hl => by rw [E.cs3, E.scr.at2_outCS' E.mask sf256 sf1024 _ _ (by decide) hr hl])
  refine canon_one (f := fun r l => E.scr.CS (l / 64) r) (k0 := 512) (x := E.v709) (by decide) ?_
    (fun r hr l hl => by rw [E.cs2, E.scr.at2_outCS' E.mask sf256 sf1280 _ _ (by decide) hr hl])
  refine canon_one (f := fun r l => E.scr.CS (l / 64) r) (k0 := 256) (x := E.v568) (by decide) ?_
    (fun r hr l hl => by rw [E.cs1, E.scr.at2_outCS' E.mask sf256 sf1536 _ _ (by decide) hr hl])
  refine canon_one (f := fun r l => E.scr.CS (l / 64) r) (k0 := 0) (x := E.v427) (by decide) ?_
    (fun r hr l hl => by rw [E.cs0, E.scr.at2_outCS' E.mask sf256 sf1792 _ _ (by decide) hr hl])
  exact fun r hr => absurd hr (Nat.not_lt_zero r)

/-- The second output: the keys' sums, less the queries' row sums in the first lane of each head. -/
theorem Env.out8 {r l : ℕ} (hr : r < 2048) (hl : l < 128) :
    at2 (View.canon (E.run.2.1 : Writes 2048 128 .f32)) r l
      = E.scr.CS (l / 64) r - (if l = 0 then E.scr.TOT 0 r else if l = 64 then E.scr.TOT 1 r else 0) := by
  rw [E.run2, at2_canon_f32 _ (by decide) (by decide) _ _ hr hl, if_pos (by omega), Nat.sub_zero, Nat.sub_zero, at2_pay1 _ _ _ hr hl, E.tot0 hr, E.tot1 hr]
  congr 1
  have e : E.r_42 = shapeCast (sh 2048 128) ((⟨sig, .tc, .vmem, E.arg10.view, E.H8_8⟩ : Src 2048 128 .f32).ld 0 0 2048 128 (by decide) (by decide)) (by decide) := rfl
  rw [e, shapeCast_self, at2_ld_f32 _ _ _ hr hl, Nat.zero_add, Nat.zero_add]
  exact E.cs_end r hr l hl

end Cert.Fox

end
-- ==== Proof.Model.lean ====
/- One head of the attention with forgetting and its gradient, over the real numbers: what both programs compute. -/
module

public import proofs.«01_k».proof.Proof.Span

@[expose] public section

noncomputable section

open scoped BigOperators

namespace Cert.Fox

/-- The queries, keys, values and output gradients of a head, at a position and a lane, and its running sums of log-gates. -/
structure Hd where
  q : ℕ → ℕ → ℝ
  k : ℕ → ℕ → ℝ
  v : ℕ → ℕ → ℝ
  d : ℕ → ℕ → ℝ
  c : ℕ → ℝ

namespace Hd
variable (M : Hd)

/-- The logit of key `s` at query `t`. -/
def x (s t : ℕ) : ℝ := (∑ l ∈ Finset.range 64, M.k s l * M.q t l) * (1 / 8) + M.c t - M.c s
/-- The exponential of a logit, zero for a key after the query. -/
def ex (s t : ℕ) : ℝ := if s ≤ t then Real.exp (M.x s t) else 0
/-- The sum of a query's exponentials. -/
def Z (t : ℕ) : ℝ := ∑ s ∈ Finset.range 2048, M.ex s t
/-- The probabilities. -/
def p (s t : ℕ) : ℝ := M.ex s t / M.Z t
/-- The gradient of a probability. -/
def w (s t : ℕ) : ℝ := ∑ l ∈ Finset.range 64, M.v s l * M.d t l
/-- The mean of a query's gradients. -/
def D (t : ℕ) : ℝ := ∑ s ∈ Finset.range 2048, M.p s t * M.w s t
/-- The gradient of a logit. -/
def g (s t : ℕ) : ℝ := M.p s t * (M.w s t - M.D t)
/-- The attention's output. -/
def o (t l : ℕ) : ℝ := ∑ s ∈ Finset.range 2048, M.p s t * M.v s l
/-- The gradient of the queries. -/
def dq (t l : ℕ) : ℝ := (∑ s ∈ Finset.range 2048, M.k s l * M.g s t) * (1 / 8)
/-- The gradient of the keys. -/
def dk (s l : ℕ) : ℝ := (∑ t ∈ Finset.range 2048, M.g s t * M.q t l) * (1 / 8)
/-- The gradient of the values. -/
def dv (s l : ℕ) : ℝ := ∑ t ∈ Finset.range 2048, M.p s t * M.d t l
/-- The negated gradient of the running sums. -/
def dc (s : ℕ) : ℝ := ∑ t ∈ Finset.range 2048, M.g s t

theorem ex_nonneg (s t : ℕ) : 0 ≤ M.ex s t := by
  unfold ex
  split
  · exact (Real.exp_pos _).le
  · exact le_rfl

theorem Z_pos {t : ℕ} (ht : t < 2048) : 0 < M.Z t := by
  refine Finset.sum_pos' (fun s _ => M.ex_nonneg s t) ⟨t, Finset.mem_range.mpr ht, ?_⟩
  rw [ex, if_pos le_rfl]
  exact Real.exp_pos _

/-- The probabilities of a query sum to one. -/
theorem sum_p {t : ℕ} (ht : t < 2048) : ∑ s ∈ Finset.range 2048, M.p s t = 1 := by
  simp only [p]
  rw [← Finset.sum_div]
  exact div_self (M.Z_pos ht).ne'

/-- The gradients of a query's logits sum to zero. -/
theorem sum_g {t : ℕ} (ht : t < 2048) : ∑ s ∈ Finset.range 2048, M.g s t = 0 := by
  have e : ∀ s, M.g s t = M.p s t * M.w s t - M.p s t * M.D t := fun s => mul_sub _ _ _
  simp only [e]
  rw [Finset.sum_sub_distrib, ← Finset.sum_mul, M.sum_p ht, one_mul]
  exact sub_self _

/-- The mean of a query's gradients is the product of the output and its gradient. -/
theorem sum_do (t : ℕ) : ∑ l ∈ Finset.range 64, M.d t l * M.o t l = M.D t := by
  simp only [D, o, w, Finset.mul_sum]
  rw [Finset.sum_comm]
  refine Finset.sum_congr rfl fun s _ => Finset.sum_congr rfl fun l _ => by ring

/-- A probability by the log of the sum. -/
theorem p_lse {s t : ℕ} (ht : t < 2048) : M.p s t = if s ≤ t then Real.exp (M.x s t - Real.log (M.Z t)) else 0 := by
  unfold p ex
  split
  · rw [Real.exp_sub, Real.exp_log (M.Z_pos ht)]
  · exact zero_div _

/-- The exponentials and their sum may be taken off a common shift. -/
theorem Z_shift (m : ℝ) (t : ℕ) : (∑ s ∈ Finset.range 2048, if s ≤ t then Real.exp (M.x s t - m) else 0) = M.Z t / Real.exp m := by
  unfold Z ex
  rw [Finset.sum_div]
  refine Finset.sum_congr rfl fun s _ => ?_
  split
  · rw [Real.exp_sub]
  · exact (zero_div _).symm

theorem p_shift (m : ℝ) (s t : ℕ) :
    (if s ≤ t then Real.exp (M.x s t - m) else 0) / (M.Z t / Real.exp m) = M.p s t := by
  unfold p ex
  have h := Real.exp_pos m
  split
  · rw [Real.exp_sub, div_div_div_cancel_right₀ h.ne']
  · rw [zero_div, zero_div]

theorem lse_shift (m : ℝ) {t : ℕ} (ht : t < 2048) : m + Real.log (M.Z t / Real.exp m) = Real.log (M.Z t) := by
  rw [Real.log_div (M.Z_pos ht).ne' (Real.exp_pos m).ne', Real.log_exp]
  ring

end Hd

/-- The arguments: the queries, keys and values, the running sums and the output's gradient, at a row and a column. -/
structure Args where
  q : ℕ → ℕ → ℝ
  k : ℕ → ℕ → ℝ
  v : ℕ → ℕ → ℝ
  c : ℕ → ℕ → ℝ
  d : ℕ → ℕ → ℝ

/-- Head `h` of sequence `b`. -/
def Args.hd (A : Args) (b h : ℕ) : Hd where
  q t l := A.q (2048 * b + t) (64 * h + l)
  k t l := A.k (2048 * b + t) (64 * h + l)
  v t l := A.v (2048 * b + t) (64 * h + l)
  d t l := A.d (2048 * b + t) (64 * h + l)
  c t := A.c (2048 * b + t) h

/-- The gradients of q, k and v, packed by pairs of heads: 128 columns each. -/
def Args.grads (A : Args) (r j : ℕ) : ℝ :=
  let h := 2 * (j / 384) + j % 128 / 64
  if j % 384 < 128 then (A.hd (r / 2048) h).dq (r % 2048) (j % 64)
  else if j % 384 < 256 then (A.hd (r / 2048) h).dk (r % 2048) (j % 64)
  else (A.hd (r / 2048) h).dv (r % 2048) (j % 64)

/-- The negated gradients of the running sums, on all 64 lanes of their head. -/
def Args.dcs (A : Args) (r j : ℕ) : ℝ := (A.hd (r / 2048) (j / 64)).dc (r % 2048)

end Cert.Fox
-- ==== Proof.Scratch.lean ====
/- The buffers that the blocks read, from the blocks of q, k, v, the running sums, o, the log-sums and do that a run is given. -/
module

public import proofs.«01_k».proof.Proof.Outs
public import proofs.«01_k».proof.Proof.Model

@[expose] public section

set_option maxRecDepth 16384

noncomputable section

open Idealize.ShloMosaic hiding ix1 ix2 ix3 ix4 ix5 eq_ix1 eq_ix2 eq_ix3 eq_ix4
open Idealize.ShloMosaic.ValueIdx
open Cert.KernelIdeal
open scoped BigOperators

namespace Cert.Fox

/-! ## Operations -/

/-- A load of a whole block. -/
def full (a : Memref sig .tc .vmem S2048x128 .f32) (ha : a.IsWhole) (x : Vec Ideal S2048x128 .f32) : (sh 2048 128).Idx → EReal :=
  View.readAt (Elt Ideal) a.view (Rect.unit (s := S2048x128) ![0, 0] S2048x128.size (inb2 (A := 2048) (B := 128) (by decide) (by decide))).toLoadRect
    (ha.unread x)

theorem full_eq (a : Memref sig .tc .vmem S2048x128 .f32) (ha : a.IsWhole) (x : Vec Ideal S2048x128 .f32) : full a ha x = x := by
  unfold full
  rw [View.readAt_eq_ld, Memref.IsWhole.read_unread]
  exact View.ld_unit_zero (by funext i; match i with | ⟨0, _⟩ => rfl | ⟨1, _⟩ => rfl) _ _

/-- The lane numbers. -/
def lanes2 : IVec (sh 2048 128) 32 := iota .tc (sh 2048 128) 32 [1]

/-- The lane numbered by a word from one matrix, the others from another. -/
def pick {φ : FTy} (n : BitVec 32) (a b : FVec Ideal (sh 2048 128) φ) : FVec Ideal (sh 2048 128) φ :=
  select (cmpi .eq lanes2 (broadcast (sh 2048 128) n)) a b
/-- The first head's lanes from one matrix, the others from another. -/
def lows {φ : FTy} (a b : FVec Ideal (sh 2048 128) φ) : FVec Ideal (sh 2048 128) φ :=
  select (cmpi .slt lanes2 (broadcast (sh 2048 128) 64#32)) a b
/-- The second head's. -/
def highs {φ : FTy} (a b : FVec Ideal (sh 2048 128) φ) : FVec Ideal (sh 2048 128) φ :=
  select (cmpi .sge lanes2 (broadcast (sh 2048 128) 64#32)) a b

theorem at2_pick {φ : FTy} {w : ℕ} (hw : w < 2 ^ 31) (a b : FVec Ideal (sh 2048 128) φ) {t l : ℕ} (ht : t < 2048) (hl : l < 128) :
    at2 (pick (BitVec.ofNat 32 w) a b : (sh 2048 128).Idx → EReal) t l = if l = w then at2 (a : (sh 2048 128).Idx → EReal) t l else at2 (b : (sh 2048 128).Idx → EReal) t l := by
  have e : at2 (pick (BitVec.ofNat 32 w) a b : (sh 2048 128).Idx → EReal) t l = Scalar.select (IntOp.cmpi .eq (BitVec.ofNat 32 l) (BitVec.ofNat 32 w)) (at2 (a : (sh 2048 128).Idx → EReal) t l) (at2 (b : (sh 2048 128).Idx → EReal) t l) := by
    rw [at2_of_lt _ ht hl, at2_of_lt _ ht hl, at2_of_lt _ ht hl]
    show Scalar.select (IntOp.cmpi .eq (BitVec.ofNat 32 (0 * 128 + l)) _) _ _ = _
    rw [Nat.zero_mul, Nat.zero_add]; rfl
  rw [e, WordCmp.cmpi_eq_ofNat (by omega) (by omega), Scalar.select]
  by_cases h : l = w
  · rw [if_pos (by rw [decide_eq_true h]; rfl), if_pos h]
  · rw [if_neg (by rw [decide_eq_false h]; decide), if_neg h]

theorem at2_lows {φ : FTy} (a b : FVec Ideal (sh 2048 128) φ) {t l : ℕ} (ht : t < 2048) (hl : l < 128) :
    at2 (lows a b : (sh 2048 128).Idx → EReal) t l = if l / 64 = 0 then at2 (a : (sh 2048 128).Idx → EReal) t l else at2 (b : (sh 2048 128).Idx → EReal) t l := by
  have e : at2 (lows a b : (sh 2048 128).Idx → EReal) t l = Scalar.select (IntOp.cmpi .slt (BitVec.ofNat 32 l) (BitVec.ofNat 32 64)) (at2 (a : (sh 2048 128).Idx → EReal) t l) (at2 (b : (sh 2048 128).Idx → EReal) t l) := by
    rw [at2_of_lt _ ht hl, at2_of_lt _ ht hl, at2_of_lt _ ht hl]
    show Scalar.select (IntOp.cmpi .slt (BitVec.ofNat 32 (0 * 128 + l)) _) _ _ = _
    rw [Nat.zero_mul, Nat.zero_add]; rfl
  rw [e, WordCmp.cmpi_slt_ofNat (by omega) (by omega), Scalar.select]
  by_cases h : l < 64
  · rw [if_pos (by rw [decide_eq_true h]; rfl), if_pos (by omega)]
  · rw [if_neg (by rw [decide_eq_false h]; decide), if_neg (by omega)]

theorem at2_highs {φ : FTy} (a b : FVec Ideal (sh 2048 128) φ) {t l : ℕ} (ht : t < 2048) (hl : l < 128) :
    at2 (highs a b : (sh 2048 128).Idx → EReal) t l = if l / 64 = 1 then at2 (a : (sh 2048 128).Idx → EReal) t l else at2 (b : (sh 2048 128).Idx → EReal) t l := by
  have e : at2 (highs a b : (sh 2048 128).Idx → EReal) t l = Scalar.select (IntOp.cmpi .sge (BitVec.ofNat 32 l) (BitVec.ofNat 32 64)) (at2 (a : (sh 2048 128).Idx → EReal) t l) (at2 (b : (sh 2048 128).Idx → EReal) t l) := by
    rw [at2_of_lt _ ht hl, at2_of_lt _ ht hl, at2_of_lt _ ht hl]
    show Scalar.select (IntOp.cmpi .sge (BitVec.ofNat 32 (0 * 128 + l)) _) _ _ = _
    rw [Nat.zero_mul, Nat.zero_add]; rfl
  rw [e, WordCmp.cmpi_sge_ofNat (by omega) (by omega), Scalar.select]
  by_cases h : 64 ≤ l
  · rw [if_pos (by rw [decide_eq_true h]; rfl), if_pos (by omega)]
  · rw [if_neg (by rw [decide_eq_false h]; decide), if_neg (by omega)]

/-- The rows of a transposed matrix that belong to the first head, and to the second. -/
def lowR (a b : FVec Ideal (sh 128 2048) .f32) : FVec Ideal (sh 128 2048) .f32 :=
  select (cmpi .slt rowsI (broadcast (sh 128 2048) 64#32)) a b
def highR (a b : FVec Ideal (sh 128 2048) .f32) : FVec Ideal (sh 128 2048) .f32 :=
  select (cmpi .sge rowsI (broadcast (sh 128 2048) 64#32)) a b

theorem at2_lowR (a b : FVec Ideal (sh 128 2048) .f32) {t l : ℕ} (ht : t < 2048) (hl : l < 128) :
    at2 (lowR a b) l t = if l / 64 = 0 then at2 a l t else at2 b l t := by
  have e : at2 (lowR a b) l t = Scalar.select (IntOp.cmpi .slt (BitVec.ofNat 32 l) (BitVec.ofNat 32 64)) (at2 a l t) (at2 b l t) := by
    rw [at2_of_lt _ hl ht, at2_of_lt _ hl ht, at2_of_lt _ hl ht]
    show Scalar.select (IntOp.cmpi .slt (BitVec.ofNat 32 (0 * 2048 + l)) _) _ _ = _
    rw [show 0 * 128 + l = l by omega]; rfl
  rw [e, WordCmp.cmpi_slt_ofNat (by omega) (by omega), Scalar.select]
  by_cases h : l < 64
  · rw [if_pos (by rw [decide_eq_true h]; rfl), if_pos (by omega)]
  · rw [if_neg (by rw [decide_eq_false h]; decide), if_neg (by omega)]

theorem at2_highR (a b : FVec Ideal (sh 128 2048) .f32) {t l : ℕ} (ht : t < 2048) (hl : l < 128) :
    at2 (highR a b) l t = if l / 64 = 1 then at2 a l t else at2 b l t := by
  have e : at2 (highR a b) l t = Scalar.select (IntOp.cmpi .sge (BitVec.ofNat 32 l) (BitVec.ofNat 32 64)) (at2 a l t) (at2 b l t) := by
    rw [at2_of_lt _ hl ht, at2_of_lt _ hl ht, at2_of_lt _ hl ht]
    show Scalar.select (IntOp.cmpi .sge (BitVec.ofNat 32 (0 * 2048 + l)) _) _ _ = _
    rw [show 0 * 128 + l = l by omega]; rfl
  rw [e, WordCmp.cmpi_sge_ofNat (by omega) (by omega), Scalar.select]
  by_cases h : 64 ≤ l
  · rw [if_pos (by rw [decide_eq_true h]; rfl), if_pos (by omega)]
  · rw [if_neg (by rw [decide_eq_false h]; decide), if_neg (by omega)]

theorem sc21 : (sh 2048 1).ShapeCasts (sh 2048 1) := by decide
theorem bc21 : (sh 2048 1).Broadcasts (sh 2048 128) := by decide
theorem rd21 : (sh 2048 128).Reduces [1] ⟨1, ![2048]⟩ := by decide
theorem s121 : (⟨1, ![2048]⟩ : Shape).ShapeCasts (sh 2048 1) := by decide

/-- A column on every lane. -/
def spread (x : FVec Ideal (sh 2048 1) .bf16) : FVec Ideal (sh 2048 128) .bf16 := broadcastTo (sh 2048 128) (shapeCast (sh 2048 1) x sc21) bc21

theorem at2_spread (x : FVec Ideal (sh 2048 1) .bf16) {t l : ℕ} (ht : t < 2048) (hl : l < 128) :
    at2 (spread x : (sh 2048 128).Idx → EReal) t l = at2 (x : (sh 2048 1).Idx → EReal) t 0 := by
  unfold spread
  rw [shapeCast_self, at2_of_lt _ ht hl, at2_of_lt _ ht Nat.one_pos]
  refine broadcastTo_apply _ bc21 _ _ fun ax => ?_
  match ax with
  | ⟨0, _⟩ => rfl
  | ⟨1, _⟩ => rfl

/-- The lane numbered by a word, as a column. -/
def hot (n : BitVec 32) (x : FVec Ideal (sh 2048 128) .f32) : FVec Ideal (sh 2048 1) .f32 :=
  shapeCast (sh 2048 1) (multiReduction .add [1] ⟨1, ![2048]⟩ (pick n x (broadcast (sh 2048 128) (FloatOps.ofBits .f32 0x00000000#32)))
    0x00000000#32 rd21 (.inl rfl) rfl) s121

theorem at2_hot {w : ℕ} (hw : w < 128) (x : FVec Ideal (sh 2048 128) .f32) {t : ℕ} (ht : t < 2048) :
    at2 (hot (BitVec.ofNat 32 w) x) t 0 = at2 x t w := by
  rw [at2_of_lt _ ht Nat.one_pos]
  unfold hot
  rw [shapeCast_a_a1_apply]
  refine (Ideal.reduceAdd_r2_a1 rd21 _ _).trans ?_
  have e : ∀ l : Fin 128, pick (BitVec.ofNat 32 w) x (broadcast (sh 2048 128) (FloatOps.ofBits .f32 0x00000000#32)) (ix2 ⟨t, ht⟩ l)
      = if l = ⟨w, hw⟩ then at2 x t w else (0 : EReal) := fun l => by
    rw [← at2_of_lt (pick (BitVec.ofNat 32 w) x (broadcast (sh 2048 128) (FloatOps.ofBits .f32 0x00000000#32))) ht l.2]
    rw [at2_pick (by omega) _ _ ht l.2]
    by_cases h : l.val = w
    · rw [if_pos h, if_pos (Fin.ext h), h]
    · rw [if_neg h, if_neg (fun h' => h (congrArg Fin.val h')), at2_of_lt _ ht l.2]
      exact zero_word
  refine (Finset.sum_congr rfl fun l _ => e l).trans ?_
  rw [Finset.sum_ite_eq' Finset.univ, if_pos (Finset.mem_univ _)]

/-- A column in three parts of the narrow format. -/
def part1 (x : FVec Ideal (sh 2048 1) .f32) : FVec Ideal (sh 2048 1) .bf16 := truncf .bf16 x
def rest1 (x : FVec Ideal (sh 2048 1) .f32) : FVec Ideal (sh 2048 1) .f32 := subf x (extf .f32 (part1 x))
def part2 (x : FVec Ideal (sh 2048 1) .f32) : FVec Ideal (sh 2048 1) .bf16 := part1 (rest1 x)
def part3 (x : FVec Ideal (sh 2048 1) .f32) : FVec Ideal (sh 2048 1) .bf16 := part1 (rest1 (rest1 x))
/-- Columns of zeros and of ones, and a matrix of zeros. -/
def zeros1 : FVec Ideal (sh 2048 1) .bf16 := broadcast (sh 2048 1) (FloatOps.ofBits .bf16 0#16)
def ones1 : FVec Ideal (sh 2048 1) .bf16 := broadcast (sh 2048 1) (FloatOps.ofBits .bf16 16256#16)
def zeros2 : FVec Ideal (sh 2048 128) .bf16 := broadcast (sh 2048 128) (FloatOps.ofBits .bf16 0#16)
def zerosR : FVec Ideal (sh 128 2048) .f32 := broadcast (sh 128 2048) (FloatOps.ofBits .f32 0x00000000#32)

variable (E : Env)

/-- The loaded blocks. -/
def Env.q0 := full E.arg2 E.harg2 E.x0
def Env.k0 := full E.arg3 E.harg3 E.x1
def Env.v0 := full E.arg4 E.harg4 E.x2
def Env.c0 := full E.arg5 E.harg5 E.x3
def Env.o0 := full E.arg6 E.harg6 E.x4
def Env.l0 := full E.arg7 E.harg7 E.x5
def Env.d0 := full E.arg8 E.harg8 E.x6

theorem sc22 : (sh 2048 128).ShapeCasts (sh 2048 128) := by decide
theorem cat22 : Shape.Concatenates [sh 2048 128, sh 2048 128] (sh 2048 256) 1 := by decide

/-- A loaded block, in the shape that it has. -/
def same (x : FVec Ideal (sh 2048 128) .f32) : FVec Ideal (sh 2048 128) .f32 := shapeCast (sh 2048 128) x sc22

/-- A head's running sums. -/
def Env.cs (e : BitVec 32) : FVec Ideal (sh 2048 1) .f32 :=
  hot (Scalar.addi (Scalar.muli 2#32 (BitVec.ofNat 32 (E.i 1).val)) e) (same E.c0)

def neg1 (x : FVec Ideal (sh 2048 1) .bf16) : FVec Ideal (sh 2048 1) .bf16 := subf zeros1 x

/-- The lanes of bias beside the first head's keys. -/
def augK0 (c : FVec Ideal (sh 2048 1) .f32) : FVec Ideal (sh 2048 128) .bf16 :=
  pick 5#32 (spread (neg1 (part3 c))) (pick 4#32 (spread (neg1 (part2 c))) (pick 3#32 (spread (neg1 (part1 c)))
    (pick 2#32 (spread ones1) (pick 1#32 (spread ones1) (pick 0#32 (spread ones1) zeros2)))))
/-- Beside the second head's. -/
def augK1 (c : FVec Ideal (sh 2048 1) .f32) : FVec Ideal (sh 2048 128) .bf16 :=
  pick 11#32 (spread (neg1 (part3 c))) (pick 10#32 (spread (neg1 (part2 c))) (pick 9#32 (spread (neg1 (part1 c)))
    (pick 8#32 (spread ones1) (pick 7#32 (spread ones1) (pick 6#32 (spread ones1) zeros2)))))
/-- Beside the queries. -/
def augQ (c d : FVec Ideal (sh 2048 1) .f32) : FVec Ideal (sh 2048 128) .bf16 :=
  pick 11#32 (spread ones1) (pick 10#32 (spread ones1) (pick 9#32 (spread ones1)
    (pick 8#32 (spread (part3 d)) (pick 7#32 (spread (part2 d)) (pick 6#32 (spread (part1 d))
    (pick 5#32 (spread ones1) (pick 4#32 (spread ones1) (pick 3#32 (spread ones1)
    (pick 2#32 (spread (part3 c)) (pick 1#32 (spread (part2 c)) (pick 0#32 (spread (part1 c)) zeros2)))))))))))

def cat2 (x y : FVec Ideal (sh 2048 128) .bf16) : FVec Ideal (sh 2048 256) .bf16 :=
  concatenate (sh 2048 256) 1 [⟨sh 2048 128, x⟩, ⟨sh 2048 128, y⟩] cat22
def narrow (x : FVec Ideal (sh 2048 128) .f32) : FVec Ideal (sh 2048 128) .bf16 := truncf (F := Ideal) (φ := .f32) .bf16 x

theorem sc256 : (sh 2048 256).ShapeCasts (sh 2048 256) := by decide
theorem scT : (sh 128 2048).ShapeCasts (sh 128 2048) := by decide
theorem sc1R : (sh 1 2048).ShapeCasts (sh 1 2048) := by decide
theorem trT : (sh 2048 128).Transposes [1, 0] (sh 128 2048) := by decide

/-- A buffer after one write of the whole of it. -/
def whole {A B : ℕ} {e : EltTy} (w : (sh A B).Idx → Elt Ideal e) : Writes A B e :=
  [⟨Rect.unit ![0, 0] (sh A B).size (inb2 (by omega) (by omega)), w⟩]

theorem Env.km0_eq : E.scr.km0.L = whole (shapeCast (sh 2048 256) (cat2 (lows (narrow (same E.k0)) zeros2) (augK0 (E.cs 0#32))) sc256) := rfl
theorem Env.km1_eq : E.scr.km1.L = whole (shapeCast (sh 2048 256) (cat2 (highs (narrow (same E.k0)) zeros2) (augK1 (E.cs 1#32))) sc256) := rfl
theorem Env.qx_eq : E.scr.qx.L = whole (shapeCast (sh 2048 256) (cat2 (narrow (mulf (same E.q0) (broadcast (sh 2048 128) eighth)))
    (augQ (E.cs 0#32) (E.cs 1#32))) sc256) := rfl
theorem Env.vm0_eq : E.scr.vm0.L = whole (shapeCast (sh 2048 128) (lows (narrow (same E.v0)) zeros2) sc22) := rfl
theorem Env.vm1_eq : E.scr.vm1.L = whole (shapeCast (sh 2048 128) (highs (narrow (same E.v0)) zeros2) sc22) := rfl
theorem Env.dob_eq : E.scr.dob.L = whole (shapeCast (sh 2048 128) (narrow E.d0) sc22) := rfl
theorem Env.kt0_eq : E.scr.kt0.L = whole (shapeCast (sh 128 2048)
    (truncf (F := Ideal) (φ := .f32) .bf16 (lowR (transpose (sh 128 2048) [1, 0] (same E.k0) trT) zerosR)) scT) := rfl
theorem Env.kt1_eq : E.scr.kt1.L = whole (shapeCast (sh 128 2048)
    (truncf (F := Ideal) (φ := .f32) .bf16 (highR (transpose (sh 128 2048) [1, 0] (same E.k0) trT) zerosR)) scT) := rfl

theorem slD : (sh 128 2048).Slices ![0, 0] (sh 64 2048) ∧ (sh 128 2048).Slices ![64, 0] (sh 64 2048) := by decide
theorem slL : (sh 128 2048).Slices ![0, 0] (sh 1 2048) ∧ (sh 128 2048).Slices ![64, 0] (sh 1 2048) := by decide
theorem rdD : (sh 64 2048).Reduces [0] ⟨1, ![2048]⟩ := by decide
theorem s1D : (⟨1, ![2048]⟩ : Shape).ShapeCasts (sh 1 2048) := by decide

/-- The products of the output and its gradient, transposed, and the log-sums. -/
def Env.dot0 : FVec Ideal (sh 128 2048) .f32 := transpose (sh 128 2048) [1, 0] (mulf (F := Ideal) (φ := .f32) E.d0 (same E.o0)) trT
def Env.lt0 : FVec Ideal (sh 128 2048) .f32 := transpose (sh 128 2048) [1, 0] (same E.l0) trT
def colsum (x : FVec Ideal (sh 64 2048) .f32) : FVec Ideal (sh 1 2048) .f32 :=
  shapeCast (sh 1 2048) (multiReduction .add [0] ⟨1, ![2048]⟩ x 0x00000000#32 rdD (.inl rfl) rfl) s1D

theorem Env.rows_eq : E.scr.rows.L =
    [⟨Rect.unit ![3, 0] (sh 1 2048).size (inb2 (by decide) (by decide)),
        shapeCast (sh 1 2048) (colsum (extractStridedSlice (sh 64 2048) ![64, 0] E.dot0 slD.2)) sc1R⟩,
      ⟨Rect.unit ![1, 0] (sh 1 2048).size (inb2 (by decide) (by decide)),
        shapeCast (sh 1 2048) (extractStridedSlice (sh 1 2048) ![64, 0] E.lt0 slL.2) sc1R⟩,
      ⟨Rect.unit ![2, 0] (sh 1 2048).size (inb2 (by decide) (by decide)),
        shapeCast (sh 1 2048) (colsum (extractStridedSlice (sh 64 2048) ![0, 0] E.dot0 slD.1)) sc1R⟩,
      ⟨Rect.unit ![0, 0] (sh 1 2048).size (inb2 (by decide) (by decide)),
        shapeCast (sh 1 2048) (extractStridedSlice (sh 1 2048) ![0, 0] E.lt0 slL.1) sc1R⟩] := rfl

end Cert.Fox
-- ==== Proof.Reals.lean ====
/- What a run of the backward pass's body writes, over the real numbers: the gradients of its two heads. -/
module

public import proofs.«01_k».proof.Proof.Scratch
public import Idealize.ShloMosaic.Lib.IdealHost

@[expose] public section

set_option maxRecDepth 16384

noncomputable section

open Idealize.ShloMosaic hiding ix1 ix2 ix3 ix4 ix5 eq_ix1 eq_ix2 eq_ix3 eq_ix4
open Idealize.ShloMosaic.ValueIdx
open Cert.KernelIdeal
open scoped BigOperators

namespace Cert.Fox

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The lanes of one head among those of a pair. -/
theorem sum_lanes {e : ℕ} (he : e < 2) (f : ℕ → ℝ) : ∑ l ∈ Finset.range 128, (if l / 64 = e then f l else 0) = ∑ l ∈ Finset.range 64, f (64 * e + l) := by
  have h := Finset.sum_range_add (fun l => if l / 64 = e then f l else 0) 64 64
  refine h.trans ?_
  have h0 : ∀ l ∈ Finset.range 64, (if l / 64 = e then f l else 0) = if e = 0 then f (64 * e + l) else 0 := fun l hl => by
    have := Finset.mem_range.mp hl
    rw [show l / 64 = 0 by omega]
    by_cases h : e = 0
    · subst h; simp
    · rw [if_neg (fun h' => h h'.symm), if_neg h]
  have h1 : ∀ l ∈ Finset.range 64, (if (64 + l) / 64 = e then f (64 + l) else 0) = if e = 0 then 0 else f (64 * e + l) := fun l hl => by
    have := Finset.mem_range.mp hl
    rw [show (64 + l) / 64 = 1 by omega]
    by_cases h : e = 0
    · subst h; simp
    · have : e = 1 := by omega
      subst this; simp
  rw [Finset.sum_congr rfl h0, Finset.sum_congr rfl h1]
  by_cases h : e = 0
  · simp [h]
  · simp [h]

/-- A sum of lanes of which only the first twelve count. -/
theorem sum_twelve (f : ℕ → ℝ) (h : ∀ j, 12 ≤ j → f j = 0) :
    ∑ j ∈ Finset.range 128, f j = f 0 + f 1 + f 2 + f 3 + f 4 + f 5 + f 6 + f 7 + f 8 + f 9 + f 10 + f 11 := by
  refine (Finset.sum_range_add f 12 116).trans ?_
  rw [Finset.sum_eq_zero (s := Finset.range 116) fun j _ => h _ (by omega), add_zero]
  simp only [Finset.sum_range_succ, Finset.sum_range_zero, zero_add]

/-! ## The parts of the buffers -/

theorem at2_bc_zero16 {t l : ℕ} (ht : t < 2048) (hl : l < 128) : at2 (zeros2 : (sh 2048 128).Idx → EReal) t l = ((0 : ℝ) : EReal) := by
  rw [at2_of_lt _ ht hl]
  exact (Idealize.ShloMosaic.Ideal.ofBits_zero_bf16).trans EReal.coe_zero.symm

theorem at2_ones1 {t : ℕ} (ht : t < 2048) : at2 (ones1 : (sh 2048 1).Idx → EReal) t 0 = ((1 : ℝ) : EReal) := by
  rw [at2_of_lt _ ht Nat.one_pos]
  exact (Idealize.ShloMosaic.Ideal.ofBits_one_bf16).trans EReal.coe_one.symm

theorem at2_neg1 (x : FVec Ideal (sh 2048 1) .bf16) {t : ℕ} (ht : t < 2048) {r : ℝ} (h : at2 (x : (sh 2048 1).Idx → EReal) t 0 = (r : EReal)) :
    at2 (neg1 x : (sh 2048 1).Idx → EReal) t 0 = ((-r : ℝ) : EReal) := by
  rw [at2_of_lt _ ht Nat.one_pos] at h ⊢
  show Ideal.ofBits .bf16 0x0000#16 - x (ix2 ⟨t, ht⟩ ⟨0, Nat.one_pos⟩) = _
  rw [Idealize.ShloMosaic.Ideal.ofBits_zero_bf16, h, zero_sub, EReal.coe_neg]

theorem at2_part1 (x : FVec Ideal (sh 2048 1) .f32) {t : ℕ} : at2 (part1 x : (sh 2048 1).Idx → EReal) t 0 = at2 (x : (sh 2048 1).Idx → EReal) t 0 := rfl

theorem at2_rest1 (x : FVec Ideal (sh 2048 1) .f32) {t : ℕ} (ht : t < 2048) {r : ℝ} (h : at2 (x : (sh 2048 1).Idx → EReal) t 0 = (r : EReal)) :
    at2 (rest1 x : (sh 2048 1).Idx → EReal) t 0 = ((0 : ℝ) : EReal) := by
  rw [at2_of_lt _ ht Nat.one_pos] at h ⊢
  show x (ix2 ⟨t, ht⟩ ⟨0, Nat.one_pos⟩) - x (ix2 ⟨t, ht⟩ ⟨0, Nat.one_pos⟩) = _
  rw [h, ← EReal.coe_sub, sub_self]

section Aug
variable (c d : FVec Ideal (sh 2048 1) .f32) {t : ℕ} (ht : t < 2048) {r r' : ℝ} (hc : at2 (c : (sh 2048 1).Idx → EReal) t 0 = (r : EReal))
  (hd : at2 (d : (sh 2048 1).Idx → EReal) t 0 = (r' : EReal))
include ht hc

theorem at2_part2 : at2 (part2 c : (sh 2048 1).Idx → EReal) t 0 = ((0 : ℝ) : EReal) := at2_rest1 c ht hc
theorem at2_part3 : at2 (part3 c : (sh 2048 1).Idx → EReal) t 0 = ((0 : ℝ) : EReal) := at2_rest1 (rest1 c) ht (at2_rest1 c ht hc)

/-- The lanes of bias of a key, from lane `o` on. -/
def biasK (o : ℕ) (r : ℝ) (j : ℕ) : ℝ :=
  if j = o + 5 then -0 else if j = o + 4 then -0 else if j = o + 3 then -r else if j = o + 2 then 1 else if j = o + 1 then 1 else if j = o then 1 else 0
/-- The lanes of bias of a query. -/
def biasQ (r r' : ℝ) (j : ℕ) : ℝ :=
  if j = 11 then 1 else if j = 10 then 1 else if j = 9 then 1 else if j = 8 then 0 else if j = 7 then 0 else if j = 6 then r'
  else if j = 5 then 1 else if j = 4 then 1 else if j = 3 then 1 else if j = 2 then 0 else if j = 1 then 0 else if j = 0 then r else 0

theorem at2_augK0 {l : ℕ} (hl : l < 128) : at2 (augK0 c : (sh 2048 128).Idx → EReal) t l = (biasK 0 r l : EReal) := by
  unfold augK0 biasK
  simp only [show (0 : ℕ) + 5 = 5 from rfl, show (0 : ℕ) + 4 = 4 from rfl, show (0 : ℕ) + 3 = 3 from rfl, show (0 : ℕ) + 2 = 2 from rfl,
    show (0 : ℕ) + 1 = 1 from rfl, apply_ite ((↑) : ℝ → EReal)]
  rw [at2_pick (by decide) _ _ ht hl, at2_pick (by decide) _ _ ht hl, at2_pick (by decide) _ _ ht hl, at2_pick (by decide) _ _ ht hl,
    at2_pick (by decide) _ _ ht hl, at2_pick (by decide) _ _ ht hl]
  rw [at2_spread _ ht hl, at2_spread _ ht hl, at2_spread _ ht hl, at2_spread _ ht hl, at2_neg1 _ ht (at2_part3 c ht hc), at2_neg1 _ ht (at2_part2 c ht hc),
    at2_neg1 (part1 c) ht hc, at2_ones1 ht, at2_bc_zero16 ht hl]

theorem at2_augK1 {l : ℕ} (hl : l < 128) : at2 (augK1 c : (sh 2048 128).Idx → EReal) t l = (biasK 6 r l : EReal) := by
  unfold augK1 biasK
  simp only [apply_ite ((↑) : ℝ → EReal)]
  rw [at2_pick (by decide) _ _ ht hl, at2_pick (by decide) _ _ ht hl, at2_pick (by decide) _ _ ht hl, at2_pick (by decide) _ _ ht hl,
    at2_pick (by decide) _ _ ht hl, at2_pick (by decide) _ _ ht hl]
  rw [at2_spread _ ht hl, at2_spread _ ht hl, at2_spread _ ht hl, at2_spread _ ht hl, at2_neg1 _ ht (at2_part3 c ht hc), at2_neg1 _ ht (at2_part2 c ht hc),
    at2_neg1 (part1 c) ht hc, at2_ones1 ht, at2_bc_zero16 ht hl]

include hd

theorem at2_augQ {l : ℕ} (hl : l < 128) : at2 (augQ c d : (sh 2048 128).Idx → EReal) t l = (biasQ r r' l : EReal) := by
  unfold augQ biasQ
  simp only [apply_ite ((↑) : ℝ → EReal)]
  iterate 12 rw [at2_pick (by decide) _ _ ht hl]
  rw [at2_spread ones1 ht hl, at2_ones1 ht, at2_spread (part3 d) ht hl, at2_part3 d ht hd, at2_spread (part2 d) ht hl, at2_part2 d ht hd,
    at2_spread (part1 d) ht hl, at2_spread (part3 c) ht hl, at2_part3 c ht hc, at2_spread (part2 c) ht hl, at2_part2 c ht hc,
    at2_spread (part1 c) ht hl, at2_bc_zero16 ht hl, at2_part1, at2_part1, hc, hd]

end Aug

/-- The biases' products add up to the difference of the running sums. -/
theorem sum_bias (e : ℕ) (he : e < 2) (cs c0 c1 : ℝ) :
    ∑ j ∈ Finset.range 128, biasK (6 * e) cs j * biasQ c0 c1 j = (if e = 0 then c0 else c1) - cs := by
  rw [sum_twelve _ fun j hj => by
    unfold biasQ
    rw [if_neg (by omega), if_neg (by omega), if_neg (by omega), if_neg (by omega), if_neg (by omega), if_neg (by omega), if_neg (by omega),
      if_neg (by omega), if_neg (by omega), if_neg (by omega), if_neg (by omega), if_neg (by omega), mul_zero]]
  obtain rfl | rfl : e = 0 ∨ e = 1 := by omega
  · simp [biasK, biasQ]; ring
  · simp [biasK, biasQ]; ring

/-! ## The buffers -/

variable (E : Env)

/-- The blocks that a run is given hold a pair of heads: their queries, keys, values and output gradients, their running sums, and what the
    forward pass saved of them. -/
structure Env.Reals (E : Env) (M : ℕ → Hd) : Prop where
  q : ∀ t < 2048, ∀ l < 128, at2 (E.x0 : (sh 2048 128).Idx → EReal) t l = ((M (l / 64)).q t (l % 64) : EReal)
  k : ∀ t < 2048, ∀ l < 128, at2 (E.x1 : (sh 2048 128).Idx → EReal) t l = ((M (l / 64)).k t (l % 64) : EReal)
  v : ∀ t < 2048, ∀ l < 128, at2 (E.x2 : (sh 2048 128).Idx → EReal) t l = ((M (l / 64)).v t (l % 64) : EReal)
  hp : (E.i 1).val < 3
  c : ∀ t < 2048, ∀ e < 2, at2 (E.x3 : (sh 2048 128).Idx → EReal) t (2 * (E.i 1).val + e) = ((M e).c t : EReal)
  o : ∀ t < 2048, ∀ l < 128, at2 (E.x4 : (sh 2048 128).Idx → EReal) t l = ((M (l / 64)).o t (l % 64) : EReal)
  z : ∀ t < 2048, ∀ e < 2, at2 (E.x5 : (sh 2048 128).Idx → EReal) t (64 * e) = (Real.log ((M e).Z t) : EReal)
  d : ∀ t < 2048, ∀ l < 128, at2 (E.x6 : (sh 2048 128).Idx → EReal) t l = ((M (l / 64)).d t (l % 64) : EReal)

theorem same_eq (x : FVec Ideal (sh 2048 128) .f32) : same x = x := shapeCast_self _ _

theorem at2_whole_bf16 {A B : ℕ} (w : (sh A B).Idx → Elt Ideal .bf16) {i j : ℕ} (hi : i < A) (hj : j < B) :
    at2 (View.canon (whole w)) i j = at2 w i j := by
  unfold whole
  rw [at2_canon_bf16 [] (by omega) (by omega) _ _ hi hj, if_pos (by omega)]
  rfl

variable {E} {M : ℕ → Hd} (R : E.Reals M)
include R

theorem Env.Reals.hcs {e : ℕ} (he : e < 2) {t : ℕ} (ht : t < 2048) : at2 (E.cs (BitVec.ofNat 32 e)) t 0 = ((M e).c t : EReal) := by
  have hp := R.hp
  have ew : Scalar.addi (Scalar.muli 2#32 (BitVec.ofNat 32 (E.i 1).val)) (BitVec.ofNat 32 e) = BitVec.ofNat 32 (2 * (E.i 1).val + e) := by
    show (2#32 * BitVec.ofNat 32 (E.i 1).val) + BitVec.ofNat 32 e = _
    refine BitVec.eq_of_toNat_eq ?_
    simp only [BitVec.toNat_add, BitVec.toNat_mul, BitVec.toNat_ofNat]
    omega
  unfold Env.cs
  rw [ew, at2_hot (by omega) _ ht, same_eq]
  unfold Env.c0
  rw [full_eq]
  exact R.c t ht e he

theorem Env.Reals.hkt {e : ℕ} (he : e < 2) {s l : ℕ} (hs : s < 2048) (hl : l < 128) :
    E.scr.KT e l s = ((if l / 64 = e then (M e).k s (l % 64) else 0 : ℝ) : EReal) := by
  have hk : at2 (transpose (sh 128 2048) [1, 0] (same E.k0) trT : (sh 128 2048).Idx → EReal) l s = ((M (l / 64)).k s (l % 64) : EReal) := by
    rw [at2_tr _ trT hl hs, same_eq, Env.k0, full_eq]
    exact R.k s hs l hl
  have hz : at2 (zerosR : (sh 128 2048).Idx → EReal) l s = ((0 : ℝ) : EReal) := by
    rw [at2_of_lt _ hl hs]
    exact zero_word.trans EReal.coe_zero.symm
  obtain rfl | rfl : e = 0 ∨ e = 1 := by omega
  · rw [Scr.KT, if_pos rfl, Src.val, E.kt0_eq, at2_whole_bf16 _ hl hs, shapeCast_self]
    refine (at2_lowR _ _ hs hl).trans ?_
    rw [hk, hz]
    split
    · rename_i h
      rw [h]
    · rfl
  · rw [Scr.KT, if_neg one_ne_zero, Src.val, E.kt1_eq, at2_whole_bf16 _ hl hs, shapeCast_self]
    refine (at2_highR _ _ hs hl).trans ?_
    rw [hk, hz]
    split
    · rename_i h
      rw [h]
    · rfl

theorem Env.Reals.hvm {e : ℕ} (he : e < 2) {s l : ℕ} (hs : s < 2048) (hl : l < 128) :
    E.scr.VM e s l = ((if l / 64 = e then (M e).v s (l % 64) else 0 : ℝ) : EReal) := by
  have hk : at2 (narrow (same E.v0) : (sh 2048 128).Idx → EReal) s l = ((M (l / 64)).v s (l % 64) : EReal) := by
    rw [same_eq, Env.v0, full_eq]
    exact R.v s hs l hl
  obtain rfl | rfl : e = 0 ∨ e = 1 := by omega
  · rw [Scr.VM, if_pos rfl, Src.val, E.vm0_eq, at2_whole_bf16 _ hs hl, shapeCast_self]
    refine (at2_lows _ _ hs hl).trans ?_
    rw [hk, at2_bc_zero16 hs hl]
    split
    · rename_i h
      rw [h]
    · rfl
  · rw [Scr.VM, if_neg one_ne_zero, Src.val, E.vm1_eq, at2_whole_bf16 _ hs hl, shapeCast_self]
    refine (at2_highs _ _ hs hl).trans ?_
    rw [hk, at2_bc_zero16 hs hl]
    split
    · rename_i h
      rw [h]
    · rfl

theorem Env.Reals.hdo {t l : ℕ} (ht : t < 2048) (hl : l < 128) : at2 E.scr.dob.val t l = ((M (l / 64)).d t (l % 64) : EReal) := by
  rw [Src.val, E.dob_eq, at2_whole_bf16 _ ht hl, shapeCast_self]
  unfold narrow Env.d0
  rw [full_eq]
  exact R.d t ht l hl

/-- What the keys' buffers hold. -/
def kmR (M : Hd) (e s l : ℕ) : ℝ := if l < 128 then (if l / 64 = e then M.k s (l % 64) else 0) else biasK (6 * e) (M.c s) (l - 128)
/-- What the queries' buffer holds. -/
def qxR (M : ℕ → Hd) (t l : ℕ) : ℝ := if l < 128 then (M (l / 64)).q t (l % 64) * (1 / 8) else biasQ ((M 0).c t) ((M 1).c t) (l - 128)

theorem Env.Reals.hkm {e : ℕ} (he : e < 2) {s l : ℕ} (hs : s < 2048) (hl : l < 256) : E.scr.KM e s l = (kmR (M e) e s l : EReal) := by
  have hk : ∀ l < 128, at2 (narrow (same E.k0) : (sh 2048 128).Idx → EReal) s l = ((M (l / 64)).k s (l % 64) : EReal) := fun l hl => by
    rw [same_eq, Env.k0, full_eq]
    exact R.k s hs l hl
  have hc := R.hcs he hs
  unfold kmR
  obtain rfl | rfl : e = 0 ∨ e = 1 := by omega
  · rw [Scr.KM, if_pos rfl, Src.val, E.km0_eq, at2_whole_bf16 _ hs hl, shapeCast_self]
    refine (at2_cat1 (a := 128) (b := 128) _ _ cat22 hs hl).trans ?_
    split
    · rename_i h
      rw [at2_lows _ _ hs h, hk l h, at2_bc_zero16 hs h]
      split
      · rename_i h
        rw [h]
      · rfl
    · exact at2_augK0 _ hs hc (by omega)
  · rw [Scr.KM, if_neg one_ne_zero, Src.val, E.km1_eq, at2_whole_bf16 _ hs hl, shapeCast_self]
    refine (at2_cat1 (a := 128) (b := 128) _ _ cat22 hs hl).trans ?_
    split
    · rename_i h
      rw [at2_highs _ _ hs h, hk l h, at2_bc_zero16 hs h]
      split
      · rename_i h
        rw [h]
      · rfl
    · exact at2_augK1 _ hs hc (by omega)

omit R in
theorem eighth_eq : eighth = ((1 / 8 : ℝ) : EReal) := by
  show Ideal.ofBits .f32 0x3E000000#32 = _
  simp [Ideal.ofBits, Ideal.ieee, -EReal.coe_mul]; norm_num

theorem Env.Reals.hqx {t l : ℕ} (ht : t < 2048) (hl : l < 256) : at2 E.scr.qx.val t l = (qxR M t l : EReal) := by
  unfold qxR
  rw [Src.val, E.qx_eq, at2_whole_bf16 _ ht hl, shapeCast_self]
  refine (at2_cat1 (a := 128) (b := 128) _ _ cat22 ht hl).trans ?_
  split
  · rename_i h
    have e : at2 (narrow (mulf (same E.q0) (broadcast (sh 2048 128) eighth)) : (sh 2048 128).Idx → EReal) t l
        = at2 (E.x0 : (sh 2048 128).Idx → EReal) t l * eighth := by
      rw [same_eq, Env.q0, full_eq, at2_of_lt _ ht h, at2_of_lt _ ht h]
      rfl
    rw [e, R.q t ht l h, eighth_eq, EReal.coe_mul]
  · exact at2_augQ _ _ ht (R.hcs (e := 0) (by decide) ht) (R.hcs (e := 1) (by decide) ht) (by omega)

/-- The logits. -/
theorem Env.Reals.hX {e : ℕ} (he : e < 2) {s t : ℕ} (hs : s < 2048) (ht : t < 2048) : E.scr.X e s t = ((M e).x s t : EReal) := by
  have h1 : E.scr.X e s t = ((∑ l ∈ Finset.range 256, kmR (M e) e s l * qxR M t l : ℝ) : EReal) := by
    rw [coe_sum]
    refine Finset.sum_congr rfl fun l hl => ?_
    have hl := Finset.mem_range.mp hl
    rw [R.hkm he hs hl, R.hqx ht hl, EReal.coe_mul]
  rw [h1]
  refine congrArg _ ((Finset.sum_range_add (fun l => kmR (M e) e s l * qxR M t l) 128 128).trans ?_)
  have h2 : ∀ l ∈ Finset.range 128, kmR (M e) e s l * qxR M t l = if l / 64 = e then (M e).k s (l % 64) * ((M e).q t (l % 64) * (1 / 8)) else 0 := fun l hl => by
    have hl := Finset.mem_range.mp hl
    rw [kmR, qxR, if_pos hl, if_pos hl]
    split
    · rename_i h
      rw [h]
    · exact zero_mul _
  have h3 : ∀ l ∈ Finset.range 128, kmR (M e) e s (128 + l) * qxR M t (128 + l) = biasK (6 * e) ((M e).c s) l * biasQ ((M 0).c t) ((M 1).c t) l := fun l _ => by
    rw [kmR, qxR, if_neg (by omega), if_neg (by omega), Nat.add_sub_cancel_left]
  rw [Finset.sum_congr rfl h2, Finset.sum_congr rfl h3, sum_lanes he, sum_bias e he, Hd.x]
  have h4 : (if e = 0 then (M 0).c t else (M 1).c t) = (M e).c t := by
    obtain rfl | rfl : e = 0 ∨ e = 1 := by omega
    · rfl
    · rfl
  rw [h4, Finset.sum_mul, add_sub_assoc]
  refine congrArg (· + _) (Finset.sum_congr rfl fun l hl => ?_)
  have hl := Finset.mem_range.mp hl
  rw [show (64 * e + l) % 64 = l by omega]
  ring

/-- The gradients of the probabilities. -/
theorem Env.Reals.hW {e : ℕ} (he : e < 2) {s t : ℕ} (hs : s < 2048) (ht : t < 2048) : E.scr.W e s t = ((M e).w s t : EReal) := by
  have h1 : E.scr.W e s t = ((∑ l ∈ Finset.range 128, (if l / 64 = e then (M e).v s (l % 64) * (M e).d t (l % 64) else 0) : ℝ) : EReal) := by
    rw [coe_sum]
    refine Finset.sum_congr rfl fun l hl => ?_
    have hl := Finset.mem_range.mp hl
    rw [R.hvm he hs hl, R.hdo ht hl, ← EReal.coe_mul]
    split
    · rename_i h
      rw [h]
    · rw [zero_mul]
  rw [h1, sum_lanes he, Hd.w]
  refine congrArg _ (Finset.sum_congr rfl fun l hl => ?_)
  have hl := Finset.mem_range.mp hl
  rw [show (64 * e + l) % 64 = l by omega]

theorem Env.Reals.hdot {l t : ℕ} (hl : l < 128) (ht : t < 2048) :
    at2 E.dot0 l t = ((M (l / 64)).d t (l % 64) * (M (l / 64)).o t (l % 64) : ℝ) := by
  unfold Env.dot0 Env.d0 Env.o0
  rw [at2_tr _ trT hl ht, same_eq, full_eq, full_eq, EReal.coe_mul, ← R.d t ht l hl, ← R.o t ht l hl, at2_of_lt _ ht hl, at2_of_lt _ ht hl, at2_of_lt _ ht hl]
  rfl

theorem Env.Reals.hlt {e t : ℕ} (he : e < 2) (ht : t < 2048) : at2 E.lt0 (64 * e) t = (Real.log ((M e).Z t) : EReal) := by
  unfold Env.lt0 Env.l0
  rw [at2_tr _ trT (by omega) ht, same_eq, full_eq]
  exact R.z t ht e he

theorem Env.Reals.hcol {e : ℕ} (he : e < 2) (x : FVec Ideal (sh 64 2048) .f32) {t : ℕ} (ht : t < 2048)
    (hx : ∀ l < 64, at2 x l t = at2 E.dot0 (64 * e + l) t) : at2 (colsum x) 0 t = ((M e).D t : EReal) := by
  unfold colsum
  rw [at2_colsum x rdD s1D ht, ← (M e).sum_do t, coe_sum]
  refine Finset.sum_congr rfl fun l hl => ?_
  have hl := Finset.mem_range.mp hl
  rw [hx l hl, R.hdot (by omega) ht, show (64 * e + l) / 64 = e by omega, show (64 * e + l) % 64 = l by omega]

/-- The rows of log-sums. -/
theorem Env.Reals.hrowL {e : ℕ} (he : e < 2) {t : ℕ} (ht : t < 2048) : at2 E.scr.rows.val e t = (Real.log ((M e).Z t) : EReal) := by
  rw [← R.hlt he ht, Src.val, E.rows_eq, shapeCast_self, shapeCast_self, shapeCast_self, shapeCast_self]
  rw [at2_canon_f32 _ (by decide) (by decide) _ _ (by omega) ht, if_neg (by omega), at2_canon_f32 _ (by decide) (by decide) _ _ (by omega) ht]
  obtain rfl | rfl : e = 0 ∨ e = 1 := by omega
  · rw [if_neg (by omega), at2_canon_f32 _ (by decide) (by decide) _ _ (by omega) ht, if_neg (by omega),
      at2_canon_f32 _ (by decide) (by decide) _ _ (by omega) ht, if_pos (by omega), at2_slice0 _ _ _ (by omega) (by omega)]
    rfl
  · rw [if_pos (by omega), at2_slice0 _ _ _ (by omega) (by omega)]
    rfl

/-- The rows of means. -/
theorem Env.Reals.hrowD {e : ℕ} (he : e < 2) {t : ℕ} (ht : t < 2048) : at2 E.scr.rows.val (2 + e) t = ((M e).D t : EReal) := by
  rw [Src.val, E.rows_eq, shapeCast_self, shapeCast_self, shapeCast_self, shapeCast_self]
  rw [at2_canon_f32 _ (by decide) (by decide) _ _ (by omega) ht]
  obtain rfl | rfl : e = 0 ∨ e = 1 := by omega
  · rw [if_neg (by omega), at2_canon_f32 _ (by decide) (by decide) _ _ (by omega) ht, if_neg (by omega),
      at2_canon_f32 _ (by decide) (by decide) _ _ (by omega) ht, if_pos (by omega)]
    exact R.hcol he _ (by omega) fun l hl => at2_slice0 0 _ _ hl (by omega)
  · rw [if_pos (by omega)]
    exact R.hcol he _ (by omega) fun l hl => at2_slice0 64 _ _ hl (by omega)

/-- The probabilities. -/
theorem Env.Reals.hP {e : ℕ} (he : e < 2) {s t : ℕ} (hs : s < 2048) (ht : t < 2048) : E.scr.P e s t = ((M e).p s t : EReal) := by
  rw [(M e).p_lse ht]
  split
  · rename_i h
    rw [Scr.P, Scr.XM, if_pos h, R.hX he hs ht, R.hrowL he ht, ← EReal.coe_sub, Ideal.exp_coe]
  · rename_i h
    rw [E.scr.P_zero E.mask (by omega), EReal.coe_zero]

/-- The gradients of the logits. -/
theorem Env.Reals.hG {e : ℕ} (he : e < 2) {s t : ℕ} (hs : s < 2048) (ht : t < 2048) : E.scr.G e s t = ((M e).g s t : EReal) := by
  rw [Scr.G, R.hP he hs ht, R.hW he hs ht, R.hrowD he ht, ← EReal.coe_sub, ← EReal.coe_mul]
  rfl

/-! ## The outputs -/

theorem Env.Reals.hdq {t l : ℕ} (ht : t < 2048) (hl : l < 128) : E.scr.DQT l t * eighth = ((M (l / 64)).dq t (l % 64) : EReal) := by
  rw [eighth_eq, Hd.dq, EReal.coe_mul, coe_sum]
  refine congrArg (· * _) (Finset.sum_congr rfl fun s hs => ?_)
  have hs := Finset.mem_range.mp hs
  rw [R.hkt (by decide) hs hl, R.hkt (by decide) hs hl, R.hG (by decide) hs ht, R.hG (by decide) hs ht, ← EReal.coe_mul, ← EReal.coe_mul, ← EReal.coe_add]
  refine congrArg _ ?_
  obtain h | h : l / 64 = 0 ∨ l / 64 = 1 := by omega
  · rw [h, if_pos rfl, if_neg (by decide), zero_mul, add_zero]
  · rw [h, if_neg (by decide), if_pos rfl, zero_mul, zero_add]

theorem Env.Reals.hdk {s l : ℕ} (hs : s < 2048) (hl : l < 128) : E.scr.DK (l / 64) s l = ((M (l / 64)).dk s (l % 64) : EReal) := by
  rw [Hd.dk, Finset.sum_mul, coe_sum]
  refine Finset.sum_congr rfl fun t ht => ?_
  have ht := Finset.mem_range.mp ht
  rw [R.hG (by omega) hs ht, R.hqx ht (by omega), qxR, if_pos hl, ← EReal.coe_mul, mul_assoc]

theorem Env.Reals.hdv {s l : ℕ} (hs : s < 2048) (hl : l < 128) : E.scr.DV (l / 64) s l = ((M (l / 64)).dv s (l % 64) : EReal) := by
  rw [Hd.dv, coe_sum]
  refine Finset.sum_congr rfl fun t ht => ?_
  have ht := Finset.mem_range.mp ht
  rw [R.hP (by omega) hs ht, R.hdo ht hl, ← EReal.coe_mul]

theorem Env.Reals.hcsum {e s : ℕ} (he : e < 2) (hs : s < 2048) : E.scr.CS e s = ((M e).dc s : EReal) := by
  rw [Hd.dc, coe_sum]
  exact Finset.sum_congr rfl fun t ht => R.hG he hs (Finset.mem_range.mp ht)

theorem Env.Reals.htot {e t : ℕ} (he : e < 2) (ht : t < 2048) : E.scr.TOT e t = 0 := by
  have h : E.scr.TOT e t = ((∑ s ∈ Finset.range 2048, (M e).g s t : ℝ) : EReal) := by
    rw [coe_sum]
    exact Finset.sum_congr rfl fun s hs => R.hG he (Finset.mem_range.mp hs) ht
  rw [h, (M e).sum_g ht, EReal.coe_zero]

/-- The first output: the gradients of the queries, the keys and the values, 128 columns each. -/
theorem Env.Reals.out7 {r j : ℕ} (hr : r < 2048) (hj : j < 384) :
    at2 (View.canon (E.run.1 : Writes 2048 384 .bf16)) r j
      = (if j < 128 then (M (j % 128 / 64)).dq r (j % 64) else if j < 256 then (M (j % 128 / 64)).dk r (j % 64) else (M (j % 128 / 64)).dv r (j % 64) : ℝ) := by
  rw [E.out7 hr hj]
  split
  · rename_i h
    rw [R.hdq hr h, Nat.mod_eq_of_lt h]
  · rename_i h
    rw [Scr.KV]
    split
    · rename_i h2
      rw [R.hdk hr (by omega), show j % 128 / 64 = (j - 128) / 64 by omega, show j % 64 = (j - 128) % 64 by omega]
    · rename_i h2
      rw [R.hdv hr (by omega), show j % 128 / 64 = (j - 256) / 64 by omega, show j % 64 = (j - 256) % 64 by omega]

/-- The second output: the keys' sums of the logits' gradients. -/
theorem Env.Reals.out8 {r l : ℕ} (hr : r < 2048) (hl : l < 128) :
    at2 (View.canon (E.run.2.1 : Writes 2048 128 .f32)) r l = ((M (l / 64)).dc r : EReal) := by
  rw [E.out8 hr hl, R.htot (by decide) hr, R.htot (by decide) hr, R.hcsum (by omega) hr]
  simp

end Cert.Fox
-- ==== Proof.RefVal.lean ====
/- The reference, over the real numbers: its arrays at a position are the reals of one head's attention and of its gradient. -/
module

public import proofs.«01_k».proof.Proof.Reals
public import proofs.«01_k».proof.Proof.Gen.ReferenceIdeal.Read
public import Idealize.ShloMosaic.Lib.KernelVsHost

@[expose] public section

set_option maxRecDepth 16384

noncomputable section

open Idealize.ShloMosaic hiding ix0 ix1 ix2 ix3 ix4 ix5 eq_ix1 eq_ix2 eq_ix3 eq_ix4
open Idealize.ShloMosaic.ValueIdx
open Cert.ReferenceIdeal.Gen Cert.ReferenceIdeal.Read
open scoped BigOperators

namespace Cert.Fox

/-! ## Indices and single values -/

theorem ext3 {a b c : ℕ} {i j : (⟨3, ![a, b, c]⟩ : Shape).Idx} (h0 : (i 0).val = (j 0).val) (h1 : (i 1).val = (j 1).val)
    (h2 : (i 2).val = (j 2).val) : i = j := by
  funext x; match x with
  | ⟨0, _⟩ => exact Fin.ext h0
  | ⟨1, _⟩ => exact Fin.ext h1
  | ⟨2, _⟩ => exact Fin.ext h2

theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j := by
  funext x; match x with
  | ⟨0, _⟩ => exact Fin.ext h0
  | ⟨1, _⟩ => exact Fin.ext h1
  | ⟨2, _⟩ => exact Fin.ext h2
  | ⟨3, _⟩ => exact Fin.ext h3

/-- A value read at another name of its index. -/
theorem rd {α β : Type} {f : α → β} {i j : α} {y : β} (h : f j = y) (e : i = j) : f i = y := by rw [e]; exact h

/-- A sum of reals over `n` indices, in the extended reals. -/
theorem sum_fin {n : ℕ} {f : Fin n → EReal} {g : ℕ → ℝ} (h : ∀ k : Fin n, f k = (g k.val : EReal)) :
    ∑ k, f k = ((∑ k ∈ Finset.range n, g k : ℝ) : EReal) := by
  rw [Finset.sum_range, coe_sum]
  exact Finset.sum_congr rfl fun k _ => h k

theorem negInf_eq : Ideal.ofBits .f32 0xFF800000#32 = (⊥ : EReal) := by
  simp [Ideal.ofBits, Ideal.ieee]

/-- A quotient of reals is a real where the divisor is not zero. -/
theorem div_reals {x y : ℝ} (h : y ≠ 0) : Ideal.div (x : EReal) (y : EReal) = ((x / y : ℝ) : EReal) := by
  rw [Ideal.div_coe h, ← EReal.coe_mul, mul_one_div]

/-- The largest of finitely many values, none of them `⊤` and one of them real, is real. -/
theorem max_real {n : ℕ} (f : Fin n → EReal) (hf : ∀ k, f k ≠ ⊤) (k0 : Fin n) (h0 : f k0 ≠ ⊥) :
    ∃ m : ℝ, (Finset.univ : Finset (Fin n)).fold max ⊥ f = (m : EReal) := by
  have e : (Finset.univ : Finset (Fin n)).fold max ⊥ f = Finset.univ.sup f := rfl
  rw [e]
  have h1 : Finset.univ.sup f ≠ ⊤ := ne_of_lt ((Finset.sup_lt_iff bot_lt_top).mpr fun k _ => lt_top_iff_ne_top.mpr (hf k))
  have h2 : Finset.univ.sup f ≠ ⊥ := ne_of_gt (lt_of_lt_of_le (bot_lt_iff_ne_bot.mpr h0) (Finset.le_sup (f := f) (Finset.mem_univ k0)))
  exact ⟨_, (EReal.coe_toReal h1 h2).symm⟩

/-! ## Three arrays packed by pairs of heads -/

/-- One array's columns by pairs of heads, and the three arrays' columns. -/
abbrev P1 : Shape := ⟨4, ![8192, 3, 1, 128]⟩
abbrev P3 : Shape := ⟨4, ![8192, 3, 3, 128]⟩

/-- Three arrays of 384 columns packed 128 columns each, and zero columns behind them, read at a packed column. -/
theorem packed_apply (a b c : (sh 8192 384).Idx → EReal) (v : (⟨0, ![]⟩ : Shape).Idx → EReal)
    (ha : (sh 8192 384).ShapeCasts P1) (hb : (sh 8192 384).ShapeCasts P1)
    (hc : (sh 8192 384).ShapeCasts P1)
    (h2 : Shape.Concatenates [P1, P1, P1] P3 2)
    (h3 : P3.ShapeCasts (sh 8192 1152))
    (h4 : (sh 8192 1152).Pads ![0, 0] ![0, 1920] ![0, 0] (sh 8192 3072)) (h5 : 0 < (⟨0, ![]⟩ : Shape).numel)
    (r : Fin 8192) (j : Fin 3072) (hj : j.val < 1152) :
    pad (sh 8192 3072) ![0, 0] ![0, 1920] ![0, 0]
      (shapeCast (sh 8192 1152) (concatenate P3 2
        [⟨P1, shapeCast _ a ha⟩, ⟨P1, shapeCast _ b hb⟩,
          ⟨P1, shapeCast _ c hc⟩] h2) h3) v h4 h5 (ix2 r j)
      = if j.val % 384 < 128 then a (ix2 r ⟨128 * (j.val / 384) + j.val % 128, by omega⟩)
        else if j.val % 384 < 256 then b (ix2 r ⟨128 * (j.val / 384) + j.val % 128, by omega⟩)
        else c (ix2 r ⟨128 * (j.val / 384) + j.val % 128, by omega⟩) := by
  refine (pad_apply_of_inside _ _ _ _ v h4 h5 (ix2 r j) (ix2 r ⟨j.val, hj⟩) (fun x => by
    match x with
    | ⟨0, _⟩ => show r.val = 0 + r.val * (0 + 1); omega
    | ⟨1, _⟩ => show j.val = 0 + j.val * (0 + 1); omega)).trans ?_
  rw [shapeCast_apply _ h3 (ix2 r ⟨j.val, hj⟩)
    (ix4 r (⟨j.val / 384, by omega⟩ : Fin 3) (⟨j.val / 128 % 3, by omega⟩ : Fin 3) (⟨j.val % 128, by omega⟩ : Fin 128)) (by
      rewrite [Shape.rowMajor_val_four, Shape.rowMajor_val_two]
      show ((r.val * 3 + j.val / 384) * 3 + j.val / 128 % 3) * 128 + j.val % 128 = r.val * 1152 + j.val
      omega)]
  have cast : ∀ (x : (sh 8192 384).Idx → EReal) (hx : (sh 8192 384).ShapeCasts P1),
      shapeCast P1 x hx (ix4 r (⟨j.val / 384, by omega⟩ : Fin 3) (0 : Fin 1) (⟨j.val % 128, by omega⟩ : Fin 128))
        = x (ix2 r ⟨128 * (j.val / 384) + j.val % 128, by omega⟩) := fun x hx =>
    shapeCast_apply x hx _ _ (by
      rewrite [Shape.rowMajor_val_four, Shape.rowMajor_val_two]
      show r.val * 384 + (128 * (j.val / 384) + j.val % 128) = ((r.val * 3 + j.val / 384) * 1 + 0) * 128 + j.val % 128
      omega)
  have off : ∀ bb : Fin 4, bb.cast (rfl : 4 = 4) ≠ (2 : Fin 4) →
      ((ix4 r (⟨j.val / 384, by omega⟩ : Fin 3) (0 : Fin 1) (⟨j.val % 128, by omega⟩ : Fin 128) : P1.Idx) bb).val
        = ((ix4 r (⟨j.val / 384, by omega⟩ : Fin 3) (⟨j.val / 128 % 3, by omega⟩ : Fin 3) (⟨j.val % 128, by omega⟩ : Fin 128)
            : P3.Idx) (bb.cast rfl)).val := fun bb hb => by
    match bb with
    | ⟨0, _⟩ => rfl
    | ⟨1, _⟩ => rfl
    | ⟨2, _⟩ => exact absurd rfl hb
    | ⟨3, _⟩ => rfl
  by_cases h0 : j.val % 384 < 128
  · rw [if_pos h0]
    refine (concatenate_apply_piece (t := P3) (2 : Fin 4) [⟨P1, shapeCast P1 a ha⟩, ⟨P1, shapeCast P1 b hb⟩, ⟨P1, shapeCast P1 c hc⟩] h2 _ 0
      (show 0 < 3 by decide) P1 _ rfl rfl 0 rfl _ off ?_).trans (cast a ha)
    show 0 + 0 = j.val / 128 % 3; omega
  · rw [if_neg h0]
    by_cases h1 : j.val % 384 < 256
    · rw [if_pos h1]
      refine (concatenate_apply_piece (t := P3) (2 : Fin 4) [⟨P1, shapeCast P1 a ha⟩, ⟨P1, shapeCast P1 b hb⟩, ⟨P1, shapeCast P1 c hc⟩] h2 _ 1
      (show 1 < 3 by decide) P1 _ rfl rfl 1 rfl _ off ?_).trans (cast b hb)
      show 1 + 0 = j.val / 128 % 3; omega
    · rw [if_neg h1]
      refine (concatenate_apply_piece (t := P3) (2 : Fin 4) [⟨P1, shapeCast P1 a ha⟩, ⟨P1, shapeCast P1 b hb⟩, ⟨P1, shapeCast P1 c hc⟩] h2 _ 2
      (show 2 < 3 by decide) P1 _ rfl rfl 2 rfl _ off ?_).trans (cast c hc)
      show 2 + 0 = j.val / 128 % 3; omega

/-! ## The arguments -/

/-- Five arrays of reals: the arguments `A`. -/
structure Args.Are (A : Args) (x0 x1 x2 : (sh 8192 384).Idx → EReal) (x3 : (sh 8192 6).Idx → EReal) (x4 : (sh 8192 384).Idx → EReal) : Prop where
  q : ∀ (r : Fin 8192) (j : Fin 384), x0 (ix2 r j) = (A.q r j : EReal)
  k : ∀ (r : Fin 8192) (j : Fin 384), x1 (ix2 r j) = (A.k r j : EReal)
  v : ∀ (r : Fin 8192) (j : Fin 384), x2 (ix2 r j) = (A.v r j : EReal)
  c : ∀ (r : Fin 8192) (j : Fin 6), x3 (ix2 r j) = (A.c r j : EReal)
  d : ∀ (r : Fin 8192) (j : Fin 384), x4 (ix2 r j) = (A.d r j : EReal)

namespace Args.Are

variable {A : Args} {x0 x1 x2 : (sh 8192 384).Idx → EReal} {x3 : (sh 8192 6).Idx → EReal} {x4 : (sh 8192 384).Idx → EReal}

/-- The row of a position of a sequence. -/
abbrev row (b : Fin 4) (t : Fin 2048) : Fin 8192 := ⟨2048 * b.val + t.val, by omega⟩
/-- The column of a lane of a head. -/
abbrev col (h : Fin 6) (l : Fin 64) : Fin 384 := ⟨64 * h.val + l.val, by omega⟩

theorem v0 (H : A.Are x0 x1 x2 x3 x4) (b : Fin 4) (t : Fin 2048) (h : Fin 6) (l : Fin 64) :
    val_main_v0 (F := Ideal) x0 (ix4 b t h l) = ((A.hd b h).q t l : EReal) := by
  refine (val_main_v0_apply (F := Ideal) x0 _).trans ((congrArg x0 (ext2 (j := ix2 (row b t) (col h l)) ?_ ?_)).trans (H.q _ _))
  · show (((b.val * 2048 + t.val) * 6 + h.val) * 64 + l.val) / 384 = 2048 * b.val + t.val; omega
  · show (((b.val * 2048 + t.val) * 6 + h.val) * 64 + l.val) % 384 = 64 * h.val + l.val; omega

theorem v1 (H : A.Are x0 x1 x2 x3 x4) (b : Fin 4) (t : Fin 2048) (h : Fin 6) (l : Fin 64) :
    val_main_v1 (F := Ideal) x1 (ix4 b t h l) = ((A.hd b h).k t l : EReal) := by
  refine (val_main_v1_apply (F := Ideal) x1 _).trans ((congrArg x1 (ext2 (j := ix2 (row b t) (col h l)) ?_ ?_)).trans (H.k _ _))
  · show (((b.val * 2048 + t.val) * 6 + h.val) * 64 + l.val) / 384 = 2048 * b.val + t.val; omega
  · show (((b.val * 2048 + t.val) * 6 + h.val) * 64 + l.val) % 384 = 64 * h.val + l.val; omega

theorem v2 (H : A.Are x0 x1 x2 x3 x4) (b : Fin 4) (t : Fin 2048) (h : Fin 6) (l : Fin 64) :
    val_main_v2 (F := Ideal) x2 (ix4 b t h l) = ((A.hd b h).v t l : EReal) := by
  refine (val_main_v2_apply (F := Ideal) x2 _).trans ((congrArg x2 (ext2 (j := ix2 (row b t) (col h l)) ?_ ?_)).trans (H.v _ _))
  · show (((b.val * 2048 + t.val) * 6 + h.val) * 64 + l.val) / 384 = 2048 * b.val + t.val; omega
  · show (((b.val * 2048 + t.val) * 6 + h.val) * 64 + l.val) % 384 = 64 * h.val + l.val; omega

theorem v53 (H : A.Are x0 x1 x2 x3 x4) (b : Fin 4) (h : Fin 6) (l : Fin 64) (t : Fin 2048) :
    val_main_v53 (F := Ideal) x4 (ix4 b h l t) = ((A.hd b h).d t l : EReal) := by
  refine (val_main_v53_apply (F := Ideal) x4 _).trans ((val_main_v52_apply (F := Ideal) x4 _).trans
    ((congrArg x4 (ext2 (j := ix2 (row b t) (col h l)) ?_ ?_)).trans (H.d _ _)))
  · show (((b.val * 2048 + t.val) * 6 + h.val) * 64 + l.val) / 384 = 2048 * b.val + t.val; omega
  · show (((b.val * 2048 + t.val) * 6 + h.val) * 64 + l.val) % 384 = 64 * h.val + l.val; omega

theorem v4 (H : A.Are x0 x1 x2 x3 x4) (b : Fin 4) (h : Fin 6) (t : Fin 2048) :
    val_main_v4 (F := Ideal) x3 (ix3 b h t) = ((A.hd b h).c t : EReal) := by
  refine (val_main_v4_apply (F := Ideal) x3 _).trans ((val_main_v3_apply (F := Ideal) x3 _).trans
    ((congrArg x3 (ext2 (j := ix2 (row b t) h) ?_ ?_)).trans (H.c _ _)))
  · show ((b.val * 2048 + t.val) * 6 + h.val) / 6 = 2048 * b.val + t.val; omega
  · show ((b.val * 2048 + t.val) * 6 + h.val) % 6 = h.val; omega

/-! ## The logits and the probabilities -/

theorem v13 (H : A.Are x0 x1 x2 x3 x4) (b : Fin 4) (h : Fin 6) (t s : Fin 2048) :
    val_main_v13 (F := Ideal) x0 x1 x3 (ix4 b h t s) = ((A.hd b h).x s t : EReal) := by
  have e5 : val_main_v5 (F := Ideal) x0 x1 (ix4 b h t s)
      = ((∑ l ∈ Finset.range 64, (A.hd b h).k s l * (A.hd b h).q t l : ℝ) : EReal) := by
    refine (val_main_v5_apply x0 x1 _).trans (sum_fin fun l => ?_)
    rw [show lidx_main_v5 (ix4 b h t s) l = ix4 b t h l from ext4 rfl rfl rfl rfl,
      show ridx_main_v5 (ix4 b h t s) l = ix4 b s h l from ext4 rfl rfl rfl rfl, H.v0, H.v1, ← EReal.coe_mul, mul_comm]
  have e6 : val_main_v6 (F := Ideal) (ix4 b h t s) = ((1 / 8 : ℝ) : EReal) := (val_main_v6_apply (F := Ideal) _).trans eighth_eq
  have e9 : val_main_v9 (F := Ideal) x3 (ix4 b h t s) = ((A.hd b h).c t : EReal) :=
    (val_main_v9_apply (F := Ideal) x3 _).trans ((val_main_v8_apply (F := Ideal) x3 _).trans
      (rd (H.v4 b h t) (ext3 rfl rfl rfl)))
  have e12 : val_main_v12 (F := Ideal) x3 (ix4 b h t s) = ((A.hd b h).c s : EReal) :=
    (val_main_v12_apply (F := Ideal) x3 _).trans ((val_main_v11_apply (F := Ideal) x3 _).trans
      (rd (H.v4 b h s) (ext3 rfl rfl rfl)))
  rw [val_main_v13_apply, val_main_v10_apply, val_main_v7_apply, e5, e6, e9, e12]
  simp only [Ideal.mulf_def, Ideal.addf_def, Ideal.subf_def, ← EReal.coe_mul, ← EReal.coe_add, ← EReal.coe_sub]
  rfl

/-- The mask keeps the keys at or before the query. -/
theorem mask (b : Fin 4) (h : Fin 6) (t s : Fin 2048) :
    val_main_v20_1 (F := Ideal) (ix4 b h t s) = BitVec.ofBool (decide (s.val ≤ t.val)) := by
  refine (val_main_v20_1_apply (F := Ideal) _).trans ?_
  rw [val_main_v19_apply, val_main_v17_apply, val_main_v15_apply, val_main_v14_apply, val_main_v18_apply, val_main_v16_apply, val_main_v14_apply]
  exact WordCmp.cmpi_sle_ofNat (w := 32) (a := s.val) (b := t.val) (by have := s.isLt; omega) (by have := t.isLt; omega)

theorem select_of_le {α : Type} {s t : ℕ} (x y : α) : Scalar.select (BitVec.ofBool (decide (s ≤ t))) x y = if s ≤ t then x else y := by
  unfold Scalar.select
  by_cases h : s ≤ t
  · rw [if_pos (by rw [decide_eq_true h]; rfl), if_pos h]
  · rw [if_neg (by rw [decide_eq_false h]; decide), if_neg h]

theorem v20 (H : A.Are x0 x1 x2 x3 x4) (b : Fin 4) (h : Fin 6) (t s : Fin 2048) :
    val_main_v20_0 (F := Ideal) x0 x1 x3 (ix4 b h t s) = if s.val ≤ t.val then ((A.hd b h).x s t : EReal) else ⊥ := by
  rw [val_main_v20_0_apply, mask, select_of_le, H.v13]
  refine if_congr Iff.rfl rfl ?_
  exact negInf_eq

/-- A query's largest logit, which the reference subtracts, is a real. -/
theorem v28_real (H : A.Are x0 x1 x2 x3 x4) (b : Fin 4) (h : Fin 6) (t : Fin 2048) :
    ∃ m : ℝ, val_main_v21 (F := Ideal) x0 x1 x3 (ix3 b h t) = (m : EReal) := by
  have e : val_main_v21 (F := Ideal) x0 x1 x3 (ix3 b h t)
      = (Finset.univ : Finset (Fin 2048)).fold max ⊥ fun s => val_main_v20_0 (F := Ideal) x0 x1 x3 (ix4 b h t s) := by
    unfold val_main_v21
    generalize val_main_v20_0 (F := Ideal) x0 x1 x3 = y
    rw [Host.reduce_eq_fold, Shape.ReducesTo.fold_fiber_r4_a3,
      show val_main_cst_1 (F := Ideal) (Shape.Idx.first h_S_) = (⊥ : EReal) from negInf_eq]
    exact congrArg (fun f => (Finset.univ : Finset (Fin 2048)).fold (max : EReal → EReal → EReal) ⊥ f)
      (funext fun s => congrArg y (ext4 rfl rfl rfl rfl))
  rw [e]
  refine max_real _ (fun s => ?_) t ?_
  · rw [H.v20]; split
    · exact EReal.coe_ne_top _
    · exact bot_ne_top
  · rw [H.v20, if_pos le_rfl]; exact EReal.coe_ne_bot _

/-- The largest logit as a real. -/
def mx (x0 x1 : (sh 8192 384).Idx → EReal) (x3 : (sh 8192 6).Idx → EReal) (b : Fin 4) (h : Fin 6) (t : Fin 2048) : ℝ :=
  (val_main_v21 (F := Ideal) x0 x1 x3 (ix3 b h t)).toReal

theorem v21 (H : A.Are x0 x1 x2 x3 x4) (b : Fin 4) (h : Fin 6) (t : Fin 2048) :
    val_main_v21 (F := Ideal) x0 x1 x3 (ix3 b h t) = (mx x0 x1 x3 b h t : EReal) := by
  obtain ⟨m, hm⟩ := H.v28_real b h t
  unfold mx
  rw [hm, EReal.toReal_coe]

theorem v39 (H : A.Are x0 x1 x2 x3 x4) (b : Fin 4) (h : Fin 6) (t s : Fin 2048) :
    val_main_v39 (F := Ideal) x0 x1 x3 (ix4 b h t s) = (mx x0 x1 x3 b h t : EReal) := by
  refine (val_main_v39_apply (F := Ideal) x0 x1 x3 _).trans ((val_main_v38_apply (F := Ideal) x0 x1 x3 _).trans
    (rd (j := ix3 b h t) ?_ (ext3 rfl rfl rfl)))
  rw [val_main_v28_apply, H.v21, Ideal.maximumf_def, show val_main_v27 (F := Ideal) (ix3 b h t) = (⊥ : EReal) from
    (val_main_v27_apply (F := Ideal) _).trans negInf_eq]
  exact max_eq_right bot_le

/-- The exponential of a logit, less the largest, zero after the query. -/
abbrev Ex (M : Hd) (m : ℝ) (s t : ℕ) : ℝ := if s ≤ t then Real.exp (M.x s t - m) else 0

theorem v41 (H : A.Are x0 x1 x2 x3 x4) (b : Fin 4) (h : Fin 6) (t s : Fin 2048) :
    val_main_v41 (F := Ideal) x0 x1 x3 (ix4 b h t s) = (Ex (A.hd b h) (mx x0 x1 x3 b h t) s t : EReal) := by
  rw [val_main_v41_apply, val_main_v40_apply, H.v20, H.v39, Ideal.hostUnary_exp_def, Ideal.subf_def]
  unfold Ex
  by_cases hs : s.val ≤ t.val
  · rw [if_pos hs, if_pos hs, ← EReal.coe_sub, Ideal.exp_coe]
  · rw [if_neg hs, if_neg hs, EReal.bot_sub, Ideal.exp_bot, EReal.coe_zero]

theorem v42 (H : A.Are x0 x1 x2 x3 x4) (b : Fin 4) (h : Fin 6) (t : Fin 2048) :
    val_main_v42 (F := Ideal) x0 x1 x3 (ix3 b h t) = ((A.hd b h).Z t / Real.exp (mx x0 x1 x3 b h t) : ℝ) := by
  rw [val_main_v42_apply, show val_main_cst_9 (F := Ideal) (Shape.Idx.first h_S_) = (0 : EReal) from Ideal.ofBits_zero_f32, zero_add, ← Hd.Z_shift]
  refine sum_fin fun s => ?_
  rw [show idx_main_v42 (ix3 b h t) s = ix4 b h t s from ext4 rfl rfl rfl rfl, H.v41]

theorem L_pos (b : Fin 4) (h : Fin 6) (t : Fin 2048) (m : ℝ) : 0 < (A.hd b h).Z t / Real.exp m := div_pos (Hd.Z_pos _ t.isLt) (Real.exp_pos _)

theorem v43 (H : A.Are x0 x1 x2 x3 x4) (b : Fin 4) (h : Fin 6) (t : Fin 2048) (z : Fin 1) :
    val_main_v43 (F := Ideal) x0 x1 x3 (ix4 b h t z) = ((A.hd b h).Z t / Real.exp (mx x0 x1 x3 b h t) : ℝ) :=
  (val_main_v43_apply (F := Ideal) x0 x1 x3 _).trans (rd (H.v42 b h t) (ext3 rfl rfl rfl))

/-- The reference's probabilities. -/
theorem v45 (H : A.Are x0 x1 x2 x3 x4) (b : Fin 4) (h : Fin 6) (t s : Fin 2048) :
    val_main_v45 (F := Ideal) x0 x1 x3 (ix4 b h t s) = ((A.hd b h).p s t : EReal) := by
  have e44 : val_main_v44 (F := Ideal) x0 x1 x3 (ix4 b h t s) = ((A.hd b h).Z t / Real.exp (mx x0 x1 x3 b h t) : ℝ) :=
    (val_main_v44_apply (F := Ideal) x0 x1 x3 _).trans (rd (H.v43 b h t 0) (ext4 rfl rfl rfl rfl))
  rw [val_main_v45_apply, H.v41, e44, Ideal.hostDivf_def, div_reals (L_pos b h t _).ne', ← Hd.p_shift _ (mx x0 x1 x3 b h t)]

/-! ## The gradient of the logits -/

theorem v54 (H : A.Are x0 x1 x2 x3 x4) (b : Fin 4) (h : Fin 6) (t s : Fin 2048) :
    val_main_v54 (F := Ideal) x2 x4 (ix4 b h t s) = ((A.hd b h).w s t : EReal) := by
  refine (val_main_v54_apply x2 x4 _).trans (sum_fin fun l => ?_)
  rw [show lidx_main_v54 (ix4 b h t s) l = ix4 b h l t from ext4 rfl rfl rfl rfl,
    show ridx_main_v54 (ix4 b h t s) l = ix4 b s h l from ext4 rfl rfl rfl rfl, H.v53, H.v2, ← EReal.coe_mul, mul_comm]

/-- The gradient through a query's sum of exponentials. -/
theorem v66 (H : A.Are x0 x1 x2 x3 x4) (b : Fin 4) (h : Fin 6) (t s : Fin 2048) :
    val_main_v66 (F := Ideal) x0 x1 x2 x3 x4 (ix4 b h t s)
      = ((-((A.hd b h).D t / ((A.hd b h).Z t / Real.exp (mx x0 x1 x3 b h t))) : ℝ) : EReal) := by
  have hL := L_pos (A := A) b h t (mx x0 x1 x3 b h t)
  have e57 : ∀ s : Fin 2048, val_main_v57 (F := Ideal) x0 x1 x3 (ix4 b h t s)
      = ((1 / ((A.hd b h).Z t / Real.exp (mx x0 x1 x3 b h t) * ((A.hd b h).Z t / Real.exp (mx x0 x1 x3 b h t))) : ℝ) : EReal) := fun s => by
    refine (val_main_v57_apply (F := Ideal) x0 x1 x3 _).trans (rd (j := ix4 b h t 0) ?_ (ext4 rfl rfl rfl rfl))
    rw [val_main_v48_apply, val_main_v46_apply, H.v43, Ideal.hostDivf_def, Ideal.mulf_def, ← EReal.coe_mul,
      show val_main_v47 (F := Ideal) (ix4 b h t 0) = ((1 : ℝ) : EReal) from Ideal.ofBits_one_f32]
    exact div_reals (mul_pos hL hL).ne'
  have e60 : val_main_v60 (F := Ideal) x0 x1 x2 x3 x4 (ix3 b h t)
      = (((A.hd b h).D t / ((A.hd b h).Z t / Real.exp (mx x0 x1 x3 b h t)) : ℝ) : EReal) := by
    rw [val_main_v60_apply, show val_main_cst_11 (F := Ideal) (Shape.Idx.first h_S_) = (0 : EReal) from Ideal.ofBits_zero_f32, zero_add, Hd.D, Finset.sum_div]
    refine sum_fin fun s => ?_
    rw [show idx_main_v60 (ix3 b h t) s = ix4 b h t s from ext4 rfl rfl rfl rfl, val_main_v59_apply, val_main_v58_apply, H.v54, e57, H.v41,
      Ideal.mulf_def, Ideal.mulf_def, ← EReal.coe_mul, ← EReal.coe_mul, ← Hd.p_shift _ (mx x0 x1 x3 b h t)]
    refine congrArg _ ?_
    unfold Ex
    field_simp
  refine (val_main_v66_apply (F := Ideal) x0 x1 x2 x3 x4 _).trans (rd (j := ix3 b h t) ?_ (ext3 rfl rfl rfl))
  rw [val_main_v65_apply, show val_main_cst_12 (F := Ideal) (Shape.Idx.first h_S_) = (0 : EReal) from Ideal.ofBits_zero_f32, zero_add]
  refine (Fin.sum_univ_one _).trans ?_
  rw [val_main_v62_apply, val_main_v61_apply, Ideal.hostNegf_def, Ideal.negf_def, EReal.coe_neg]
  refine congrArg Neg.neg (rd e60 (ext3 ?_ ?_ ?_))
  · show (((b.val * 6 + h.val) * 2048 + t.val) * 1 + 0) / 12288 = b.val; omega
  · show (((b.val * 6 + h.val) * 2048 + t.val) * 1 + 0) / 2048 % 6 = h.val; omega
  · show (((b.val * 6 + h.val) * 2048 + t.val) * 1 + 0) % 2048 = t.val; omega

/-- The gradient of a logit, masked. -/
theorem v69 (H : A.Are x0 x1 x2 x3 x4) (b : Fin 4) (h : Fin 6) (t s : Fin 2048) :
    val_main_v69 (F := Ideal) x0 x1 x2 x3 x4 (ix4 b h t s) = ((A.hd b h).g s t : EReal) := by
  have hL := L_pos (A := A) b h t (mx x0 x1 x3 b h t)
  have e63 : val_main_v63 (F := Ideal) x0 x1 x3 (ix4 b h t s) = ((A.hd b h).Z t / Real.exp (mx x0 x1 x3 b h t) : ℝ) :=
    (val_main_v63_apply (F := Ideal) x0 x1 x3 _).trans (rd (H.v43 b h t 0) (ext4 rfl rfl rfl rfl))
  have e68 : val_main_v68 (F := Ideal) x0 x1 x2 x3 x4 (ix4 b h t s) = ((A.hd b h).g s t : EReal) := by
    rw [val_main_v68_apply, val_main_v67_apply, val_main_v64_apply, H.v54, e63, H.v66, H.v41, Ideal.hostDivf_def, div_reals hL.ne', Ideal.mulf_def,
      Ideal.addf_def, ← EReal.coe_add, ← EReal.coe_mul, Hd.g, ← Hd.p_shift _ (mx x0 x1 x3 b h t)]
    refine congrArg _ ?_
    unfold Ex
    field_simp
    ring
  rw [val_main_v69_apply, mask, select_of_le, e68]
  by_cases hs : s.val ≤ t.val
  · rw [if_pos hs]
  · rw [if_neg hs]
    refine (show _ = ((0 : ℝ) : EReal) from Ideal.ofBits_zero_f32).trans ?_
    rw [Hd.g, Hd.p, Hd.ex, if_neg hs, zero_div, zero_mul]

/-! ## The gradients -/

/-- The gradient of the running sums: minus what the kernel writes, as a query's logit gradients sum to zero. -/
theorem v77 (H : A.Are x0 x1 x2 x3 x4) (b : Fin 4) (h : Fin 6) (t : Fin 2048) :
    val_main_v77 (F := Ideal) x0 x1 x2 x3 x4 (ix3 b h t) = ((-(A.hd b h).dc t : ℝ) : EReal) := by
  have e71 : val_main_v71 (F := Ideal) x0 x1 x2 x3 x4 (ix3 b h t) = ((-(A.hd b h).dc t : ℝ) : EReal) := by
    rw [val_main_v71_apply, show val_main_cst_13 (F := Ideal) (Shape.Idx.first h_S_) = (0 : EReal) from Ideal.ofBits_zero_f32, zero_add, Hd.dc,
      ← Finset.sum_neg_distrib]
    refine sum_fin fun u => ?_
    rw [show idx_main_v71 (ix3 b h t) u = ix4 b h u t from ext4 rfl rfl rfl rfl, val_main_v70_apply, H.v69, Ideal.hostNegf_def, Ideal.negf_def, EReal.coe_neg]
  have e74 : val_main_v74 (F := Ideal) x0 x1 x2 x3 x4 (ix3 b h t) = ((0 : ℝ) : EReal) := by
    rw [val_main_v74_apply, show val_main_cst_15 (F := Ideal) (Shape.Idx.first h_S_) = (0 : EReal) from Ideal.ofBits_zero_f32, zero_add,
      ← Hd.sum_g (A.hd b h) t.isLt]
    refine sum_fin fun s => ?_
    rw [show idx_main_v74 (ix3 b h t) s = ix4 b h t s from ext4 rfl rfl rfl rfl, H.v69]
  have e73 : val_main_v73 (F := Ideal) x0 x1 x2 x3 x4 (ix3 b h t) = ((-(A.hd b h).dc t : ℝ) : EReal) := by
    rw [val_main_v73_apply, show val_main_cst_14 (F := Ideal) (Shape.Idx.first h_S_) = (0 : EReal) from Ideal.ofBits_zero_f32, zero_add]
    refine (Fin.sum_univ_one _).trans ((val_main_v72_apply (F := Ideal) x0 x1 x2 x3 x4 _).trans (rd e71 (ext3 ?_ ?_ ?_)))
    · show (((b.val * 6 + h.val) * 1 + 0) * 2048 + t.val) / 12288 = b.val; omega
    · show (((b.val * 6 + h.val) * 1 + 0) * 2048 + t.val) / 2048 % 6 = h.val; omega
    · show (((b.val * 6 + h.val) * 1 + 0) * 2048 + t.val) % 2048 = t.val; omega
  have e76 : val_main_v76 (F := Ideal) x0 x1 x2 x3 x4 (ix3 b h t) = ((0 : ℝ) : EReal) := by
    rw [val_main_v76_apply, show val_main_cst_16 (F := Ideal) (Shape.Idx.first h_S_) = (0 : EReal) from Ideal.ofBits_zero_f32, zero_add]
    refine (Fin.sum_univ_one _).trans ((val_main_v75_apply (F := Ideal) x0 x1 x2 x3 x4 _).trans (rd e74 (ext3 ?_ ?_ ?_)))
    · show (((b.val * 6 + h.val) * 2048 + t.val) * 1 + 0) / 12288 = b.val; omega
    · show (((b.val * 6 + h.val) * 2048 + t.val) * 1 + 0) / 2048 % 6 = h.val; omega
    · show (((b.val * 6 + h.val) * 2048 + t.val) * 1 + 0) % 2048 = t.val; omega
  rw [val_main_v77_apply, e73, e76, Ideal.addf_def, ← EReal.coe_add, add_zero]

/-- The gradient of the keys, before its layout. -/
theorem v80 (H : A.Are x0 x1 x2 x3 x4) (b : Fin 4) (h : Fin 6) (s : Fin 2048) (l : Fin 64) :
    val_main_v80 (F := Ideal) x0 x1 x2 x3 x4 (ix4 b h s l) = ((A.hd b h).dk s l : EReal) := by
  rw [val_main_v80_apply, Hd.dk, Finset.sum_mul]
  refine sum_fin fun t => ?_
  rw [show lidx_main_v80 (ix4 b h s l) t = ix4 b h t s from ext4 rfl rfl rfl rfl,
    show ridx_main_v80 (ix4 b h s l) t = ix4 b t h l from ext4 rfl rfl rfl rfl, val_main_v79_apply, H.v69, H.v0,
    show val_main_v78 (F := Ideal) (ix4 b h t s) = ((1 / 8 : ℝ) : EReal) from (val_main_v78_apply (F := Ideal) _).trans eighth_eq,
    Ideal.mulf_def, ← EReal.coe_mul, ← EReal.coe_mul]
  exact congrArg _ (by ring)

/-- The gradient of the queries, before its layout. -/
theorem v82 (H : A.Are x0 x1 x2 x3 x4) (b : Fin 4) (h : Fin 6) (t : Fin 2048) (l : Fin 64) :
    val_main_v82 (F := Ideal) x0 x1 x2 x3 x4 (ix4 b h t l) = ((A.hd b h).dq t l : EReal) := by
  rw [val_main_v82_apply, Hd.dq, Finset.sum_mul]
  refine sum_fin fun s => ?_
  rw [show lidx_main_v82 (ix4 b h t l) s = ix4 b h t s from ext4 rfl rfl rfl rfl,
    show ridx_main_v82 (ix4 b h t l) s = ix4 b s h l from ext4 rfl rfl rfl rfl, val_main_v79_apply, H.v69, H.v1,
    show val_main_v78 (F := Ideal) (ix4 b h t s) = ((1 / 8 : ℝ) : EReal) from (val_main_v78_apply (F := Ideal) _).trans eighth_eq,
    Ideal.mulf_def, ← EReal.coe_mul, ← EReal.coe_mul]
  exact congrArg _ (by ring)

/-- The gradient of the values, before its layout. -/
theorem v55 (H : A.Are x0 x1 x2 x3 x4) (b : Fin 4) (h : Fin 6) (l : Fin 64) (s : Fin 2048) :
    val_main_v55 (F := Ideal) x0 x1 x3 x4 (ix4 b h l s) = ((A.hd b h).dv s l : EReal) := by
  rw [val_main_v55_apply, Hd.dv]
  refine sum_fin fun t => ?_
  rw [show lidx_main_v55 (ix4 b h l s) t = ix4 b h l t from ext4 rfl rfl rfl rfl,
    show ridx_main_v55 (ix4 b h l s) t = ix4 b h t s from ext4 rfl rfl rfl rfl, H.v53, H.v45, ← EReal.coe_mul, mul_comm]

/-- The sequence, the position, the head and the lane of a row and a column. -/
abbrev qr (r : Fin 8192) : Fin 4 := ⟨r.val / 2048, by omega⟩
abbrev mr (r : Fin 8192) : Fin 2048 := ⟨r.val % 2048, by omega⟩
abbrev qc (j : Fin 384) : Fin 6 := ⟨j.val / 64, by omega⟩
abbrev mc (j : Fin 384) : Fin 64 := ⟨j.val % 64, by omega⟩

theorem v88 (H : A.Are x0 x1 x2 x3 x4) (r : Fin 8192) (j : Fin 384) :
    val_main_v88 (F := Ideal) x0 x1 x2 x3 x4 (ix2 r j) = ((A.hd (r / 2048) (j / 64)).dq (r % 2048) (j % 64) : EReal) := by
  refine (val_main_v88_apply (F := Ideal) x0 x1 x2 x3 x4 _).trans ((val_main_v83_apply (F := Ideal) x0 x1 x2 x3 x4 _).trans
    (rd (H.v82 (qr r) (qc j) (mr r) (mc j)) (ext4 ?_ ?_ ?_ ?_)))
  · show (r.val * 384 + j.val) / 786432 = r.val / 2048; omega
  · show (r.val * 384 + j.val) / 64 % 6 = j.val / 64; omega
  · show (r.val * 384 + j.val) / 384 % 2048 = r.val % 2048; omega
  · show (r.val * 384 + j.val) % 64 = j.val % 64; omega

theorem v87 (H : A.Are x0 x1 x2 x3 x4) (r : Fin 8192) (j : Fin 384) :
    val_main_v87 (F := Ideal) x0 x1 x2 x3 x4 (ix2 r j) = ((A.hd (r / 2048) (j / 64)).dk (r % 2048) (j % 64) : EReal) := by
  refine (val_main_v87_apply (F := Ideal) x0 x1 x2 x3 x4 _).trans ((val_main_v81_apply (F := Ideal) x0 x1 x2 x3 x4 _).trans
    (rd (H.v80 (qr r) (qc j) (mr r) (mc j)) (ext4 ?_ ?_ ?_ ?_)))
  · show (r.val * 384 + j.val) / 786432 = r.val / 2048; omega
  · show (r.val * 384 + j.val) / 64 % 6 = j.val / 64; omega
  · show (r.val * 384 + j.val) / 384 % 2048 = r.val % 2048; omega
  · show (r.val * 384 + j.val) % 64 = j.val % 64; omega

theorem v86 (H : A.Are x0 x1 x2 x3 x4) (r : Fin 8192) (j : Fin 384) :
    val_main_v86 (F := Ideal) x0 x1 x3 x4 (ix2 r j) = ((A.hd (r / 2048) (j / 64)).dv (r % 2048) (j % 64) : EReal) := by
  refine (val_main_v86_apply (F := Ideal) x0 x1 x3 x4 _).trans ((val_main_v56_apply (F := Ideal) x0 x1 x3 x4 _).trans
    (rd (H.v55 (qr r) (qc j) (mc j) (mr r)) (ext4 ?_ ?_ ?_ ?_)))
  · show (r.val * 384 + j.val) / 786432 = r.val / 2048; omega
  · show (r.val * 384 + j.val) / 64 % 6 = j.val / 64; omega
  · show (r.val * 384 + j.val) % 64 = j.val % 64; omega
  · show (r.val * 384 + j.val) / 384 % 2048 = r.val % 2048; omega

/-- The second result: the negated gradient of the running sums. -/
theorem v99 (H : A.Are x0 x1 x2 x3 x4) (r : Fin 8192) (j : Fin 384) :
    val_main_v99 (F := Ideal) x0 x1 x2 x3 x4 (ix2 r j) = (A.dcs r j : EReal) := by
  have e85 : val_main_v85 (F := Ideal) x0 x1 x2 x3 x4 (ix2 r (qc j)) = ((-(A.hd (r / 2048) (j / 64)).dc (r % 2048) : ℝ) : EReal) := by
    refine (val_main_v85_apply (F := Ideal) x0 x1 x2 x3 x4 _).trans ((val_main_v84_apply (F := Ideal) x0 x1 x2 x3 x4 _).trans
      (rd (H.v77 (qr r) (qc j) (mr r)) (ext3 ?_ ?_ ?_)))
    · show (r.val * 6 + j.val / 64) / 12288 = r.val / 2048; omega
    · show (r.val * 6 + j.val / 64) % 6 = j.val / 64; omega
    · show (r.val * 6 + j.val / 64) / 6 % 2048 = r.val % 2048; omega
  refine (val_main_v99_apply (F := Ideal) x0 x1 x2 x3 x4 _).trans ((val_main_v98_apply (F := Ideal) x0 x1 x2 x3 x4 _).trans ?_)
  rw [val_main_v97_apply, val_main_v96_apply, Ideal.hostNegf_def, Ideal.negf_def]
  refine (congrArg Neg.neg (rd e85 (ext2 ?_ ?_))).trans ?_
  · show (r.val * 384 + j.val) / 384 = r.val; omega
  · show (r.val * 384 + j.val) / 64 % 6 = j.val / 64; omega
  · rw [← EReal.coe_neg, neg_neg]; rfl

/-- The first result, at a column that the call writes. -/
theorem v95 (H : A.Are x0 x1 x2 x3 x4) (r : Fin 8192) (j : Fin 3072) (hj : j.val < 1152) :
    val_main_v95 (F := Ideal) x0 x1 x2 x3 x4 (ix2 r j) = (A.grads r j : EReal) := by
  refine (packed_apply _ _ _ _ _ _ _ _ _ pads_S8192x1152_S8192x3072_000_019200 _ r j hj).trans ?_
  have hh : (128 * (j.val / 384) + j.val % 128) / 64 = 2 * (j.val / 384) + j.val % 128 / 64 := by omega
  have hl : (128 * (j.val / 384) + j.val % 128) % 64 = j.val % 64 := by omega
  unfold Args.grads
  by_cases h0 : j.val % 384 < 128
  · rw [if_pos h0, if_pos h0, H.v88]
    show ((Hd.dq (A.hd (r.val / 2048) ((128 * (j.val / 384) + j.val % 128) / 64)) (r.val % 2048) ((128 * (j.val / 384) + j.val % 128) % 64) : ℝ) : EReal) = _
    rw [hh, hl]
  · rw [if_neg h0, if_neg h0]
    by_cases h1 : j.val % 384 < 256
    · rw [if_pos h1, if_pos h1, H.v87]
      show ((Hd.dk (A.hd (r.val / 2048) ((128 * (j.val / 384) + j.val % 128) / 64)) (r.val % 2048) ((128 * (j.val / 384) + j.val % 128) % 64) : ℝ) : EReal) = _
      rw [hh, hl]
    · rw [if_neg h1, if_neg h1, H.v86]
      show ((Hd.dv (A.hd (r.val / 2048) ((128 * (j.val / 384) + j.val % 128) / 64)) (r.val % 2048) ((128 * (j.val / 384) + j.val % 128) % 64) : ℝ) : EReal) = _
      rw [hh, hl]

end Args.Are

end Cert.Fox
-- ==== Proof.Host.lean ====
/- What the host prepares for the call, over the real numbers: the packed q, k and v, the running sums, the output and the log of the sums. -/
module

public import proofs.«01_k».proof.Proof.RefVal
public import proofs.«01_k».proof.Proof.Gen.KernelIdeal.Value

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open Cert.ReferenceIdeal.Read
open scoped BigOperators

namespace Cert.Fox

open Cert.KernelIdeal Cert.KernelIdeal.Gen

/-- The reference's largest logit is the largest logit as it is. -/
theorem v28_eq (x0 x1 : (sh 8192 384).Idx → EReal) (x3 : (sh 8192 6).Idx → EReal) :
    val_main_v28 (F := Ideal) x0 x1 x3 = val_main_v21 (F := Ideal) x0 x1 x3 := by
  funext i
  rw [val_main_v28_apply, Ideal.maximumf_def, show val_main_v27 (F := Ideal) i = (⊥ : EReal) from
    (val_main_v27_apply (F := Ideal) _).trans negInf_eq]
  exact max_eq_right bot_le

/-- The largest logit of each query. -/
def largest (z : S4x6x2048x2048.Idx → EReal) : S4x6x2048.Idx → EReal :=
  Host.reduce (FloatOps.maximumf (F := Ideal) (φ := .f32)) z (constant (F := Ideal) S_ .f32 0xFF800000#32) reducesTo_S4x6x2048x2048_S4x6x2048_d3 h_S_

/-- The exponentials of the logits, less the largest. -/
def exps (z : S4x6x2048x2048.Idx → EReal) : S4x6x2048x2048.Idx → EReal :=
  Host.exp (F := Ideal) (φ := .f32) (subf (F := Ideal) (φ := .f32) z
    (broadcastInDim S4x6x2048x2048 ![0, 1, 2, 3] bcast_S4x6x2048x1_S4x6x2048x2048_0_1_2_3 (broadcastInDim S4x6x2048x1 ![0, 1, 2] bcast_S4x6x2048_S4x6x2048x1_0_1_2
      (largest z))))

/-- Their sums, one for a query. -/
def sums (z : S4x6x2048x2048.Idx → EReal) : S4x6x2048.Idx → EReal :=
  Host.reduceAdd (F := Ideal) (φ := .f32) (exps z) (constant (F := Ideal) S_ .f32 0x00000000#32) reducesTo_S4x6x2048x2048_S4x6x2048_d3 h_S_

/-- The output of the attention, from the logits and the values. -/
def attn (z : S4x6x2048x2048.Idx → EReal) (y : S4x2048x6x64.Idx → EReal) : (sh 8192 384).Idx → EReal :=
  shapeCast S8192x384 (transpose S4x2048x6x64 [0, 3, 1, 2] (Host.dotGeneral (F := Ideal) (φ₁ := .f32) (φ₂ := .f32) dot_S4x2048x6x64_S4x6x2048x2048_S4x6x64x2048_1_3_3_2_02_01 none y
    (Host.divf (F := Ideal) (φ := .f32) (exps z) (broadcastInDim S4x6x2048x2048 ![0, 1, 2, 3] bcast_S4x6x2048x1_S4x6x2048x2048_0_1_2_3
      (broadcastInDim S4x6x2048x1 ![0, 1, 2] bcast_S4x6x2048_S4x6x2048x1_0_1_2 (sums z)))))
    transposes_S4x6x64x2048_S4x2048x6x64_0_3_1_2) shapeCasts_S4x2048x6x64_S8192x384

/-- A number for each sequence, head and query, on the lanes of the head. -/
def headLanes (y : S4x6x2048.Idx → EReal) : (sh 8192 384).Idx → EReal :=
  shapeCast S8192x384 (broadcastInDim S4x2048x6x64 ![0, 1, 2, 3] bcast_S4x2048x6x1_S4x2048x6x64_0_1_2_3
    (broadcastInDim S4x2048x6x1 ![0, 1, 2] bcast_S4x2048x6_S4x2048x6x1_0_1_2
      (transpose S4x2048x6 [0, 2, 1] y transposes_S4x6x2048_S4x2048x6_0_2_1))) shapeCasts_S4x2048x6x64_S8192x384

open Args.Are in
theorem headLanes_apply (y : S4x6x2048.Idx → EReal) (r : Fin 8192) (j : Fin 384) : headLanes y (ix2 r j) = y (ix3 (qr r) (qc j) (mr r)) := by
  unfold headLanes
  refine (shapeCast_apply _ shapeCasts_S4x2048x6x64_S8192x384 (ix2 r j) (ix4 (qr r) (mr r) (qc j) (mc j)) (by
    rewrite [Shape.rowMajor_val_two, Shape.rowMajor_val_four]
    show ((r.val / 2048 * 2048 + r.val % 2048) * 6 + j.val / 64) * 64 + j.val % 64 = r.val * 384 + j.val
    omega)).trans ?_
  refine (broadcastInDim_apply _ bcast_S4x2048x6x1_S4x2048x6x64_0_1_2_3 _ _ (ix4 (qr r) (mr r) (qc j) (0 : Fin 1)) (fun a => match a with
    | ⟨0, _⟩ => by show r.val / 2048 = if (4 : Nat) = 1 then 0 else r.val / 2048; rw [if_neg (by decide)]
    | ⟨1, _⟩ => by show r.val % 2048 = if (2048 : Nat) = 1 then 0 else r.val % 2048; rw [if_neg (by decide)]
    | ⟨2, _⟩ => by show j.val / 64 = if (6 : Nat) = 1 then 0 else j.val / 64; rw [if_neg (by decide)]
    | ⟨3, _⟩ => by show 0 = if (1 : Nat) = 1 then 0 else _; rw [if_pos rfl])).trans ?_
  refine (broadcastInDim_apply _ bcast_S4x2048x6_S4x2048x6x1_0_1_2 _ _ (ix3 (qr r) (mr r) (qc j)) (fun a => match a with
    | ⟨0, _⟩ => by show r.val / 2048 = if (4 : Nat) = 1 then 0 else r.val / 2048; rw [if_neg (by decide)]
    | ⟨1, _⟩ => by show r.val % 2048 = if (2048 : Nat) = 1 then 0 else r.val % 2048; rw [if_neg (by decide)]
    | ⟨2, _⟩ => by show j.val / 64 = if (6 : Nat) = 1 then 0 else j.val / 64; rw [if_neg (by decide)])).trans ?_
  exact transpose_apply _ y transposes_S4x6x2048_S4x2048x6_0_2_1 _ (ix3 (qr r) (qc j) (mr r)) (fun b => match b with
    | ⟨0, _⟩ => rfl
    | ⟨1, _⟩ => rfl
    | ⟨2, _⟩ => rfl)

theorem add_log (y z : S4x6x2048.Idx → EReal) (i : S4x6x2048.Idx) :
    (addf (F := Ideal) (φ := .f32) y (Host.log (F := Ideal) (φ := .f32) z) : S4x6x2048.Idx → EReal) i = y i + Ideal.log (z i) := rfl

/-- The log of a query's sum of exponentials, on the lanes of its head. -/
def lse (z : S4x6x2048x2048.Idx → EReal) : (sh 8192 384).Idx → EReal :=
  headLanes (addf (F := Ideal) (φ := .f32) (largest z) (Host.log (F := Ideal) (φ := .f32) (sums z)))

/-- The operations up to the logits, and those after them. -/
abbrev opsZ : List (HloOp τ sig (Elt Ideal)) := hostOps0 ++ hostOps0_1
abbrev opsR : List (HloOp τ sig (Elt Ideal)) := hostOps0_2 ++ (hostOps0_3 ++ (hostOps0_4 ++ hostOps0_5))

section
variable (S : Valuation τ sig (Elt Ideal))

theorem opsZ_v20 : after opsZ S main_v20 = val_main_v20_0 (F := Ideal) (S main_arg0) (S main_arg1) (S main_arg3) := by
  simp only [opsZ, hostOps0, hostOps0_1, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl

theorem opsZ_v2 : after opsZ S main_v2 = val_main_v2 (F := Ideal) (S main_arg2) := by
  simp only [opsZ, hostOps0, hostOps0_1, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl

theorem opsR_v32 : after opsR S main_v32 = attn (S main_v20) (S main_v2) := by
  simp only [opsR, hostOps0_2, hostOps0_3, hostOps0_4, hostOps0_5, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl

theorem opsR_v38 : after opsR S main_v38 = lse (S main_v20) := by
  simp only [opsR, hostOps0_2, hostOps0_3, hostOps0_4, hostOps0_5, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl
theorem opsZ_arg0 : after opsZ S main_arg0 = S main_arg0 := by
  simp only [opsZ, hostOps0, hostOps0_1, List.append_nil, List.cons_append,
    List.nil_append, TRef.binary, TRef.nullary, TRef.ternary, TRef.unary, TRef.toBuf, TRef.ofBuf, cast_eq]
  after_results_simp

theorem opsZ_arg1 : after opsZ S main_arg1 = S main_arg1 := by
  simp only [opsZ, hostOps0, hostOps0_1, List.append_nil, List.cons_append,
    List.nil_append, TRef.binary, TRef.nullary, TRef.ternary, TRef.unary, TRef.toBuf, TRef.ofBuf, cast_eq]
  after_results_simp

theorem opsZ_arg2 : after opsZ S main_arg2 = S main_arg2 := by
  simp only [opsZ, hostOps0, hostOps0_1, List.append_nil, List.cons_append,
    List.nil_append, TRef.binary, TRef.nullary, TRef.ternary, TRef.unary, TRef.toBuf, TRef.ofBuf, cast_eq]
  after_results_simp

theorem opsZ_arg3 : after opsZ S main_arg3 = S main_arg3 := by
  simp only [opsZ, hostOps0, hostOps0_1, List.append_nil, List.cons_append,
    List.nil_append, TRef.binary, TRef.nullary, TRef.ternary, TRef.unary, TRef.toBuf, TRef.ofBuf, cast_eq]
  after_results_simp

/-- The packed q, k and v. -/
theorem opsR_v44 : after opsR S main_v44 = pad S8192x3072 ![0, 0] ![0, 1920] ![0, 0]
      (shapeCast S8192x1152 (concatenate S8192x3x3x128 2
        [⟨S8192x3x1x128, shapeCast _ (S main_arg0 : (sh 8192 384).Idx → EReal) shapeCasts_S8192x384_S8192x3x1x128⟩, ⟨S8192x3x1x128, shapeCast _ (S main_arg1 : (sh 8192 384).Idx → EReal) shapeCasts_S8192x384_S8192x3x1x128⟩,
          ⟨S8192x3x1x128, shapeCast _ (S main_arg2 : (sh 8192 384).Idx → EReal) shapeCasts_S8192x384_S8192x3x1x128⟩] concatenates_S8192x3x1x128_S8192x3x1x128_S8192x3x1x128_S8192x3x3x128_d2)
          shapeCasts_S8192x3x3x128_S8192x1152)
      (sitofp (F := Ideal) .f32 (constantI S_ 32 0#32)) pads_S8192x1152_S8192x3072_000_019200 h_S_ := by
  simp only [opsR, hostOps0_2, hostOps0_3, hostOps0_4, hostOps0_5, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl

/-- The running sums, with lanes that nothing reads. -/
theorem opsR_v45 : after opsR S main_v45 = pad S8192x128 ![0, 0] ![0, 122] ![0, 0] (S main_arg3 : (sh 8192 6).Idx → EReal)
      (sitofp (F := Ideal) .f32 (constantI S_ 32 0#32)) pads_S8192x6_S8192x128_000_01220 h_S_ := by
  simp only [opsR, hostOps0_2, hostOps0_3, hostOps0_4, hostOps0_5, List.append_nil, List.cons_append,
    List.nil_append, TRef.binary, TRef.nullary, TRef.ternary, TRef.unary, TRef.toBuf, TRef.ofBuf, cast_eq]
  after_results_simp <;> (try dsimp only [Matrix.cons_val]) <;> (try after_results_simp) <;> rfl

end

theorem largest_eq (x0 x1 : (sh 8192 384).Idx → EReal) (x3 : (sh 8192 6).Idx → EReal) :
    largest (val_main_v20_0 (F := Ideal) x0 x1 x3) = val_main_v21 (F := Ideal) x0 x1 x3 := by
  unfold val_main_v21 largest
  rfl

theorem exps_eq (x0 x1 : (sh 8192 384).Idx → EReal) (x3 : (sh 8192 6).Idx → EReal) :
    exps (val_main_v20_0 (F := Ideal) x0 x1 x3) = val_main_v41 (F := Ideal) x0 x1 x3 := by
  unfold val_main_v41 val_main_v40 val_main_v39 val_main_v38 exps
  rw [v28_eq, largest_eq]

theorem sums_eq (x0 x1 : (sh 8192 384).Idx → EReal) (x3 : (sh 8192 6).Idx → EReal) :
    sums (val_main_v20_0 (F := Ideal) x0 x1 x3) = val_main_v42 (F := Ideal) x0 x1 x3 := by
  unfold val_main_v42 sums
  rw [exps_eq]
  rfl

theorem attn_eq (x0 x1 x2 : (sh 8192 384).Idx → EReal) (x3 : (sh 8192 6).Idx → EReal) :
    attn (val_main_v20_0 (F := Ideal) x0 x1 x3) (val_main_v2 (F := Ideal) x2) = val_main_v51 (F := Ideal) x0 x1 x2 x3 := by
  unfold val_main_v51 val_main_v50 val_main_v49 val_main_v45 val_main_v44 val_main_v43 attn
  rw [exps_eq, sums_eq]
  rfl

variable (m : (ℓ : Loc nD τ sig) → Buf (Elt Ideal) ℓ) (c : Dev nD)

/-- The arguments on a device. -/
abbrev a0 : (sh 8192 384).Idx → EReal := m ((c : Thread nD τ).loc main_arg0)
abbrev a1 : (sh 8192 384).Idx → EReal := m ((c : Thread nD τ).loc main_arg1)
abbrev a2 : (sh 8192 384).Idx → EReal := m ((c : Thread nD τ).loc main_arg2)
abbrev a3 : (sh 8192 6).Idx → EReal := m ((c : Thread nD τ).loc main_arg3)
abbrev a4 : (sh 8192 384).Idx → EReal := m ((c : Thread nD τ).loc main_arg4)

theorem V_split (b : Ref sig .tc) : V m c b = after opsR (after opsZ (fun b => m (c, b))) b := by
  rw [← after_append]
  exact congrArg (fun l => after l (fun b => m (c, b)) b) (by
    simp only [opsZ, opsR, List.flatten_cons, List.flatten_nil, List.append_nil, List.append_assoc])

/-- The packed q, k and v. -/
theorem V_v44 : V m c main_v44 = pad S8192x3072 ![0, 0] ![0, 1920] ![0, 0]
      (shapeCast S8192x1152 (concatenate S8192x3x3x128 2
        [⟨S8192x3x1x128, shapeCast _ (a0 m c) shapeCasts_S8192x384_S8192x3x1x128⟩, ⟨S8192x3x1x128, shapeCast _ (a1 m c) shapeCasts_S8192x384_S8192x3x1x128⟩,
          ⟨S8192x3x1x128, shapeCast _ (a2 m c) shapeCasts_S8192x384_S8192x3x1x128⟩] concatenates_S8192x3x1x128_S8192x3x1x128_S8192x3x1x128_S8192x3x3x128_d2)
          shapeCasts_S8192x3x3x128_S8192x1152)
      (sitofp (F := Ideal) .f32 (constantI S_ 32 0#32)) pads_S8192x1152_S8192x3072_000_019200 h_S_ := by
  rw [V_split, opsR_v44, opsZ_arg0, opsZ_arg1, opsZ_arg2]

/-- The running sums, with lanes that nothing reads. -/
theorem V_v45 : V m c main_v45 = pad S8192x128 ![0, 0] ![0, 122] ![0, 0] (a3 m c)
      (sitofp (F := Ideal) .f32 (constantI S_ 32 0#32)) pads_S8192x6_S8192x128_000_01220 h_S_ := by
  rw [V_split, opsR_v45, opsZ_arg3]

/-- The output of the attention is the reference's. -/
theorem V_v32 : V m c main_v32 = val_main_v51 (F := Ideal) (a0 m c) (a1 m c) (a2 m c) (a3 m c) := by
  rw [V_split, opsR_v32, opsZ_v20, opsZ_v2]
  exact attn_eq _ _ _ _

/-- The log of the sums of exponentials. -/
theorem V_v38 : V m c main_v38 = lse (val_main_v20_0 (F := Ideal) (a0 m c) (a1 m c) (a3 m c)) := by
  rw [V_split, opsR_v38, opsZ_v20]

namespace Args.Are

variable {A : Args} {x0 x1 x2 x4 : (sh 8192 384).Idx → EReal} {x3 : (sh 8192 6).Idx → EReal}

/-- The output of the attention. -/
theorem v51 (H : A.Are x0 x1 x2 x3 x4) (r : Fin 8192) (j : Fin 384) :
    val_main_v51 (F := Ideal) x0 x1 x2 x3 (ix2 r j) = ((A.hd (r / 2048) (j / 64)).o (r % 2048) (j % 64) : EReal) := by
  refine (val_main_v51_apply (F := Ideal) x0 x1 x2 x3 _).trans ((val_main_v50_apply (F := Ideal) x0 x1 x2 x3 _).trans
    (rd (j := ix4 (qr r) (qc j) (mc j) (mr r)) ?_ (ext4 ?_ ?_ ?_ ?_)))
  · rw [val_main_v49_apply, Hd.o]
    refine sum_fin fun s => ?_
    rw [show lidx_main_v49 (ix4 (qr r) (qc j) (mc j) (mr r)) s = ix4 (qr r) s (qc j) (mc j) from ext4 rfl rfl rfl rfl,
      show ridx_main_v49 (ix4 (qr r) (qc j) (mc j) (mr r)) s = ix4 (qr r) (qc j) (mr r) s from ext4 rfl rfl rfl rfl, H.v2, H.v45, ← EReal.coe_mul, mul_comm]
  · show (r.val * 384 + j.val) / 786432 = r.val / 2048; omega
  · show (r.val * 384 + j.val) / 64 % 6 = j.val / 64; omega
  · show (r.val * 384 + j.val) % 64 = j.val % 64; omega
  · show (r.val * 384 + j.val) / 384 % 2048 = r.val % 2048; omega

/-- The log of the sum of the exponentials of a query's logits. -/
theorem lse (H : A.Are x0 x1 x2 x3 x4) (r : Fin 8192) (j : Fin 384) :
    Cert.Fox.lse (val_main_v20_0 (F := Ideal) x0 x1 x3) (ix2 r j) = (Real.log ((A.hd (r / 2048) (j / 64)).Z (r % 2048)) : EReal) := by
  have h0 : r.val % 2048 < 2048 := Nat.mod_lt _ (by norm_num)
  unfold Cert.Fox.lse
  rw [sums_eq, largest_eq, headLanes_apply, add_log, H.v21, H.v42]
  refine (congrArg (fun y : EReal => (mx x0 x1 x3 (qr r) (qc j) (mr r) : EReal) + y) (Ideal.log_coe _)).trans ?_
  rw [if_neg (not_le.mpr (L_pos _ _ _ _)), ← EReal.coe_add, Hd.lse_shift _ _ h0]

/-- The packed q, k and v on the kernel's side. -/
theorem packed (H : A.Are x0 x1 x2 x3 x4) (v : S_.Idx → EReal) (r : Fin 8192) (j : Fin 3072) (hj : j.val < 1152) :
    pad S8192x3072 ![0, 0] ![0, 1920] ![0, 0] (shapeCast S8192x1152 (concatenate S8192x3x3x128 2
        [⟨S8192x3x1x128, shapeCast _ x0 shapeCasts_S8192x384_S8192x3x1x128⟩, ⟨S8192x3x1x128, shapeCast _ x1 shapeCasts_S8192x384_S8192x3x1x128⟩,
          ⟨S8192x3x1x128, shapeCast _ x2 shapeCasts_S8192x384_S8192x3x1x128⟩] concatenates_S8192x3x1x128_S8192x3x1x128_S8192x3x1x128_S8192x3x3x128_d2)
          shapeCasts_S8192x3x3x128_S8192x1152) v pads_S8192x1152_S8192x3072_000_019200 h_S_ (ix2 r j)
      = ((if j.val % 384 < 128 then A.q r (128 * (j / 384) + j % 128) else if j.val % 384 < 256 then A.k r (128 * (j / 384) + j % 128)
          else A.v r (128 * (j / 384) + j % 128) : ℝ) : EReal) := by
  refine (packed_apply x0 x1 x2 v _ _ _ _ _ _ _ r j hj).trans ?_
  split_ifs
  · exact H.q _ _
  · exact H.k _ _
  · exact H.v _ _

/-- The running sums on the kernel's side. -/
theorem sumsC (H : A.Are x0 x1 x2 x3 x4) (v : S_.Idx → EReal) (r : Fin 8192) (j : Fin 128) (hj : j.val < 6) :
    pad S8192x128 ![0, 0] ![0, 122] ![0, 0] x3 v pads_S8192x6_S8192x128_000_01220 h_S_ (ix2 r j) = (A.c r j : EReal) :=
  (pad_apply_of_inside _ _ _ x3 v _ _ (ix2 r j) (ix2 r ⟨j.val, hj⟩) (fun a => match a with
    | ⟨0, _⟩ => by show r.val = 0 + r.val * (0 + 1); omega
    | ⟨1, _⟩ => by show j.val = 0 + j.val * (0 + 1); omega)).trans (H.c r ⟨j.val, hj⟩)

end Args.Are

end Cert.Fox
-- ==== Proof.Final.lean ====
/- The arrays that the run leaves: the gradients of q, k, v and of the running sums. -/
module

public import proofs.«01_k».proof.Proof.Host
public import Idealize.ShloMosaic.Lib.Pipeline.ValueKit

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open Cert.ReferenceIdeal.Read
open scoped BigOperators

namespace Cert.Fox

open Cert.KernelIdeal Cert.KernelIdeal.Gen Cert.KernelIdeal.Value

variable (m : (ℓ : Loc nD τ sig) → Buf (Elt Ideal) ℓ) (c : Dev nD)

/-- The blocks of a grid point: the sequence, and the pair of heads. -/
theorem index_eq : ∀ t : Fin grid0.N,
    win0_0.index t = ![(grid0.coords t 0).val, 3 * (grid0.coords t 1).val]
    ∧ win0_1.index t = ![(grid0.coords t 0).val, 3 * (grid0.coords t 1).val + 1]
    ∧ win0_2.index t = ![(grid0.coords t 0).val, 3 * (grid0.coords t 1).val + 2]
    ∧ win0_3.index t = ![(grid0.coords t 0).val, 0]
    ∧ win0_4.index t = ![(grid0.coords t 0).val, (grid0.coords t 1).val]
    ∧ win0_5.index t = ![(grid0.coords t 0).val, (grid0.coords t 1).val]
    ∧ win0_6.index t = ![(grid0.coords t 0).val, (grid0.coords t 1).val]
    ∧ win0_7.index t = ![(grid0.coords t 0).val, (grid0.coords t 1).val]
    ∧ win0_8.index t = ![(grid0.coords t 0).val, (grid0.coords t 1).val] := by decide +kernel

/-- Every sequence and every pair of heads has its point. -/
theorem point : ∀ (b : Fin 4) (p : Fin 3), ∃ t : Fin grid0.N, (grid0.coords t 0).val = b.val ∧ (grid0.coords t 1).val = p.val := by decide +kernel

theorem seq_lt (t : Fin grid0.N) : (grid0.coords t 0).val < 4 := (grid0.coords t 0).isLt
theorem pair_lt (t : Fin grid0.N) : (grid0.coords t 1).val < 3 := (grid0.coords t 1).isLt

theorem read0 (X : (Pipeline.arrRef spec0 0).ty.Contents (Elt Ideal)) (t : Fin grid0.N) (r : Fin 2048) (l : Fin 128) :
    (((cfg0.win 0).blk t).view.read (Elt Ideal) X : (sh 2048 128).Idx → EReal) (ix2 r l) = (X : (sh 8192 3072).Idx → EReal) (ix2 (⟨2048 * (grid0.coords t 0).val + r.val, by have := seq_lt t; omega⟩ : Fin 8192)
      (⟨384 * (grid0.coords t 1).val + l.val, by have := pair_lt t; omega⟩ : Fin 3072)) := by
  refine congrArg X (ext2 ?_ ?_)
  · blk_simp [(index_eq t).1]
    show (grid0.coords t 0).val * 2048 + r.val = 2048 * (grid0.coords t 0).val + r.val
    omega
  · blk_simp [(index_eq t).1]
    show 3 * (grid0.coords t 1).val * 128 + l.val = 384 * (grid0.coords t 1).val + l.val
    omega

theorem read1 (X : (Pipeline.arrRef spec0 1).ty.Contents (Elt Ideal)) (t : Fin grid0.N) (r : Fin 2048) (l : Fin 128) :
    (((cfg0.win 1).blk t).view.read (Elt Ideal) X : (sh 2048 128).Idx → EReal) (ix2 r l) = (X : (sh 8192 3072).Idx → EReal) (ix2 (⟨2048 * (grid0.coords t 0).val + r.val, by have := seq_lt t; omega⟩ : Fin 8192)
      (⟨384 * (grid0.coords t 1).val + 128 + l.val, by have := pair_lt t; omega⟩ : Fin 3072)) := by
  refine congrArg X (ext2 ?_ ?_)
  · blk_simp [(index_eq t).2.1]
    show (grid0.coords t 0).val * 2048 + r.val = 2048 * (grid0.coords t 0).val + r.val
    omega
  · blk_simp [(index_eq t).2.1]
    show (3 * (grid0.coords t 1).val + 1) * 128 + l.val = 384 * (grid0.coords t 1).val + 128 + l.val
    omega

theorem read2 (X : (Pipeline.arrRef spec0 2).ty.Contents (Elt Ideal)) (t : Fin grid0.N) (r : Fin 2048) (l : Fin 128) :
    (((cfg0.win 2).blk t).view.read (Elt Ideal) X : (sh 2048 128).Idx → EReal) (ix2 r l) = (X : (sh 8192 3072).Idx → EReal) (ix2 (⟨2048 * (grid0.coords t 0).val + r.val, by have := seq_lt t; omega⟩ : Fin 8192)
      (⟨384 * (grid0.coords t 1).val + 256 + l.val, by have := pair_lt t; omega⟩ : Fin 3072)) := by
  refine congrArg X (ext2 ?_ ?_)
  · blk_simp [(index_eq t).2.2.1]
    show (grid0.coords t 0).val * 2048 + r.val = 2048 * (grid0.coords t 0).val + r.val
    omega
  · blk_simp [(index_eq t).2.2.1]
    show (3 * (grid0.coords t 1).val + 2) * 128 + l.val = 384 * (grid0.coords t 1).val + 256 + l.val
    omega

theorem read3 (X : (Pipeline.arrRef spec0 3).ty.Contents (Elt Ideal)) (t : Fin grid0.N) (r : Fin 2048) (l : Fin 128) :
    (((cfg0.win 3).blk t).view.read (Elt Ideal) X : (sh 2048 128).Idx → EReal) (ix2 r l) = (X : (sh 8192 128).Idx → EReal) (ix2 (⟨2048 * (grid0.coords t 0).val + r.val, by have := seq_lt t; omega⟩ : Fin 8192)
      l) := by
  refine congrArg X (ext2 ?_ ?_)
  · blk_simp [(index_eq t).2.2.2.1]
    show (grid0.coords t 0).val * 2048 + r.val = 2048 * (grid0.coords t 0).val + r.val
    omega
  · blk_simp [(index_eq t).2.2.2.1]

theorem read4 (X : (Pipeline.arrRef spec0 4).ty.Contents (Elt Ideal)) (t : Fin grid0.N) (r : Fin 2048) (l : Fin 128) :
    (((cfg0.win 4).blk t).view.read (Elt Ideal) X : (sh 2048 128).Idx → EReal) (ix2 r l) = (X : (sh 8192 384).Idx → EReal) (ix2 (⟨2048 * (grid0.coords t 0).val + r.val, by have := seq_lt t; omega⟩ : Fin 8192)
      (⟨128 * (grid0.coords t 1).val + l.val, by have := pair_lt t; omega⟩ : Fin 384)) := by
  refine congrArg X (ext2 ?_ ?_)
  · blk_simp [(index_eq t).2.2.2.2.1]
    show (grid0.coords t 0).val * 2048 + r.val = 2048 * (grid0.coords t 0).val + r.val
    omega
  · blk_simp [(index_eq t).2.2.2.2.1]
    show (grid0.coords t 1).val * 128 + l.val = 128 * (grid0.coords t 1).val + l.val
    omega

theorem read5 (X : (Pipeline.arrRef spec0 5).ty.Contents (Elt Ideal)) (t : Fin grid0.N) (r : Fin 2048) (l : Fin 128) :
    (((cfg0.win 5).blk t).view.read (Elt Ideal) X : (sh 2048 128).Idx → EReal) (ix2 r l) = (X : (sh 8192 384).Idx → EReal) (ix2 (⟨2048 * (grid0.coords t 0).val + r.val, by have := seq_lt t; omega⟩ : Fin 8192)
      (⟨128 * (grid0.coords t 1).val + l.val, by have := pair_lt t; omega⟩ : Fin 384)) := by
  refine congrArg X (ext2 ?_ ?_)
  · blk_simp [(index_eq t).2.2.2.2.2.1]
    show (grid0.coords t 0).val * 2048 + r.val = 2048 * (grid0.coords t 0).val + r.val
    omega
  · blk_simp [(index_eq t).2.2.2.2.2.1]
    show (grid0.coords t 1).val * 128 + l.val = 128 * (grid0.coords t 1).val + l.val
    omega

theorem read6 (X : (Pipeline.arrRef spec0 6).ty.Contents (Elt Ideal)) (t : Fin grid0.N) (r : Fin 2048) (l : Fin 128) :
    (((cfg0.win 6).blk t).view.read (Elt Ideal) X : (sh 2048 128).Idx → EReal) (ix2 r l) = (X : (sh 8192 384).Idx → EReal) (ix2 (⟨2048 * (grid0.coords t 0).val + r.val, by have := seq_lt t; omega⟩ : Fin 8192)
      (⟨128 * (grid0.coords t 1).val + l.val, by have := pair_lt t; omega⟩ : Fin 384)) := by
  refine congrArg X (ext2 ?_ ?_)
  · blk_simp [(index_eq t).2.2.2.2.2.2.1]
    show (grid0.coords t 0).val * 2048 + r.val = 2048 * (grid0.coords t 0).val + r.val
    omega
  · blk_simp [(index_eq t).2.2.2.2.2.2.1]
    show (grid0.coords t 1).val * 128 + l.val = 128 * (grid0.coords t 1).val + l.val
    omega

theorem block7 (t : Fin grid0.N) (r : Fin 2048) (j : Fin 384) :
    (dats m 0 c).arrAt 7 cfg0.N (ix2 (⟨2048 * (grid0.coords t 0).val + r.val, by have := seq_lt t; omega⟩ : Fin 8192)
      (⟨384 * (grid0.coords t 1).val + j.val, by have := pair_lt t; omega⟩ : Fin 3072))
    = ((dats m 0 c).flushed 7 t : (sh 2048 384).Idx → EReal) (ix2 r j) := by
  refine Eq.trans ?_ (congrFun (blocks7 m c t (flush0_7 t)) (ix2 r j))
  refine congrArg ((dats m 0 c).arrAt 7 cfg0.N) (ext2 ?_ ?_)
  · blk_simp [(index_eq t).2.2.2.2.2.2.2.1]
    show 2048 * (grid0.coords t 0).val + r.val = (grid0.coords t 0).val * 2048 + r.val
    omega
  · blk_simp [(index_eq t).2.2.2.2.2.2.2.1]
    show 384 * (grid0.coords t 1).val + j.val = (grid0.coords t 1).val * 384 + j.val
    omega

theorem block8 (t : Fin grid0.N) (r : Fin 2048) (j : Fin 128) :
    (dats m 0 c).arrAt 8 cfg0.N (ix2 (⟨2048 * (grid0.coords t 0).val + r.val, by have := seq_lt t; omega⟩ : Fin 8192)
      (⟨128 * (grid0.coords t 1).val + j.val, by have := pair_lt t; omega⟩ : Fin 384))
    = ((dats m 0 c).flushed 8 t : (sh 2048 128).Idx → EReal) (ix2 r j) := by
  refine Eq.trans ?_ (congrFun (blocks8 m c t (flush0_8 t)) (ix2 r j))
  refine congrArg ((dats m 0 c).arrAt 8 cfg0.N) (ext2 ?_ ?_)
  · blk_simp [(index_eq t).2.2.2.2.2.2.2.2]
    show 2048 * (grid0.coords t 0).val + r.val = (grid0.coords t 0).val * 2048 + r.val
    omega
  · blk_simp [(index_eq t).2.2.2.2.2.2.2.2]
    show 128 * (grid0.coords t 1).val + j.val = (grid0.coords t 1).val * 128 + j.val
    omega

/-- What a grid point works on. -/
def env (t : Fin grid0.N) : Env := ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, scM0_0, Memref.isWhole_whole _, scM0_1, Memref.isWhole_whole _, scM0_2, Memref.isWhole_whole _, scM0_3, Memref.isWhole_whole _, scM0_4, Memref.isWhole_whole _, scM0_5, Memref.isWhole_whole _, scM0_6, Memref.isWhole_whole _, scM0_7, Memref.isWhole_whole _, scM0_8, Memref.isWhole_whole _, scM0_9, Memref.isWhole_whole _, scM0_10, Memref.isWhole_whole _, iblk m c 0 t, iblk m c 1 t, iblk m c 2 t, iblk m c 3 t, iblk m c 4 t, iblk m c 5 t, iblk m c 6 t⟩

/-- What the point leaves in its block of an output. -/
theorem flushed7_eq (t : Fin grid0.N) : ((dats m 0 c).flushed 7 t : (sh 2048 384).Idx → EReal) = (cfg0.win 7).cut (grid0.coords t) (View.canon ((env m c t).run.1)) := by
  rw [flushed7_A]
  unfold out0_A_7 Env.run env
  rw [View.read_writes_junk_eq_canon]

theorem cut7 (X : (sh 2048 384).Idx → EReal) (t : Fin grid0.N) (r : Fin 2048) (j : Fin 384) :
    ((cfg0.win 7).cut (α := EReal) (grid0.coords t) X : (sh 2048 384).Idx → EReal) (ix2 r j) = X (ix2 r j) := rfl

/-- What the point leaves in its block of an output. -/
theorem flushed8_eq (t : Fin grid0.N) : ((dats m 0 c).flushed 8 t : (sh 2048 128).Idx → EReal) = (cfg0.win 8).cut (grid0.coords t) (View.canon ((env m c t).run.2.1)) := by
  rw [flushed8_A]
  unfold out0_A_8 Env.run env
  rw [View.read_writes_junk_eq_canon]

theorem cut8 (X : (sh 2048 128).Idx → EReal) (t : Fin grid0.N) (r : Fin 2048) (j : Fin 128) :
    ((cfg0.win 8).cut (α := EReal) (grid0.coords t) X : (sh 2048 128).Idx → EReal) (ix2 r j) = X (ix2 r j) := rfl

theorem flushed7_at (t : Fin grid0.N) (r : Fin 2048) (j : Fin 384) :
    ((dats m 0 c).flushed 7 t : (sh 2048 384).Idx → EReal) (ix2 r j) = at2 (View.canon ((env m c t).run.1 : Writes 2048 384 .bf16)) r j := by
  rw [flushed7_eq, cut7, at2_ix2]

theorem flushed8_at (t : Fin grid0.N) (r : Fin 2048) (j : Fin 128) :
    ((dats m 0 c).flushed 8 t : (sh 2048 128).Idx → EReal) (ix2 r j) = at2 (View.canon ((env m c t).run.2.1 : Writes 2048 128 .f32)) r j := by
  rw [flushed8_eq, cut8, at2_ix2]

variable {A : Args} (H : A.Are (a0 m c) (a1 m c) (a2 m c) (a3 m c) (a4 m c))
include H

theorem block_q (t : Fin grid0.N) (t' : ℕ) (ht : t' < 2048) (l : ℕ) (hl : l < 128) :
    at2 (iblk m c 0 t : (sh 2048 128).Idx → EReal) t' l = (((A.hd (grid0.coords t 0).val (2 * (grid0.coords t 1).val + l / 64)).q t' (l % 64) : ℝ) : EReal) := by
  have hb := seq_lt t
  have hp := pair_lt t
  rw [at2_of_lt _ ht hl]
  refine (read0 (V m c (Pipeline.arrRef spec0 0)) t ⟨t', ht⟩ ⟨l, hl⟩).trans ((congrFun (V_v44 m c) _).trans ((H.packed _ _ _ (by show 384 * (grid0.coords t 1).val + l < 1152; omega)).trans ?_))
  refine congrArg _ ?_
  show (if (384 * (grid0.coords t 1).val + l) % 384 < 128 then _ else if (384 * (grid0.coords t 1).val + l) % 384 < 256 then _ else _) = A.q (2048 * (grid0.coords t 0).val + t') (64 * (2 * (grid0.coords t 1).val + l / 64) + l % 64)
  rw [if_pos (by omega)]
  exact congrArg (A.q (2048 * (grid0.coords t 0).val + t')) (by show 128 * ((384 * (grid0.coords t 1).val + l) / 384) + (384 * (grid0.coords t 1).val + l) % 128 = _; omega)

theorem block_k (t : Fin grid0.N) (t' : ℕ) (ht : t' < 2048) (l : ℕ) (hl : l < 128) :
    at2 (iblk m c 1 t : (sh 2048 128).Idx → EReal) t' l = (((A.hd (grid0.coords t 0).val (2 * (grid0.coords t 1).val + l / 64)).k t' (l % 64) : ℝ) : EReal) := by
  have hb := seq_lt t
  have hp := pair_lt t
  rw [at2_of_lt _ ht hl]
  refine (read1 (V m c (Pipeline.arrRef spec0 1)) t ⟨t', ht⟩ ⟨l, hl⟩).trans ((congrFun (V_v44 m c) _).trans ((H.packed _ _ _ (by show 384 * (grid0.coords t 1).val + 128 + l < 1152; omega)).trans ?_))
  refine congrArg _ ?_
  show (if (384 * (grid0.coords t 1).val + 128 + l) % 384 < 128 then _ else if (384 * (grid0.coords t 1).val + 128 + l) % 384 < 256 then _ else _) = A.k (2048 * (grid0.coords t 0).val + t') (64 * (2 * (grid0.coords t 1).val + l / 64) + l % 64)
  rw [if_neg (by omega), if_pos (by omega)]
  exact congrArg (A.k (2048 * (grid0.coords t 0).val + t')) (by show 128 * ((384 * (grid0.coords t 1).val + 128 + l) / 384) + (384 * (grid0.coords t 1).val + 128 + l) % 128 = _; omega)

theorem block_v (t : Fin grid0.N) (t' : ℕ) (ht : t' < 2048) (l : ℕ) (hl : l < 128) :
    at2 (iblk m c 2 t : (sh 2048 128).Idx → EReal) t' l = (((A.hd (grid0.coords t 0).val (2 * (grid0.coords t 1).val + l / 64)).v t' (l % 64) : ℝ) : EReal) := by
  have hb := seq_lt t
  have hp := pair_lt t
  rw [at2_of_lt _ ht hl]
  refine (read2 (V m c (Pipeline.arrRef spec0 2)) t ⟨t', ht⟩ ⟨l, hl⟩).trans ((congrFun (V_v44 m c) _).trans ((H.packed _ _ _ (by show 384 * (grid0.coords t 1).val + 256 + l < 1152; omega)).trans ?_))
  refine congrArg _ ?_
  show (if (384 * (grid0.coords t 1).val + 256 + l) % 384 < 128 then _ else if (384 * (grid0.coords t 1).val + 256 + l) % 384 < 256 then _ else _) = A.v (2048 * (grid0.coords t 0).val + t') (64 * (2 * (grid0.coords t 1).val + l / 64) + l % 64)
  rw [if_neg (by omega), if_neg (by omega)]
  exact congrArg (A.v (2048 * (grid0.coords t 0).val + t')) (by show 128 * ((384 * (grid0.coords t 1).val + 256 + l) / 384) + (384 * (grid0.coords t 1).val + 256 + l) % 128 = _; omega)

theorem block_c (t : Fin grid0.N) (t' : ℕ) (ht : t' < 2048) (e : ℕ) (he : e < 2) :
    at2 (iblk m c 3 t : (sh 2048 128).Idx → EReal) t' (2 * (grid0.coords t 1).val + e) = (((A.hd (grid0.coords t 0).val (2 * (grid0.coords t 1).val + e)).c t' : ℝ) : EReal) := by
  have hb := seq_lt t
  have hp := pair_lt t
  rw [at2_of_lt _ ht (show 2 * (grid0.coords t 1).val + e < 128 by omega)]
  exact (read3 (V m c (Pipeline.arrRef spec0 3)) t ⟨t', ht⟩ ⟨_, by omega⟩).trans ((congrFun (V_v45 m c) _).trans
    (H.sumsC _ _ _ (by show 2 * (grid0.coords t 1).val + e < 6; omega)))

theorem block_o (t : Fin grid0.N) (t' : ℕ) (ht : t' < 2048) (l : ℕ) (hl : l < 128) :
    at2 (iblk m c 4 t : (sh 2048 128).Idx → EReal) t' l = (((A.hd (grid0.coords t 0).val (2 * (grid0.coords t 1).val + l / 64)).o t' (l % 64) : ℝ) : EReal) := by
  have hb := seq_lt t
  have hp := pair_lt t
  rw [at2_of_lt _ ht hl]
  refine (read4 (V m c (Pipeline.arrRef spec0 4)) t ⟨t', ht⟩ ⟨l, hl⟩).trans ((congrFun (V_v32 m c) _).trans ((H.v51 _ _).trans ?_))
  refine congrArg _ ?_
  show (A.hd ((2048 * (grid0.coords t 0).val + t') / 2048) ((128 * (grid0.coords t 1).val + l) / 64)).o ((2048 * (grid0.coords t 0).val + t') % 2048) ((128 * (grid0.coords t 1).val + l) % 64) = _
  rw [show (2048 * (grid0.coords t 0).val + t') / 2048 = (grid0.coords t 0).val by omega, show (128 * (grid0.coords t 1).val + l) / 64 = 2 * (grid0.coords t 1).val + l / 64 by omega,
    show (2048 * (grid0.coords t 0).val + t') % 2048 = t' by omega, show (128 * (grid0.coords t 1).val + l) % 64 = l % 64 by omega]

theorem block_z (t : Fin grid0.N) (t' : ℕ) (ht : t' < 2048) (e : ℕ) (he : e < 2) :
    at2 (iblk m c 5 t : (sh 2048 128).Idx → EReal) t' (64 * e) = ((Real.log ((A.hd (grid0.coords t 0).val (2 * (grid0.coords t 1).val + e)).Z t') : ℝ) : EReal) := by
  have hb := seq_lt t
  have hp := pair_lt t
  rw [at2_of_lt _ ht (show 64 * e < 128 by omega)]
  refine (read5 (V m c (Pipeline.arrRef spec0 5)) t ⟨t', ht⟩ ⟨64 * e, by omega⟩).trans ((congrFun (V_v38 m c) _).trans ((H.lse _ _).trans ?_))
  refine congrArg _ ?_
  show Real.log ((A.hd ((2048 * (grid0.coords t 0).val + t') / 2048) ((128 * (grid0.coords t 1).val + 64 * e) / 64)).Z ((2048 * (grid0.coords t 0).val + t') % 2048)) = _
  rw [show (2048 * (grid0.coords t 0).val + t') / 2048 = (grid0.coords t 0).val by omega, show (128 * (grid0.coords t 1).val + 64 * e) / 64 = 2 * (grid0.coords t 1).val + e by omega,
    show (2048 * (grid0.coords t 0).val + t') % 2048 = t' by omega]

theorem block_d (t : Fin grid0.N) (t' : ℕ) (ht : t' < 2048) (l : ℕ) (hl : l < 128) :
    at2 (iblk m c 6 t : (sh 2048 128).Idx → EReal) t' l = (((A.hd (grid0.coords t 0).val (2 * (grid0.coords t 1).val + l / 64)).d t' (l % 64) : ℝ) : EReal) := by
  have hb := seq_lt t
  have hp := pair_lt t
  rw [at2_of_lt _ ht hl]
  refine (read6 (V m c (Pipeline.arrRef spec0 6)) t ⟨t', ht⟩ ⟨l, hl⟩).trans ((congrFun (V_main_arg4 m c) _).trans ((H.d _ _).trans ?_))
  refine congrArg _ ?_
  show A.d (2048 * (grid0.coords t 0).val + t') (128 * (grid0.coords t 1).val + l) = A.d (2048 * (grid0.coords t 0).val + t') (64 * (2 * (grid0.coords t 1).val + l / 64) + l % 64)
  exact congrArg _ (by omega)

/-- A grid point works on the real numbers of two heads of one sequence. -/
theorem env_reals (t : Fin grid0.N) : (env m c t).Reals fun e => A.hd (grid0.coords t 0).val (2 * (grid0.coords t 1).val + e) := by
  have hi : (env m c t).i = grid0.coords t := by unfold env; rfl
  have h0 : (env m c t).x0 = iblk m c 0 t := by unfold env; rfl
  have h1 : (env m c t).x1 = iblk m c 1 t := by unfold env; rfl
  have h2 : (env m c t).x2 = iblk m c 2 t := by unfold env; rfl
  have h3 : (env m c t).x3 = iblk m c 3 t := by unfold env; rfl
  have h4 : (env m c t).x4 = iblk m c 4 t := by unfold env; rfl
  have h5 : (env m c t).x5 = iblk m c 5 t := by unfold env; rfl
  have h6 : (env m c t).x6 = iblk m c 6 t := by unfold env; rfl
  generalize env m c t = E at *
  constructor
  · rw [h0]; exact block_q m c H t
  · rw [h1]; exact block_k m c H t
  · rw [h2]; exact block_v m c H t
  · rw [hi]; exact pair_lt t
  · rw [h3, hi]; exact block_c m c H t
  · rw [h4]; exact block_o m c H t
  · rw [h5]; exact block_z m c H t
  · rw [h6]; exact block_d m c H t

/-- The packed gradients of q, k and v. -/
theorem arr7 (r : Fin 8192) (j : Fin 3072) (hj : j.val < 1152) : (dats m 0 c).arrAt 7 cfg0.N (ix2 r j) = (A.grads r j : EReal) := by
  obtain ⟨t, h0, h1⟩ := point (⟨r.val / 2048, by omega⟩ : Fin 4) (⟨j.val / 384, by omega⟩ : Fin 3)
  have h0 : (grid0.coords t 0).val = r.val / 2048 := h0
  have h1 : (grid0.coords t 1).val = j.val / 384 := h1
  have hr := r.isLt
  have hm : r.val % 2048 < 2048 := by omega
  have e := block7 m c t ⟨r.val % 2048, hm⟩ ⟨j.val % 384, by omega⟩
  rw [flushed7_at, (env_reals m c H t).out7 hm (by show j.val % 384 < 384; omega)] at e
  refine (congrArg ((dats m 0 c).arrAt 7 cfg0.N) (ext2 ?_ ?_)).trans (e.trans (congrArg _ ?_))
  · show r.val = 2048 * (grid0.coords t 0).val + r.val % 2048; omega
  · show j.val = 384 * (grid0.coords t 1).val + j.val % 384; omega
  · show (if j.val % 384 < 128 then (A.hd (grid0.coords t 0).val (2 * (grid0.coords t 1).val + j.val % 384 % 128 / 64)).dq (r.val % 2048) (j.val % 384 % 64)
      else if j.val % 384 < 256 then (A.hd (grid0.coords t 0).val (2 * (grid0.coords t 1).val + j.val % 384 % 128 / 64)).dk (r.val % 2048) (j.val % 384 % 64)
      else (A.hd (grid0.coords t 0).val (2 * (grid0.coords t 1).val + j.val % 384 % 128 / 64)).dv (r.val % 2048) (j.val % 384 % 64)) = A.grads r j
    rw [h0, h1, show j.val % 384 % 128 = j.val % 128 by omega, show j.val % 384 % 64 = j.val % 64 by omega]
    rfl

/-- The gradients of the running sums. -/
theorem arr8 (r : Fin 8192) (j : Fin 384) : (dats m 0 c).arrAt 8 cfg0.N (ix2 r j) = (A.dcs r j : EReal) := by
  obtain ⟨t, h0, h1⟩ := point (⟨r.val / 2048, by omega⟩ : Fin 4) (⟨j.val / 128, by omega⟩ : Fin 3)
  have h0 : (grid0.coords t 0).val = r.val / 2048 := h0
  have h1 : (grid0.coords t 1).val = j.val / 128 := h1
  have hr := r.isLt
  have hm : r.val % 2048 < 2048 := by omega
  have e := block8 m c t ⟨r.val % 2048, hm⟩ ⟨j.val % 128, by omega⟩
  rw [flushed8_at, (env_reals m c H t).out8 hm (by show j.val % 128 < 128; omega)] at e
  refine (congrArg ((dats m 0 c).arrAt 8 cfg0.N) (ext2 ?_ ?_)).trans (e.trans (congrArg _ ?_))
  · show r.val = 2048 * (grid0.coords t 0).val + r.val % 2048; omega
  · show j.val = 128 * (grid0.coords t 1).val + j.val % 128; omega
  · show (A.hd (grid0.coords t 0).val (2 * (grid0.coords t 1).val + j.val % 128 / 64)).dc (r.val % 2048) = (A.hd (r.val / 2048) (j.val / 64)).dc (r.val % 2048)
    rw [h0, h1, show 2 * (j.val / 128) + j.val % 128 / 64 = j.val / 64 by omega]

end Cert.Fox
-- ==== Proof.Cover.lean ====
/- From the claim's precondition to real numbers, and from its mask to the columns that the kernel writes. -/
module

public import proofs.«01_k».proof.Proof.Final
public import proofs.«01_k».proof.Pre_finite
public import proofs.«01_k».proof.On_written
public import Idealize.ShloMosaic.Lib.ReduceAll

@[expose] public section

set_option maxRecDepth 16384

noncomputable section

open Idealize.ShloMosaic hiding ix0 ix1 ix2 ix3 ix4 ix5 eq_ix1 eq_ix2 eq_ix3 eq_ix4
open Idealize.ShloMosaic.ValueIdx

namespace Cert.Fox

/-- The shape relations of the precondition. -/
theorem preFacts : Cert.Pre_finite.Facts where
  bcast_S_S8192x384 := by decide
  reducesTo_S8192x384_S_d0_1 := by decide
  h_S_ := by decide
  bcast_S_S8192x6 := by decide
  reducesTo_S8192x6_S_d0_1 := by decide

/-- The shape relations of the mask. -/
theorem maskFacts : Cert.On_written.Facts where
  bcast_S3072_S1x3072_1 := by decide
  bcast_S_S1x3072 := by decide
  bcast_S1x3072_S8192x3072_0_1 := by decide
  bcast_S_S8192x384 := by decide

theorem posInf_eq : Ideal.ofBits .f32 0x7F800000#32 = (⊤ : EReal) := by
  simp [Ideal.ofBits, Ideal.ieee]

/-- A number whose absolute value is less than +∞ is a real number. -/
theorem real_of_lt (x : EReal) (h : FloatOps.cmpf (F := Ideal) (φ := .f32) .olt (FloatOps.hostAbsf (F := Ideal) (φ := .f32) x) (Ideal.ofBits .f32 0x7F800000#32) = 1#1) :
    x = (x.toReal : EReal) := by
  rw [posInf_eq] at h
  have h : Ideal.cmp .olt (max x (-x)) ⊤ = 1#1 := h
  induction x using EReal.rec with
  | bot => simp [Ideal.cmp] at h
  | top => simp [Ideal.cmp] at h
  | coe r => rw [EReal.toReal_coe]

/-- An array all of whose numbers have an absolute value below +∞ holds real numbers. -/
theorem real_of_all {s : Shape} (x : s.Idx → EReal) (hb : Cert.Pre_finite.S_.BroadcastsInDim s (![] : Fin 0 → Fin s.rank))
    {d : List (Fin s.rank)} (hr : s.ReducesTo d Cert.Pre_finite.S_) (h0 : 0 < Cert.Pre_finite.S_.numel) (j : Cert.Pre_finite.S_.Idx)
    (h : Host.reduce IntOp.andi (cmpf (F := Ideal) (φ := .f32) .olt (Host.absf (F := Ideal) (φ := .f32) x)
      (broadcastInDim s ![] hb (constant (F := Ideal) Cert.Pre_finite.S_ .f32 0x7F800000#32))) (constantI Cert.Pre_finite.S_ 1 1#1) hr h0 j = 1#1) (i : s.Idx) :
    x i = ((x i).toReal : EReal) :=
  real_of_lt (x i) (Host.reduce_andi_all _ _ _ _ j h i)

/-- The real numbers of the arguments. -/
def argsOf (x0 x1 x2 : (sh 8192 384).Idx → EReal) (x3 : (sh 8192 6).Idx → EReal) (x4 : (sh 8192 384).Idx → EReal) : Args where
  q r j := (at2 x0 r j).toReal
  k r j := (at2 x1 r j).toReal
  v r j := (at2 x2 r j).toReal
  c r j := (at2 x3 r j).toReal
  d r j := (at2 x4 r j).toReal

/-- Under the precondition the arguments are real numbers. -/
theorem are_of_finite (x0 x1 x2 : (sh 8192 384).Idx → EReal) (x3 : (sh 8192 6).Idx → EReal) (x4 : (sh 8192 384).Idx → EReal)
    (h : @Cert.Pre_finite.fn preFacts Ideal _ x0 x1 x2 x3 x4 = fun _ => 1#1) : (argsOf x0 x1 x2 x3 x4).Are x0 x1 x2 x3 x4 := by
  have h := congrFun h (Shape.Idx.first preFacts.h_S_)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  constructor <;> intro r j
  · exact (real_of_all x0 _ _ _ _ h0 (ix2 r j)).trans (congrArg (fun y : EReal => (y.toReal : EReal)) (at2_ix2 x0 r j).symm)
  · exact (real_of_all x1 _ _ _ _ h1 (ix2 r j)).trans (congrArg (fun y : EReal => (y.toReal : EReal)) (at2_ix2 x1 r j).symm)
  · exact (real_of_all x2 _ _ _ _ h2 (ix2 r j)).trans (congrArg (fun y : EReal => (y.toReal : EReal)) (at2_ix2 x2 r j).symm)
  · exact (real_of_all x3 _ _ _ _ h3 (ix2 r j)).trans (congrArg (fun y : EReal => (y.toReal : EReal)) (at2_ix2 x3 r j).symm)
  · exact (real_of_all x4 _ _ _ _ h4 (ix2 r j)).trans (congrArg (fun y : EReal => (y.toReal : EReal)) (at2_ix2 x4 r j).symm)

/-- The mask selects the first 1152 columns, and no others. -/
theorem lt_of_mask (x0 x1 x2 : (sh 8192 384).Idx → EReal) (x3 : (sh 8192 6).Idx → EReal) (x4 : (sh 8192 384).Idx → EReal) (i : (sh 8192 3072).Idx)
    (h : (@Cert.On_written.fn maskFacts Ideal _ x0 x1 x2 x3 x4).1 i = 1#1) : (i 1).val < 1152 := by
  have e : (@Cert.On_written.fn maskFacts Ideal _ x0 x1 x2 x3 x4).1 i = IntOp.cmpi .slt (BitVec.ofNat 32 (i 1).val) 1152#32 := by
    unfold Cert.On_written.fn
    dsimp only
    refine (broadcastInDim_apply _ _ _ i (ix2 (0 : Fin 1) (i 1 : Fin 3072)) (fun a => match a with
      | ⟨0, _⟩ => by show 0 = if (1 : Nat) = 1 then 0 else _; rw [if_pos rfl]
      | ⟨1, _⟩ => by show (i 1).val = if (3072 : Nat) = 1 then 0 else (i 1).val; rw [if_neg (by decide)])).trans ?_
    refine congrArg (fun z => IntOp.cmpi .slt z 1152#32) ?_
    exact (broadcastInDim_apply _ _ _ _ (ix1 (i 1 : Fin 3072)) (fun a => match a with
      | ⟨0, _⟩ => by show (i 1).val = if (3072 : Nat) = 1 then 0 else (i 1).val; rw [if_neg (by decide)]))
  have hi : (i 1).val < 3072 := (i 1).isLt
  rw [e] at h
  have h := IntOp.cmpi_slt.1 h
  have e1 : (BitVec.ofNat 32 (i 1).val).toNat = (i 1).val := by rw [BitVec.toNat_ofNat]; omega
  rw [BitVec.toInt_eq_toNat_of_lt (by rw [e1]; omega), e1] at h
  have e2 : (1152#32).toInt = 1152 := by decide
  omega

section Run

open Idealize.ShloMosaic.TcCoe
open Cert.KernelIdeal Cert.KernelIdeal.Gen Cert.ReferenceIdeal.Read

/-- Where the kernel writes the packed gradients, it leaves what the reference computes. -/
theorem same_packed (m : (ℓ : Loc nD τ sig) → Buf (Elt Ideal) ℓ) (c : Dev nD) {A : Args}
    (H : A.Are (a0 m c) (a1 m c) (a2 m c) (a3 m c) (a4 m c)) (i : (sh 8192 3072).Idx) (hi : (i 1).val < 1152) :
    (dats m 0 c).arrAt 7 cfg0.N i = val_main_v95 (F := Ideal) (a0 m c) (a1 m c) (a2 m c) (a3 m c) (a4 m c) i := by
  rw [eq_ix2 i]
  exact (arr7 m c H (i 0) (i 1) hi).trans (H.v95 (i 0) (i 1) hi).symm

/-- So does it for the gradient of the running sums. -/
theorem same_sums (m : (ℓ : Loc nD τ sig) → Buf (Elt Ideal) ℓ) (c : Dev nD) {A : Args}
    (H : A.Are (a0 m c) (a1 m c) (a2 m c) (a3 m c) (a4 m c)) (i : (sh 8192 384).Idx) :
    (dats m 0 c).arrAt 8 cfg0.N i = val_main_v99 (F := Ideal) (a0 m c) (a1 m c) (a2 m c) (a3 m c) (a4 m c) i := by
  rw [eq_ix2 i]
  exact (arr8 m c H (i 0) (i 1)).trans (H.v99 (i 0) (i 1)).symm

end Run

end Cert.Fox
-- ==== Proof.Prod.lean ====
/- The products of the backward pass: a product that sums over the second axis of both of its operands, one that sums over the first, and
   sums over blocks of an axis. -/
module

public import proofs.«01_k».proof.Proof.Span
public import Idealize.ShloMosaic.Lib.Pipeline.ValueKit

@[expose] public section

noncomputable section

open Idealize.ShloMosaic hiding ix0 ix1 ix2 ix3 ix4 ix5 eq_ix1 eq_ix2 eq_ix3 eq_ix4
open Idealize.ShloMosaic.ValueIdx
open scoped BigOperators

namespace Cert.Products

open Cert.Fox

/-- The start of a load or a store of a whole buffer. -/
theorem start_zero : (![0, 0] : Fin 2 → Nat) = fun _ => 0 := funext fun a => by fin_cases a <;> rfl

/-- The dimensions of a product that sums over the first axis of both operands. -/
def firstDims (M K N : ℕ) : DotDims (sh K M) (sh K N) (sh M N) where
  lhsContracting := [0]
  rhsContracting := [0]
  lhsNonContracting := [1]
  rhsNonContracting := [1]
  lhsBatch := []
  rhsBatch := []
  wf := ⟨rfl, by simp, rfl, by simp, by simp, by simp, List.Perm.swap 0 1 [], List.Perm.swap 0 1 [], rfl, Nat.two_pos,
    fun b => by fin_cases b <;> rfl⟩

/-- A product over the first axis of both operands, added to an accumulator, at an index. -/
theorem first_apply {M K N : ℕ} {φ₁ φ₂ : FTy} (x : FVec Ideal (sh K M) φ₁) (y : FVec Ideal (sh K N) φ₂) (acc : FVec Ideal (sh M N) .f32)
    (r : Fin M) (j : Fin N) :
    matmul (firstDims M K N) none x y acc (ix2 r j) = acc (ix2 r j) + ∑ k : Fin K, x (ix2 k r) * y (ix2 k j) := by
  refine (Ideal.matmul_apply (firstDims M K N) none x y acc (ix2 r j)).trans (congrArg (acc (ix2 r j) + ·) ?_)
  rw [← Equiv.sum_comp (contrEquiv1 (firstDims M K N) K rfl rfl).symm]
  refine Finset.sum_congr rfl fun k _ => ?_
  have hk := contrEquiv1_symm_val (firstDims M K N) K rfl rfl k
  refine congrArg₂ (· * ·) (congrArg x ?_) (congrArg y ?_)
  · refine ext2 (((firstDims M K N).lhsIdx_val_of_single rfl (ix2 r j) _).trans hk) ?_
    unfold DotDims.lhsIdx
    rw [dif_neg (show ¬(1 : Fin 2) ∈ (firstDims M K N).lhsBatch from List.not_mem_nil),
      dif_pos (show (1 : Fin 2) ∈ (firstDims M K N).lhsNonContracting from List.mem_singleton.2 rfl)]
    rfl
  · refine ext2 (((firstDims M K N).rhsIdx_val_of_single rfl (ix2 r j) _).trans hk) ?_
    unfold DotDims.rhsIdx
    rw [dif_neg (show ¬(1 : Fin 2) ∈ (firstDims M K N).rhsBatch from List.not_mem_nil),
      dif_pos (show (1 : Fin 2) ∈ (firstDims M K N).rhsNonContracting from List.mem_singleton.2 rfl)]
    rfl

/-- A product over the second axis of both operands, at an index. -/
theorem second_zero {M K N : ℕ} (x : FVec Ideal (sh M K) .bf16) (y : FVec Ideal (sh N K) .bf16) (r : Fin M) (j : Fin N) :
    matmul (DotDims.transposedRhs M K N) none x y (constant (sh M N) .f32 0x00000000#32) (ix2 r j) = ∑ k : Fin K, x (ix2 r k) * y (ix2 j k) := by
  refine (Ideal.matmul_transposedRhs_apply none x y _ r j).trans ?_
  rw [show (constant (F := Ideal) (sh M N) .f32 0x00000000#32) (ix2 r j) = (0 : EReal) from zero_word, zero_add]

/-- A product over the second axis of the first operand and the first of the second, at an index. -/
theorem plain_zero {M K N : ℕ} (x : FVec Ideal (sh M K) .bf16) (y : FVec Ideal (sh K N) .bf16) (r : Fin M) (j : Fin N) :
    matmul (DotDims.plain M K N) none x y (constant (sh M N) .f32 0x00000000#32) (ix2 r j) = ∑ k : Fin K, x (ix2 r k) * y (ix2 k j) := by
  refine (Ideal.matmul_plain_apply none x y _ r j).trans ?_
  rw [show (constant (F := Ideal) (sh M N) .f32 0x00000000#32) (ix2 r j) = (0 : EReal) from zero_word, zero_add]

/-- A product over the first axis of both operands, at an index. -/
theorem first_zero {M K N : ℕ} (x : FVec Ideal (sh K M) .bf16) (y : FVec Ideal (sh K N) .bf16) (r : Fin M) (j : Fin N) :
    matmul (firstDims M K N) none x y (constant (sh M N) .f32 0x00000000#32) (ix2 r j) = ∑ k : Fin K, x (ix2 k r) * y (ix2 k j) := by
  refine (first_apply x y _ r j).trans ?_
  rw [show (constant (F := Ideal) (sh M N) .f32 0x00000000#32) (ix2 r j) = (0 : EReal) from zero_word, zero_add]

/-- A sum over an axis is the sum over its blocks of the sums over each. -/
theorem sum_mul_blocks (f : ℕ → EReal) (b : ℕ) : ∀ n : ℕ,
    ∑ i ∈ Finset.range n, ∑ k ∈ Finset.range b, f (b * i + k) = ∑ k ∈ Finset.range (b * n), f k
  | 0 => by simp
  | n + 1 => by
    rw [Finset.sum_range_succ, sum_mul_blocks f b n, Nat.mul_succ, Finset.sum_range_add]

/-- Two blocks. -/
theorem sum_two_blocks (f : ℕ → EReal) (b : ℕ) :
    ∑ k ∈ Finset.range b, f (b * 0 + k) + ∑ k ∈ Finset.range b, f (b * 1 + k) = ∑ k ∈ Finset.range (b * 2), f k := by
  rw [← sum_mul_blocks f b 2, Finset.sum_range_succ, Finset.sum_range_succ, Finset.sum_range_zero, zero_add]

/-- Four blocks. -/
theorem sum_four_blocks (f : ℕ → EReal) (b : ℕ) :
    ∑ k ∈ Finset.range b, f (b * 0 + k) + ∑ k ∈ Finset.range b, f (b * 1 + k) + ∑ k ∈ Finset.range b, f (b * 2 + k)
      + ∑ k ∈ Finset.range b, f (b * 3 + k) = ∑ k ∈ Finset.range (b * 4), f k := by
  rw [← sum_mul_blocks f b 4, Finset.sum_range_succ, Finset.sum_range_succ, Finset.sum_range_succ, Finset.sum_range_succ, Finset.sum_range_zero, zero_add]

/-- A sum of products over a column of two matrices, with natural numbers for indices. -/
theorem sum_first {K M N : ℕ} (x : (sh K M).Idx → EReal) (y : (sh K N).Idx → EReal) (r : Fin M) (j : Fin N) :
    ∑ k : Fin K, x (ix2 k r) * y (ix2 k j) = ∑ k ∈ Finset.range K, at2 x k r * at2 y k j := by
  rw [← Fin.sum_univ_eq_sum_range (fun k => at2 x k r * at2 y k j)]
  exact Finset.sum_congr rfl fun k _ => by rw [at2_ix2, at2_ix2]

end Cert.Products

end
-- ==== Proof.Interleave.lean ====
/- The order of the columns in which the up-projection's cotangent is given: the two halves of 2816 columns alternate in blocks of 256. -/
module

public import proofs.«01_k».proof.Proof.Prod

@[expose] public section

noncomputable section

open Idealize.ShloMosaic hiding ix0 ix1 ix2 ix3 ix4 ix5 eq_ix1 eq_ix2 eq_ix3 eq_ix4
open Idealize.ShloMosaic.ValueIdx
open scoped BigOperators

namespace Cert.Products

open Cert.Fox

/-- The column that the interleaved array has at `j`. -/
def src (j : ℕ) : ℕ := 2816 * (j / 256 % 2) + 256 * (j / 512) + j % 256

theorem src_lt {j : ℕ} (hj : j < 5632) : src j < 5632 := by unfold src; omega

/-- Within a block of 256 the order is kept. -/
theorem src_block (q k : ℕ) (hk : k < 256) : src (256 * q + k) = 2816 * (q % 2) + 256 * (q / 2) + k := by
  unfold src
  omega

/-- The interleaved array at an index. -/
theorem interleave_apply (x : (sh 8192 5632).Idx → EReal) (h1 : (sh 8192 5632).ShapeCasts ⟨4, ![8192, 2, 11, 256]⟩)
    (h2 : (⟨4, ![8192, 2, 11, 256]⟩ : Shape).Transposes [0, 2, 1, 3] ⟨4, ![8192, 11, 2, 256]⟩)
    (h3 : (⟨4, ![8192, 11, 2, 256]⟩ : Shape).ShapeCasts (sh 8192 5632)) (r : Fin 8192) (j : Fin 5632) :
    shapeCast (sh 8192 5632) (transpose ⟨4, ![8192, 11, 2, 256]⟩ [0, 2, 1, 3] (shapeCast ⟨4, ![8192, 2, 11, 256]⟩ x h1) h2) h3 (ix2 r j)
      = x (ix2 r ⟨src j.val, src_lt j.isLt⟩) := by
  rw [shapeCast_apply _ h3 (ix2 r j) (ix4 r (⟨j.val / 512, by omega⟩ : Fin 11) (⟨j.val / 256 % 2, by omega⟩ : Fin 2) (⟨j.val % 256, by omega⟩ : Fin 256)) (by
      rewrite [Shape.rowMajor_val_four, Shape.rowMajor_val_two]
      show ((r.val * 11 + j.val / 512) * 2 + j.val / 256 % 2) * 256 + j.val % 256 = r.val * 5632 + j.val
      omega),
    transpose_apply _ _ h2 _ (ix4 r (⟨j.val / 256 % 2, by omega⟩ : Fin 2) (⟨j.val / 512, by omega⟩ : Fin 11) (⟨j.val % 256, by omega⟩ : Fin 256)) (fun b => match b with
      | ⟨0, _⟩ => rfl
      | ⟨1, _⟩ => rfl
      | ⟨2, _⟩ => rfl
      | ⟨3, _⟩ => rfl)]
  exact shapeCast_apply _ h1 _ _ (by
    rewrite [Shape.rowMajor_val_four, Shape.rowMajor_val_two]
    show r.val * 5632 + (2816 * (j.val / 256 % 2) + 256 * (j.val / 512) + j.val % 256)
      = ((r.val * 2 + j.val / 256 % 2) * 11 + j.val / 512) * 256 + j.val % 256
    omega)

/-- The sum over the blocks in their interleaved order is the sum over all columns. -/
theorem sum_interleaved (f : ℕ → EReal) :
    ∑ q ∈ Finset.range 22, ∑ k ∈ Finset.range 256, f (2816 * (q % 2) + 256 * (q / 2) + k) = ∑ k ∈ Finset.range 5632, f k := by
  refine Eq.trans ?_ (sum_mul_blocks f 256 22)
  refine Finset.sum_nbij' (fun q => 11 * (q % 2) + q / 2) (fun p => 2 * (p % 11) + p / 11) ?_ ?_ ?_ ?_ ?_
  · intro q hq; rw [Finset.mem_range] at hq ⊢; omega
  · intro q hq; rw [Finset.mem_range] at hq ⊢; omega
  · intro q hq; rw [Finset.mem_range] at hq; omega
  · intro q hq; rw [Finset.mem_range] at hq; omega
  · intro q hq
    exact Finset.sum_congr rfl fun k _ => congrArg f (by omega)

end Cert.Products

end
-- ==== Proof.UpDx.lean ====
/- The cotangent of the up-projection's input: the kernel's blocks of it, and the plain product. -/
module

public import proofs.«01_k».proof.Proof.Interleave
public import proofs.«01_k».proof.Proof.Gen.UpDxIdeal.Value
public import proofs.«01_k».proof.Proof.Gen.UpDxRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.UpDx

open Cert.Fox Cert.UpDxIdeal Cert.UpDxIdeal.Gen Cert.UpDxIdeal.Value

variable (m : (ℓ : Loc nD τ sig) → Buf (Elt Ideal) ℓ) (c : Dev nD)

theorem add_at (x y : FVec Ideal S512x1024 .f32) (i : S512x1024.Idx) : (addf x y i : EReal) = (x i : EReal) + (y i : EReal) := rfl

theorem trunc_at (x : FVec Ideal S512x1024 .f32) (i : S512x1024.Idx) : (truncf .bf16 x bitsLt_bf16_f32 i : EReal) = (x i : EReal) := rfl

/-- The product of two blocks of 256 columns. -/
def part (x : S512x5632.Idx → EReal) (y : S1024x5632.Idx → EReal) (r : Fin 512) (j : Fin 1024) (o p : ℕ) : EReal :=
  ∑ k ∈ Finset.range 256, at2 x r (o + k) * at2 y j (p + k)

theorem part_eq (x : Vec Ideal S512x5632 .bf16) (y : Vec Ideal S1024x5632 .bf16) (r : Fin 512) (j : Fin 1024) (o p : ℕ)
    (ho : ∀ a, (![0, o] : Fin 2 → Nat) a + S512x256.size a ≤ S512x5632.size a) (hp : ∀ a, (![0, p] : Fin 2 → Nat) a + S1024x256.size a ≤ S1024x5632.size a) :
    (matmul (F := Ideal) (φ₁ := .bf16) (φ₂ := .bf16) dot_S512x256_S1024x256_S512x1024_1_1_0_0_n_n none
        (View.ld x (Rect.unit (s := S512x5632) ![0, o] S512x256.size ho) : FVec Ideal S512x256 .bf16)
        (View.ld y (Rect.unit (s := S1024x5632) ![0, p] S1024x256.size hp) : FVec Ideal S1024x256 .bf16)
        (constant S512x1024 .f32 0x00000000#32) (ix2 r j) : EReal) = part x y r j o p := by
  have h0 : o + 256 ≤ 5632 := ho 1
  have h1 : p + 256 ≤ 5632 := hp 1
  refine (second_zero (M := 512) (K := 256) (N := 1024) _ _ r j).trans ?_
  unfold part
  rw [← Fin.sum_univ_eq_sum_range (fun k => at2 x r (o + k) * at2 y j (p + k))]
  refine Finset.sum_congr rfl fun k _ => congrArg₂ (fun a b : EReal => a * b) ?_ ?_
  · rw [at2_of_lt x r.2 (show o + k.val < 5632 by omega)]
    exact congrArg x (ext2 (by show 0 + 1 * r.val = r.val; omega) (by show o + 1 * k.val = o + k.val; omega))
  · rw [at2_of_lt y j.2 (show p + k.val < 5632 by omega)]
    exact congrArg y (ext2 (by show 0 + 1 * j.val = j.val; omega) (by show p + 1 * k.val = p + k.val; omega))

/-- What a point writes: the sum of the products of its 22 blocks of columns. -/
theorem out_at (x : Vec Ideal S512x5632 .bf16) (y : Vec Ideal S1024x5632 .bf16) (r : Fin 512) (j : Fin 1024) :
    (out0_2 (F := Ideal) x y : S512x1024.Idx → EReal) (ix2 r j)
      = ∑ q ∈ Finset.range 22, part x y r j (256 * q) (2816 * (q % 2) + 256 * (q / 2)) := by
  unfold out0_2
  rw [View.canon_unit_zero (S := S512x1024) start_zero]
  unfold k0_pay1 k0_pay2 k0_pay3 k0_pay4 k0_pay5 k0_pay6 k0_pay7 k0_pay8 k0_pay9 k0_pay10
  simp only [shapeCast_self, trunc_at, add_at, Finset.sum_range_succ, Finset.sum_range_zero, zero_add]
  iterate 21 refine congrArg₂ (fun a b : EReal => a + b) ?_ (part_eq x y r j _ _ _ _)
  exact part_eq x y r j _ _ _ _

/-- The cotangent that the kernel is given. -/
def g : S8192x5632.Idx → EReal := m ((c : Thread nD τ).loc main_arg1)
/-- The weights that the kernel is given. -/
def w : S1024x5632.Idx → EReal := m ((c : Thread nD τ).loc main_arg0)
/-- The array that the run leaves. -/
def out : S8192x1024.Idx → EReal := (dats m 0 c).arrAt 2 cfg0.N

/-- The blocks of a grid point. -/
theorem index_eq : ∀ t : Fin grid0.N,
    win0_0.index t = ![(grid0.coords t 0).val, 0] ∧ win0_1.index t = ![0, 0] ∧ win0_2.index t = ![(grid0.coords t 0).val, 0] := by decide +kernel

/-- Every block of rows has its point. -/
theorem point : ∀ b : Fin 16, ∃ t : Fin grid0.N, (grid0.coords t 0).val = b.val := by decide +kernel

theorem row_lt (t : Fin grid0.N) : (grid0.coords t 0).val < 16 := (grid0.coords t 0).isLt

/-- The arrays that the region is given: the cotangent with its columns interleaved, and the weights. -/
theorem V_g (r : Fin 8192) (j : Fin 5632) : (V m c main_v3 : S8192x5632.Idx → EReal) (ix2 r j) = g m c (ix2 r ⟨src j.val, src_lt j.isLt⟩) := by
  refine Eq.trans ?_ (interleave_apply (g m c) shapeCasts_S8192x5632_S8192x2x11x256 transposes_S8192x2x11x256_S8192x11x2x256_0_2_1_3
    shapeCasts_S8192x11x2x256_S8192x5632 r j)
  refine congrFun ?_ (ix2 r j)
  unfold V
  simp only [hostOps0, List.flatten_cons, List.flatten_nil, List.append_nil]
  after_results_simp
  rfl

theorem V_w : (V m c main_v4 : S1024x5632.Idx → EReal) = w m c := by
  unfold V
  simp only [hostOps0, List.flatten_cons, List.flatten_nil, List.append_nil]
  after_results_simp
  rfl

theorem read0 (X : (Pipeline.arrRef spec0 0).ty.Contents (Elt Ideal)) (t : Fin grid0.N) (r : Fin 512) (l : Fin 5632) :
    (((cfg0.win 0).blk t).view.read (Elt Ideal) X : S512x5632.Idx → EReal) (ix2 r l)
      = (X : S8192x5632.Idx → EReal) (ix2 (⟨512 * (grid0.coords t 0).val + r.val, by have := row_lt t; omega⟩ : Fin 8192) l) := by
  refine congrArg X (ext2 ?_ ?_)
  · blk_simp [(index_eq t).1]
    show (grid0.coords t 0).val * 512 + r.val = 512 * (grid0.coords t 0).val + r.val
    omega
  · blk_simp [(index_eq t).1]

theorem read1 (X : (Pipeline.arrRef spec0 1).ty.Contents (Elt Ideal)) (t : Fin grid0.N) (r : Fin 1024) (l : Fin 5632) :
    (((cfg0.win 1).blk t).view.read (Elt Ideal) X : S1024x5632.Idx → EReal) (ix2 r l) = (X : S1024x5632.Idx → EReal) (ix2 r l) := by
  refine congrArg X (ext2 ?_ ?_)
  · blk_simp [(index_eq t).2.1]
  · blk_simp [(index_eq t).2.1]

/-- The array that the run leaves, at an index of a point's block. -/
theorem block (t : Fin grid0.N) (r : Fin 512) (j : Fin 1024) :
    out m c (ix2 (⟨512 * (grid0.coords t 0).val + r.val, by have := row_lt t; omega⟩ : Fin 8192) j)
      = ((dats m 0 c).flushed 2 t : S512x1024.Idx → EReal) (ix2 r j) := by
  refine Eq.trans ?_ (congrFun (blocks2 m c t (flush0_2 t)) (ix2 r j))
  refine congrArg (out m c) (ext2 ?_ ?_)
  · blk_simp [(index_eq t).2.2]
    show 512 * (grid0.coords t 0).val + r.val = (grid0.coords t 0).val * 512 + r.val
    omega
  · blk_simp [(index_eq t).2.2]

theorem cut_apply (X : S512x1024.Idx → EReal) (t : Fin grid0.N) (r : Fin 512) (j : Fin 1024) :
    ((cfg0.win 2).cut (α := EReal) (grid0.coords t) X : S512x1024.Idx → EReal) (ix2 r j) = X (ix2 r j) := rfl

/-- The array that the run leaves, at an index. -/
theorem out_apply (r : Fin 8192) (j : Fin 1024) : out m c (ix2 r j) = ∑ k : Fin 5632, g m c (ix2 r k) * w m c (ix2 j k) := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => out m c (ix2 r' j)) e).trans ((block m c t ⟨r.val % 512, by omega⟩ j).trans ?_)
  rw [flushed2]
  refine (cut_apply _ t _ _).trans ((out_at _ _ _ _).trans ?_)
  have hs : ∑ k : Fin 5632, g m c (ix2 r k) * w m c (ix2 j k) = ∑ k ∈ Finset.range 5632, at2 (g m c) r k * at2 (w m c) j k := by
    rw [← Fin.sum_univ_eq_sum_range (fun k => at2 (g m c) r k * at2 (w m c) j k)]
    exact Finset.sum_congr rfl fun k _ => by rw [at2_ix2, at2_ix2]
  rw [hs, ← sum_interleaved]
  refine Finset.sum_congr rfl fun q hq => Finset.sum_congr rfl fun k hk => ?_
  have hq := Finset.mem_range.1 hq
  have hk := Finset.mem_range.1 hk
  have h1 : 256 * q + k < 5632 := by omega
  have h2 : 2816 * (q % 2) + 256 * (q / 2) + k < 5632 := by omega
  refine congrArg₂ (fun a b : EReal => a * b) ?_ ?_
  · refine (at2_of_lt _ (by omega) h1).trans ?_
    refine (read0 (V m c (Pipeline.arrRef spec0 0)) t _ _).trans ((V_g m c _ _).trans ?_)
    rw [at2_of_lt _ r.2 h2]
    exact congrArg (g m c) (ext2 (congrArg Fin.val e.symm) (src_block q k hk))
  · refine (at2_of_lt _ j.2 h2).trans ?_
    refine (read1 (V m c (Pipeline.arrRef spec0 1)) t _ _).trans ((congrFun (V_w m c) _).trans ?_)
    rw [at2_of_lt _ j.2 h2]

/-- The reference at an index. -/
theorem ref_apply (w : S1024x5632.Idx → EReal) (g : S8192x5632.Idx → EReal) (r : Fin 8192) (j : Fin 1024) :
    (Cert.UpDxRefIdeal.Read.val_main_v1 (F := Ideal) w g : S8192x1024.Idx → EReal) (ix2 r j) = ∑ k : Fin 5632, g (ix2 r k) * w (ix2 j k) :=
  (Cert.UpDxRefIdeal.Read.val_main_v0_apply w g (ix2 r j)).trans (Finset.sum_congr rfl fun k _ => congrArg₂ (· * ·) (congrArg g (ext2 rfl rfl)) (congrArg w (ext2 rfl rfl)))

/-- The run leaves what the reference computes. -/
theorem same : out m c = Cert.UpDxRefIdeal.Read.val_main_v1 (F := Ideal) (w m c) (g m c) := by
  funext i
  rw [eq_ix2 i]
  exact (out_apply m c _ _).trans (ref_apply _ _ _ _).symm

end Cert.Products.UpDx

end
-- ==== Proof.UpDw.lean ====
/- The two halves of the cotangent of the up-projection's weights: the kernel's sums over blocks of rows, and the plain product. -/
module

public import proofs.«01_k».proof.Proof.Interleave
public import proofs.«01_k».proof.Proof.Gen.UpDwIdeal.Value
public import proofs.«01_k».proof.Proof.Gen.UpDwRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.UpDw

open Cert.Fox Cert.UpDwIdeal Cert.UpDwIdeal.Gen Cert.UpDwIdeal.Value

variable (m : (ℓ : Loc nD τ sig) → Buf (Elt Ideal) ℓ) (c : Dev nD)

section Body

variable (i : grid0.Coords) (p2 : Memref sig .tc .vmem S4096x1024 .bf16) (h2 : p2.IsWhole) (p3 : Memref sig .tc .vmem S4096x512 .bf16) (h3 : p3.IsWhole)
  (p4 : Memref sig .tc .vmem S1024x256 .f32) (h4 : p4.IsWhole) (p5 : Memref sig .tc .vmem S1024x256 .f32) (h5 : p5.IsWhole)
  (p6 : Memref sig .tc .vmem S1024x512 .f32) (h6 : p6.IsWhole)
  (x : Vec Ideal S4096x1024 .bf16) (y : Vec Ideal S4096x512 .bf16) (a : Vec Ideal S1024x512 .f32)

/-- The first half of the rows leaves its product in the scratch. -/
theorem first_eq (hc0 : cond0_0 i) (hc1 : ¬cond0_1 i) (hc2 : ¬cond0_2 i) :
    sout0_A_0 (F := Ideal) c i p2 h2 p3 h3 p4 h4 p5 h5 p6 h6 hc0 hc1 hc2 x y = k0_pay1 x y := by
  unfold sout0_A_0
  rw [View.read_writes_eq_canon _ _ _ (scover0_A_0 (F := Ideal) c i p2 h2 p3 h3 p4 h4 p5 h5 p6 h6 hc0 hc1 hc2 x y)]
  unfold kernelRun0_A
  dsimp only
  rw [View.canon_unit_zero (S := S1024x512) start_zero]
  unfold k0_pay2
  simp only [View.readAt_eq_ld, h2.read_unread, h3.read_unread, View.ld_unit_zero (S := S4096x1024) start_zero,
    View.ld_unit_zero (S := S4096x512) start_zero, shapeCast_self]

/-- The second half writes the left 256 columns of the scratch with its product added … -/
theorem left_eq (hc0 : ¬cond0_0 i) (hc1 : cond0_1 i) (hc2 : cond0_2 i) (r : Fin 1024) (j : Fin 256) :
    (out0_B_2 (F := Ideal) c i p2 h2 p3 h3 p4 h4 p5 h5 p6 h6 hc0 hc1 hc2 x y a : S1024x256.Idx → EReal) (ix2 r j)
      = addf a (k0_pay1 x y) (ix2 r (⟨j.val, by omega⟩ : Fin 512)) := by
  unfold out0_B_2
  rw [View.read_writes_eq_canon _ _ _ (cover0_B_2 (F := Ideal) c i p2 h2 p3 h3 p4 h4 p5 h5 p6 h6 hc0 hc1 hc2 x y a)]
  unfold kernelRun0_B
  dsimp only
  sl_unfold_words
  rw [View.canon_unit_zero (S := S1024x256) start_zero, View.readCov_eq_canon', View.canon_unit_zero (S := S1024x512) start_zero]
  unfold k0_pay3
  simp only [View.readAt_eq_ld, h2.read_unread, h3.read_unread, h6.read_unread, View.ld_unit_zero (S := S4096x1024) start_zero,
    View.ld_unit_zero (S := S4096x512) start_zero, View.ld_unit_zero (S := S1024x512) start_zero, shapeCast_self]
  refine congrArg (addf a (k0_pay1 x y)) (ext2 ?_ ?_)
  · show 0 + 1 * r.val = r.val
    omega
  · show 0 + 1 * j.val = j.val
    omega

/-- … and the right 256. -/
theorem right_eq (hc0 : ¬cond0_0 i) (hc1 : cond0_1 i) (hc2 : cond0_2 i) (r : Fin 1024) (j : Fin 256) :
    (out0_B_3 (F := Ideal) c i p2 h2 p3 h3 p4 h4 p5 h5 p6 h6 hc0 hc1 hc2 x y a : S1024x256.Idx → EReal) (ix2 r j)
      = addf a (k0_pay1 x y) (ix2 r (⟨256 + j.val, by omega⟩ : Fin 512)) := by
  unfold out0_B_3
  rw [View.read_writes_eq_canon _ _ _ (cover0_B_3 (F := Ideal) c i p2 h2 p3 h3 p4 h4 p5 h5 p6 h6 hc0 hc1 hc2 x y a)]
  unfold kernelRun0_B
  dsimp only
  sl_unfold_words
  rw [View.canon_unit_zero (S := S1024x256) start_zero, View.readCov_eq_canon', View.canon_unit_zero (S := S1024x512) start_zero]
  unfold k0_pay3
  simp only [View.readAt_eq_ld, h2.read_unread, h3.read_unread, h6.read_unread, View.ld_unit_zero (S := S4096x1024) start_zero,
    View.ld_unit_zero (S := S4096x512) start_zero, View.ld_unit_zero (S := S1024x512) start_zero, shapeCast_self]
  refine congrArg (addf a (k0_pay1 x y)) (ext2 ?_ ?_)
  · show 0 + 1 * r.val = r.val
    omega
  · show 256 + 1 * j.val = 256 + j.val
    omega

end Body

/-- The product of two blocks. -/
theorem pay_apply (x : Vec Ideal S4096x1024 .bf16) (y : Vec Ideal S4096x512 .bf16) (r : Fin 1024) (j : Fin 512) :
    k0_pay1 x y (ix2 r j) = ∑ k : Fin 4096, x (ix2 k r) * y (ix2 k j) := by
  unfold k0_pay1
  simp only [shapeCast_self]
  exact first_zero x y r j

/-- The rows that the kernel is given. -/
def h : S8192x1024.Idx → EReal := m ((c : Thread nD τ).loc main_arg0)
/-- The cotangent that the kernel is given. -/
def g : S8192x5632.Idx → EReal := m ((c : Thread nD τ).loc main_arg1)
/-- The cotangent with its two halves interleaved in blocks of 256 columns. -/
def gi : S8192x5632.Idx → EReal := fun i => g m c (ix2 (i 0) ⟨src (i 1).val, src_lt (i 1).isLt⟩)

theorem V_h : (V m c main_v0 : S8192x1024.Idx → EReal) = h m c := by
  unfold V
  simp only [hostOps0, List.flatten_cons, List.flatten_nil, List.append_nil]
  after_results_simp
  rfl

theorem V_g : (V m c main_v4 : S8192x5632.Idx → EReal) = gi m c := by
  funext i
  obtain ⟨r, j, rfl⟩ : ∃ (r : Fin 8192) (j : Fin 5632), i = ix2 r j := ⟨_, _, eq_ix2 i⟩
  refine Eq.trans ?_ (interleave_apply (g m c) shapeCasts_S8192x5632_S8192x2x11x256 transposes_S8192x2x11x256_S8192x11x2x256_0_2_1_3 shapeCasts_S8192x11x2x256_S8192x5632 r j)
  refine congrFun ?_ (ix2 r j)
  unfold V
  simp only [hostOps0, List.flatten_cons, List.flatten_nil, List.append_nil]
  after_results_simp
  rfl

/-- The blocks of a grid point. -/
theorem index_eq : ∀ t : Fin grid0.N, win0_0.index t = ![t.val % 2, 0] ∧ win0_1.index t = ![t.val % 2, t.val / 2] := by decide +kernel

theorem lt_N (t : Fin grid0.N) : t.val < 22 := lt_of_lt_of_eq t.isLt N_0

theorem read0 (X : (Pipeline.arrRef spec0 0).ty.Contents (Elt Ideal)) (t : Fin grid0.N) (r : Fin 4096) (l : Fin 1024) :
    (((cfg0.win 0).blk t).view.read (Elt Ideal) X : S4096x1024.Idx → EReal) (ix2 r l)
      = at2 (X : S8192x1024.Idx → EReal) (4096 * (t.val % 2) + r.val) l := by
  have := lt_N t
  rw [at2_of_lt _ (show 4096 * (t.val % 2) + r.val < 8192 by omega) l.2]
  refine congrArg X (ext2 ?_ ?_)
  · blk_simp [(index_eq t).1]
    show t.val % 2 * 4096 + r.val = 4096 * (t.val % 2) + r.val
    omega
  · blk_simp [(index_eq t).1]

theorem read1 (X : (Pipeline.arrRef spec0 1).ty.Contents (Elt Ideal)) (t : Fin grid0.N) (r : Fin 4096) (l : Fin 512) :
    (((cfg0.win 1).blk t).view.read (Elt Ideal) X : S4096x512.Idx → EReal) (ix2 r l)
      = at2 (X : S8192x5632.Idx → EReal) (4096 * (t.val % 2) + r.val) (512 * (t.val / 2) + l.val) := by
  have := lt_N t
  rw [at2_of_lt _ (show 4096 * (t.val % 2) + r.val < 8192 by omega) (show 512 * (t.val / 2) + l.val < 5632 by omega)]
  refine congrArg X (ext2 ?_ ?_)
  · blk_simp [(index_eq t).2]
    show t.val % 2 * 4096 + r.val = 4096 * (t.val % 2) + r.val
    omega
  · blk_simp [(index_eq t).2]
    show t.val / 2 * 512 + l.val = 512 * (t.val / 2) + l.val
    omega

/-- The product of a grid point's two blocks. -/
def prod (t : Fin cfg0.N) : S1024x512.Idx → EReal := k0_pay1 (F := Ideal) (iblk m c 0 t) (iblk m c 1 t)

theorem prod_apply (t : Fin cfg0.N) (r : Fin 1024) (j : Fin 512) : prod m c t (ix2 r j)
    = ∑ k ∈ Finset.range 4096, at2 (h m c) (4096 * (t.val % 2) + k) r * at2 (gi m c) (4096 * (t.val % 2) + k) (512 * (t.val / 2) + j.val) := by
  unfold prod
  refine (pay_apply _ _ r j).trans ?_
  rw [← Fin.sum_univ_eq_sum_range (fun k => at2 (h m c) (4096 * (t.val % 2) + k) r * at2 (gi m c) (4096 * (t.val % 2) + k) (512 * (t.val / 2) + j.val))]
  refine Finset.sum_congr rfl fun k _ => congrArg₂ (· * ·) ?_ ?_
  · exact (read0 (V m c (Pipeline.arrRef spec0 0)) t k r).trans (congrArg (fun X : S8192x1024.Idx → EReal => at2 X (4096 * (t.val % 2) + k.val) r) (V_h m c))
  · exact (read1 (V m c (Pipeline.arrRef spec0 1)) t k j).trans (congrArg (fun X : S8192x5632.Idx → EReal => at2 X (4096 * (t.val % 2) + k.val) (512 * (t.val / 2) + j.val)) (V_g m c))

/-- The scratch after the first of two points. -/
theorem first_at (t : Fin cfg0.N) (h0 : t.val % 2 = 0) : (outsAt0 m c t.val t.isLt).2.2 = prod m c t := by
  rw [outsAt0_A m c t h0 (by omega) (by omega)]
  dsimp only
  rw [first_eq]
  rfl

/-- The left output after the second. -/
theorem left_at (t : Fin cfg0.N) (h2 : t.val % 2 = 1) (r : Fin 1024) (j : Fin 256) : ((outsAt0 m c t.val t.isLt).1 : S1024x256.Idx → EReal) (ix2 r j)
    = addf (F := Ideal) (φ := .f32) (outsAt0 m c (t.val - 1) (Nat.lt_of_le_of_lt (Nat.sub_le _ _) t.isLt)).2.2 (prod m c t) (ix2 r (⟨j.val, by omega⟩ : Fin 512)) := by
  rw [outsAt0_B m c t (by omega) h2 h2]
  dsimp only
  rw [left_eq]
  rfl

/-- The right output after the second. -/
theorem right_at (t : Fin cfg0.N) (h2 : t.val % 2 = 1) (r : Fin 1024) (j : Fin 256) : ((outsAt0 m c t.val t.isLt).2.1 : S1024x256.Idx → EReal) (ix2 r j)
    = addf (F := Ideal) (φ := .f32) (outsAt0 m c (t.val - 1) (Nat.lt_of_le_of_lt (Nat.sub_le _ _) t.isLt)).2.2 (prod m c t) (ix2 r (⟨256 + j.val, by omega⟩ : Fin 512)) := by
  rw [outsAt0_B m c t (by omega) h2 h2]
  dsimp only
  rw [right_eq]
  rfl

/-- What the second of two points adds up, at a column of the interleaved cotangent. -/
theorem total (q : ℕ) (hN : 2 * q + 1 < cfg0.N) (r : Fin 1024) (j : Fin 512) :
    (addf (F := Ideal) (φ := .f32) (outsAt0 m c (2 * q) (by omega)).2.2 (prod m c ⟨2 * q + 1, hN⟩) (ix2 r j) : EReal)
      = ∑ k : Fin 8192, h m c (ix2 k r) * at2 (gi m c) k (512 * q + j.val) := by
  refine (congrArg (· + prod m c ⟨2 * q + 1, hN⟩ (ix2 r j)) (congrFun (first_at m c ⟨2 * q, by omega⟩ (by dsimp only; omega)) (ix2 r j))).trans ?_
  rw [prod_apply, prod_apply]
  have a0 : (2 * q) % 2 = 0 := by omega
  have a1 : (2 * q + 1) % 2 = 1 := by omega
  have b0 : (2 * q) / 2 = q := by omega
  have b1 : (2 * q + 1) / 2 = q := by omega
  dsimp only
  rw [a0, a1, b0, b1]
  refine (sum_two_blocks (fun k => at2 (h m c) k r * at2 (gi m c) k (512 * q + j.val)) 4096).trans ?_
  rw [← Fin.sum_univ_eq_sum_range (fun k => at2 (h m c) k r * at2 (gi m c) k (512 * q + j.val))]
  exact Finset.sum_congr rfl fun k _ => congrArg (· * at2 (gi m c) k (512 * q + j.val)) (at2_of_lt _ k.2 r.2)

/-- The interleaved cotangent at a column of the left half's blocks … -/
theorem gi_left (k : Fin 8192) (j : Fin 2816) : at2 (gi m c) k (512 * (j.val / 256) + j.val % 256) = g m c (ix2 k ⟨j.val, by omega⟩) := by
  rw [at2_of_lt _ k.2 (show 512 * (j.val / 256) + j.val % 256 < 5632 by omega)]
  exact congrArg (g m c) (ext2 rfl (by show src (512 * (j.val / 256) + j.val % 256) = j.val; unfold src; omega))

/-- … and of the right half's. -/
theorem gi_right (k : Fin 8192) (j : Fin 2816) : at2 (gi m c) k (512 * (j.val / 256) + (256 + j.val % 256)) = g m c (ix2 k ⟨2816 + j.val, by omega⟩) := by
  rw [at2_of_lt _ k.2 (show 512 * (j.val / 256) + (256 + j.val % 256) < 5632 by omega)]
  exact congrArg (g m c) (ext2 rfl (by show src (512 * (j.val / 256) + (256 + j.val % 256)) = 2816 + j.val; unfold src; omega))

/-- The left array that the run leaves, at an index. -/
theorem left_apply (r : Fin 1024) (j : Fin 2816) :
    (G2 m c : S1024x2816.Idx → EReal) (ix2 r j) = ∑ k : Fin 8192, h m c (ix2 k r) * g m c (ix2 k ⟨j.val, by omega⟩) := by
  have hp : pt2Of (ix2 r j) = 2 * (j.val / 256) + 1 := by
    show 2 * (11 * (r.val / 1024 - 0) + 1 * (j.val / 256 - 0)) + 1 = _
    omega
  have hN : 2 * (j.val / 256) + 1 < cfg0.N := by rw [show cfg0.N = 22 from N_0]; omega
  have hl : loc2Of (ix2 r j) = ix2 r (⟨j.val % 256, by omega⟩ : Fin 256) := ext2 (by show r.val % 1024 = r.val; omega) rfl
  unfold G2
  rw [dif_pos (by rw [hp]; exact hN), hl, fold0_congr m c _ _ (2 * (j.val / 256) + 1) (by omega) hp, ← outsAt0_sweep m c _ hN]
  refine (left_at m c ⟨2 * (j.val / 256) + 1, hN⟩ (by dsimp only; omega) r _).trans ((total m c _ hN r _).trans ?_)
  exact Finset.sum_congr rfl fun k _ => congrArg (h m c (ix2 k r) * ·) (gi_left m c k j)

/-- The right array that the run leaves, at an index. -/
theorem right_apply (r : Fin 1024) (j : Fin 2816) :
    (G3 m c : S1024x2816.Idx → EReal) (ix2 r j) = ∑ k : Fin 8192, h m c (ix2 k r) * g m c (ix2 k ⟨2816 + j.val, by omega⟩) := by
  have hp : pt3Of (ix2 r j) = 2 * (j.val / 256) + 1 := by
    show 2 * (11 * (r.val / 1024 - 0) + 1 * (j.val / 256 - 0)) + 1 = _
    omega
  have hN : 2 * (j.val / 256) + 1 < cfg0.N := by rw [show cfg0.N = 22 from N_0]; omega
  have hl : loc3Of (ix2 r j) = ix2 r (⟨j.val % 256, by omega⟩ : Fin 256) := ext2 (by show r.val % 1024 = r.val; omega) rfl
  unfold G3
  rw [dif_pos (by rw [hp]; exact hN), hl, fold0_congr m c _ _ (2 * (j.val / 256) + 1) (by omega) hp, ← outsAt0_sweep m c _ hN]
  refine (right_at m c ⟨2 * (j.val / 256) + 1, hN⟩ (by dsimp only; omega) r _).trans ((total m c _ hN r _).trans ?_)
  exact Finset.sum_congr rfl fun k _ => congrArg (h m c (ix2 k r) * ·) (gi_right m c k j)

/-- The reference's product at an index. -/
theorem ref_apply (h : S8192x1024.Idx → EReal) (g : S8192x5632.Idx → EReal) (r : Fin 1024) (j : Fin 5632) :
    (Cert.UpDwRefIdeal.Read.val_main_v1 (F := Ideal) h g : Cert.UpDwRefIdeal.S1024x5632.Idx → EReal) (ix2 r j) = ∑ k : Fin 8192, h (ix2 k r) * g (ix2 k j) := by
  refine (Cert.UpDwRefIdeal.Read.val_main_v1_apply (F := Ideal) h g (ix2 r j)).trans ?_
  refine (Cert.UpDwRefIdeal.Read.val_main_v0_apply h g _).trans ?_
  exact Finset.sum_congr rfl fun k _ => (EReal.mul_comm _ _).trans (congrArg₂ (fun a b : EReal => a * b) (congrArg h (ext2 rfl rfl)) (congrArg g (ext2 rfl rfl)))

/-- The reference's left half at an index … -/
theorem ref_left (h : S8192x1024.Idx → EReal) (g : S8192x5632.Idx → EReal) (r : Fin 1024) (j : Fin 2816) :
    (Cert.UpDwRefIdeal.Read.val_main_v2 (F := Ideal) h g : S1024x2816.Idx → EReal) (ix2 r j) = ∑ k : Fin 8192, h (ix2 k r) * g (ix2 k ⟨j.val, by omega⟩) := by
  refine (Cert.UpDwRefIdeal.Read.val_main_v2_apply (F := Ideal) h g (ix2 r j)).trans ?_
  rw [eq_ix2 (Cert.UpDwRefIdeal.Read.idx_main_v2 (ix2 r j))]
  exact ref_apply h g _ _

/-- … and its right half. -/
theorem ref_right (h : S8192x1024.Idx → EReal) (g : S8192x5632.Idx → EReal) (r : Fin 1024) (j : Fin 2816) :
    (Cert.UpDwRefIdeal.Read.val_main_v3 (F := Ideal) h g : S1024x2816.Idx → EReal) (ix2 r j) = ∑ k : Fin 8192, h (ix2 k r) * g (ix2 k ⟨2816 + j.val, by omega⟩) := by
  refine (Cert.UpDwRefIdeal.Read.val_main_v3_apply (F := Ideal) h g (ix2 r j)).trans ?_
  rw [eq_ix2 (Cert.UpDwRefIdeal.Read.idx_main_v3 (ix2 r j))]
  exact ref_apply h g _ _

/-- The run leaves what the reference computes: the left half … -/
theorem same_left : (G2 m c : S1024x2816.Idx → EReal) = Cert.UpDwRefIdeal.Read.val_main_v2 (F := Ideal) (h m c) (g m c) := by
  funext i
  rw [eq_ix2 i]
  exact (left_apply m c _ _).trans (ref_left _ _ _ _).symm

/-- … and the right half. -/
theorem same_right : (G3 m c : S1024x2816.Idx → EReal) = Cert.UpDwRefIdeal.Read.val_main_v3 (F := Ideal) (h m c) (g m c) := by
  funext i
  rw [eq_ix2 i]
  exact (right_apply m c _ _).trans (ref_right _ _ _ _).symm

end Cert.Products.UpDw

end
-- ==== Proof.DownDx.lean ====
/- The cotangent of the down-projection's input: the kernel's blocks of it, and the plain product. -/
module

public import proofs.«01_k».proof.Proof.Prod
public import proofs.«01_k».proof.Proof.Gen.DownDxIdeal.Value
public import proofs.«01_k».proof.Proof.Gen.DownDxRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.DownDx

open Cert.Fox Cert.DownDxIdeal Cert.DownDxIdeal.Gen Cert.DownDxIdeal.Value

variable (m : (ℓ : Loc nD τ sig) → Buf (Elt Ideal) ℓ) (c : Dev nD)

/-- What a point writes: the product of its two blocks. -/
theorem out_eq (i : grid0.Coords) (p3 : Memref sig .tc .vmem S1024x1024 .bf16) (h3 : p3.IsWhole) (p4 : Memref sig .tc .vmem S2816x1024 .bf16) (h4 : p4.IsWhole)
    (p5 : Memref sig .tc .vmem S1024x2816 .bf16) (h5 : p5.IsWhole) (p6 : Memref sig .tc .vmem S8x128 .f32) (h6 : p6.IsWhole)
    (x : Vec Ideal S1024x1024 .bf16) (y : Vec Ideal S2816x1024 .bf16) :
    out0_A_2 (F := Ideal) c i p3 h3 p4 h4 p5 h5 p6 h6 x y = k0_pay1 x y := by
  unfold out0_A_2
  rw [View.read_writes_eq_canon _ _ _ (cover0_A_2 (F := Ideal) c i p3 h3 p4 h4 p5 h5 p6 h6 x y)]
  unfold kernelRun0_A
  dsimp only
  rw [View.canon_unit_zero (S := S1024x2816) start_zero]
  simp only [View.readAt_eq_ld, h3.read_unread, h4.read_unread, View.ld_unit_zero (S := S1024x1024) start_zero, View.ld_unit_zero (S := S2816x1024) start_zero]

/-- The product of two blocks at an index. -/
theorem pay_apply (x : Vec Ideal S1024x1024 .bf16) (y : Vec Ideal S2816x1024 .bf16) (r : Fin 1024) (j : Fin 2816) :
    k0_pay1 x y (ix2 r j) = ∑ k : Fin 1024, x (ix2 r k) * y (ix2 j k) := by
  unfold k0_pay1
  simp only [shapeCast_self]
  exact second_zero x y r j

/-- The cotangent that the kernel is given. -/
def g : S8192x1024.Idx → EReal := m ((c : Thread nD τ).loc main_arg1)
/-- The weights that the kernel is given. -/
def w : S2816x1024.Idx → EReal := m ((c : Thread nD τ).loc main_arg0)
/-- The array that the run leaves. -/
def out : S8192x2816.Idx → EReal := (dats m 0 c).arrAt 2 cfg0.N

/-- The blocks of a grid point. -/
theorem index_eq : ∀ t : Fin grid0.N,
    win0_0.index t = ![(grid0.coords t 0).val, 0] ∧ win0_1.index t = ![0, 0] ∧ win0_2.index t = ![(grid0.coords t 0).val, 0] := by decide +kernel

/-- Every block of rows has its point. -/
theorem point : ∀ b : Fin 8, ∃ t : Fin grid0.N, (grid0.coords t 0).val = b.val := by decide +kernel

theorem row_lt (t : Fin grid0.N) : (grid0.coords t 0).val < 8 := (grid0.coords t 0).isLt

/-- The arrays that the region is given are the arguments. -/
theorem V_g : (V m c main_v0 : S8192x1024.Idx → EReal) = g m c := by
  unfold V
  simp only [hostOps0, List.flatten_cons, List.flatten_nil, List.append_nil]
  after_results_simp
  rfl

theorem V_w : (V m c main_v1 : S2816x1024.Idx → EReal) = w m c := by
  unfold V
  simp only [hostOps0, List.flatten_cons, List.flatten_nil, List.append_nil]
  after_results_simp
  rfl

theorem read0 (X : (Pipeline.arrRef spec0 0).ty.Contents (Elt Ideal)) (t : Fin grid0.N) (r : Fin 1024) (l : Fin 1024) :
    (((cfg0.win 0).blk t).view.read (Elt Ideal) X : S1024x1024.Idx → EReal) (ix2 r l)
      = (X : S8192x1024.Idx → EReal) (ix2 (⟨1024 * (grid0.coords t 0).val + r.val, by have := row_lt t; omega⟩ : Fin 8192) l) := by
  refine congrArg X (ext2 ?_ ?_)
  · blk_simp [(index_eq t).1]
    show (grid0.coords t 0).val * 1024 + r.val = 1024 * (grid0.coords t 0).val + r.val
    omega
  · blk_simp [(index_eq t).1]

theorem read1 (X : (Pipeline.arrRef spec0 1).ty.Contents (Elt Ideal)) (t : Fin grid0.N) (r : Fin 2816) (l : Fin 1024) :
    (((cfg0.win 1).blk t).view.read (Elt Ideal) X : S2816x1024.Idx → EReal) (ix2 r l) = (X : S2816x1024.Idx → EReal) (ix2 r l) := by
  refine congrArg X (ext2 ?_ ?_)
  · blk_simp [(index_eq t).2.1]
  · blk_simp [(index_eq t).2.1]

/-- The array that the run leaves, at an index of a point's block. -/
theorem block (t : Fin grid0.N) (r : Fin 1024) (j : Fin 2816) :
    out m c (ix2 (⟨1024 * (grid0.coords t 0).val + r.val, by have := row_lt t; omega⟩ : Fin 8192) j)
      = ((dats m 0 c).flushed 2 t : S1024x2816.Idx → EReal) (ix2 r j) := by
  refine Eq.trans ?_ (congrFun (blocks2 m c t (flush0_2 t)) (ix2 r j))
  refine congrArg (out m c) (ext2 ?_ ?_)
  · blk_simp [(index_eq t).2.2]
    show 1024 * (grid0.coords t 0).val + r.val = (grid0.coords t 0).val * 1024 + r.val
    omega
  · blk_simp [(index_eq t).2.2]

theorem cut_apply (X : S1024x2816.Idx → EReal) (t : Fin grid0.N) (r : Fin 1024) (j : Fin 2816) :
    ((cfg0.win 2).cut (α := EReal) (grid0.coords t) X : S1024x2816.Idx → EReal) (ix2 r j) = X (ix2 r j) := rfl

/-- The array that the run leaves, at an index. -/
theorem out_apply (r : Fin 8192) (j : Fin 2816) : out m c (ix2 r j) = ∑ k : Fin 1024, g m c (ix2 r k) * w m c (ix2 j k) := by
  obtain ⟨t, ht⟩ := point ⟨r.val / 1024, by omega⟩
  have ht : (grid0.coords t 0).val = r.val / 1024 := ht
  have e : r = (⟨1024 * (grid0.coords t 0).val + r.val % 1024, by have := row_lt t; omega⟩ : Fin 8192) := Fin.ext (by show r.val = 1024 * (grid0.coords t 0).val + r.val % 1024; omega)
  refine (congrArg (fun r' : Fin 8192 => out m c (ix2 r' j)) e).trans ((block m c t ⟨r.val % 1024, by omega⟩ j).trans ?_)
  rw [flushed2_A, out_eq]
  refine (cut_apply _ t _ _).trans ((pay_apply _ _ _ _).trans ?_)
  refine Finset.sum_congr rfl fun k _ => congrArg₂ (· * ·) ?_ ?_
  · refine (read0 (V m c (Pipeline.arrRef spec0 0)) t _ k).trans ((congrFun (V_g m c) _).trans ?_)
    exact congrArg (fun r' : Fin 8192 => g m c (ix2 r' k)) e.symm
  · exact (read1 (V m c (Pipeline.arrRef spec0 1)) t j k).trans (congrFun (V_w m c) _)

/-- The reference at an index. -/
theorem ref_apply (w : S2816x1024.Idx → EReal) (g : S8192x1024.Idx → EReal) (r : Fin 8192) (j : Fin 2816) :
    (Cert.DownDxRefIdeal.Read.val_main_v1 (F := Ideal) w g : S8192x2816.Idx → EReal) (ix2 r j) = ∑ k : Fin 1024, g (ix2 r k) * w (ix2 j k) :=
  (Cert.DownDxRefIdeal.Read.val_main_v0_apply w g (ix2 r j)).trans (Finset.sum_congr rfl fun k _ => congrArg₂ (· * ·) (congrArg g (ext2 rfl rfl)) (congrArg w (ext2 rfl rfl)))

/-- The run leaves what the reference computes. -/
theorem same : out m c = Cert.DownDxRefIdeal.Read.val_main_v1 (F := Ideal) (w m c) (g m c) := by
  funext i
  rw [eq_ix2 i]
  exact (out_apply m c _ _).trans (ref_apply _ _ _ _).symm

end Cert.Products.DownDx

end
-- ==== Proof.DownDw.lean ====
/- The cotangent of the down-projection's weights: the kernel's sums over blocks of rows, and the plain product. -/
module

public import proofs.«01_k».proof.Proof.Prod
public import proofs.«01_k».proof.Proof.Gen.DownDwIdeal.Value
public import proofs.«01_k».proof.Proof.Gen.DownDwRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.DownDw

open Cert.Fox Cert.DownDwIdeal Cert.DownDwIdeal.Gen Cert.DownDwIdeal.Value

variable (m : (ℓ : Loc nD τ sig) → Buf (Elt Ideal) ℓ) (c : Dev nD)

section Body

variable (i : grid0.Coords) (p3 : Memref sig .tc .vmem S2048x1408 .bf16) (h3 : p3.IsWhole) (p4 : Memref sig .tc .vmem S2048x1024 .bf16) (h4 : p4.IsWhole)
  (p5 : Memref sig .tc .vmem S1408x1024 .f32) (h5 : p5.IsWhole) (p6 : Memref sig .tc .vmem S1408x1024 .f32) (h6 : p6.IsWhole)
  (x : Vec Ideal S2048x1408 .bf16) (y : Vec Ideal S2048x1024 .bf16) (a : Vec Ideal S1408x1024 .f32)

/-- The first block of rows leaves its product in the scratch. -/
theorem first_eq (hc0 : cond0_0 i) (hc1 : ¬cond0_1 i) (hc2 : ¬cond0_2 i) :
    sout0_A_0 (F := Ideal) c i p3 h3 p4 h4 p5 h5 p6 h6 hc0 hc1 hc2 x y = k0_pay1 x y := by
  unfold sout0_A_0
  rw [View.read_writes_eq_canon _ _ _ (scover0_A_0 (F := Ideal) c i p3 h3 p4 h4 p5 h5 p6 h6 hc0 hc1 hc2 x y)]
  unfold kernelRun0_A
  dsimp only
  rw [View.canon_unit_zero (S := S1408x1024) start_zero]
  unfold k0_pay2
  simp only [View.readAt_eq_ld, h3.read_unread, h4.read_unread, View.ld_unit_zero (S := S2048x1408) start_zero, View.ld_unit_zero (S := S2048x1024) start_zero, shapeCast_self]

/-- A block of rows adds its product to the scratch. -/
theorem next_eq (hc0 : ¬cond0_0 i) (hc1 : cond0_1 i) (hc2 : ¬cond0_2 i) :
    sout0_B_0 (F := Ideal) c i p3 h3 p4 h4 p5 h5 p6 h6 hc0 hc1 hc2 x y a = addf a (k0_pay1 x y) := by
  unfold sout0_B_0
  rw [View.read_writes_eq_canon _ _ _ (scover0_B_0 (F := Ideal) c i p3 h3 p4 h4 p5 h5 p6 h6 hc0 hc1 hc2 x y a)]
  unfold kernelRun0_B
  dsimp only
  rw [View.canon_unit_zero (S := S1408x1024) start_zero]
  unfold k0_pay3
  simp only [View.readAt_eq_ld, h3.read_unread, h4.read_unread, h6.read_unread, View.ld_unit_zero (S := S2048x1408) start_zero, View.ld_unit_zero (S := S2048x1024) start_zero,
    View.ld_unit_zero (S := S1408x1024) start_zero, shapeCast_self]

/-- The last block of rows writes the scratch with its product added. -/
theorem last_eq (hc0 : ¬cond0_0 i) (hc1 : cond0_1 i) (hc2 : cond0_2 i) :
    out0_C_2 (F := Ideal) c i p3 h3 p4 h4 p5 h5 p6 h6 hc0 hc1 hc2 x y a = addf a (k0_pay1 x y) := by
  unfold out0_C_2
  rw [View.read_writes_eq_canon _ _ _ (cover0_C_2 (F := Ideal) c i p3 h3 p4 h4 p5 h5 p6 h6 hc0 hc1 hc2 x y a)]
  unfold kernelRun0_C
  dsimp only
  sl_unfold_words
  rw [View.canon_unit_zero (S := S1408x1024) start_zero, View.readCov_unit_zero (S := S1408x1024) _ start_zero]
  unfold k0_pay3
  simp only [View.readAt_eq_ld, h3.read_unread, h4.read_unread, h6.read_unread, View.ld_unit_zero (S := S2048x1408) start_zero, View.ld_unit_zero (S := S2048x1024) start_zero,
    View.ld_unit_zero (S := S1408x1024) start_zero, shapeCast_self]

end Body

/-- The product of two blocks. -/
theorem pay_apply (x : Vec Ideal S2048x1408 .bf16) (y : Vec Ideal S2048x1024 .bf16) (r : Fin 1408) (j : Fin 1024) :
    k0_pay1 x y (ix2 r j) = ∑ k : Fin 2048, x (ix2 k r) * y (ix2 k j) := by
  unfold k0_pay1
  simp only [shapeCast_self]
  exact first_zero x y r j

/-- The rows that the kernel is given. -/
def h : S8192x2816.Idx → EReal := m ((c : Thread nD τ).loc main_arg0)
/-- The cotangent that the kernel is given. -/
def g : S8192x1024.Idx → EReal := m ((c : Thread nD τ).loc main_arg1)

theorem V_h : (V m c main_v0 : S8192x2816.Idx → EReal) = h m c := by
  unfold V
  simp only [hostOps0, List.flatten_cons, List.flatten_nil, List.append_nil]
  after_results_simp
  rfl

theorem V_g : (V m c main_v1 : S8192x1024.Idx → EReal) = g m c := by
  unfold V
  simp only [hostOps0, List.flatten_cons, List.flatten_nil, List.append_nil]
  after_results_simp
  rfl

/-- The blocks of a grid point. -/
theorem index_eq : ∀ t : Fin grid0.N, win0_0.index t = ![t.val % 4, t.val / 4] ∧ win0_1.index t = ![t.val % 4, 0] := by decide +kernel

theorem lt_N (t : Fin grid0.N) : t.val < 8 := lt_of_lt_of_eq t.isLt N_0

theorem read0 (X : (Pipeline.arrRef spec0 0).ty.Contents (Elt Ideal)) (t : Fin grid0.N) (r : Fin 2048) (l : Fin 1408) :
    (((cfg0.win 0).blk t).view.read (Elt Ideal) X : S2048x1408.Idx → EReal) (ix2 r l)
      = at2 (X : S8192x2816.Idx → EReal) (2048 * (t.val % 4) + r.val) (1408 * (t.val / 4) + l.val) := by
  have := lt_N t
  rw [at2_of_lt _ (show 2048 * (t.val % 4) + r.val < 8192 by omega) (show 1408 * (t.val / 4) + l.val < 2816 by omega)]
  refine congrArg X (ext2 ?_ ?_)
  · blk_simp [(index_eq t).1]
    show t.val % 4 * 2048 + r.val = 2048 * (t.val % 4) + r.val
    omega
  · blk_simp [(index_eq t).1]
    show t.val / 4 * 1408 + l.val = 1408 * (t.val / 4) + l.val
    omega

theorem read1 (X : (Pipeline.arrRef spec0 1).ty.Contents (Elt Ideal)) (t : Fin grid0.N) (r : Fin 2048) (l : Fin 1024) :
    (((cfg0.win 1).blk t).view.read (Elt Ideal) X : S2048x1024.Idx → EReal) (ix2 r l)
      = at2 (X : S8192x1024.Idx → EReal) (2048 * (t.val % 4) + r.val) l := by
  have := lt_N t
  rw [at2_of_lt _ (show 2048 * (t.val % 4) + r.val < 8192 by omega) l.2]
  refine congrArg X (ext2 ?_ ?_)
  · blk_simp [(index_eq t).2]
    show t.val % 4 * 2048 + r.val = 2048 * (t.val % 4) + r.val
    omega
  · blk_simp [(index_eq t).2]

/-- The product of a grid point's two blocks. -/
def prod (t : Fin cfg0.N) : S1408x1024.Idx → EReal := k0_pay1 (F := Ideal) (iblk m c 0 t) (iblk m c 1 t)

theorem prod_apply (t : Fin cfg0.N) (r : Fin 1408) (j : Fin 1024) : prod m c t (ix2 r j)
    = ∑ k ∈ Finset.range 2048, at2 (h m c) (2048 * (t.val % 4) + k) (1408 * (t.val / 4) + r.val) * at2 (g m c) (2048 * (t.val % 4) + k) j := by
  unfold prod
  refine (pay_apply _ _ r j).trans ?_
  rw [← Fin.sum_univ_eq_sum_range (fun k => at2 (h m c) (2048 * (t.val % 4) + k) (1408 * (t.val / 4) + r.val) * at2 (g m c) (2048 * (t.val % 4) + k) j)]
  refine Finset.sum_congr rfl fun k _ => congrArg₂ (· * ·) ?_ ?_
  · exact (read0 (V m c (Pipeline.arrRef spec0 0)) t k r).trans (congrArg (fun X : S8192x2816.Idx → EReal => at2 X (2048 * (t.val % 4) + k.val) (1408 * (t.val / 4) + r.val)) (V_h m c))
  · exact (read1 (V m c (Pipeline.arrRef spec0 1)) t k j).trans (congrArg (fun X : S8192x1024.Idx → EReal => at2 X (2048 * (t.val % 4) + k.val) j) (V_g m c))

/-- The scratch after the first of four points. -/
theorem first_at (t : Fin cfg0.N) (h0 : t.val % 4 = 0) : (outsAt0 m c t.val t.isLt).2 = prod m c t := by
  rw [outsAt0_A m c t h0 (by omega) (by omega)]
  dsimp only
  rw [first_eq]
  rfl

/-- The scratch after the second and the third. -/
theorem next_at (t : Fin cfg0.N) (h1 : 1 ≤ t.val % 4) (h2 : ¬t.val % 4 = 3) : (outsAt0 m c t.val t.isLt).2
    = addf (F := Ideal) (φ := .f32) (outsAt0 m c (t.val - 1) (Nat.lt_of_le_of_lt (Nat.sub_le _ _) t.isLt)).2 (prod m c t) := by
  rw [outsAt0_B m c t (by omega) h1 h2]
  dsimp only
  rw [next_eq]
  rfl

/-- The output after the fourth. -/
theorem last_at (t : Fin cfg0.N) (h2 : t.val % 4 = 3) : (outsAt0 m c t.val t.isLt).1
    = addf (F := Ideal) (φ := .f32) (outsAt0 m c (t.val - 1) (Nat.lt_of_le_of_lt (Nat.sub_le _ _) t.isLt)).2 (prod m c t) := by
  rw [outsAt0_C m c t (by omega) (by omega) h2]
  dsimp only
  rw [last_eq]
  rfl

/-- What the last of the four points writes: the sum of their products. -/
theorem outs_eq (q : ℕ) (hq : q < 2) (y : S1408x1024.Idx) (hN : 4 * q + 3 < cfg0.N) :
    ((outsAt0 m c (4 * q + 3) hN).1 : S1408x1024.Idx → EReal) y
      = prod m c ⟨4 * q, by omega⟩ y + prod m c ⟨4 * q + 1, by omega⟩ y + prod m c ⟨4 * q + 2, by omega⟩ y + prod m c ⟨4 * q + 3, hN⟩ y := by
  have e0 := first_at m c ⟨4 * q, by omega⟩ (by dsimp only; omega)
  have e1 := next_at m c ⟨4 * q + 1, by omega⟩ (by dsimp only; omega) (by dsimp only; omega)
  have e2 := next_at m c ⟨4 * q + 2, by omega⟩ (by dsimp only; omega) (by dsimp only; omega)
  have e3 := last_at m c ⟨4 * q + 3, hN⟩ (by dsimp only; omega)
  refine (congrFun e3 y).trans (congrArg (· + prod m c ⟨4 * q + 3, hN⟩ y) ?_)
  refine (congrFun e2 y).trans (congrArg (· + prod m c ⟨4 * q + 2, by omega⟩ y) ?_)
  exact (congrFun e1 y).trans (congrArg (· + prod m c ⟨4 * q + 1, by omega⟩ y) (congrFun e0 y))

/-- The array that the run leaves, at an index. -/
theorem out_apply (r : Fin 2816) (j : Fin 1024) : (G2 m c : S2816x1024.Idx → EReal) (ix2 r j) = ∑ k : Fin 8192, h m c (ix2 k r) * g m c (ix2 k j) := by
  have hq : r.val / 1408 < 2 := by omega
  have hp : pt2Of (ix2 r j) = 4 * (r.val / 1408) + 3 := by
    show 4 * (1 * (r.val / 1408 - 0) + 1 * (j.val / 1024 - 0)) + 3 = _
    omega
  have hN : 4 * (r.val / 1408) + 3 < cfg0.N := by rw [show cfg0.N = 8 from N_0]; omega
  have hl : loc2Of (ix2 r j) = ix2 (⟨r.val % 1408, by omega⟩ : Fin 1408) j := ext2 rfl (by show j.val % 1024 = j.val; omega)
  unfold G2
  rw [dif_pos (by rw [hp]; exact hN), hl, fold0_congr m c _ _ (4 * (r.val / 1408) + 3) (by omega) hp, ← outsAt0_sweep m c _ hN]
  refine (outs_eq m c _ hq _ hN).trans ?_
  rw [prod_apply, prod_apply, prod_apply, prod_apply, sum_first]
  have a0 : (4 * (r.val / 1408)) % 4 = 0 := by omega
  have a1 : (4 * (r.val / 1408) + 1) % 4 = 1 := by omega
  have a2 : (4 * (r.val / 1408) + 2) % 4 = 2 := by omega
  have a3 : (4 * (r.val / 1408) + 3) % 4 = 3 := by omega
  have b0 : 1408 * ((4 * (r.val / 1408)) / 4) + r.val % 1408 = r.val := by omega
  have b1 : 1408 * ((4 * (r.val / 1408) + 1) / 4) + r.val % 1408 = r.val := by omega
  have b2 : 1408 * ((4 * (r.val / 1408) + 2) / 4) + r.val % 1408 = r.val := by omega
  have b3 : 1408 * ((4 * (r.val / 1408) + 3) / 4) + r.val % 1408 = r.val := by omega
  dsimp only
  rw [a0, a1, a2, a3, b0, b1, b2, b3]
  exact sum_four_blocks (fun k => at2 (h m c) k r * at2 (g m c) k j) 2048

/-- The reference at an index. -/
theorem ref_apply (h : S8192x2816.Idx → EReal) (g : S8192x1024.Idx → EReal) (r : Fin 2816) (j : Fin 1024) :
    (Cert.DownDwRefIdeal.Read.val_main_v1 (F := Ideal) h g : S2816x1024.Idx → EReal) (ix2 r j) = ∑ k : Fin 8192, h (ix2 k r) * g (ix2 k j) := by
  refine (Cert.DownDwRefIdeal.Read.val_main_v1_apply (F := Ideal) h g (ix2 r j)).trans ?_
  refine (Cert.DownDwRefIdeal.Read.val_main_v0_apply h g _).trans ?_
  exact Finset.sum_congr rfl fun k _ => (EReal.mul_comm _ _).trans (congrArg₂ (fun a b : EReal => a * b) (congrArg h (ext2 rfl rfl)) (congrArg g (ext2 rfl rfl)))

/-- The run leaves what the reference computes. -/
theorem same : (G2 m c : S2816x1024.Idx → EReal) = Cert.DownDwRefIdeal.Read.val_main_v1 (F := Ideal) (h m c) (g m c) := by
  funext i
  rw [eq_ix2 i]
  exact (out_apply m c _ _).trans (ref_apply _ _ _ _).symm

end Cert.Products.DownDw

end
-- ==== Proof.OutDx.lean ====
/- The cotangent of the output projection's input: the kernel's blocks of it, and the plain product. -/
module

public import proofs.«01_k».proof.Proof.Prod
public import proofs.«01_k».proof.Proof.Gen.OutDxIdeal.Value
public import proofs.«01_k».proof.Proof.Gen.OutDxRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.OutDx

open Cert.Fox Cert.OutDxIdeal Cert.OutDxIdeal.Gen Cert.OutDxIdeal.Value

variable (m : (ℓ : Loc nD τ sig) → Buf (Elt Ideal) ℓ) (c : Dev nD)

/-- What a point writes: the product of its two blocks. -/
theorem out_eq (i : grid0.Coords) (p3 : Memref sig .tc .vmem S1024x1024 .bf16) (h3 : p3.IsWhole) (p4 : Memref sig .tc .vmem S1024x1024 .bf16) (h4 : p4.IsWhole)
    (p5 : Memref sig .tc .vmem S1024x1024 .bf16) (h5 : p5.IsWhole) (p6 : Memref sig .tc .vmem S8x128 .f32) (h6 : p6.IsWhole)
    (x : Vec Ideal S1024x1024 .bf16) (y : Vec Ideal S1024x1024 .bf16) :
    out0_A_2 (F := Ideal) c i p3 h3 p4 h4 p5 h5 p6 h6 x y = k0_pay1 x y := by
  unfold out0_A_2
  rw [View.read_writes_eq_canon _ _ _ (cover0_A_2 (F := Ideal) c i p3 h3 p4 h4 p5 h5 p6 h6 x y)]
  unfold kernelRun0_A
  dsimp only
  rw [View.canon_unit_zero (S := S1024x1024) start_zero]
  simp only [View.readAt_eq_ld, h3.read_unread, h4.read_unread, View.ld_unit_zero (S := S1024x1024) start_zero]

/-- The product of two blocks at an index. -/
theorem pay_apply (x : Vec Ideal S1024x1024 .bf16) (y : Vec Ideal S1024x1024 .bf16) (r : Fin 1024) (j : Fin 1024) :
    k0_pay1 x y (ix2 r j) = ∑ k : Fin 1024, x (ix2 r k) * y (ix2 j k) := by
  unfold k0_pay1
  simp only [shapeCast_self]
  exact second_zero x y r j

/-- The cotangent that the kernel is given. -/
def g : S8192x1024.Idx → EReal := m ((c : Thread nD τ).loc main_arg1)
/-- The weights that the kernel is given. -/
def w : S1024x1024.Idx → EReal := m ((c : Thread nD τ).loc main_arg0)
/-- The array that the run leaves. -/
def out : S8192x1024.Idx → EReal := (dats m 0 c).arrAt 2 cfg0.N

/-- The blocks of a grid point. -/
theorem index_eq : ∀ t : Fin grid0.N,
    win0_0.index t = ![(grid0.coords t 0).val, 0] ∧ win0_1.index t = ![0, 0] ∧ win0_2.index t = ![(grid0.coords t 0).val, 0] := by decide +kernel

/-- Every block of rows has its point. -/
theorem point : ∀ b : Fin 8, ∃ t : Fin grid0.N, (grid0.coords t 0).val = b.val := by decide +kernel

theorem row_lt (t : Fin grid0.N) : (grid0.coords t 0).val < 8 := (grid0.coords t 0).isLt

/-- The arrays that the region is given are the arguments. -/
theorem V_g : (V m c main_v0 : S8192x1024.Idx → EReal) = g m c := by
  unfold V
  simp only [hostOps0, List.flatten_cons, List.flatten_nil, List.append_nil]
  after_results_simp
  rfl

theorem V_w : (V m c main_v1 : S1024x1024.Idx → EReal) = w m c := by
  unfold V
  simp only [hostOps0, List.flatten_cons, List.flatten_nil, List.append_nil]
  after_results_simp
  rfl

theorem read0 (X : (Pipeline.arrRef spec0 0).ty.Contents (Elt Ideal)) (t : Fin grid0.N) (r : Fin 1024) (l : Fin 1024) :
    (((cfg0.win 0).blk t).view.read (Elt Ideal) X : S1024x1024.Idx → EReal) (ix2 r l)
      = (X : S8192x1024.Idx → EReal) (ix2 (⟨1024 * (grid0.coords t 0).val + r.val, by have := row_lt t; omega⟩ : Fin 8192) l) := by
  refine congrArg X (ext2 ?_ ?_)
  · blk_simp [(index_eq t).1]
    show (grid0.coords t 0).val * 1024 + r.val = 1024 * (grid0.coords t 0).val + r.val
    omega
  · blk_simp [(index_eq t).1]

theorem read1 (X : (Pipeline.arrRef spec0 1).ty.Contents (Elt Ideal)) (t : Fin grid0.N) (r : Fin 1024) (l : Fin 1024) :
    (((cfg0.win 1).blk t).view.read (Elt Ideal) X : S1024x1024.Idx → EReal) (ix2 r l) = (X : S1024x1024.Idx → EReal) (ix2 r l) := by
  refine congrArg X (ext2 ?_ ?_)
  · blk_simp [(index_eq t).2.1]
  · blk_simp [(index_eq t).2.1]

/-- The array that the run leaves, at an index of a point's block. -/
theorem block (t : Fin grid0.N) (r : Fin 1024) (j : Fin 1024) :
    out m c (ix2 (⟨1024 * (grid0.coords t 0).val + r.val, by have := row_lt t; omega⟩ : Fin 8192) j)
      = ((dats m 0 c).flushed 2 t : S1024x1024.Idx → EReal) (ix2 r j) := by
  refine Eq.trans ?_ (congrFun (blocks2 m c t (flush0_2 t)) (ix2 r j))
  refine congrArg (out m c) (ext2 ?_ ?_)
  · blk_simp [(index_eq t).2.2]
    show 1024 * (grid0.coords t 0).val + r.val = (grid0.coords t 0).val * 1024 + r.val
    omega
  · blk_simp [(index_eq t).2.2]

theorem cut_apply (X : S1024x1024.Idx → EReal) (t : Fin grid0.N) (r : Fin 1024) (j : Fin 1024) :
    ((cfg0.win 2).cut (α := EReal) (grid0.coords t) X : S1024x1024.Idx → EReal) (ix2 r j) = X (ix2 r j) := rfl

/-- The array that the run leaves, at an index. -/
theorem out_apply (r : Fin 8192) (j : Fin 1024) : out m c (ix2 r j) = ∑ k : Fin 1024, g m c (ix2 r k) * w m c (ix2 j k) := by
  obtain ⟨t, ht⟩ := point ⟨r.val / 1024, by omega⟩
  have ht : (grid0.coords t 0).val = r.val / 1024 := ht
  have e : r = (⟨1024 * (grid0.coords t 0).val + r.val % 1024, by have := row_lt t; omega⟩ : Fin 8192) := Fin.ext (by show r.val = 1024 * (grid0.coords t 0).val + r.val % 1024; omega)
  refine (congrArg (fun r' : Fin 8192 => out m c (ix2 r' j)) e).trans ((block m c t ⟨r.val % 1024, by omega⟩ j).trans ?_)
  rw [flushed2_A, out_eq]
  refine (cut_apply _ t _ _).trans ((pay_apply _ _ _ _).trans ?_)
  refine Finset.sum_congr rfl fun k _ => congrArg₂ (· * ·) ?_ ?_
  · refine (read0 (V m c (Pipeline.arrRef spec0 0)) t _ k).trans ((congrFun (V_g m c) _).trans ?_)
    exact congrArg (fun r' : Fin 8192 => g m c (ix2 r' k)) e.symm
  · exact (read1 (V m c (Pipeline.arrRef spec0 1)) t j k).trans (congrFun (V_w m c) _)

/-- The reference at an index. -/
theorem ref_apply (w : S1024x1024.Idx → EReal) (g : S8192x1024.Idx → EReal) (r : Fin 8192) (j : Fin 1024) :
    (Cert.OutDxRefIdeal.Read.val_main_v1 (F := Ideal) w g : S8192x1024.Idx → EReal) (ix2 r j) = ∑ k : Fin 1024, g (ix2 r k) * w (ix2 j k) :=
  (Cert.OutDxRefIdeal.Read.val_main_v0_apply w g (ix2 r j)).trans (Finset.sum_congr rfl fun k _ => congrArg₂ (· * ·) (congrArg g (ext2 rfl rfl)) (congrArg w (ext2 rfl rfl)))

/-- The run leaves what the reference computes. -/
theorem same : out m c = Cert.OutDxRefIdeal.Read.val_main_v1 (F := Ideal) (w m c) (g m c) := by
  funext i
  rw [eq_ix2 i]
  exact (out_apply m c _ _).trans (ref_apply _ _ _ _).symm

end Cert.Products.OutDx

end
-- ==== Proof.OutDw.lean ====
/- The cotangent of the output projection's weights: the kernel's sums over blocks of rows, and the plain product. -/
module

public import proofs.«01_k».proof.Proof.Prod
public import proofs.«01_k».proof.Proof.Gen.OutDwIdeal.Value
public import proofs.«01_k».proof.Proof.Gen.OutDwRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.OutDw

open Cert.Fox Cert.OutDwIdeal Cert.OutDwIdeal.Gen Cert.OutDwIdeal.Value

variable (m : (ℓ : Loc nD τ sig) → Buf (Elt Ideal) ℓ) (c : Dev nD)

section Body

variable (i : grid0.Coords) (p3 : Memref sig .tc .vmem S4096x1024 .bf16) (h3 : p3.IsWhole) (p4 : Memref sig .tc .vmem S4096x1024 .bf16) (h4 : p4.IsWhole)
  (p5 : Memref sig .tc .vmem S1024x1024 .f32) (h5 : p5.IsWhole) (p6 : Memref sig .tc .vmem S1024x1024 .f32) (h6 : p6.IsWhole)
  (x : Vec Ideal S4096x1024 .bf16) (y : Vec Ideal S4096x1024 .bf16) (a : Vec Ideal S1024x1024 .f32)

/-- The first half of the rows leaves its product in the scratch. -/
theorem first_eq (hc0 : cond0_0 i) (hc1 : ¬cond0_1 i) (hc2 : ¬cond0_2 i) :
    sout0_A_0 (F := Ideal) c i p3 h3 p4 h4 p5 h5 p6 h6 hc0 hc1 hc2 x y = k0_pay1 x y := by
  unfold sout0_A_0
  rw [View.read_writes_eq_canon _ _ _ (scover0_A_0 (F := Ideal) c i p3 h3 p4 h4 p5 h5 p6 h6 hc0 hc1 hc2 x y)]
  unfold kernelRun0_A
  dsimp only
  rw [View.canon_unit_zero (S := S1024x1024) start_zero]
  unfold k0_pay2
  simp only [View.readAt_eq_ld, h3.read_unread, h4.read_unread, View.ld_unit_zero (S := S4096x1024) start_zero, shapeCast_self]

/-- The second half writes the scratch with its product added. -/
theorem last_eq (hc0 : ¬cond0_0 i) (hc1 : cond0_1 i) (hc2 : cond0_2 i) :
    out0_B_2 (F := Ideal) c i p3 h3 p4 h4 p5 h5 p6 h6 hc0 hc1 hc2 x y a = addf a (k0_pay1 x y) := by
  unfold out0_B_2
  rw [View.read_writes_eq_canon _ _ _ (cover0_B_2 (F := Ideal) c i p3 h3 p4 h4 p5 h5 p6 h6 hc0 hc1 hc2 x y a)]
  unfold kernelRun0_B
  dsimp only
  sl_unfold_words
  rw [View.canon_unit_zero (S := S1024x1024) start_zero, View.readCov_unit_zero (S := S1024x1024) _ start_zero]
  unfold k0_pay3
  simp only [View.readAt_eq_ld, h3.read_unread, h4.read_unread, h6.read_unread, View.ld_unit_zero (S := S4096x1024) start_zero,
    View.ld_unit_zero (S := S1024x1024) start_zero, shapeCast_self]

end Body

/-- The product of two blocks. -/
theorem pay_apply (x : Vec Ideal S4096x1024 .bf16) (y : Vec Ideal S4096x1024 .bf16) (r : Fin 1024) (j : Fin 1024) :
    k0_pay1 x y (ix2 r j) = ∑ k : Fin 4096, x (ix2 k r) * y (ix2 k j) := by
  unfold k0_pay1
  simp only [shapeCast_self]
  exact first_zero x y r j

/-- The rows that the kernel is given. -/
def h : S8192x1024.Idx → EReal := m ((c : Thread nD τ).loc main_arg0)
/-- The cotangent that the kernel is given. -/
def g : S8192x1024.Idx → EReal := m ((c : Thread nD τ).loc main_arg1)

theorem V_h : (V m c main_v0 : S8192x1024.Idx → EReal) = h m c := by
  unfold V
  simp only [hostOps0, List.flatten_cons, List.flatten_nil, List.append_nil]
  after_results_simp
  rfl

theorem V_g : (V m c main_v1 : S8192x1024.Idx → EReal) = g m c := by
  unfold V
  simp only [hostOps0, List.flatten_cons, List.flatten_nil, List.append_nil]
  after_results_simp
  rfl

/-- The blocks of a grid point. -/
theorem index_eq : ∀ t : Fin grid0.N, win0_0.index t = ![t.val % 2, 0] ∧ win0_1.index t = ![t.val % 2, t.val / 2] := by decide +kernel

theorem lt_N (t : Fin grid0.N) : t.val < 2 := lt_of_lt_of_eq t.isLt N_0

theorem read0 (X : (Pipeline.arrRef spec0 0).ty.Contents (Elt Ideal)) (t : Fin grid0.N) (r : Fin 4096) (l : Fin 1024) :
    (((cfg0.win 0).blk t).view.read (Elt Ideal) X : S4096x1024.Idx → EReal) (ix2 r l)
      = at2 (X : S8192x1024.Idx → EReal) (4096 * (t.val % 2) + r.val) l := by
  have := lt_N t
  rw [at2_of_lt _ (show 4096 * (t.val % 2) + r.val < 8192 by omega) l.2]
  refine congrArg X (ext2 ?_ ?_)
  · blk_simp [(index_eq t).1]
    show t.val % 2 * 4096 + r.val = 4096 * (t.val % 2) + r.val
    omega
  · blk_simp [(index_eq t).1]

theorem read1 (X : (Pipeline.arrRef spec0 1).ty.Contents (Elt Ideal)) (t : Fin grid0.N) (r : Fin 4096) (l : Fin 1024) :
    (((cfg0.win 1).blk t).view.read (Elt Ideal) X : S4096x1024.Idx → EReal) (ix2 r l)
      = at2 (X : S8192x1024.Idx → EReal) (4096 * (t.val % 2) + r.val) (1024 * (t.val / 2) + l.val) := by
  have := lt_N t
  rw [at2_of_lt _ (show 4096 * (t.val % 2) + r.val < 8192 by omega) (show 1024 * (t.val / 2) + l.val < 1024 by omega)]
  refine congrArg X (ext2 ?_ ?_)
  · blk_simp [(index_eq t).2]
    show t.val % 2 * 4096 + r.val = 4096 * (t.val % 2) + r.val
    omega
  · blk_simp [(index_eq t).2]
    show t.val / 2 * 1024 + l.val = 1024 * (t.val / 2) + l.val
    omega

/-- The product of a grid point's two blocks. -/
def prod (t : Fin cfg0.N) : S1024x1024.Idx → EReal := k0_pay1 (F := Ideal) (iblk m c 0 t) (iblk m c 1 t)

theorem prod_apply (t : Fin cfg0.N) (r : Fin 1024) (j : Fin 1024) : prod m c t (ix2 r j)
    = ∑ k ∈ Finset.range 4096, at2 (h m c) (4096 * (t.val % 2) + k) r * at2 (g m c) (4096 * (t.val % 2) + k) (1024 * (t.val / 2) + j.val) := by
  unfold prod
  refine (pay_apply _ _ r j).trans ?_
  rw [← Fin.sum_univ_eq_sum_range (fun k => at2 (h m c) (4096 * (t.val % 2) + k) r * at2 (g m c) (4096 * (t.val % 2) + k) (1024 * (t.val / 2) + j.val))]
  refine Finset.sum_congr rfl fun k _ => congrArg₂ (· * ·) ?_ ?_
  · exact (read0 (V m c (Pipeline.arrRef spec0 0)) t k r).trans (congrArg (fun X : S8192x1024.Idx → EReal => at2 X (4096 * (t.val % 2) + k.val) r) (V_h m c))
  · exact (read1 (V m c (Pipeline.arrRef spec0 1)) t k j).trans (congrArg (fun X : S8192x1024.Idx → EReal => at2 X (4096 * (t.val % 2) + k.val) (1024 * (t.val / 2) + j.val)) (V_g m c))

/-- The scratch after the first of two points. -/
theorem first_at (t : Fin cfg0.N) (h0 : t.val % 2 = 0) : (outsAt0 m c t.val t.isLt).2 = prod m c t := by
  rw [outsAt0_A m c t h0 (by omega) (by omega)]
  dsimp only
  rw [first_eq]
  rfl

/-- The output after the second. -/
theorem last_at (t : Fin cfg0.N) (h2 : t.val % 2 = 1) : (outsAt0 m c t.val t.isLt).1
    = addf (F := Ideal) (φ := .f32) (outsAt0 m c (t.val - 1) (Nat.lt_of_le_of_lt (Nat.sub_le _ _) t.isLt)).2 (prod m c t) := by
  rw [outsAt0_B m c t (by omega) h2 h2]
  dsimp only
  rw [last_eq]
  rfl

/-- What the second of two points writes: the sum of their products. -/
theorem outs_eq (q : ℕ) (y : S1024x1024.Idx) (hN : 2 * q + 1 < cfg0.N) :
    ((outsAt0 m c (2 * q + 1) hN).1 : S1024x1024.Idx → EReal) y = prod m c ⟨2 * q, by omega⟩ y + prod m c ⟨2 * q + 1, hN⟩ y := by
  have e0 := first_at m c ⟨2 * q, by omega⟩ (by dsimp only; omega)
  have e1 := last_at m c ⟨2 * q + 1, hN⟩ (by dsimp only; omega)
  exact (congrFun e1 y).trans (congrArg (· + prod m c ⟨2 * q + 1, hN⟩ y) (congrFun e0 y))

/-- The array that the run leaves, at an index. -/
theorem out_apply (r : Fin 1024) (j : Fin 1024) : (G2 m c : S1024x1024.Idx → EReal) (ix2 r j) = ∑ k : Fin 8192, h m c (ix2 k r) * g m c (ix2 k j) := by
  have hp : pt2Of (ix2 r j) = 2 * (j.val / 1024) + 1 := by
    show 2 * (1 * (r.val / 1024 - 0) + 1 * (j.val / 1024 - 0)) + 1 = _
    omega
  have hN : 2 * (j.val / 1024) + 1 < cfg0.N := by rw [show cfg0.N = 2 from N_0]; omega
  have hl : loc2Of (ix2 r j) = ix2 r (⟨j.val % 1024, by omega⟩ : Fin 1024) := ext2 (by show r.val % 1024 = r.val; omega) rfl
  unfold G2
  rw [dif_pos (by rw [hp]; exact hN), hl, fold0_congr m c _ _ (2 * (j.val / 1024) + 1) (by omega) hp, ← outsAt0_sweep m c _ hN]
  refine (outs_eq m c _ _ hN).trans ?_
  rw [prod_apply, prod_apply, sum_first]
  have a0 : (2 * (j.val / 1024)) % 2 = 0 := by omega
  have a1 : (2 * (j.val / 1024) + 1) % 2 = 1 := by omega
  have b0 : 1024 * ((2 * (j.val / 1024)) / 2) + j.val % 1024 = j.val := by omega
  have b1 : 1024 * ((2 * (j.val / 1024) + 1) / 2) + j.val % 1024 = j.val := by omega
  dsimp only
  rw [a0, a1, b0, b1]
  exact sum_two_blocks (fun k => at2 (h m c) k r * at2 (g m c) k j) 4096

/-- The reference at an index. -/
theorem ref_apply (h : S8192x1024.Idx → EReal) (g : S8192x1024.Idx → EReal) (r : Fin 1024) (j : Fin 1024) :
    (Cert.OutDwRefIdeal.Read.val_main_v1 (F := Ideal) h g : S1024x1024.Idx → EReal) (ix2 r j) = ∑ k : Fin 8192, h (ix2 k r) * g (ix2 k j) := by
  refine (Cert.OutDwRefIdeal.Read.val_main_v1_apply (F := Ideal) h g (ix2 r j)).trans ?_
  refine (Cert.OutDwRefIdeal.Read.val_main_v0_apply h g _).trans ?_
  exact Finset.sum_congr rfl fun k _ => (EReal.mul_comm _ _).trans (congrArg₂ (fun a b : EReal => a * b) (congrArg h (ext2 rfl rfl)) (congrArg g (ext2 rfl rfl)))

/-- The run leaves what the reference computes. -/
theorem same : (G2 m c : S1024x1024.Idx → EReal) = Cert.OutDwRefIdeal.Read.val_main_v1 (F := Ideal) (h m c) (g m c) := by
  funext i
  rw [eq_ix2 i]
  exact (out_apply m c _ _).trans (ref_apply _ _ _ _).symm

end Cert.Products.OutDw

end
-- ==== Proof.InDx.lean ====
/- The cotangent of the input projection's input: the kernel's blocks of it, and the plain product. -/
module

public import proofs.«01_k».proof.Proof.Prod
public import proofs.«01_k».proof.Proof.Gen.InDxIdeal.Value
public import proofs.«01_k».proof.Proof.Gen.InDxRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.InDx

open Cert.Fox Cert.InDxIdeal Cert.InDxIdeal.Gen Cert.InDxIdeal.Value

variable (m : (ℓ : Loc nD τ sig) → Buf (Elt Ideal) ℓ) (c : Dev nD)

/-- What a point writes: the product of its two blocks. -/
theorem out_eq (i : grid0.Coords) (p3 : Memref sig .tc .vmem S1024x3072 .bf16) (h3 : p3.IsWhole) (p4 : Memref sig .tc .vmem S1024x3072 .bf16) (h4 : p4.IsWhole)
    (p5 : Memref sig .tc .vmem S1024x1024 .bf16) (h5 : p5.IsWhole) (p6 : Memref sig .tc .vmem S8x128 .f32) (h6 : p6.IsWhole)
    (x : Vec Ideal S1024x3072 .bf16) (y : Vec Ideal S1024x3072 .bf16) :
    out0_A_2 (F := Ideal) c i p3 h3 p4 h4 p5 h5 p6 h6 x y = k0_pay1 x y := by
  unfold out0_A_2
  rw [View.read_writes_eq_canon _ _ _ (cover0_A_2 (F := Ideal) c i p3 h3 p4 h4 p5 h5 p6 h6 x y)]
  unfold kernelRun0_A
  dsimp only
  rw [View.canon_unit_zero (S := S1024x1024) start_zero]
  simp only [View.readAt_eq_ld, h3.read_unread, h4.read_unread, View.ld_unit_zero (S := S1024x3072) start_zero]

/-- The product of two blocks at an index. -/
theorem pay_apply (x : Vec Ideal S1024x3072 .bf16) (y : Vec Ideal S1024x3072 .bf16) (r : Fin 1024) (j : Fin 1024) :
    k0_pay1 x y (ix2 r j) = ∑ k : Fin 3072, x (ix2 r k) * y (ix2 j k) := by
  unfold k0_pay1
  simp only [shapeCast_self]
  exact second_zero x y r j

/-- The cotangent that the kernel is given. -/
def g : S8192x3072.Idx → EReal := m ((c : Thread nD τ).loc main_arg1)
/-- The weights that the kernel is given. -/
def w : S1024x3072.Idx → EReal := m ((c : Thread nD τ).loc main_arg0)
/-- The array that the run leaves. -/
def out : S8192x1024.Idx → EReal := (dats m 0 c).arrAt 2 cfg0.N

/-- The blocks of a grid point. -/
theorem index_eq : ∀ t : Fin grid0.N,
    win0_0.index t = ![(grid0.coords t 0).val, 0] ∧ win0_1.index t = ![0, 0] ∧ win0_2.index t = ![(grid0.coords t 0).val, 0] := by decide +kernel

/-- Every block of rows has its point. -/
theorem point : ∀ b : Fin 8, ∃ t : Fin grid0.N, (grid0.coords t 0).val = b.val := by decide +kernel

theorem row_lt (t : Fin grid0.N) : (grid0.coords t 0).val < 8 := (grid0.coords t 0).isLt

/-- The arrays that the region is given are the arguments. -/
theorem V_g : (V m c main_v0 : S8192x3072.Idx → EReal) = g m c := by
  unfold V
  simp only [hostOps0, List.flatten_cons, List.flatten_nil, List.append_nil]
  after_results_simp
  rfl

theorem V_w : (V m c main_v1 : S1024x3072.Idx → EReal) = w m c := by
  unfold V
  simp only [hostOps0, List.flatten_cons, List.flatten_nil, List.append_nil]
  after_results_simp
  rfl

theorem read0 (X : (Pipeline.arrRef spec0 0).ty.Contents (Elt Ideal)) (t : Fin grid0.N) (r : Fin 1024) (l : Fin 3072) :
    (((cfg0.win 0).blk t).view.read (Elt Ideal) X : S1024x3072.Idx → EReal) (ix2 r l)
      = (X : S8192x3072.Idx → EReal) (ix2 (⟨1024 * (grid0.coords t 0).val + r.val, by have := row_lt t; omega⟩ : Fin 8192) l) := by
  refine congrArg X (ext2 ?_ ?_)
  · blk_simp [(index_eq t).1]
    show (grid0.coords t 0).val * 1024 + r.val = 1024 * (grid0.coords t 0).val + r.val
    omega
  · blk_simp [(index_eq t).1]

theorem read1 (X : (Pipeline.arrRef spec0 1).ty.Contents (Elt Ideal)) (t : Fin grid0.N) (r : Fin 1024) (l : Fin 3072) :
    (((cfg0.win 1).blk t).view.read (Elt Ideal) X : S1024x3072.Idx → EReal) (ix2 r l) = (X : S1024x3072.Idx → EReal) (ix2 r l) := by
  refine congrArg X (ext2 ?_ ?_)
  · blk_simp [(index_eq t).2.1]
  · blk_simp [(index_eq t).2.1]

/-- The array that the run leaves, at an index of a point's block. -/
theorem block (t : Fin grid0.N) (r : Fin 1024) (j : Fin 1024) :
    out m c (ix2 (⟨1024 * (grid0.coords t 0).val + r.val, by have := row_lt t; omega⟩ : Fin 8192) j)
      = ((dats m 0 c).flushed 2 t : S1024x1024.Idx → EReal) (ix2 r j) := by
  refine Eq.trans ?_ (congrFun (blocks2 m c t (flush0_2 t)) (ix2 r j))
  refine congrArg (out m c) (ext2 ?_ ?_)
  · blk_simp [(index_eq t).2.2]
    show 1024 * (grid0.coords t 0).val + r.val = (grid0.coords t 0).val * 1024 + r.val
    omega
  · blk_simp [(index_eq t).2.2]

theorem cut_apply (X : S1024x1024.Idx → EReal) (t : Fin grid0.N) (r : Fin 1024) (j : Fin 1024) :
    ((cfg0.win 2).cut (α := EReal) (grid0.coords t) X : S1024x1024.Idx → EReal) (ix2 r j) = X (ix2 r j) := rfl

/-- The array that the run leaves, at an index. -/
theorem out_apply (r : Fin 8192) (j : Fin 1024) : out m c (ix2 r j) = ∑ k : Fin 3072, g m c (ix2 r k) * w m c (ix2 j k) := by
  obtain ⟨t, ht⟩ := point ⟨r.val / 1024, by omega⟩
  have ht : (grid0.coords t 0).val = r.val / 1024 := ht
  have e : r = (⟨1024 * (grid0.coords t 0).val + r.val % 1024, by have := row_lt t; omega⟩ : Fin 8192) := Fin.ext (by show r.val = 1024 * (grid0.coords t 0).val + r.val % 1024; omega)
  refine (congrArg (fun r' : Fin 8192 => out m c (ix2 r' j)) e).trans ((block m c t ⟨r.val % 1024, by omega⟩ j).trans ?_)
  rw [flushed2_A, out_eq]
  refine (cut_apply _ t _ _).trans ((pay_apply _ _ _ _).trans ?_)
  refine Finset.sum_congr rfl fun k _ => congrArg₂ (· * ·) ?_ ?_
  · refine (read0 (V m c (Pipeline.arrRef spec0 0)) t _ k).trans ((congrFun (V_g m c) _).trans ?_)
    exact congrArg (fun r' : Fin 8192 => g m c (ix2 r' k)) e.symm
  · exact (read1 (V m c (Pipeline.arrRef spec0 1)) t j k).trans (congrFun (V_w m c) _)

/-- The reference at an index. -/
theorem ref_apply (w : S1024x3072.Idx → EReal) (g : S8192x3072.Idx → EReal) (r : Fin 8192) (j : Fin 1024) :
    (Cert.InDxRefIdeal.Read.val_main_v1 (F := Ideal) w g : S8192x1024.Idx → EReal) (ix2 r j) = ∑ k : Fin 3072, g (ix2 r k) * w (ix2 j k) :=
  (Cert.InDxRefIdeal.Read.val_main_v0_apply w g (ix2 r j)).trans (Finset.sum_congr rfl fun k _ => congrArg₂ (· * ·) (congrArg g (ext2 rfl rfl)) (congrArg w (ext2 rfl rfl)))

/-- The run leaves what the reference computes. -/
theorem same : out m c = Cert.InDxRefIdeal.Read.val_main_v1 (F := Ideal) (w m c) (g m c) := by
  funext i
  rw [eq_ix2 i]
  exact (out_apply m c _ _).trans (ref_apply _ _ _ _).symm

end Cert.Products.InDx

end
-- ==== Proof.InDw.lean ====
/- The cotangent of the input projection's weights: the kernel's sums over blocks of rows, and the plain product. -/
module

public import proofs.«01_k».proof.Proof.Prod
public import proofs.«01_k».proof.Proof.Gen.InDwIdeal.Value
public import proofs.«01_k».proof.Proof.Gen.InDwRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.InDw

open Cert.Fox Cert.InDwIdeal Cert.InDwIdeal.Gen Cert.InDwIdeal.Value

variable (m : (ℓ : Loc nD τ sig) → Buf (Elt Ideal) ℓ) (c : Dev nD)

section Body

variable (i : grid0.Coords) (p3 : Memref sig .tc .vmem S4096x1024 .bf16) (h3 : p3.IsWhole) (p4 : Memref sig .tc .vmem S4096x1024 .bf16) (h4 : p4.IsWhole)
  (p5 : Memref sig .tc .vmem S1024x1024 .f32) (h5 : p5.IsWhole) (p6 : Memref sig .tc .vmem S1024x1024 .f32) (h6 : p6.IsWhole)
  (x : Vec Ideal S4096x1024 .bf16) (y : Vec Ideal S4096x1024 .bf16) (a : Vec Ideal S1024x1024 .f32)

/-- The first half of the rows leaves its product in the scratch. -/
theorem first_eq (hc0 : cond0_0 i) (hc1 : ¬cond0_1 i) (hc2 : ¬cond0_2 i) :
    sout0_A_0 (F := Ideal) c i p3 h3 p4 h4 p5 h5 p6 h6 hc0 hc1 hc2 x y = k0_pay1 x y := by
  unfold sout0_A_0
  rw [View.read_writes_eq_canon _ _ _ (scover0_A_0 (F := Ideal) c i p3 h3 p4 h4 p5 h5 p6 h6 hc0 hc1 hc2 x y)]
  unfold kernelRun0_A
  dsimp only
  rw [View.canon_unit_zero (S := S1024x1024) start_zero]
  unfold k0_pay2
  simp only [View.readAt_eq_ld, h3.read_unread, h4.read_unread, View.ld_unit_zero (S := S4096x1024) start_zero, shapeCast_self]

/-- The second half writes the scratch with its product added. -/
theorem last_eq (hc0 : ¬cond0_0 i) (hc1 : cond0_1 i) (hc2 : cond0_2 i) :
    out0_B_2 (F := Ideal) c i p3 h3 p4 h4 p5 h5 p6 h6 hc0 hc1 hc2 x y a = addf a (k0_pay1 x y) := by
  unfold out0_B_2
  rw [View.read_writes_eq_canon _ _ _ (cover0_B_2 (F := Ideal) c i p3 h3 p4 h4 p5 h5 p6 h6 hc0 hc1 hc2 x y a)]
  unfold kernelRun0_B
  dsimp only
  sl_unfold_words
  rw [View.canon_unit_zero (S := S1024x1024) start_zero, View.readCov_unit_zero (S := S1024x1024) _ start_zero]
  unfold k0_pay3
  simp only [View.readAt_eq_ld, h3.read_unread, h4.read_unread, h6.read_unread, View.ld_unit_zero (S := S4096x1024) start_zero,
    View.ld_unit_zero (S := S1024x1024) start_zero, shapeCast_self]

end Body

/-- The product of two blocks. -/
theorem pay_apply (x : Vec Ideal S4096x1024 .bf16) (y : Vec Ideal S4096x1024 .bf16) (r : Fin 1024) (j : Fin 1024) :
    k0_pay1 x y (ix2 r j) = ∑ k : Fin 4096, x (ix2 k r) * y (ix2 k j) := by
  unfold k0_pay1
  simp only [shapeCast_self]
  exact first_zero x y r j

/-- The rows that the kernel is given. -/
def h : S8192x1024.Idx → EReal := m ((c : Thread nD τ).loc main_arg0)
/-- The cotangent that the kernel is given. -/
def g : S8192x3072.Idx → EReal := m ((c : Thread nD τ).loc main_arg1)

theorem V_h : (V m c main_v0 : S8192x1024.Idx → EReal) = h m c := by
  unfold V
  simp only [hostOps0, List.flatten_cons, List.flatten_nil, List.append_nil]
  after_results_simp
  rfl

theorem V_g : (V m c main_v1 : S8192x3072.Idx → EReal) = g m c := by
  unfold V
  simp only [hostOps0, List.flatten_cons, List.flatten_nil, List.append_nil]
  after_results_simp
  rfl

/-- The blocks of a grid point. -/
theorem index_eq : ∀ t : Fin grid0.N, win0_0.index t = ![t.val % 2, 0] ∧ win0_1.index t = ![t.val % 2, t.val / 2] := by decide +kernel

theorem lt_N (t : Fin grid0.N) : t.val < 6 := lt_of_lt_of_eq t.isLt N_0

theorem read0 (X : (Pipeline.arrRef spec0 0).ty.Contents (Elt Ideal)) (t : Fin grid0.N) (r : Fin 4096) (l : Fin 1024) :
    (((cfg0.win 0).blk t).view.read (Elt Ideal) X : S4096x1024.Idx → EReal) (ix2 r l)
      = at2 (X : S8192x1024.Idx → EReal) (4096 * (t.val % 2) + r.val) l := by
  have := lt_N t
  rw [at2_of_lt _ (show 4096 * (t.val % 2) + r.val < 8192 by omega) l.2]
  refine congrArg X (ext2 ?_ ?_)
  · blk_simp [(index_eq t).1]
    show t.val % 2 * 4096 + r.val = 4096 * (t.val % 2) + r.val
    omega
  · blk_simp [(index_eq t).1]

theorem read1 (X : (Pipeline.arrRef spec0 1).ty.Contents (Elt Ideal)) (t : Fin grid0.N) (r : Fin 4096) (l : Fin 1024) :
    (((cfg0.win 1).blk t).view.read (Elt Ideal) X : S4096x1024.Idx → EReal) (ix2 r l)
      = at2 (X : S8192x3072.Idx → EReal) (4096 * (t.val % 2) + r.val) (1024 * (t.val / 2) + l.val) := by
  have := lt_N t
  rw [at2_of_lt _ (show 4096 * (t.val % 2) + r.val < 8192 by omega) (show 1024 * (t.val / 2) + l.val < 3072 by omega)]
  refine congrArg X (ext2 ?_ ?_)
  · blk_simp [(index_eq t).2]
    show t.val % 2 * 4096 + r.val = 4096 * (t.val % 2) + r.val
    omega
  · blk_simp [(index_eq t).2]
    show t.val / 2 * 1024 + l.val = 1024 * (t.val / 2) + l.val
    omega

/-- The product of a grid point's two blocks. -/
def prod (t : Fin cfg0.N) : S1024x1024.Idx → EReal := k0_pay1 (F := Ideal) (iblk m c 0 t) (iblk m c 1 t)

theorem prod_apply (t : Fin cfg0.N) (r : Fin 1024) (j : Fin 1024) : prod m c t (ix2 r j)
    = ∑ k ∈ Finset.range 4096, at2 (h m c) (4096 * (t.val % 2) + k) r * at2 (g m c) (4096 * (t.val % 2) + k) (1024 * (t.val / 2) + j.val) := by
  unfold prod
  refine (pay_apply _ _ r j).trans ?_
  rw [← Fin.sum_univ_eq_sum_range (fun k => at2 (h m c) (4096 * (t.val % 2) + k) r * at2 (g m c) (4096 * (t.val % 2) + k) (1024 * (t.val / 2) + j.val))]
  refine Finset.sum_congr rfl fun k _ => congrArg₂ (· * ·) ?_ ?_
  · exact (read0 (V m c (Pipeline.arrRef spec0 0)) t k r).trans (congrArg (fun X : S8192x1024.Idx → EReal => at2 X (4096 * (t.val % 2) + k.val) r) (V_h m c))
  · exact (read1 (V m c (Pipeline.arrRef spec0 1)) t k j).trans (congrArg (fun X : S8192x3072.Idx → EReal => at2 X (4096 * (t.val % 2) + k.val) (1024 * (t.val / 2) + j.val)) (V_g m c))

/-- The scratch after the first of two points. -/
theorem first_at (t : Fin cfg0.N) (h0 : t.val % 2 = 0) : (outsAt0 m c t.val t.isLt).2 = prod m c t := by
  rw [outsAt0_A m c t h0 (by omega) (by omega)]
  dsimp only
  rw [first_eq]
  rfl

/-- The output after the second. -/
theorem last_at (t : Fin cfg0.N) (h2 : t.val % 2 = 1) : (outsAt0 m c t.val t.isLt).1
    = addf (F := Ideal) (φ := .f32) (outsAt0 m c (t.val - 1) (Nat.lt_of_le_of_lt (Nat.sub_le _ _) t.isLt)).2 (prod m c t) := by
  rw [outsAt0_B m c t (by omega) h2 h2]
  dsimp only
  rw [last_eq]
  rfl

/-- What the second of two points writes: the sum of their products. -/
theorem outs_eq (q : ℕ) (y : S1024x1024.Idx) (hN : 2 * q + 1 < cfg0.N) :
    ((outsAt0 m c (2 * q + 1) hN).1 : S1024x1024.Idx → EReal) y = prod m c ⟨2 * q, by omega⟩ y + prod m c ⟨2 * q + 1, hN⟩ y := by
  have e0 := first_at m c ⟨2 * q, by omega⟩ (by dsimp only; omega)
  have e1 := last_at m c ⟨2 * q + 1, hN⟩ (by dsimp only; omega)
  exact (congrFun e1 y).trans (congrArg (· + prod m c ⟨2 * q + 1, hN⟩ y) (congrFun e0 y))

/-- The array that the run leaves, at an index. -/
theorem out_apply (r : Fin 1024) (j : Fin 3072) : (G2 m c : S1024x3072.Idx → EReal) (ix2 r j) = ∑ k : Fin 8192, h m c (ix2 k r) * g m c (ix2 k j) := by
  have hp : pt2Of (ix2 r j) = 2 * (j.val / 1024) + 1 := by
    show 2 * (3 * (r.val / 1024 - 0) + 1 * (j.val / 1024 - 0)) + 1 = _
    omega
  have hN : 2 * (j.val / 1024) + 1 < cfg0.N := by rw [show cfg0.N = 6 from N_0]; omega
  have hl : loc2Of (ix2 r j) = ix2 r (⟨j.val % 1024, by omega⟩ : Fin 1024) := ext2 (by show r.val % 1024 = r.val; omega) rfl
  unfold G2
  rw [dif_pos (by rw [hp]; exact hN), hl, fold0_congr m c _ _ (2 * (j.val / 1024) + 1) (by omega) hp, ← outsAt0_sweep m c _ hN]
  refine (outs_eq m c _ _ hN).trans ?_
  rw [prod_apply, prod_apply, sum_first]
  have a0 : (2 * (j.val / 1024)) % 2 = 0 := by omega
  have a1 : (2 * (j.val / 1024) + 1) % 2 = 1 := by omega
  have b0 : 1024 * ((2 * (j.val / 1024)) / 2) + j.val % 1024 = j.val := by omega
  have b1 : 1024 * ((2 * (j.val / 1024) + 1) / 2) + j.val % 1024 = j.val := by omega
  dsimp only
  rw [a0, a1, b0, b1]
  exact sum_two_blocks (fun k => at2 (h m c) k r * at2 (g m c) k j) 4096

/-- The reference at an index. -/
theorem ref_apply (h : S8192x1024.Idx → EReal) (g : S8192x3072.Idx → EReal) (r : Fin 1024) (j : Fin 3072) :
    (Cert.InDwRefIdeal.Read.val_main_v1 (F := Ideal) h g : S1024x3072.Idx → EReal) (ix2 r j) = ∑ k : Fin 8192, h (ix2 k r) * g (ix2 k j) := by
  refine (Cert.InDwRefIdeal.Read.val_main_v1_apply (F := Ideal) h g (ix2 r j)).trans ?_
  refine (Cert.InDwRefIdeal.Read.val_main_v0_apply h g _).trans ?_
  exact Finset.sum_congr rfl fun k _ => (EReal.mul_comm _ _).trans (congrArg₂ (fun a b : EReal => a * b) (congrArg h (ext2 rfl rfl)) (congrArg g (ext2 rfl rfl)))

/-- The run leaves what the reference computes. -/
theorem same : (G2 m c : S1024x3072.Idx → EReal) = Cert.InDwRefIdeal.Read.val_main_v1 (F := Ideal) (h m c) (g m c) := by
  funext i
  rw [eq_ix2 i]
  exact (out_apply m c _ _).trans (ref_apply _ _ _ _).symm

end Cert.Products.InDw

end
-- ==== Proof.Norm.lean ====
/- The norm of a row in front of a product: its factor, its value, and the sum of squares of a row. -/
module

public import proofs.«01_k».proof.Proof.Prod

@[expose] public section

noncomputable section

open Idealize.ShloMosaic hiding ix0 ix1 ix2 ix3 ix4 ix5 eq_ix1 eq_ix2 eq_ix3 eq_ix4
open Idealize.ShloMosaic.ValueIdx
open scoped BigOperators

namespace Cert.Products

open Cert.Fox

/-- The factor of a row, of the sum of its squares. -/
def scale (s : EReal) : EReal :=
  FloatOps.rsqrt (F := Ideal) (φ := .f32) (FloatOps.addf (F := Ideal) (φ := .f32) (FloatOps.divf (F := Ideal) (φ := .f32) s (Scalar.ofBits (F := Ideal) .f32 0x44800000#32))
    (Scalar.ofBits (F := Ideal) .f32 0x358637BD#32))

/-- The entry of a normed row: the entry of the row, the row's factor, and the entry of the gain. -/
def normed (x : Fin 1024 → EReal) (g : EReal) (j : Fin 1024) : EReal := x j * scale (∑ k : Fin 1024, x k * x k) * g

/-- The sum of the squares of a row of a block. -/
theorem row_squares {M : ℕ} (x : FVec Ideal (sh M 1024) .f32) (h : (sh M 1024).Reduces [1] ⟨1, ![M]⟩) (r : Fin M) :
    multiReduction .add [1] ⟨1, ![M]⟩ (mulf x x) 0x00000000#32 h (.inl rfl) rfl (ix1 r) = ∑ k : Fin 1024, x (ix2 r k) * x (ix2 r k) := by
  refine (Ideal.multiReduction_add_single _ _ h _ _ _).trans (Finset.sum_congr rfl fun k _ => ?_)
  have e : h.lift (ix1 r) k = ix2 r k := ext2 rfl rfl
  exact congrArg₂ (fun a b : EReal => a * b) (congrArg x e) (congrArg x e)

end Cert.Products

end
-- ==== Proof.InFwd.lean ====
/- The input projection with the norm in front of it: the kernel's blocks of both results, and the plain values. -/
module

public import proofs.«01_k».proof.Proof.Norm
public import proofs.«01_k».proof.Proof.Gen.InFwdIdeal.Value
public import proofs.«01_k».proof.Proof.Gen.InFwdRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.InFwd

open Cert.Fox Cert.InFwdIdeal Cert.InFwdIdeal.Gen Cert.InFwdIdeal.Value

variable (m : (ℓ : Loc nD τ sig) → Buf (Elt Ideal) ℓ) (c : Dev nD)

/-- The normed block at an index. -/
theorem norm_apply (x : Vec Ideal S512x1024 .f32) (g : Vec Ideal S1x1024 .f32) (r : Fin 512) (j : Fin 1024) :
    (k0_pay1 x g (ix2 r j) : EReal) = normed (fun k => x (ix2 r k)) (g (ix2 0 j)) j := by
  refine (piece3_0 x g (ix2 r j)).trans ?_
  unfold normed
  refine congrArg₂ (fun a b : EReal => a * b) (congrArg₂ (fun a b : EReal => a * b) (congrArg x ?_) (congrArg scale ?_)) (congrArg g ?_)
  · exact ext2 (by show 0 + 1 * r.val = r.val; omega) (by show 0 + 1 * j.val = j.val; omega)
  · have e : ix3_1 (r0_0.idx (ix2 r j)) = ix1 r := funext fun a => match a with
      | ⟨0, _⟩ => Fin.ext (by show 0 + 1 * r.val = r.val; omega)
    rw [e]
    exact row_squares (M := 512) x _ r
  · exact ext2 rfl (by show 0 + 1 * j.val = j.val; omega)

/-- What a point writes of the first result: the normed block. -/
theorem left_eq (x : Vec Ideal S512x1024 .f32) (g : Vec Ideal S1x1024 .f32) (y : Vec Ideal S1024x3072 .bf16) :
    out0_3 (F := Ideal) x g y = k0_pay1 x g := by
  unfold out0_3
  rw [View.canon_unit_zero (S := S512x1024) start_zero]
  simp only [View.ld_unit_zero (S := S512x1024) start_zero, View.ld_unit_zero (S := S1x1024) start_zero]

/-- What a point writes of the second result: the product of the normed block and the weights. -/
theorem right_at (x : Vec Ideal S512x1024 .f32) (g : Vec Ideal S1x1024 .f32) (y : Vec Ideal S1024x3072 .bf16) (r : Fin 512) (j : Fin 3072) :
    (out0_4 (F := Ideal) x g y : S512x3072.Idx → EReal) (ix2 r j) = ∑ k : Fin 1024, normed (fun k => x (ix2 r k)) (g (ix2 0 k)) k * y (ix2 k j) := by
  unfold out0_4
  rw [View.canon_unit_zero (S := S512x3072) start_zero]
  simp only [View.ld_unit_zero (S := S512x1024) start_zero, View.ld_unit_zero (S := S1x1024) start_zero, View.ld_unit_zero (S := S1024x3072) start_zero]
  unfold k0_pay2
  simp only [shapeCast_self]
  refine (plain_zero (M := 512) (K := 1024) (N := 3072) (k0_pay1 x g) y r j).trans ?_
  exact Finset.sum_congr rfl fun k _ => congrArg (fun a : EReal => a * y (ix2 k j)) (norm_apply x g r k)

/-- The rows that the kernel is given. -/
def x : S8192x1024.Idx → EReal := m ((c : Thread nD τ).loc main_arg0)
/-- The gain that the kernel is given. -/
def g : S1024.Idx → EReal := m ((c : Thread nD τ).loc main_arg1)
/-- The weights that the kernel is given. -/
def w : S1024x3072.Idx → EReal := m ((c : Thread nD τ).loc main_arg2)
/-- The first array that the run leaves. -/
def left : S8192x1024.Idx → EReal := (dats m 0 c).arrAt 3 cfg0.N
/-- The second array that the run leaves. -/
def right : S8192x3072.Idx → EReal := (dats m 0 c).arrAt 4 cfg0.N

/-- The blocks of a grid point. -/
theorem index_eq : ∀ t : Fin grid0.N,
    win0_0.index t = ![(grid0.coords t 0).val, 0] ∧ win0_1.index t = ![0, 0] ∧ win0_2.index t = ![0, 0]
      ∧ win0_3.index t = ![(grid0.coords t 0).val, 0] ∧ win0_4.index t = ![(grid0.coords t 0).val, 0] := by decide +kernel

/-- Every block of rows has its point. -/
theorem point : ∀ b : Fin 16, ∃ t : Fin grid0.N, (grid0.coords t 0).val = b.val := by decide +kernel

theorem row_lt (t : Fin grid0.N) : (grid0.coords t 0).val < 16 := (grid0.coords t 0).isLt

/-- The arrays that the region is given are the arguments, the gain as a row. -/
theorem V_x : (V m c main_arg0 : S8192x1024.Idx → EReal) = x m c := by
  unfold V
  simp only [hostOps0, List.flatten_cons, List.flatten_nil, List.append_nil]
  after_results_simp
  rfl

theorem V_w : (V m c main_v0 : S1024x3072.Idx → EReal) = w m c := by
  unfold V
  simp only [hostOps0, List.flatten_cons, List.flatten_nil, List.append_nil]
  after_results_simp
  rfl

theorem V_g : (V m c main_v1 : S1x1024.Idx → EReal) = shapeCast S1x1024 (g m c) shapeCasts_S1024_S1x1024 := by
  unfold V
  simp only [hostOps0, List.flatten_cons, List.flatten_nil, List.append_nil]
  after_results_simp
  rfl

theorem V_g_apply (j : Fin 1024) : (V m c main_v1 : S1x1024.Idx → EReal) (ix2 0 j) = g m c (ix1 j) := by
  rw [V_g]
  exact shapeCast_apply _ shapeCasts_S1024_S1x1024 _ (ix1 j) (by
    rewrite [Shape.rowMajor_val_two, Shape.rowMajor_val_one]
    show j.val = 0 * 1024 + j.val
    omega)

theorem read0 (X : (Pipeline.arrRef spec0 0).ty.Contents (Elt Ideal)) (t : Fin grid0.N) (r : Fin 512) (l : Fin 1024) :
    (((cfg0.win 0).blk t).view.read (Elt Ideal) X : S512x1024.Idx → EReal) (ix2 r l)
      = (X : S8192x1024.Idx → EReal) (ix2 (⟨512 * (grid0.coords t 0).val + r.val, by have := row_lt t; omega⟩ : Fin 8192) l) := by
  refine congrArg X (ext2 ?_ ?_)
  · blk_simp [(index_eq t).1]
    show (grid0.coords t 0).val * 512 + r.val = 512 * (grid0.coords t 0).val + r.val
    omega
  · blk_simp [(index_eq t).1]

theorem read1 (X : (Pipeline.arrRef spec0 1).ty.Contents (Elt Ideal)) (t : Fin grid0.N) (r : Fin 1) (l : Fin 1024) :
    (((cfg0.win 1).blk t).view.read (Elt Ideal) X : S1x1024.Idx → EReal) (ix2 r l) = (X : S1x1024.Idx → EReal) (ix2 r l) := by
  refine congrArg X (ext2 ?_ ?_)
  · blk_simp [(index_eq t).2.1]
  · blk_simp [(index_eq t).2.1]

theorem read2 (X : (Pipeline.arrRef spec0 2).ty.Contents (Elt Ideal)) (t : Fin grid0.N) (r : Fin 1024) (l : Fin 3072) :
    (((cfg0.win 2).blk t).view.read (Elt Ideal) X : S1024x3072.Idx → EReal) (ix2 r l) = (X : S1024x3072.Idx → EReal) (ix2 r l) := by
  refine congrArg X (ext2 ?_ ?_)
  · blk_simp [(index_eq t).2.2.1]
  · blk_simp [(index_eq t).2.2.1]

/-- The arrays that the run leaves, at an index of a point's block. -/
theorem left_block (t : Fin grid0.N) (r : Fin 512) (j : Fin 1024) :
    left m c (ix2 (⟨512 * (grid0.coords t 0).val + r.val, by have := row_lt t; omega⟩ : Fin 8192) j)
      = ((dats m 0 c).flushed 3 t : S512x1024.Idx → EReal) (ix2 r j) := by
  refine Eq.trans ?_ (congrFun (blocks3 m c t (flush0_3 t)) (ix2 r j))
  refine congrArg (left m c) (ext2 ?_ ?_)
  · blk_simp [(index_eq t).2.2.2.1]
    show 512 * (grid0.coords t 0).val + r.val = (grid0.coords t 0).val * 512 + r.val
    omega
  · blk_simp [(index_eq t).2.2.2.1]

theorem right_block (t : Fin grid0.N) (r : Fin 512) (j : Fin 3072) :
    right m c (ix2 (⟨512 * (grid0.coords t 0).val + r.val, by have := row_lt t; omega⟩ : Fin 8192) j)
      = ((dats m 0 c).flushed 4 t : S512x3072.Idx → EReal) (ix2 r j) := by
  refine Eq.trans ?_ (congrFun (blocks4 m c t (flush0_4 t)) (ix2 r j))
  refine congrArg (right m c) (ext2 ?_ ?_)
  · blk_simp [(index_eq t).2.2.2.2]
    show 512 * (grid0.coords t 0).val + r.val = (grid0.coords t 0).val * 512 + r.val
    omega
  · blk_simp [(index_eq t).2.2.2.2]

/-- What is written back of a block is the block. -/
theorem left_cut (o : S512x1024.Idx → EReal) (t : Fin grid0.N) (r : Fin 512) (j : Fin 1024) :
    ((cfg0.win 3).cut (grid0.coords t) o : S512x1024.Idx → EReal) (ix2 r j) = o (ix2 r j) := rfl

theorem right_cut (o : S512x3072.Idx → EReal) (t : Fin grid0.N) (r : Fin 512) (j : Fin 3072) :
    ((cfg0.win 4).cut (grid0.coords t) o : S512x3072.Idx → EReal) (ix2 r j) = o (ix2 r j) := rfl

/-- The normed row of a point's block is the normed row of the array. -/
theorem normed_block (t : Fin grid0.N) (r : Fin 512) (r' : Fin 8192) (h : r' = (⟨512 * (grid0.coords t 0).val + r.val, by have := row_lt t; omega⟩ : Fin 8192)) (j : Fin 1024) :
    normed (fun k => (iblk m c 0 t : S512x1024.Idx → EReal) (ix2 r k)) ((iblk m c 1 t : S1x1024.Idx → EReal) (ix2 0 j)) j
      = normed (fun k => x m c (ix2 r' k)) (g m c (ix1 j)) j := by
  subst h
  refine congrArg₂ (fun (a : Fin 1024 → EReal) (b : EReal) => normed a b j) (funext fun k => ?_) ?_
  · exact (read0 (V m c (Pipeline.arrRef spec0 0)) t r k).trans (congrFun (V_x m c) _)
  · exact (read1 (V m c (Pipeline.arrRef spec0 1)) t 0 j).trans (V_g_apply m c j)

/-- The first array that the run leaves, at an index. -/
theorem left_apply (r : Fin 8192) (j : Fin 1024) : left m c (ix2 r j) = normed (fun k => x m c (ix2 r k)) (g m c (ix1 j)) j := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => left m c (ix2 r' j)) e).trans ((left_block m c t ⟨r.val % 512, by omega⟩ j).trans ?_)
  rw [flushed3, left_eq]
  exact (left_cut _ t _ _).trans ((norm_apply _ _ _ _).trans (normed_block m c t _ r e j))

/-- The second array that the run leaves, at an index. -/
theorem right_apply (r : Fin 8192) (j : Fin 3072) :
    right m c (ix2 r j) = ∑ k : Fin 1024, normed (fun k => x m c (ix2 r k)) (g m c (ix1 k)) k * w m c (ix2 k j) := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => right m c (ix2 r' j)) e).trans ((right_block m c t ⟨r.val % 512, by omega⟩ j).trans ?_)
  rw [flushed4]
  refine (right_cut _ t _ _).trans ((right_at _ _ _ _ _).trans (Finset.sum_congr rfl fun k _ => congrArg₂ (fun a b : EReal => a * b) ?_ ?_))
  · exact normed_block m c t _ r e k
  · exact (read2 (V m c (Pipeline.arrRef spec0 2)) t k j).trans (congrFun (V_w m c) _)

open Cert.InFwdRefIdeal.Read in
/-- The reference's norm at an index. -/
theorem ref_norm (x : S8192x1024.Idx → EReal) (g : S1024.Idx → EReal) (r : Fin 8192) (j : Fin 1024) :
    (val_main_v12 (F := Ideal) x g : S8192x1024.Idx → EReal) (ix2 r j) = normed (fun k => x (ix2 r k)) (g (ix1 j)) j := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply, val_main_cst_0_apply, val_main_cst_1_apply]
  unfold normed
  refine congrArg₂ (fun a b : EReal => a * b) (congrArg₂ (fun a b : EReal => a * b) rfl (congrArg scale ?_)) (congrArg g ?_)
  · refine Eq.trans (congrArg₂ (fun a b : EReal => a + b) (zero_word) (Finset.sum_congr rfl fun k _ => ?_)) (zero_add _)
    exact congrArg₂ (fun a b : EReal => a * b) (congrArg x (ext2 rfl rfl)) (congrArg x (ext2 rfl rfl))
  · exact funext fun a => match a with
      | ⟨0, _⟩ => rfl

/-- The reference's first result at an index. -/
theorem ref_left (x : S8192x1024.Idx → EReal) (g : S1024.Idx → EReal) (r : Fin 8192) (j : Fin 1024) :
    (Cert.InFwdRefIdeal.Read.val_main_v13 (F := Ideal) x g : S8192x1024.Idx → EReal) (ix2 r j) = normed (fun k => x (ix2 r k)) (g (ix1 j)) j :=
  (Cert.InFwdRefIdeal.Read.val_main_v13_apply (F := Ideal) x g (ix2 r j)).trans (ref_norm x g r j)

/-- The reference's second result at an index. -/
theorem ref_right (x : S8192x1024.Idx → EReal) (g : S1024.Idx → EReal) (w : S1024x3072.Idx → EReal) (r : Fin 8192) (j : Fin 3072) :
    (Cert.InFwdRefIdeal.Read.val_main_v14 (F := Ideal) x g w : S8192x3072.Idx → EReal) (ix2 r j)
      = ∑ k : Fin 1024, normed (fun k => x (ix2 r k)) (g (ix1 k)) k * w (ix2 k j) := by
  refine (Cert.InFwdRefIdeal.Read.val_main_v14_apply x g w (ix2 r j)).trans (Finset.sum_congr rfl fun k _ => congrArg₂ (fun a b : EReal => a * b) ?_ (congrArg w (ext2 rfl rfl)))
  rw [show Cert.InFwdRefIdeal.Read.lidx_main_v14 (ix2 r j) k = ix2 r k from ext2 rfl rfl]
  exact ref_norm x g r k

/-- The run leaves what the reference computes. -/
theorem same_left : left m c = Cert.InFwdRefIdeal.Read.val_main_v13 (F := Ideal) (x m c) (g m c) := by
  funext i
  rw [eq_ix2 i]
  exact (left_apply m c _ _).trans (ref_left _ _ _ _).symm

theorem same_right : right m c = Cert.InFwdRefIdeal.Read.val_main_v14 (F := Ideal) (x m c) (g m c) (w m c) := by
  funext i
  rw [eq_ix2 i]
  exact (right_apply m c _ _).trans (ref_right _ _ _ _ _).symm

end Cert.Products.InFwd

end
-- ==== Proof.OutFwd.lean ====
/- The output projection and its residual sum: the kernel's blocks of it, and the plain sum. -/
module

public import proofs.«01_k».proof.Proof.Prod
public import proofs.«01_k».proof.Proof.Gen.OutFwdIdeal.Value
public import proofs.«01_k».proof.Proof.Gen.OutFwdRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.OutFwd

open Cert.Fox Cert.OutFwdIdeal Cert.OutFwdIdeal.Gen Cert.OutFwdIdeal.Value

variable (m : (ℓ : Loc nD τ sig) → Buf (Elt Ideal) ℓ) (c : Dev nD)

/-- What a point writes: the product of its first two blocks and its third. -/
theorem out_eq (i : grid0.Coords) (p3 : Memref sig .tc .vmem S1024x1024 .bf16) (h3 : p3.IsWhole) (p4 : Memref sig .tc .vmem S1024x1024 .bf16) (h4 : p4.IsWhole)
    (p5 : Memref sig .tc .vmem S1024x1024 .f32) (h5 : p5.IsWhole) (p6 : Memref sig .tc .vmem S1024x1024 .f32) (h6 : p6.IsWhole)
    (p7 : Memref sig .tc .vmem S8x128 .f32) (h7 : p7.IsWhole)
    (x : Vec Ideal S1024x1024 .bf16) (y : Vec Ideal S1024x1024 .bf16) (z : Vec Ideal S1024x1024 .f32) :
    out0_A_3 (F := Ideal) c i p3 h3 p4 h4 p5 h5 p6 h6 p7 h7 x y z = k0_pay1 x y z := by
  unfold out0_A_3
  rw [View.read_writes_eq_canon _ _ _ (cover0_A_3 (F := Ideal) c i p3 h3 p4 h4 p5 h5 p6 h6 p7 h7 x y z)]
  unfold kernelRun0_A
  dsimp only
  rw [View.canon_unit_zero (S := S1024x1024) start_zero]
  simp only [View.readAt_eq_ld, h3.read_unread, h4.read_unread, h5.read_unread, View.ld_unit_zero (S := S1024x1024) start_zero]

/-- The product of two blocks, and a third, at an index. -/
theorem pay_apply (x : Vec Ideal S1024x1024 .bf16) (y : Vec Ideal S1024x1024 .bf16) (z : Vec Ideal S1024x1024 .f32) (r : Fin 1024) (j : Fin 1024) :
    k0_pay1 x y z (ix2 r j) = z (ix2 r j) + ∑ k : Fin 1024, x (ix2 r k) * y (ix2 k j) := by
  unfold k0_pay1
  simp only [shapeCast_self]
  refine Eq.trans ?_ (add_comm _ _)
  exact congrArg (fun t : EReal => t + z (ix2 r j)) (plain_zero (M := 1024) (K := 1024) (N := 1024) x y r j)

/-- The rows that the kernel is given. -/
def g : S8192x1024.Idx → EReal := m ((c : Thread nD τ).loc main_arg0)
/-- The weights that the kernel is given. -/
def w : S1024x1024.Idx → EReal := m ((c : Thread nD τ).loc main_arg1)
/-- The rows that the kernel adds. -/
def e : S8192x1024.Idx → EReal := m ((c : Thread nD τ).loc main_arg2)
/-- The array that the run leaves. -/
def out : S8192x1024.Idx → EReal := (dats m 0 c).arrAt 3 cfg0.N

/-- The blocks of a grid point. -/
theorem index_eq : ∀ t : Fin grid0.N,
    win0_0.index t = ![(grid0.coords t 0).val, 0] ∧ win0_1.index t = ![0, 0] ∧ win0_2.index t = ![(grid0.coords t 0).val, 0]
      ∧ win0_3.index t = ![(grid0.coords t 0).val, 0] := by decide +kernel

/-- Every block of rows has its point. -/
theorem point : ∀ b : Fin 8, ∃ t : Fin grid0.N, (grid0.coords t 0).val = b.val := by decide +kernel

theorem row_lt (t : Fin grid0.N) : (grid0.coords t 0).val < 8 := (grid0.coords t 0).isLt

/-- The arrays that the region is given are the arguments. -/
theorem V_g : (V m c main_v0 : S8192x1024.Idx → EReal) = g m c := by
  unfold V
  simp only [hostOps0, List.flatten_cons, List.flatten_nil, List.append_nil]
  after_results_simp
  rfl

theorem V_w : (V m c main_v1 : S1024x1024.Idx → EReal) = w m c := by
  unfold V
  simp only [hostOps0, List.flatten_cons, List.flatten_nil, List.append_nil]
  after_results_simp
  rfl

theorem V_e : (V m c main_arg2 : S8192x1024.Idx → EReal) = e m c := by
  unfold V
  simp only [hostOps0, List.flatten_cons, List.flatten_nil, List.append_nil]
  after_results_simp
  rfl

theorem read0 (X : (Pipeline.arrRef spec0 0).ty.Contents (Elt Ideal)) (t : Fin grid0.N) (r : Fin 1024) (l : Fin 1024) :
    (((cfg0.win 0).blk t).view.read (Elt Ideal) X : S1024x1024.Idx → EReal) (ix2 r l)
      = (X : S8192x1024.Idx → EReal) (ix2 (⟨1024 * (grid0.coords t 0).val + r.val, by have := row_lt t; omega⟩ : Fin 8192) l) := by
  refine congrArg X (ext2 ?_ ?_)
  · blk_simp [(index_eq t).1]
    show (grid0.coords t 0).val * 1024 + r.val = 1024 * (grid0.coords t 0).val + r.val
    omega
  · blk_simp [(index_eq t).1]

theorem read1 (X : (Pipeline.arrRef spec0 1).ty.Contents (Elt Ideal)) (t : Fin grid0.N) (r : Fin 1024) (l : Fin 1024) :
    (((cfg0.win 1).blk t).view.read (Elt Ideal) X : S1024x1024.Idx → EReal) (ix2 r l) = (X : S1024x1024.Idx → EReal) (ix2 r l) := by
  refine congrArg X (ext2 ?_ ?_)
  · blk_simp [(index_eq t).2.1]
  · blk_simp [(index_eq t).2.1]

theorem read2 (X : (Pipeline.arrRef spec0 2).ty.Contents (Elt Ideal)) (t : Fin grid0.N) (r : Fin 1024) (l : Fin 1024) :
    (((cfg0.win 2).blk t).view.read (Elt Ideal) X : S1024x1024.Idx → EReal) (ix2 r l)
      = (X : S8192x1024.Idx → EReal) (ix2 (⟨1024 * (grid0.coords t 0).val + r.val, by have := row_lt t; omega⟩ : Fin 8192) l) := by
  refine congrArg X (ext2 ?_ ?_)
  · blk_simp [(index_eq t).2.2.1]
    show (grid0.coords t 0).val * 1024 + r.val = 1024 * (grid0.coords t 0).val + r.val
    omega
  · blk_simp [(index_eq t).2.2.1]

/-- The array that the run leaves, at an index of a point's block. -/
theorem block (t : Fin grid0.N) (r : Fin 1024) (j : Fin 1024) :
    out m c (ix2 (⟨1024 * (grid0.coords t 0).val + r.val, by have := row_lt t; omega⟩ : Fin 8192) j)
      = ((dats m 0 c).flushed 3 t : S1024x1024.Idx → EReal) (ix2 r j) := by
  refine Eq.trans ?_ (congrFun (blocks3 m c t (flush0_3 t)) (ix2 r j))
  refine congrArg (out m c) (ext2 ?_ ?_)
  · blk_simp [(index_eq t).2.2.2]
    show 1024 * (grid0.coords t 0).val + r.val = (grid0.coords t 0).val * 1024 + r.val
    omega
  · blk_simp [(index_eq t).2.2.2]

theorem cut_apply (X : S1024x1024.Idx → EReal) (t : Fin grid0.N) (r : Fin 1024) (j : Fin 1024) :
    ((cfg0.win 3).cut (α := EReal) (grid0.coords t) X : S1024x1024.Idx → EReal) (ix2 r j) = X (ix2 r j) := rfl

/-- The array that the run leaves, at an index. -/
theorem out_apply (r : Fin 8192) (j : Fin 1024) : out m c (ix2 r j) = e m c (ix2 r j) + ∑ k : Fin 1024, g m c (ix2 r k) * w m c (ix2 k j) := by
  obtain ⟨t, ht⟩ := point ⟨r.val / 1024, by omega⟩
  have ht : (grid0.coords t 0).val = r.val / 1024 := ht
  have e : r = (⟨1024 * (grid0.coords t 0).val + r.val % 1024, by have := row_lt t; omega⟩ : Fin 8192) := Fin.ext (by show r.val = 1024 * (grid0.coords t 0).val + r.val % 1024; omega)
  refine (congrArg (fun r' : Fin 8192 => out m c (ix2 r' j)) e).trans ((block m c t ⟨r.val % 1024, by omega⟩ j).trans ?_)
  rw [flushed3_A, out_eq]
  refine (cut_apply _ t _ _).trans ((pay_apply _ _ _ _ _).trans (congrArg₂ (· + ·) ?_ (Finset.sum_congr rfl fun k _ => congrArg₂ (· * ·) ?_ ?_)))
  · refine (read2 (V m c (Pipeline.arrRef spec0 2)) t _ j).trans ((congrFun (V_e m c) _).trans ?_)
    exact congrArg (fun r' : Fin 8192 => OutFwd.e m c (ix2 r' j)) e.symm
  · refine (read0 (V m c (Pipeline.arrRef spec0 0)) t _ k).trans ((congrFun (V_g m c) _).trans ?_)
    exact congrArg (fun r' : Fin 8192 => g m c (ix2 r' k)) e.symm
  · exact (read1 (V m c (Pipeline.arrRef spec0 1)) t k j).trans (congrFun (V_w m c) _)

/-- The reference at an index. -/
theorem ref_apply (g : S8192x1024.Idx → EReal) (w : S1024x1024.Idx → EReal) (e : S8192x1024.Idx → EReal) (r : Fin 8192) (j : Fin 1024) :
    (Cert.OutFwdRefIdeal.Read.val_main_v1 (F := Ideal) g w e : S8192x1024.Idx → EReal) (ix2 r j) = e (ix2 r j) + ∑ k : Fin 1024, g (ix2 r k) * w (ix2 k j) :=
  congrArg (e (ix2 r j) + ·) ((Cert.OutFwdRefIdeal.Read.val_main_v0_apply g w (ix2 r j)).trans
    (Finset.sum_congr rfl fun k _ => congrArg₂ (· * ·) (congrArg g (ext2 rfl rfl)) (congrArg w (ext2 rfl rfl))))

/-- The run leaves what the reference computes. -/
theorem same : out m c = Cert.OutFwdRefIdeal.Read.val_main_v1 (F := Ideal) (g m c) (w m c) (e m c) := by
  funext i
  rw [eq_ix2 i]
  exact (out_apply m c _ _).trans (ref_apply _ _ _ _ _).symm

end Cert.Products.OutFwd

end
-- ==== Proof.UpFwd.lean ====
/- The feed-forward part's up projection with the norm in front of it: the kernel's blocks of both results, and the plain values. -/
module

public import proofs.«01_k».proof.Proof.Norm
public import proofs.«01_k».proof.Proof.Interleave
public import proofs.«01_k».proof.Proof.Gen.UpFwdIdeal.Value
public import proofs.«01_k».proof.Proof.Gen.UpFwdRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.UpFwd

open Cert.Fox Cert.UpFwdIdeal Cert.UpFwdIdeal.Gen Cert.UpFwdIdeal.Value

variable (m : (ℓ : Loc nD τ sig) → Buf (Elt Ideal) ℓ) (c : Dev nD)

/-- The normed block at an index. -/
theorem norm_apply (x : Vec Ideal S512x1024 .f32) (g : Vec Ideal S1x1024 .f32) (r : Fin 512) (j : Fin 1024) :
    (k0_pay4 x g (ix2 r j) : EReal) = normed (fun k => x (ix2 r k)) (g (ix2 0 j)) j := by
  refine (piece3_0 x g (ix2 r j)).trans ?_
  unfold normed
  refine congrArg₂ (fun a b : EReal => a * b) (congrArg₂ (fun a b : EReal => a * b) (congrArg x ?_) (congrArg scale ?_)) (congrArg g ?_)
  · exact ext2 (by show 0 + 1 * r.val = r.val; omega) (by show 0 + 1 * j.val = j.val; omega)
  · have e : ix3_1 (r0_0.idx (ix2 r j)) = ix1 r := funext fun a => match a with
      | ⟨0, _⟩ => Fin.ext (by show 0 + 1 * r.val = r.val; omega)
    rw [e]
    exact row_squares (M := 512) x _ r
  · exact ext2 rfl (by show 0 + 1 * j.val = j.val; omega)

/-- What a point writes of the first result: the normed block. -/
theorem left_eq (x : Vec Ideal S512x1024 .f32) (g : Vec Ideal S1x1024 .f32) (y : Vec Ideal S1024x5632 .bf16) :
    out0_3 (F := Ideal) x g y = k0_pay4 x g := by
  unfold out0_3
  rw [View.canon_unit_zero (S := S512x1024) start_zero]
  simp only [View.ld_unit_zero (S := S512x1024) start_zero, View.ld_unit_zero (S := S1x1024) start_zero]

/-- The product of a normed block and the weights, its columns in the order of the interleaved array. -/
def whole (n : FVec Ideal S512x1024 .bf16) (y : Vec Ideal S1024x5632 .bf16) (i : S512x5632.Idx) : EReal :=
  ∑ k : Fin 1024, n (ix2 (i 0) k) * at2 y k (src (i 1).val)

/-- A block of 256 columns of that product, from the block of weights at its source. -/
theorem piece (n : FVec Ideal S512x1024 .bf16) (y : Vec Ideal S1024x5632 .bf16) (o p : ℕ)
    (ho : ∀ a, (![0, o] : Fin 2 → Nat) a + S512x256.size a ≤ S512x5632.size a) (hp : ∀ a, (![0, p] : Fin 2 → Nat) a + S1024x256.size a ≤ S1024x5632.size a)
    (h : ∀ k, k < 256 → src (o + k) = p + k) (i : S512x256.Idx) :
    (truncf .bf16 (matmul (F := Ideal) (φ₁ := .bf16) (φ₂ := .bf16) dot_S512x1024_S1024x256_S512x256_1_0_0_1_n_n none n
        (View.ld y (Rect.unit (s := S1024x5632) ![0, p] S1024x256.size hp) : FVec Ideal S1024x256 .bf16)
        (constant S512x256 .f32 0x00000000#32)) bitsLt_bf16_f32 i : EReal)
      = whole n y ((Rect.unit (s := S512x5632) ![0, o] S512x256.size ho).idx i) := by
  have h1 : p + 256 ≤ 5632 := hp 1
  obtain ⟨r, j, rfl⟩ : ∃ (r : Fin 512) (j : Fin 256), i = ix2 r j := ⟨i 0, i 1, eq_ix2 i⟩
  refine (plain_zero (M := 512) (K := 1024) (N := 256) n _ r j).trans ?_
  unfold whole
  refine Finset.sum_congr rfl fun k _ => congrArg₂ (fun a b : EReal => a * b) (congrArg n ?_) ?_
  · exact ext2 (by show r.val = 0 + 1 * r.val; omega) rfl
  · have e : src (o + 1 * j.val) = p + j.val := by rw [Nat.one_mul]; exact h j.val j.isLt
    refine Eq.trans ?_ (congrArg (at2 y k) e).symm
    rw [at2_of_lt y k.2 (show p + j.val < 5632 by omega)]
    exact congrArg y (ext2 (by show 0 + 1 * k.val = k.val; omega) (by show p + 1 * j.val = p + j.val; omega))

/-- What a point writes of the second result: its 22 blocks of columns are those of the product. -/
theorem right_at (x : Vec Ideal S512x1024 .f32) (g : Vec Ideal S1x1024 .f32) (y : Vec Ideal S1024x5632 .bf16) (r : Fin 512) (j : Fin 5632) :
    (out0_4 (F := Ideal) x g y : S512x5632.Idx → EReal) (ix2 r j)
      = ∑ k : Fin 1024, normed (fun k => x (ix2 r k)) (g (ix2 0 k)) k * y (ix2 k ⟨src j.val, src_lt j.isLt⟩) := by
  have e : (out0_4 (F := Ideal) x g y : S512x5632.Idx → EReal) (ix2 r j) = whole (k0_pay4 x g) y (ix2 r j) := by
    unfold out0_4
    refine View.canon_apply_of_pieces (Val := Elt Ideal) (whole (k0_pay4 x g) y) _ ?_ (ix2 r j)
      (cover0_4 _ _ _ _ _ _ _ _ _ _ _ _ _ _ _ _ _ _ _ _ _ _ (ix2 r j))
    unfold k0_pay25 k0_pay1 k0_pay2 k0_pay3 k0_pay5 k0_pay6 k0_pay7 k0_pay8 k0_pay9 k0_pay10 k0_pay11 k0_pay12 k0_pay13 k0_pay14 k0_pay15 k0_pay16 k0_pay17
      k0_pay18 k0_pay19 k0_pay20 k0_pay21 k0_pay22 k0_pay23 k0_pay24
    simp only [shapeCast_self, View.ld_unit_zero (S := S512x1024) start_zero, View.ld_unit_zero (S := S1x1024) start_zero]
    generalize k0_pay4 x g = n
    simp only [List.forall_mem_cons]
    repeat' first
      | exact fun i => piece n y _ _ _ _ (fun k hk => by unfold src; omega) i
      | refine And.intro ?_ ?_
    exact fun pc hpc => absurd hpc List.not_mem_nil
  refine e.trans (Finset.sum_congr rfl fun k _ => congrArg₂ (fun a b : EReal => a * b) (norm_apply x g r k) ?_)
  exact at2_of_lt y k.2 (src_lt j.isLt)

/-- The rows that the kernel is given. -/
def x : S8192x1024.Idx → EReal := m ((c : Thread nD τ).loc main_arg0)
/-- The gain that the kernel is given. -/
def g : S1024.Idx → EReal := m ((c : Thread nD τ).loc main_arg1)
/-- The weights that the kernel is given. -/
def w : S1024x5632.Idx → EReal := m ((c : Thread nD τ).loc main_arg2)
/-- The first array that the run leaves. -/
def left : S8192x1024.Idx → EReal := (dats m 0 c).arrAt 3 cfg0.N
/-- The second array that the run leaves. -/
def right : S8192x5632.Idx → EReal := (dats m 0 c).arrAt 4 cfg0.N

/-- The blocks of a grid point. -/
theorem index_eq : ∀ t : Fin grid0.N,
    win0_0.index t = ![(grid0.coords t 0).val, 0] ∧ win0_1.index t = ![0, 0] ∧ win0_2.index t = ![0, 0]
      ∧ win0_3.index t = ![(grid0.coords t 0).val, 0] ∧ win0_4.index t = ![(grid0.coords t 0).val, 0] := by decide +kernel

/-- Every block of rows has its point. -/
theorem point : ∀ b : Fin 16, ∃ t : Fin grid0.N, (grid0.coords t 0).val = b.val := by decide +kernel

theorem row_lt (t : Fin grid0.N) : (grid0.coords t 0).val < 16 := (grid0.coords t 0).isLt

/-- The arrays that the region is given are the arguments, the gain as a row. -/
theorem V_x : (V m c main_arg0 : S8192x1024.Idx → EReal) = x m c := by
  unfold V
  simp only [hostOps0, List.flatten_cons, List.flatten_nil, List.append_nil]
  after_results_simp
  rfl

theorem V_w : (V m c main_v0 : S1024x5632.Idx → EReal) = w m c := by
  unfold V
  simp only [hostOps0, List.flatten_cons, List.flatten_nil, List.append_nil]
  after_results_simp
  rfl

theorem V_g : (V m c main_v1 : S1x1024.Idx → EReal) = shapeCast S1x1024 (g m c) shapeCasts_S1024_S1x1024 := by
  unfold V
  simp only [hostOps0, List.flatten_cons, List.flatten_nil, List.append_nil]
  after_results_simp
  rfl

theorem V_g_apply (j : Fin 1024) : (V m c main_v1 : S1x1024.Idx → EReal) (ix2 0 j) = g m c (ix1 j) := by
  rw [V_g]
  exact shapeCast_apply _ shapeCasts_S1024_S1x1024 _ (ix1 j) (by
    rewrite [Shape.rowMajor_val_two, Shape.rowMajor_val_one]
    show j.val = 0 * 1024 + j.val
    omega)

theorem read0 (X : (Pipeline.arrRef spec0 0).ty.Contents (Elt Ideal)) (t : Fin grid0.N) (r : Fin 512) (l : Fin 1024) :
    (((cfg0.win 0).blk t).view.read (Elt Ideal) X : S512x1024.Idx → EReal) (ix2 r l)
      = (X : S8192x1024.Idx → EReal) (ix2 (⟨512 * (grid0.coords t 0).val + r.val, by have := row_lt t; omega⟩ : Fin 8192) l) := by
  refine congrArg X (ext2 ?_ ?_)
  · blk_simp [(index_eq t).1]
    show (grid0.coords t 0).val * 512 + r.val = 512 * (grid0.coords t 0).val + r.val
    omega
  · blk_simp [(index_eq t).1]

theorem read1 (X : (Pipeline.arrRef spec0 1).ty.Contents (Elt Ideal)) (t : Fin grid0.N) (r : Fin 1) (l : Fin 1024) :
    (((cfg0.win 1).blk t).view.read (Elt Ideal) X : S1x1024.Idx → EReal) (ix2 r l) = (X : S1x1024.Idx → EReal) (ix2 r l) := by
  refine congrArg X (ext2 ?_ ?_)
  · blk_simp [(index_eq t).2.1]
  · blk_simp [(index_eq t).2.1]

theorem read2 (X : (Pipeline.arrRef spec0 2).ty.Contents (Elt Ideal)) (t : Fin grid0.N) (r : Fin 1024) (l : Fin 5632) :
    (((cfg0.win 2).blk t).view.read (Elt Ideal) X : S1024x5632.Idx → EReal) (ix2 r l) = (X : S1024x5632.Idx → EReal) (ix2 r l) := by
  refine congrArg X (ext2 ?_ ?_)
  · blk_simp [(index_eq t).2.2.1]
  · blk_simp [(index_eq t).2.2.1]

/-- The arrays that the run leaves, at an index of a point's block. -/
theorem left_block (t : Fin grid0.N) (r : Fin 512) (j : Fin 1024) :
    left m c (ix2 (⟨512 * (grid0.coords t 0).val + r.val, by have := row_lt t; omega⟩ : Fin 8192) j)
      = ((dats m 0 c).flushed 3 t : S512x1024.Idx → EReal) (ix2 r j) := by
  refine Eq.trans ?_ (congrFun (blocks3 m c t (flush0_3 t)) (ix2 r j))
  refine congrArg (left m c) (ext2 ?_ ?_)
  · blk_simp [(index_eq t).2.2.2.1]
    show 512 * (grid0.coords t 0).val + r.val = (grid0.coords t 0).val * 512 + r.val
    omega
  · blk_simp [(index_eq t).2.2.2.1]

theorem right_block (t : Fin grid0.N) (r : Fin 512) (j : Fin 5632) :
    right m c (ix2 (⟨512 * (grid0.coords t 0).val + r.val, by have := row_lt t; omega⟩ : Fin 8192) j)
      = ((dats m 0 c).flushed 4 t : S512x5632.Idx → EReal) (ix2 r j) := by
  refine Eq.trans ?_ (congrFun (blocks4 m c t (flush0_4 t)) (ix2 r j))
  refine congrArg (right m c) (ext2 ?_ ?_)
  · blk_simp [(index_eq t).2.2.2.2]
    show 512 * (grid0.coords t 0).val + r.val = (grid0.coords t 0).val * 512 + r.val
    omega
  · blk_simp [(index_eq t).2.2.2.2]

/-- What is written back of a block is the block. -/
theorem left_cut (o : S512x1024.Idx → EReal) (t : Fin grid0.N) (r : Fin 512) (j : Fin 1024) :
    ((cfg0.win 3).cut (grid0.coords t) o : S512x1024.Idx → EReal) (ix2 r j) = o (ix2 r j) := rfl

theorem right_cut (o : S512x5632.Idx → EReal) (t : Fin grid0.N) (r : Fin 512) (j : Fin 5632) :
    ((cfg0.win 4).cut (grid0.coords t) o : S512x5632.Idx → EReal) (ix2 r j) = o (ix2 r j) := rfl

/-- The normed row of a point's block is the normed row of the array. -/
theorem normed_block (t : Fin grid0.N) (r : Fin 512) (r' : Fin 8192) (h : r' = (⟨512 * (grid0.coords t 0).val + r.val, by have := row_lt t; omega⟩ : Fin 8192)) (j : Fin 1024) :
    normed (fun k => (iblk m c 0 t : S512x1024.Idx → EReal) (ix2 r k)) ((iblk m c 1 t : S1x1024.Idx → EReal) (ix2 0 j)) j
      = normed (fun k => x m c (ix2 r' k)) (g m c (ix1 j)) j := by
  subst h
  refine congrArg₂ (fun (a : Fin 1024 → EReal) (b : EReal) => normed a b j) (funext fun k => ?_) ?_
  · exact (read0 (V m c (Pipeline.arrRef spec0 0)) t r k).trans (congrFun (V_x m c) _)
  · exact (read1 (V m c (Pipeline.arrRef spec0 1)) t 0 j).trans (V_g_apply m c j)

/-- The first array that the run leaves, at an index. -/
theorem left_apply (r : Fin 8192) (j : Fin 1024) : left m c (ix2 r j) = normed (fun k => x m c (ix2 r k)) (g m c (ix1 j)) j := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => left m c (ix2 r' j)) e).trans ((left_block m c t ⟨r.val % 512, by omega⟩ j).trans ?_)
  rw [flushed3, left_eq]
  exact (left_cut _ t _ _).trans ((norm_apply _ _ _ _).trans (normed_block m c t _ r e j))

/-- The second array that the run leaves, at an index. -/
theorem right_apply (r : Fin 8192) (j : Fin 5632) :
    right m c (ix2 r j) = ∑ k : Fin 1024, normed (fun k => x m c (ix2 r k)) (g m c (ix1 k)) k * w m c (ix2 k ⟨src j.val, src_lt j.isLt⟩) := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => right m c (ix2 r' j)) e).trans ((right_block m c t ⟨r.val % 512, by omega⟩ j).trans ?_)
  rw [flushed4]
  refine (right_cut _ t _ _).trans ((right_at _ _ _ _ _).trans (Finset.sum_congr rfl fun k _ => congrArg₂ (fun a b : EReal => a * b) ?_ ?_))
  · exact normed_block m c t _ r e k
  · exact (read2 (V m c (Pipeline.arrRef spec0 2)) t k _).trans (congrFun (V_w m c) _)

open Cert.UpFwdRefIdeal.Read in
/-- The reference's norm at an index. -/
theorem ref_norm (x : S8192x1024.Idx → EReal) (g : S1024.Idx → EReal) (r : Fin 8192) (j : Fin 1024) :
    (val_main_v12 (F := Ideal) x g : S8192x1024.Idx → EReal) (ix2 r j) = normed (fun k => x (ix2 r k)) (g (ix1 j)) j := by
  rw [val_main_v12_apply, val_main_v9_apply, val_main_v8_apply, val_main_v7_apply, val_main_v6_apply, val_main_v5_apply, val_main_v4_apply,
    val_main_v3_apply, val_main_v2_apply, val_main_v1_apply, val_main_v11_apply, val_main_v10_apply, val_main_cst_0_apply, val_main_cst_1_apply]
  unfold normed
  refine congrArg₂ (fun a b : EReal => a * b) (congrArg₂ (fun a b : EReal => a * b) rfl (congrArg scale ?_)) (congrArg g ?_)
  · refine Eq.trans (congrArg₂ (fun a b : EReal => a + b) (zero_word) (Finset.sum_congr rfl fun k _ => ?_)) (zero_add _)
    exact congrArg₂ (fun a b : EReal => a * b) (congrArg x (ext2 rfl rfl)) (congrArg x (ext2 rfl rfl))
  · exact funext fun a => match a with
      | ⟨0, _⟩ => rfl

/-- The reference's first result at an index. -/
theorem ref_left (x : S8192x1024.Idx → EReal) (g : S1024.Idx → EReal) (r : Fin 8192) (j : Fin 1024) :
    (Cert.UpFwdRefIdeal.Read.val_main_v17 (F := Ideal) x g : S8192x1024.Idx → EReal) (ix2 r j) = normed (fun k => x (ix2 r k)) (g (ix1 j)) j :=
  (Cert.UpFwdRefIdeal.Read.val_main_v17_apply (F := Ideal) x g (ix2 r j)).trans (ref_norm x g r j)

/-- The reference's product at an index. -/
theorem ref_product (x : S8192x1024.Idx → EReal) (g : S1024.Idx → EReal) (w : S1024x5632.Idx → EReal) (r : Fin 8192) (j : Fin 5632) :
    (Cert.UpFwdRefIdeal.Read.val_main_v13 (F := Ideal) x g w : S8192x5632.Idx → EReal) (ix2 r j)
      = ∑ k : Fin 1024, normed (fun k => x (ix2 r k)) (g (ix1 k)) k * w (ix2 k j) := by
  refine (Cert.UpFwdRefIdeal.Read.val_main_v13_apply x g w (ix2 r j)).trans (Finset.sum_congr rfl fun k _ => congrArg₂ (fun a b : EReal => a * b) ?_ (congrArg w (ext2 rfl rfl)))
  rw [show Cert.UpFwdRefIdeal.Read.lidx_main_v13 (ix2 r j) k = ix2 r k from ext2 rfl rfl]
  exact ref_norm x g r k

/-- The reference's second result at an index. -/
theorem ref_right (x : S8192x1024.Idx → EReal) (g : S1024.Idx → EReal) (w : S1024x5632.Idx → EReal) (r : Fin 8192) (j : Fin 5632) :
    (Cert.UpFwdRefIdeal.Read.val_main_v18 (F := Ideal) x g w : S8192x5632.Idx → EReal) (ix2 r j)
      = ∑ k : Fin 1024, normed (fun k => x (ix2 r k)) (g (ix1 k)) k * w (ix2 k ⟨src j.val, src_lt j.isLt⟩) := by
  refine (Cert.UpFwdRefIdeal.Read.val_main_v18_apply (F := Ideal) x g w (ix2 r j)).trans (Eq.trans ?_ (ref_product x g w r ⟨src j.val, src_lt j.isLt⟩))
  exact interleave_apply (Cert.UpFwdRefIdeal.Read.val_main_v13 (F := Ideal) x g w) _ _ _ r j

/-- The run leaves what the reference computes. -/
theorem same_left : left m c = Cert.UpFwdRefIdeal.Read.val_main_v17 (F := Ideal) (x m c) (g m c) := by
  funext i
  rw [eq_ix2 i]
  exact (left_apply m c _ _).trans (ref_left _ _ _ _).symm

theorem same_right : right m c = Cert.UpFwdRefIdeal.Read.val_main_v18 (F := Ideal) (x m c) (g m c) (w m c) := by
  funext i
  rw [eq_ix2 i]
  exact (right_apply m c _ _).trans (ref_right _ _ _ _ _).symm

end Cert.Products.UpFwd

end
-- ==== Proof.DownFwd.lean ====
/- The feed-forward part's down projection and its residual sum: the kernel's blocks of it, and the plain sum. -/
module

public import proofs.«01_k».proof.Proof.Prod
public import proofs.«01_k».proof.Proof.Gen.DownFwdIdeal.Value
public import proofs.«01_k».proof.Proof.Gen.DownFwdRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.DownFwd

open Cert.Fox Cert.DownFwdIdeal Cert.DownFwdIdeal.Gen Cert.DownFwdIdeal.Value

variable (m : (ℓ : Loc nD τ sig) → Buf (Elt Ideal) ℓ) (c : Dev nD)

/-- What a point writes: the product of its first two blocks and its third. -/
theorem out_eq (i : grid0.Coords) (p3 : Memref sig .tc .vmem S512x2816 .bf16) (h3 : p3.IsWhole) (p4 : Memref sig .tc .vmem S2816x1024 .bf16) (h4 : p4.IsWhole)
    (p5 : Memref sig .tc .vmem S512x1024 .f32) (h5 : p5.IsWhole) (p6 : Memref sig .tc .vmem S512x1024 .f32) (h6 : p6.IsWhole)
    (p7 : Memref sig .tc .vmem S8x128 .f32) (h7 : p7.IsWhole)
    (x : Vec Ideal S512x2816 .bf16) (y : Vec Ideal S2816x1024 .bf16) (z : Vec Ideal S512x1024 .f32) :
    out0_A_3 (F := Ideal) c i p3 h3 p4 h4 p5 h5 p6 h6 p7 h7 x y z = k0_pay1 x y z := by
  unfold out0_A_3
  rw [View.read_writes_eq_canon _ _ _ (cover0_A_3 (F := Ideal) c i p3 h3 p4 h4 p5 h5 p6 h6 p7 h7 x y z)]
  unfold kernelRun0_A
  dsimp only
  rw [View.canon_unit_zero (S := S512x1024) start_zero]
  simp only [View.readAt_eq_ld, h3.read_unread, h4.read_unread, h5.read_unread, View.ld_unit_zero (S := S512x2816) start_zero, View.ld_unit_zero (S := S2816x1024) start_zero, View.ld_unit_zero (S := S512x1024) start_zero]

/-- The product of two blocks, and a third, at an index. -/
theorem pay_apply (x : Vec Ideal S512x2816 .bf16) (y : Vec Ideal S2816x1024 .bf16) (z : Vec Ideal S512x1024 .f32) (r : Fin 512) (j : Fin 1024) :
    k0_pay1 x y z (ix2 r j) = z (ix2 r j) + ∑ k : Fin 2816, x (ix2 r k) * y (ix2 k j) := by
  unfold k0_pay1
  simp only [shapeCast_self]
  refine Eq.trans ?_ (add_comm _ _)
  exact congrArg (fun t : EReal => t + z (ix2 r j)) (plain_zero (M := 512) (K := 2816) (N := 1024) x y r j)

/-- The rows that the kernel is given. -/
def g : S8192x2816.Idx → EReal := m ((c : Thread nD τ).loc main_arg0)
/-- The weights that the kernel is given. -/
def w : S2816x1024.Idx → EReal := m ((c : Thread nD τ).loc main_arg1)
/-- The rows that the kernel adds. -/
def e : S8192x1024.Idx → EReal := m ((c : Thread nD τ).loc main_arg2)
/-- The array that the run leaves. -/
def out : S8192x1024.Idx → EReal := (dats m 0 c).arrAt 3 cfg0.N

/-- The blocks of a grid point. -/
theorem index_eq : ∀ t : Fin grid0.N,
    win0_0.index t = ![(grid0.coords t 0).val, 0] ∧ win0_1.index t = ![0, 0] ∧ win0_2.index t = ![(grid0.coords t 0).val, 0]
      ∧ win0_3.index t = ![(grid0.coords t 0).val, 0] := by decide +kernel

/-- Every block of rows has its point. -/
theorem point : ∀ b : Fin 16, ∃ t : Fin grid0.N, (grid0.coords t 0).val = b.val := by decide +kernel

theorem row_lt (t : Fin grid0.N) : (grid0.coords t 0).val < 16 := (grid0.coords t 0).isLt

/-- The arrays that the region is given are the arguments. -/
theorem V_g : (V m c main_v0 : S8192x2816.Idx → EReal) = g m c := by
  unfold V
  simp only [hostOps0, List.flatten_cons, List.flatten_nil, List.append_nil]
  after_results_simp
  rfl

theorem V_w : (V m c main_v1 : S2816x1024.Idx → EReal) = w m c := by
  unfold V
  simp only [hostOps0, List.flatten_cons, List.flatten_nil, List.append_nil]
  after_results_simp
  rfl

theorem V_e : (V m c main_arg2 : S8192x1024.Idx → EReal) = e m c := by
  unfold V
  simp only [hostOps0, List.flatten_cons, List.flatten_nil, List.append_nil]
  after_results_simp
  rfl

theorem read0 (X : (Pipeline.arrRef spec0 0).ty.Contents (Elt Ideal)) (t : Fin grid0.N) (r : Fin 512) (l : Fin 2816) :
    (((cfg0.win 0).blk t).view.read (Elt Ideal) X : S512x2816.Idx → EReal) (ix2 r l)
      = (X : S8192x2816.Idx → EReal) (ix2 (⟨512 * (grid0.coords t 0).val + r.val, by have := row_lt t; omega⟩ : Fin 8192) l) := by
  refine congrArg X (ext2 ?_ ?_)
  · blk_simp [(index_eq t).1]
    show (grid0.coords t 0).val * 512 + r.val = 512 * (grid0.coords t 0).val + r.val
    omega
  · blk_simp [(index_eq t).1]

theorem read1 (X : (Pipeline.arrRef spec0 1).ty.Contents (Elt Ideal)) (t : Fin grid0.N) (r : Fin 2816) (l : Fin 1024) :
    (((cfg0.win 1).blk t).view.read (Elt Ideal) X : S2816x1024.Idx → EReal) (ix2 r l) = (X : S2816x1024.Idx → EReal) (ix2 r l) := by
  refine congrArg X (ext2 ?_ ?_)
  · blk_simp [(index_eq t).2.1]
  · blk_simp [(index_eq t).2.1]

theorem read2 (X : (Pipeline.arrRef spec0 2).ty.Contents (Elt Ideal)) (t : Fin grid0.N) (r : Fin 512) (l : Fin 1024) :
    (((cfg0.win 2).blk t).view.read (Elt Ideal) X : S512x1024.Idx → EReal) (ix2 r l)
      = (X : S8192x1024.Idx → EReal) (ix2 (⟨512 * (grid0.coords t 0).val + r.val, by have := row_lt t; omega⟩ : Fin 8192) l) := by
  refine congrArg X (ext2 ?_ ?_)
  · blk_simp [(index_eq t).2.2.1]
    show (grid0.coords t 0).val * 512 + r.val = 512 * (grid0.coords t 0).val + r.val
    omega
  · blk_simp [(index_eq t).2.2.1]

/-- The array that the run leaves, at an index of a point's block. -/
theorem block (t : Fin grid0.N) (r : Fin 512) (j : Fin 1024) :
    out m c (ix2 (⟨512 * (grid0.coords t 0).val + r.val, by have := row_lt t; omega⟩ : Fin 8192) j)
      = ((dats m 0 c).flushed 3 t : S512x1024.Idx → EReal) (ix2 r j) := by
  refine Eq.trans ?_ (congrFun (blocks3 m c t (flush0_3 t)) (ix2 r j))
  refine congrArg (out m c) (ext2 ?_ ?_)
  · blk_simp [(index_eq t).2.2.2]
    show 512 * (grid0.coords t 0).val + r.val = (grid0.coords t 0).val * 512 + r.val
    omega
  · blk_simp [(index_eq t).2.2.2]

theorem cut_apply (X : S512x1024.Idx → EReal) (t : Fin grid0.N) (r : Fin 512) (j : Fin 1024) :
    ((cfg0.win 3).cut (α := EReal) (grid0.coords t) X : S512x1024.Idx → EReal) (ix2 r j) = X (ix2 r j) := rfl

/-- The array that the run leaves, at an index. -/
theorem out_apply (r : Fin 8192) (j : Fin 1024) : out m c (ix2 r j) = e m c (ix2 r j) + ∑ k : Fin 2816, g m c (ix2 r k) * w m c (ix2 k j) := by
  obtain ⟨t, ht⟩ := point ⟨r.val / 512, by omega⟩
  have ht : (grid0.coords t 0).val = r.val / 512 := ht
  have e : r = (⟨512 * (grid0.coords t 0).val + r.val % 512, by have := row_lt t; omega⟩ : Fin 8192) := Fin.ext (by show r.val = 512 * (grid0.coords t 0).val + r.val % 512; omega)
  refine (congrArg (fun r' : Fin 8192 => out m c (ix2 r' j)) e).trans ((block m c t ⟨r.val % 512, by omega⟩ j).trans ?_)
  rw [flushed3_A, out_eq]
  refine (cut_apply _ t _ _).trans ((pay_apply _ _ _ _ _).trans (congrArg₂ (· + ·) ?_ (Finset.sum_congr rfl fun k _ => congrArg₂ (· * ·) ?_ ?_)))
  · refine (read2 (V m c (Pipeline.arrRef spec0 2)) t _ j).trans ((congrFun (V_e m c) _).trans ?_)
    exact congrArg (fun r' : Fin 8192 => DownFwd.e m c (ix2 r' j)) e.symm
  · refine (read0 (V m c (Pipeline.arrRef spec0 0)) t _ k).trans ((congrFun (V_g m c) _).trans ?_)
    exact congrArg (fun r' : Fin 8192 => g m c (ix2 r' k)) e.symm
  · exact (read1 (V m c (Pipeline.arrRef spec0 1)) t k j).trans (congrFun (V_w m c) _)

/-- The reference at an index. -/
theorem ref_apply (g : S8192x2816.Idx → EReal) (w : S2816x1024.Idx → EReal) (e : S8192x1024.Idx → EReal) (r : Fin 8192) (j : Fin 1024) :
    (Cert.DownFwdRefIdeal.Read.val_main_v1 (F := Ideal) g w e : S8192x1024.Idx → EReal) (ix2 r j) = e (ix2 r j) + ∑ k : Fin 2816, g (ix2 r k) * w (ix2 k j) :=
  congrArg (e (ix2 r j) + ·) ((Cert.DownFwdRefIdeal.Read.val_main_v0_apply g w (ix2 r j)).trans
    (Finset.sum_congr rfl fun k _ => congrArg₂ (· * ·) (congrArg g (ext2 rfl rfl)) (congrArg w (ext2 rfl rfl))))

/-- The run leaves what the reference computes. -/
theorem same : out m c = Cert.DownFwdRefIdeal.Read.val_main_v1 (F := Ideal) (g m c) (w m c) (e m c) := by
  funext i
  rw [eq_ix2 i]
  exact (out_apply m c _ _).trans (ref_apply _ _ _ _ _).symm

end Cert.Products.DownFwd

end
-- ==== Proof.NormGrad.lean ====
/- The cotangent of a row through its norm: as the kernel adds it up, as the derivative's rules do, and that both are the same. -/
module

public import proofs.«01_k».proof.Proof.Norm
public import proofs.«01_k».proof.Proof.Cover

@[expose] public section

set_option maxRecDepth 16384

noncomputable section

open Idealize.ShloMosaic hiding ix0 ix1 ix2 ix3 ix4 ix5 eq_ix1 eq_ix2 eq_ix3 eq_ix4
open Idealize.ShloMosaic.ValueIdx
open scoped BigOperators

namespace Cert.Products

open Cert.Fox

/-- The length of a row. -/
def len : EReal := Ideal.ofBits .f32 0x44800000#32
/-- The number added under the root. -/
def eps : EReal := Ideal.ofBits .f32 0x358637BD#32
/-- Minus a half. -/
def minusHalf : EReal := Ideal.ofBits .f32 0xBF000000#32

theorem len_eq : len = ((1024 : ℝ) : EReal) := by
  simp [len, Ideal.ofBits, Ideal.ieee, -EReal.coe_mul]; norm_num

theorem minusHalf_eq : minusHalf = ((-(1 / 2) : ℝ) : EReal) := by
  simp [minusHalf, Ideal.ofBits, Ideal.ieee, -EReal.coe_mul, -EReal.coe_neg]; norm_num

theorem eps_eq : eps = ((8796093 * (2 : ℝ) ^ (-43 : ℤ) : ℝ) : EReal) := by
  simp [eps, Ideal.ofBits, Ideal.ieee, -EReal.coe_mul]

theorem eps_pos : (0 : ℝ) < 8796093 * (2 : ℝ) ^ (-43 : ℤ) := by positivity

/-- The factor of a row of length `l` whose squares add up to `s`: the inverse root of their mean and the added number. -/
def factor (l s : EReal) : EReal := Ideal.rsqrt (Ideal.div s l + eps)

/-- So it is for the model's rows. -/
theorem scale_eq (s : EReal) : scale s = factor len s := rfl

/-- The cotangent of an entry of a row of length `l`, as the kernel adds it up: `a` is the cotangent of the normed row times the gain, `d` what comes past the norm. -/
def inward {K : ℕ} (l : EReal) (x a : Fin K → EReal) (d : EReal) (j : Fin K) : EReal :=
  d + factor l (∑ k, x k * x k) * a j
    - x j * (factor l (∑ k, x k * x k) * factor l (∑ k, x k * x k) * factor l (∑ k, x k * x k) * Ideal.div (∑ k, x k * a k) l)

theorem inward_congr {K : ℕ} (l : EReal) {x x' a a' : Fin K → EReal} {d d' : EReal} (j : Fin K) (hx : ∀ k, x k = x' k) (ha : ∀ k, a k = a' k) (hd : d = d') :
    inward l x a d j = inward l x' a' d' j := by
  rw [funext hx, funext ha, hd]

/-- The cotangent of the mean of the squares, by the rules of the derivative. -/
def meanCot {K : ℕ} (l : EReal) (x a : Fin K → EReal) : EReal :=
  Ideal.div ((∑ k, x k * a k) * (minusHalf * Ideal.div (factor l (∑ k, x k * x k)) (Ideal.div (∑ k, x k * x k) l + eps))) l

/-- The cotangent of an entry of a row, by the rules of the derivative. -/
def outward {K : ℕ} (l : EReal) (x a : Fin K → EReal) (d : EReal) (j : Fin K) : EReal :=
  d + (a j * factor l (∑ k, x k * x k) + x j * meanCot l x a + meanCot l x a * x j)

/-- A square isn't negative. -/
theorem square_nonneg (y : EReal) : 0 ≤ y * y := by
  induction y using EReal.rec with
  | bot => simp
  | top => simp
  | coe r => exact_mod_cast mul_self_nonneg r

/-- Two halves of a number are the number, an infinite one too. -/
theorem halves (z : EReal) : z * ((1 / 2 : ℝ) : EReal) + z * ((1 / 2 : ℝ) : EReal) = z := by
  induction z using EReal.rec with
  | bot => rw [EReal.bot_mul_coe_of_pos (by norm_num)]; rfl
  | top => rw [EReal.top_mul_coe_of_pos (by norm_num)]; rfl
  | coe r => rw [← EReal.coe_mul, ← EReal.coe_add]; exact congrArg _ (by ring)

/-- A real number times an extended one, less: the derivative's rules add half of it twice. -/
theorem minus_eq (t : EReal) (y : ℝ) : -(t * (y : EReal)) = t * ((-y / 2 : ℝ) : EReal) + t * ((-y / 2 : ℝ) : EReal) := by
  rw [show (-y / 2 : ℝ) = -y * (1 / 2) by ring, EReal.coe_mul, ← mul_assoc, halves, EReal.coe_neg, mul_neg]

/-- The two are the same, on all extended real numbers: where the sum of the squares is infinite the row's factor is zero, and where it is real the row is. -/
theorem inward_eq {K : ℕ} {l : EReal} {n : ℝ} (hn : 0 < n) (hl : l = (n : EReal)) (x a : Fin K → EReal) (d : EReal) (j : Fin K) :
    inward l x a d j = outward l x a d j := by
  have hS0 : 0 ≤ ∑ k, x k * x k := Finset.sum_nonneg fun k _ => square_nonneg _
  have hj : x j * x j ≤ ∑ k, x k * x k := Finset.single_le_sum (f := fun k => x k * x k) (fun k _ => square_nonneg _) (Finset.mem_univ j)
  unfold inward outward meanCot
  generalize (∑ k, x k * x k) = S at hS0 hj ⊢
  generalize (∑ k, x k * a k) = T
  generalize x j = y at hj ⊢
  generalize a j = b
  subst hl
  have h1 : n ≠ 0 := hn.ne'
  obtain ⟨e, he, hee⟩ : ∃ e : ℝ, 0 < e ∧ eps = (e : EReal) := ⟨_, eps_pos, eps_eq⟩
  induction S using EReal.rec with
  | bot => exact absurd hS0 (by simp)
  | top =>
    have hu : Ideal.div ⊤ (n : EReal) + eps = ⊤ := by
      rw [Ideal.div_coe h1, EReal.top_mul_coe_of_pos (by positivity), hee, EReal.top_add_coe]
    rw [factor, hu, Ideal.rsqrt_top, Ideal.div_coe h1, Ideal.div_coe h1, Ideal.div, if_neg (by simp)]
    simp
  | coe S =>
    obtain ⟨y, rfl⟩ : ∃ r : ℝ, y = (r : EReal) := by
      induction y using EReal.rec with
      | bot => exact absurd hj (by simp)
      | top => exact absurd hj (by simp)
      | coe r => exact ⟨r, rfl⟩
    have hS0 : 0 ≤ S := by exact_mod_cast hS0
    have hu : Ideal.div (S : EReal) (n : EReal) + eps = ((S / n + e : ℝ) : EReal) := by
      rw [div_reals h1, hee, ← EReal.coe_add]
    have hu0 : 0 < S / n + e := by positivity
    rw [factor, hu]
    generalize S / n + e = u at hu0 ⊢
    have hr : Ideal.rsqrt (u : EReal) = (((Real.sqrt u)⁻¹ : ℝ) : EReal) := by
      rw [Ideal.rsqrt_coe, if_neg (not_lt.2 hu0.le), if_neg hu0.ne']
    have hq : Real.sqrt u * Real.sqrt u = u := Real.mul_self_sqrt hu0.le
    have hq0 : Real.sqrt u ≠ 0 := (Real.sqrt_pos.2 hu0).ne'
    rw [hr, minusHalf_eq]
    generalize Real.sqrt u = q at hq hq0 ⊢
    subst hq
    rw [div_reals hu0.ne', Ideal.div_coe h1, Ideal.div_coe h1]
    have hk : (y : EReal) * (((q⁻¹ : ℝ) : EReal) * ((q⁻¹ : ℝ) : EReal) * ((q⁻¹ : ℝ) : EReal) * (T * ((1 / n : ℝ) : EReal)))
        = T * ((y * (q⁻¹ * q⁻¹ * q⁻¹) * (1 / n) : ℝ) : EReal) := by
      simp only [EReal.coe_mul]
      ac_rfl
    have hc : T * (((-(1 / 2) : ℝ) : EReal) * ((q⁻¹ / (q * q) : ℝ) : EReal)) * ((1 / n : ℝ) : EReal) * (y : EReal)
        = T * ((-(y * (q⁻¹ * q⁻¹ * q⁻¹) * (1 / n)) / 2 : ℝ) : EReal) := by
      rw [mul_assoc, mul_assoc, ← EReal.coe_mul, ← EReal.coe_mul, ← EReal.coe_mul]
      refine congrArg (fun z : ℝ => T * (z : EReal)) ?_
      field_simp
    rw [mul_comm (y : EReal) (T * _ * _), hc, hk, sub_eq_add_neg, minus_eq, mul_comm b, add_assoc, add_assoc]

/-- The sum of the products of two rows of blocks. -/
theorem row_products {M K : ℕ} (x y : FVec Ideal (sh M K) .f32) (h : (sh M K).Reduces [1] ⟨1, ![M]⟩) (r : Fin M) :
    multiReduction .add [1] ⟨1, ![M]⟩ (mulf x y) 0x00000000#32 h (.inl rfl) rfl (ix1 r) = ∑ k : Fin K, x (ix2 r k) * y (ix2 r k) := by
  refine (Ideal.multiReduction_add_single _ _ h _ _ _).trans (Finset.sum_congr rfl fun k _ => ?_)
  have e : h.lift (ix1 r) k = ix2 r k := ext2 rfl rfl
  exact congrArg₂ (fun a b : EReal => a * b) (congrArg x e) (congrArg y e)

/-- The sum of a column of a block. -/
theorem col_sum {M N : ℕ} (x : FVec Ideal (sh M N) .f32) (h : (sh M N).Reduces [0] ⟨1, ![N]⟩) (j : Fin N) :
    multiReduction .add [0] ⟨1, ![N]⟩ x 0x00000000#32 h (.inl rfl) rfl (ix1 j) = ∑ k : Fin M, x (ix2 k j) := by
  refine (Ideal.multiReduction_add_single _ _ h _ _ _).trans (Finset.sum_congr rfl fun k _ => ?_)
  have e : h.lift (ix1 j) k = ix2 k j := ext2 rfl rfl
  exact congrArg x e

end Cert.Products

end
-- ==== Proof.NormBwd.lean ====
/- The norm's backward pass: the kernel's blocks of the rows' cotangent and its running sum of the gain's, and the values by the rules of the derivative. -/
module

public import proofs.«01_k».proof.Proof.NormGrad
public import proofs.«01_k».proof.Proof.Gen.NormBwdIdeal.Value
public import proofs.«01_k».proof.Proof.Gen.NormBwdRefIdeal.Read
public import Idealize.ShloMosaic.Lib.Tactic

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.NormBwd

open Cert.Fox Cert.NormBwdIdeal Cert.NormBwdIdeal.Gen Cert.NormBwdIdeal.Value

variable (m : (ℓ : Loc nD τ sig) → Buf (Elt Ideal) ℓ) (c : Dev nD)

section Body

variable (i : grid0.Coords) (p1 : Memref sig .tc .vmem S512x1024 .f32) (h1 : p1.IsWhole) (p2 : Memref sig .tc .vmem S1x1024 .f32) (h2 : p2.IsWhole)
  (p3 : Memref sig .tc .vmem S512x1024 .bf16) (h3 : p3.IsWhole) (p4 : Memref sig .tc .vmem S512x1024 .f32) (h4 : p4.IsWhole)
  (p5 : Memref sig .tc .vmem S512x1024 .f32) (h5 : p5.IsWhole) (p6 : Memref sig .tc .vmem S512x1024 .bf16) (h6 : p6.IsWhole)
  (p7 : Memref sig .tc .vmem S1x1024 .f32) (h7 : p7.IsWhole)
  (x : Vec Ideal S512x1024 .f32) (g : Vec Ideal S1x1024 .f32) (h : Vec Ideal S512x1024 .bf16) (d : Vec Ideal S512x1024 .f32) (a : Vec Ideal S1x1024 .f32)

/-- What the first point writes of the rows' cotangent … -/
theorem rows_A (hc0 : cond0_0 i) (hc1 : ¬cond0_1 i) :
    out0_A_4 (F := Ideal) c i p1 h1 p2 h2 p3 h3 p4 h4 p5 h5 p6 h6 p7 h7 hc0 hc1 x g h d = k0_pay4 x h g d := by
  unfold out0_A_4
  rw [View.read_writes_eq_canon _ _ _ (cover0_A_4 (F := Ideal) c i p1 h1 p2 h2 p3 h3 p4 h4 p5 h5 p6 h6 p7 h7 hc0 hc1 x g h d)]
  unfold kernelRun0_A
  dsimp only
  rw [View.canon_unit_zero (S := S512x1024) start_zero]
  simp only [View.readAt_eq_ld, h1.read_unread, h2.read_unread, h3.read_unread, h4.read_unread, View.ld_unit_zero (S := S512x1024) start_zero,
    View.ld_unit_zero (S := S1x1024) start_zero]

/-- … and the later points … -/
theorem rows_B (hc0 : ¬cond0_0 i) (hc1 : cond0_1 i) :
    out0_B_4 (F := Ideal) c i p1 h1 p2 h2 p3 h3 p4 h4 p5 h5 p6 h6 p7 h7 hc0 hc1 x g h d a = k0_pay4 x h g d := by
  unfold out0_B_4
  rw [View.read_writes_eq_canon _ _ _ (cover0_B_4 (F := Ideal) c i p1 h1 p2 h2 p3 h3 p4 h4 p5 h5 p6 h6 p7 h7 hc0 hc1 x g h d a)]
  unfold kernelRun0_B
  dsimp only
  rw [View.canon_unit_zero (S := S512x1024) start_zero]
  simp only [View.readAt_eq_ld, h1.read_unread, h2.read_unread, h3.read_unread, h4.read_unread, View.ld_unit_zero (S := S512x1024) start_zero,
    View.ld_unit_zero (S := S1x1024) start_zero]

/-- … and of its rounded copy. -/
theorem copy_A (hc0 : cond0_0 i) (hc1 : ¬cond0_1 i) :
    (out0_A_5 (F := Ideal) c i p1 h1 p2 h2 p3 h3 p4 h4 p5 h5 p6 h6 p7 h7 hc0 hc1 x g h d : S512x1024.Idx → EReal) = k0_pay4 x h g d := by
  unfold out0_A_5
  rw [View.read_writes_eq_canon _ _ _ (cover0_A_5 (F := Ideal) c i p1 h1 p2 h2 p3 h3 p4 h4 p5 h5 p6 h6 p7 h7 hc0 hc1 x g h d)]
  unfold kernelRun0_A
  dsimp only
  rw [View.canon_unit_zero (S := S512x1024) start_zero]
  simp only [View.readAt_eq_ld, h1.read_unread, h2.read_unread, h3.read_unread, h4.read_unread, View.ld_unit_zero (S := S512x1024) start_zero,
    View.ld_unit_zero (S := S1x1024) start_zero]
  rfl

theorem copy_B (hc0 : ¬cond0_0 i) (hc1 : cond0_1 i) :
    (out0_B_5 (F := Ideal) c i p1 h1 p2 h2 p3 h3 p4 h4 p5 h5 p6 h6 p7 h7 hc0 hc1 x g h d a : S512x1024.Idx → EReal) = k0_pay4 x h g d := by
  unfold out0_B_5
  rw [View.read_writes_eq_canon _ _ _ (cover0_B_5 (F := Ideal) c i p1 h1 p2 h2 p3 h3 p4 h4 p5 h5 p6 h6 p7 h7 hc0 hc1 x g h d a)]
  unfold kernelRun0_B
  dsimp only
  rw [View.canon_unit_zero (S := S512x1024) start_zero]
  simp only [View.readAt_eq_ld, h1.read_unread, h2.read_unread, h3.read_unread, h4.read_unread, View.ld_unit_zero (S := S512x1024) start_zero,
    View.ld_unit_zero (S := S1x1024) start_zero]
  rfl

/-- The first point leaves its part of the gain's cotangent … -/
theorem gain_A (hc0 : cond0_0 i) (hc1 : ¬cond0_1 i) :
    out0_A_6 (F := Ideal) c i p1 h1 p2 h2 p3 h3 p4 h4 p5 h5 p6 h6 p7 h7 hc0 hc1 x g h d = k0_pay6 x h := by
  unfold out0_A_6
  rw [View.read_writes_eq_canon _ _ _ (cover0_A_6 (F := Ideal) c i p1 h1 p2 h2 p3 h3 p4 h4 p5 h5 p6 h6 p7 h7 hc0 hc1 x g h d)]
  unfold kernelRun0_A
  dsimp only
  sl_unfold_words
  rw [View.canon_unit_zero (S := S1x1024) start_zero]
  simp only [View.readAt_eq_ld, h1.read_unread, h2.read_unread, h3.read_unread, h4.read_unread, View.ld_unit_zero (S := S512x1024) start_zero,
    View.ld_unit_zero (S := S1x1024) start_zero]

/-- … and the later points add theirs. -/
theorem gain_B (hc0 : ¬cond0_0 i) (hc1 : cond0_1 i) :
    out0_B_6 (F := Ideal) c i p1 h1 p2 h2 p3 h3 p4 h4 p5 h5 p6 h6 p7 h7 hc0 hc1 x g h d a = addf a (k0_pay6 x h) := by
  unfold out0_B_6
  rw [View.read_writes_eq_canon _ _ _ (cover0_B_6 (F := Ideal) c i p1 h1 p2 h2 p3 h3 p4 h4 p5 h5 p6 h6 p7 h7 hc0 hc1 x g h d a)]
  unfold kernelRun0_B
  dsimp only
  sl_unfold_words
  rw [View.canon_unit_zero (S := S1x1024) start_zero]
  unfold k0_pay1
  simp only [View.readAt_eq_ld, h1.read_unread, h2.read_unread, h3.read_unread, h4.read_unread, h7.read_unread, View.ld_unit_zero (S := S512x1024) start_zero,
    View.ld_unit_zero (S := S1x1024) start_zero, shapeCast_self]

end Body

/-- A column spread over the rows' entries. -/
theorem spread_col (v : S512x1.Idx → EReal) (r : Fin 512) (j : Fin 1024) :
    broadcastTo S512x1024 v broadcasts_S512x1_S512x1024 (ix2 r j) = v (ix2 r 0) :=
  broadcastTo_apply v _ _ _ (fun a => match a with
    | ⟨0, _⟩ => by show r.val = if (512 : Nat) = 1 then 0 else r.val; rw [if_neg (by decide)]
    | ⟨1, _⟩ => by show 0 = if (1 : Nat) = 1 then 0 else j.val; rw [if_pos rfl])

/-- A row spread over the rows. -/
theorem spread_row (v : S1x1024.Idx → EReal) (r : Fin 512) (j : Fin 1024) :
    broadcastTo S512x1024 v broadcasts_S1x1024_S512x1024 (ix2 r j) = v (ix2 0 j) :=
  broadcastTo_apply v _ _ _ (fun a => match a with
    | ⟨0, _⟩ => by show 0 = if (1 : Nat) = 1 then 0 else r.val; rw [if_pos rfl]
    | ⟨1, _⟩ => by show j.val = if (1024 : Nat) = 1 then 0 else j.val; rw [if_neg (by decide)])

/-- A list of numbers as a column, and as a row. -/
theorem as_col (v : S512.Idx → EReal) (r : Fin 512) : shapeCast S512x1 v shapeCasts_S512_S512x1 (ix2 r 0) = v (ix1 r) :=
  shapeCast_apply _ shapeCasts_S512_S512x1 _ (ix1 r) (by
    rewrite [Shape.rowMajor_val_two, Shape.rowMajor_val_one]
    show r.val = r.val * 1 + 0
    omega)

theorem as_row (v : S1024.Idx → EReal) (j : Fin 1024) : shapeCast S1x1024 v shapeCasts_S1024_S1x1024 (ix2 0 j) = v (ix1 j) :=
  shapeCast_apply _ shapeCasts_S1024_S1x1024 _ (ix1 j) (by
    rewrite [Shape.rowMajor_val_two, Shape.rowMajor_val_one]
    show j.val = 0 * 1024 + j.val
    omega)

/-- The factor of a row of a block. -/
theorem factor_apply (x : Vec Ideal S512x1024 .f32) (r : Fin 512) :
    (k0_pay3 x (ix2 r 0) : EReal) = scale (∑ k : Fin 1024, x (ix2 r k) * x (ix2 r k)) :=
  congrArg scale ((as_col _ r).trans (row_products (M := 512) (K := 1024) x x _ r))

/-- The cotangent of a block of rows, at an index. -/
theorem rows_apply (x : Vec Ideal S512x1024 .f32) (h : Vec Ideal S512x1024 .bf16) (g : Vec Ideal S1x1024 .f32) (d : Vec Ideal S512x1024 .f32)
    (r : Fin 512) (j : Fin 1024) :
    (k0_pay4 x h g d (ix2 r j) : EReal) = inward len (fun k => x (ix2 r k)) (fun k => (h (ix2 r k) : EReal) * g (ix2 0 k)) (d (ix2 r j)) j := by
  have ha : ∀ k : Fin 1024, (mulf (k0_pay2 h) (broadcastTo S512x1024 (shapeCast S1x1024 g shapeCasts_S1x1024_S1x1024) broadcasts_S1x1024_S512x1024) (ix2 r k) : EReal)
      = (h (ix2 r k) : EReal) * g (ix2 0 k) := fun k => by
    refine congrArg₂ (fun a b : EReal => a * b) ?_ ((spread_row _ r k).trans ?_)
    · unfold k0_pay2
      simp only [shapeCast_self]
      rfl
    · rw [shapeCast_self]
  unfold k0_pay4 inward
  refine congrArg₂ (fun a b : EReal => a - b) (congrArg (fun a : EReal => d (ix2 r j) + a) ?_) (congrArg (fun a : EReal => x (ix2 r j) * a) ?_)
  · exact congrArg₂ (fun a b : EReal => a * b) ((spread_col _ r j).trans (factor_apply x r)) (ha j)
  · refine (spread_col _ r j).trans (congrArg₂ (fun a b : EReal => a * b) ?_ ?_)
    · exact congrArg (fun a : EReal => a * a * a) (factor_apply x r)
    · refine congrArg (fun a : EReal => Ideal.div a len) ((as_col _ r).trans ((row_products (M := 512) (K := 1024) x _ _ r).trans ?_))
      exact Finset.sum_congr rfl fun k _ => congrArg (fun a : EReal => x (ix2 r k) * a) (ha k)

/-- A block's part of the gain's cotangent, at an index. -/
theorem gain_apply (x : Vec Ideal S512x1024 .f32) (h : Vec Ideal S512x1024 .bf16) (j : Fin 1024) :
    (k0_pay6 x h (ix2 0 j) : EReal)
      = ∑ k : Fin 512, (h (ix2 k j) : EReal) * x (ix2 k j) * scale (∑ l : Fin 1024, x (ix2 k l) * x (ix2 k l)) := by
  unfold k0_pay6
  refine (as_row _ j).trans ((col_sum (M := 512) (N := 1024) _ _ j).trans (Finset.sum_congr rfl fun k _ => ?_))
  refine congrArg₂ (fun a b : EReal => a * b) (congrArg (fun a : EReal => a * x (ix2 k j)) ?_) ((spread_col _ k j).trans (factor_apply x k))
  unfold k0_pay2
  simp only [shapeCast_self]
  rfl

/-- The rows that the kernel is given. -/
def x : S8192x1024.Idx → EReal := m ((c : Thread nD τ).loc main_arg0)
/-- The gain that the kernel is given. -/
def g : S1024.Idx → EReal := m ((c : Thread nD τ).loc main_arg1)
/-- The cotangent of the normed rows that the kernel is given. -/
def h : S8192x1024.Idx → EReal := m ((c : Thread nD τ).loc main_arg2)
/-- The cotangent that comes past the norm. -/
def d : S8192x1024.Idx → EReal := m ((c : Thread nD τ).loc main_arg3)
/-- The arrays that the run leaves: the rows' cotangent, its copy, and the gain's cotangent. -/
def rows : S8192x1024.Idx → EReal := (dats m 0 c).arrAt 4 cfg0.N
def copy : S8192x1024.Idx → EReal := (dats m 0 c).arrAt 5 cfg0.N
def gain : S1x1024.Idx → EReal := (dats m 0 c).arrAt 6 cfg0.N

/-- The blocks of a grid point. -/
theorem index_eq : ∀ t : Fin grid0.N,
    win0_0.index t = ![t.val, 0] ∧ win0_1.index t = ![0, 0] ∧ win0_2.index t = ![t.val, 0] ∧ win0_3.index t = ![t.val, 0]
      ∧ win0_4.index t = ![t.val, 0] ∧ win0_5.index t = ![t.val, 0] ∧ win0_6.index t = ![0, 0] := by decide +kernel

theorem lt_N (t : Fin grid0.N) : t.val < 16 := lt_of_lt_of_eq t.isLt N_0

/-- A row of a point's block, as a row of the array. -/
def row (t : Fin grid0.N) (r : Fin 512) : Fin 8192 := ⟨512 * t.val + r.val, by have := lt_N t; omega⟩

/-- The arrays that the region is given are the arguments, the gain as a row. -/
theorem V_x : (V m c main_arg0 : S8192x1024.Idx → EReal) = x m c := by
  unfold V
  simp only [hostOps0, List.flatten_cons, List.flatten_nil, List.append_nil]
  after_results_simp
  rfl

theorem V_h : (V m c main_v0 : S8192x1024.Idx → EReal) = h m c := by
  unfold V
  simp only [hostOps0, List.flatten_cons, List.flatten_nil, List.append_nil]
  after_results_simp
  rfl

theorem V_d : (V m c main_arg3 : S8192x1024.Idx → EReal) = d m c := by
  unfold V
  simp only [hostOps0, List.flatten_cons, List.flatten_nil, List.append_nil]
  after_results_simp
  rfl

theorem V_g : (V m c main_v1 : S1x1024.Idx → EReal) = shapeCast S1x1024 (g m c) shapeCasts_S1024_S1x1024 := by
  unfold V
  simp only [hostOps0, List.flatten_cons, List.flatten_nil, List.append_nil]
  after_results_simp
  rfl

theorem read0 (X : (Pipeline.arrRef spec0 0).ty.Contents (Elt Ideal)) (t : Fin grid0.N) (r : Fin 512) (l : Fin 1024) :
    (((cfg0.win 0).blk t).view.read (Elt Ideal) X : S512x1024.Idx → EReal) (ix2 r l) = (X : S8192x1024.Idx → EReal) (ix2 (row t r) l) := by
  refine congrArg X (ext2 ?_ ?_)
  · blk_simp [(index_eq t).1]
    show t.val * 512 + r.val = 512 * t.val + r.val
    omega
  · blk_simp [(index_eq t).1]

theorem read1 (X : (Pipeline.arrRef spec0 1).ty.Contents (Elt Ideal)) (t : Fin grid0.N) (r : Fin 1) (l : Fin 1024) :
    (((cfg0.win 1).blk t).view.read (Elt Ideal) X : S1x1024.Idx → EReal) (ix2 r l) = (X : S1x1024.Idx → EReal) (ix2 r l) := by
  refine congrArg X (ext2 ?_ ?_)
  · blk_simp [(index_eq t).2.1]
  · blk_simp [(index_eq t).2.1]

theorem read2 (X : (Pipeline.arrRef spec0 2).ty.Contents (Elt Ideal)) (t : Fin grid0.N) (r : Fin 512) (l : Fin 1024) :
    (((cfg0.win 2).blk t).view.read (Elt Ideal) X : S512x1024.Idx → EReal) (ix2 r l) = (X : S8192x1024.Idx → EReal) (ix2 (row t r) l) := by
  refine congrArg X (ext2 ?_ ?_)
  · blk_simp [(index_eq t).2.2.1]
    show t.val * 512 + r.val = 512 * t.val + r.val
    omega
  · blk_simp [(index_eq t).2.2.1]

theorem read3 (X : (Pipeline.arrRef spec0 3).ty.Contents (Elt Ideal)) (t : Fin grid0.N) (r : Fin 512) (l : Fin 1024) :
    (((cfg0.win 3).blk t).view.read (Elt Ideal) X : S512x1024.Idx → EReal) (ix2 r l) = (X : S8192x1024.Idx → EReal) (ix2 (row t r) l) := by
  refine congrArg X (ext2 ?_ ?_)
  · blk_simp [(index_eq t).2.2.2.1]
    show t.val * 512 + r.val = 512 * t.val + r.val
    omega
  · blk_simp [(index_eq t).2.2.2.1]

theorem x_at (t : Fin grid0.N) (r : Fin 512) (j : Fin 1024) : (iblk m c 0 t : S512x1024.Idx → EReal) (ix2 r j) = x m c (ix2 (row t r) j) :=
  (read0 (V m c (Pipeline.arrRef spec0 0)) t r j).trans (congrFun (V_x m c) _)

theorem g_at (t : Fin grid0.N) (j : Fin 1024) : (iblk m c 1 t : S1x1024.Idx → EReal) (ix2 0 j) = g m c (ix1 j) :=
  (read1 (V m c (Pipeline.arrRef spec0 1)) t 0 j).trans ((congrFun (V_g m c) _).trans (as_row _ j))

theorem h_at (t : Fin grid0.N) (r : Fin 512) (j : Fin 1024) : (iblk m c 2 t : S512x1024.Idx → EReal) (ix2 r j) = h m c (ix2 (row t r) j) :=
  (read2 (V m c (Pipeline.arrRef spec0 2)) t r j).trans (congrFun (V_h m c) _)

theorem d_at (t : Fin grid0.N) (r : Fin 512) (j : Fin 1024) : (iblk m c 3 t : S512x1024.Idx → EReal) (ix2 r j) = d m c (ix2 (row t r) j) :=
  (read3 (V m c (Pipeline.arrRef spec0 3)) t r j).trans (congrFun (V_d m c) _)

/-- What every point leaves in its block of the rows' cotangent. -/
theorem rows_at (t : Fin cfg0.N) : (outsAt0 m c t.val t.isLt).1 = k0_pay4 (F := Ideal) (iblk m c 0 t) (iblk m c 2 t) (iblk m c 1 t) (iblk m c 3 t) := by
  have hN := lt_N t
  by_cases h0 : t.val = 0
  · rw [outsAt0_A m c t (by omega) (by omega)]
    dsimp only
    rw [rows_A]
  · rw [outsAt0_B m c t (by omega) (by omega)]
    dsimp only
    rw [rows_B]

theorem copy_at (t : Fin cfg0.N) : ((outsAt0 m c t.val t.isLt).2.1 : S512x1024.Idx → EReal)
    = k0_pay4 (F := Ideal) (iblk m c 0 t) (iblk m c 2 t) (iblk m c 1 t) (iblk m c 3 t) := by
  have hN := lt_N t
  by_cases h0 : t.val = 0
  · rw [outsAt0_A m c t (by omega) (by omega)]
    dsimp only
    rw [copy_A]
  · rw [outsAt0_B m c t (by omega) (by omega)]
    dsimp only
    rw [copy_B]

/-- The array that a point's block of rows belongs to, at an index of the block. -/
theorem rows_block (t : Fin grid0.N) (r : Fin 512) (j : Fin 1024) :
    rows m c (ix2 (row t r) j) = ((dats m 0 c).flushed 4 t : S512x1024.Idx → EReal) (ix2 r j) := by
  refine Eq.trans ?_ (congrFun (blocks4 m c t (flush0_4 t)) (ix2 r j))
  refine congrArg (rows m c) (ext2 ?_ ?_)
  · blk_simp [(index_eq t).2.2.2.2.1]
    show 512 * t.val + r.val = t.val * 512 + r.val
    omega
  · blk_simp [(index_eq t).2.2.2.2.1]

theorem copy_block (t : Fin grid0.N) (r : Fin 512) (j : Fin 1024) :
    copy m c (ix2 (row t r) j) = ((dats m 0 c).flushed 5 t : S512x1024.Idx → EReal) (ix2 r j) := by
  refine Eq.trans ?_ (congrFun (blocks5 m c t (flush0_5 t)) (ix2 r j))
  refine congrArg (copy m c) (ext2 ?_ ?_)
  · blk_simp [(index_eq t).2.2.2.2.2.1]
    show 512 * t.val + r.val = t.val * 512 + r.val
    omega
  · blk_simp [(index_eq t).2.2.2.2.2.1]

theorem rows_cut (o : S512x1024.Idx → EReal) (t : Fin grid0.N) (r : Fin 512) (j : Fin 1024) :
    ((cfg0.win 4).cut (grid0.coords t) o : S512x1024.Idx → EReal) (ix2 r j) = o (ix2 r j) := rfl

theorem copy_cut (o : S512x1024.Idx → EReal) (t : Fin grid0.N) (r : Fin 512) (j : Fin 1024) :
    ((cfg0.win 5).cut (grid0.coords t) o : S512x1024.Idx → EReal) (ix2 r j) = o (ix2 r j) := rfl

/-- The cotangent of a row of the array, as the kernel adds it up. -/
def inAt (r : Fin 8192) (j : Fin 1024) : EReal :=
  inward len (fun k => x m c (ix2 r k)) (fun k => h m c (ix2 r k) * g m c (ix1 k)) (d m c (ix2 r j)) j

theorem block_eq (t : Fin grid0.N) (r : Fin 512) (j : Fin 1024) :
    (k0_pay4 (F := Ideal) (iblk m c 0 t) (iblk m c 2 t) (iblk m c 1 t) (iblk m c 3 t) (ix2 r j) : EReal) = inAt m c (row t r) j := by
  refine (rows_apply _ _ _ _ r j).trans ?_
  unfold inAt
  exact inward_congr len j (fun k => x_at m c t r k) (fun k => congrArg₂ (fun a b : EReal => a * b) (h_at m c t r k) (g_at m c t k)) (d_at m c t r j)

/-- Every row of the array is a row of a point's block. -/
theorem row_of (r : Fin 8192) : ∃ (t : Fin grid0.N) (s : Fin 512), r = row t s :=
  ⟨⟨r.val / 512, lt_of_lt_of_eq (show r.val / 512 < 16 by omega) N_0.symm⟩, ⟨r.val % 512, by omega⟩, Fin.ext (by show r.val = 512 * (r.val / 512) + r.val % 512; omega)⟩

/-- The rows' cotangent that the run leaves, at an index. -/
theorem rows_val (r : Fin 8192) (j : Fin 1024) : rows m c (ix2 r j) = inAt m c r j := by
  obtain ⟨t, s, rfl⟩ := row_of r
  refine (rows_block m c t s j).trans ?_
  rw [flushed4, rows_at]
  exact (rows_cut _ t s j).trans (block_eq m c t s j)

theorem copy_val (r : Fin 8192) (j : Fin 1024) : copy m c (ix2 r j) = inAt m c r j := by
  obtain ⟨t, s, rfl⟩ := row_of r
  refine (copy_block m c t s j).trans ?_
  rw [flushed5]
  exact (copy_cut _ t s j).trans ((congrFun (copy_at m c t) (ix2 s j)).trans (block_eq m c t s j))

/-- What a row adds to the gain's cotangent. -/
def term (x h : S8192x1024.Idx → EReal) (j : Fin 1024) (r : ℕ) : EReal := at2 h r j * at2 x r j * scale (∑ l : Fin 1024, at2 x r l * at2 x r l)

theorem term_of (x h : S8192x1024.Idx → EReal) (j : Fin 1024) (r : Fin 8192) :
    term x h j r = h (ix2 r j) * x (ix2 r j) * scale (∑ l : Fin 1024, x (ix2 r l) * x (ix2 r l)) := by
  unfold term
  simp only [at2_ix2]

/-- A point's part of the gain's cotangent. -/
theorem part_eq (t : Fin cfg0.N) (j : Fin 1024) :
    (k0_pay6 (F := Ideal) (iblk m c 0 t) (iblk m c 2 t) (ix2 0 j) : EReal) = ∑ k ∈ Finset.range 512, term (x m c) (h m c) j (512 * t.val + k) := by
  refine (gain_apply _ _ j).trans ?_
  rw [← Fin.sum_univ_eq_sum_range (fun k => term (x m c) (h m c) j (512 * t.val + k))]
  refine Finset.sum_congr rfl fun k _ => Eq.trans ?_ (term_of (x m c) (h m c) j (row t k)).symm
  refine congrArg₂ (fun a b : EReal => a * b) (congrArg₂ (fun a b : EReal => a * b) (h_at m c t k j) (x_at m c t k j)) (congrArg scale ?_)
  exact Finset.sum_congr rfl fun l _ => congrArg (fun a : EReal => a * a) (x_at m c t k l)

/-- The gain's cotangent after a point: the parts of the points so far. -/
theorem gain_at (j : Fin 1024) : ∀ (n : ℕ) (hn : n < cfg0.N),
    ((outsAt0 m c n hn).2.2 (ix2 0 j) : EReal) = ∑ i ∈ Finset.range (n + 1), ∑ k ∈ Finset.range 512, term (x m c) (h m c) j (512 * i + k)
  | 0, hn => by
    rw [outsAt0_A m c ⟨0, hn⟩ (Nat.zero_mod _) (Nat.not_succ_le_zero 0)]
    dsimp only
    rw [gain_A, Finset.sum_range_one]
    exact part_eq m c ⟨0, hn⟩ j
  | n + 1, hn => by
    have hN : n + 1 < 16 := lt_of_lt_of_eq hn N_0
    rw [outsAt0_B m c ⟨n + 1, hn⟩ (by dsimp only; omega) (by dsimp only; omega)]
    dsimp only
    rw [gain_B, Finset.sum_range_succ]
    exact congrArg₂ (fun a b : EReal => a + b) (gain_at j n (by omega)) (part_eq m c ⟨n + 1, hn⟩ j)

/-- The last point, which writes the gain's cotangent back. -/
def last : Fin cfg0.N := ⟨15, lt_of_lt_of_eq (show 15 < 16 by decide) N_0.symm⟩

theorem gain_block (j : Fin 1024) : gain m c (ix2 0 j) = ((dats m 0 c).flushed 6 last : S1x1024.Idx → EReal) (ix2 0 j) := by
  refine Eq.trans ?_ (congrFun ((dats m 0 c).read_blk_arrAt_eq_flushed 6 (fun t t' ht ht' hne => absurd (Fin.ext (by
    have := (flush0_6 t).1 ht
    have := (flush0_6 t').1 ht'
    have := lt_N t
    have := lt_N t'
    omega)) hne) cfg0.N last last.isLt ((flush0_6 last).2 rfl)) (ix2 0 j))
  refine congrArg (gain m c) (ext2 ?_ ?_)
  · blk_simp [(index_eq last).2.2.2.2.2.2]
  · blk_simp [(index_eq last).2.2.2.2.2.2]

theorem gain_cut (o : S1x1024.Idx → EReal) (t : Fin grid0.N) (j : Fin 1024) :
    ((cfg0.win 6).cut (grid0.coords t) o : S1x1024.Idx → EReal) (ix2 0 j) = o (ix2 0 j) := rfl

/-- The gain's cotangent that the run leaves, at an index. -/
theorem gain_val (j : Fin 1024) : gain m c (ix2 0 j)
    = ∑ r : Fin 8192, h m c (ix2 r j) * x m c (ix2 r j) * scale (∑ l : Fin 1024, x m c (ix2 r l) * x m c (ix2 r l)) := by
  refine (gain_block m c j).trans ?_
  rw [flushed6]
  refine (gain_cut _ last j).trans ((gain_at m c j 15 last.isLt).trans ((sum_mul_blocks (term (x m c) (h m c) j) 512 16).trans ?_))
  rw [← Fin.sum_univ_eq_sum_range (term (x m c) (h m c) j)]
  exact Finset.sum_congr rfl fun r _ => term_of (x m c) (h m c) j r

section Ref

open Cert.NormBwdRefIdeal.Read

variable (x : S8192x1024.Idx → EReal) (g : S1024.Idx → EReal) (h d : S8192x1024.Idx → EReal)

/-- The reference's mean of the squares of a row, with the number added. -/
theorem ref_under (r : Fin 8192) : (val_main_v6 (F := Ideal) x (ix2 r 0) : EReal) = Ideal.div (∑ k : Fin 1024, x (ix2 r k) * x (ix2 r k)) len + eps := by
  rw [val_main_v6_apply, val_main_v4_apply, val_main_v3_apply, val_main_v5_apply, val_main_v2_apply, val_main_v1_apply, val_main_cst_0_apply, val_main_cst_1_apply]
  refine congrArg (fun s : EReal => Ideal.div s len + eps) ?_
  refine Eq.trans (congrArg₂ (fun a b : EReal => a + b) zero_word (Finset.sum_congr rfl fun k _ => ?_)) (zero_add _)
  exact congrArg (fun a : EReal => a * a) (congrArg x (ext2 rfl rfl))

/-- Its factor of a row. -/
theorem ref_factor (r : Fin 8192) : (val_main_v7 (F := Ideal) x (ix2 r 0) : EReal) = scale (∑ k : Fin 1024, x (ix2 r k) * x (ix2 r k)) :=
  (val_main_v7_apply (F := Ideal) x (ix2 r 0)).trans (congrArg Ideal.rsqrt (ref_under x r))

/-- Its cotangent of the normed rows times the gain. -/
theorem ref_times (r : Fin 8192) (j : Fin 1024) : (val_main_v20 (F := Ideal) g h (ix2 r j) : EReal) = h (ix2 r j) * g (ix1 j) := by
  rw [val_main_v20_apply, val_main_v19_apply, val_main_v13_apply]
  exact congrArg (fun a : EReal => h (ix2 r j) * a) (congrArg g (funext fun a => match a with
    | ⟨0, _⟩ => rfl))

/-- Its cotangent of the mean of a row's squares. -/
theorem ref_mean (r : Fin 8192) (j : Fin 1024) :
    (val_main_v31 (F := Ideal) x g h (ix2 r j) : EReal) = meanCot len (fun k => x (ix2 r k)) (fun k => h (ix2 r k) * g (ix1 k)) := by
  rw [val_main_v31_apply, val_main_v30_apply]
  refine (congrArg₂ (fun a b : EReal => a + b) zero_word (Fin.sum_univ_one _)).trans ((zero_add _).trans ?_)
  rw [show idx_main_v30 (idx_main_v31 (ix2 r j)) 0 = ix2 r 0 from ext2 rfl rfl]
  rw [val_main_v29_apply, val_main_v28_apply, val_main_cst_6_apply, val_main_v27_apply, val_main_v10_apply, val_main_v9_apply, val_main_cst_2_apply, val_main_v8_apply,
    val_main_v24_apply, val_main_v23_apply]
  unfold meanCot
  refine congrArg (fun a : EReal => Ideal.div a len) (congrArg₂ (fun a b : EReal => a * b) ?_ (congrArg (fun a : EReal => minusHalf * a) ?_))
  · refine (congrArg₂ (fun a b : EReal => a + b) zero_word (Finset.sum_congr rfl fun k _ => ?_)).trans (zero_add _)
    rw [show idx_main_v23 (idx_main_v24 (ix2 r 0)) k = ix2 r k from ext2 (by show r.val * 1 + 0 = r.val; omega) rfl, val_main_v22_apply]
    exact congrArg (fun a : EReal => x (ix2 r k) * a) (ref_times g h r k)
  · exact congrArg₂ Ideal.div (ref_factor x r) (ref_under x r)

/-- Its cotangent of the rows. -/
theorem ref_rows (r : Fin 8192) (j : Fin 1024) :
    (val_main_v36 (F := Ideal) x g h d (ix2 r j) : EReal) = outward len (fun k => x (ix2 r k)) (fun k => h (ix2 r k) * g (ix1 k)) (d (ix2 r j)) j := by
  rw [val_main_v36_apply, val_main_v35_apply, val_main_v33_apply, val_main_v34_apply, val_main_v32_apply, val_main_v26_apply, val_main_v25_apply]
  unfold outward
  refine congrArg (fun a : EReal => d (ix2 r j) + a) (congrArg₂ (fun a b : EReal => a + b) (congrArg₂ (fun a b : EReal => a + b) ?_ ?_) ?_)
  · refine congrArg₂ (fun a b : EReal => a * b) (ref_times g h r j) ?_
    rw [show idx_main_v25 (ix2 r j) = ix2 r 0 from ext2 rfl rfl]
    exact ref_factor x r
  · exact congrArg (fun a : EReal => x (ix2 r j) * a) (ref_mean x g h r j)
  · exact congrArg (fun a : EReal => a * x (ix2 r j)) (ref_mean x g h r j)

/-- Its cotangent of the gain. -/
theorem ref_gain (j : Fin 1024) : (val_main_v38 (F := Ideal) x h (ix2 0 j) : EReal)
    = ∑ r : Fin 8192, h (ix2 r j) * x (ix2 r j) * scale (∑ l : Fin 1024, x (ix2 r l) * x (ix2 r l)) := by
  rw [val_main_v38_apply, val_main_v21_apply]
  refine (congrArg₂ (fun a b : EReal => a + b) zero_word (Fin.sum_univ_one _)).trans ((zero_add _).trans ?_)
  rw [val_main_v18_apply, val_main_v17_apply]
  refine (congrArg₂ (fun a b : EReal => a + b) zero_word (Finset.sum_congr rfl fun r _ => ?_)).trans (zero_add _)
  rw [show idx_main_v17 (idx_main_v18 (idx_main_v21 (idx_main_v38 (ix2 0 j)) 0)) r = ix2 r j from ext2 rfl (by
    show 0 * 1024 + (0 * 1024 + j.val) = j.val
    omega), val_main_v16_apply, val_main_v12_apply, val_main_v11_apply, show idx_main_v11 (ix2 r j) = ix2 r 0 from ext2 rfl rfl]
  refine (congrArg (fun a : EReal => x (ix2 r j) * a * h (ix2 r j)) (ref_factor x r)).trans ?_
  rw [mul_comm, mul_assoc]

end Ref

/-- The run leaves the rows' cotangent that the reference computes … -/
theorem same_rows (r : Fin 8192) (j : Fin 1024) :
    inAt m c r j = Cert.NormBwdRefIdeal.Read.val_main_v36 (F := Ideal) (x m c) (g m c) (h m c) (d m c) (ix2 r j) := by
  exact (inward_eq (by norm_num) len_eq _ _ _ j).trans (ref_rows _ _ _ _ r j).symm

theorem same_left :
    rows m c = Cert.NormBwdRefIdeal.Read.val_main_v36 (F := Ideal) (x m c) (g m c) (h m c) (d m c) := by
  funext i
  rw [eq_ix2 i]
  exact (rows_val m c _ _).trans (same_rows m c _ _)

/-- … and its copy … -/
theorem same_copy :
    copy m c = Cert.NormBwdRefIdeal.Read.val_main_v37 (F := Ideal) (x m c) (g m c) (h m c) (d m c) := by
  funext i
  rw [eq_ix2 i]
  exact (copy_val m c _ _).trans (same_rows m c _ _)

/-- … and the gain's cotangent. -/
theorem same_gain : gain m c = Cert.NormBwdRefIdeal.Read.val_main_v38 (F := Ideal) (x m c) (h m c) := by
  funext i
  obtain ⟨j, rfl⟩ : ∃ j : Fin 1024, i = ix2 0 j := ⟨i 1, ext2 (by have : (i 0).val < 1 := (i 0).isLt; show (i 0).val = 0; omega) rfl⟩
  exact (gain_val m c j).trans (ref_gain _ _ j).symm

end Cert.Products.NormBwd

end
-- ==== Proof.OutNorm.lean ====
/- The backward pass of the norms of the two attentions' outputs: the kernel's blocks of the rows' cotangents and its running sums of the gains', and the values by the rules of the derivative. -/
module

public import proofs.«01_k».proof.Proof.NormGrad
public import proofs.«01_k».proof.Proof.Gen.OutNormIdeal.Value
public import proofs.«01_k».proof.Proof.Gen.OutNormRefIdeal.Read
public import Idealize.ShloMosaic.Lib.Tactic
public import Idealize.ShloMosaic.Lib.WritesUnit

@[expose] public section

set_option maxRecDepth 16384

noncomputable section

open Idealize.ShloMosaic hiding ix0 ix1 ix2 ix3 ix4 ix5 eq_ix1 eq_ix2 eq_ix3 eq_ix4
open Idealize.ShloMosaic.ValueIdx Idealize.ShloMosaic.TcCoe Idealize.ShloMosaic.StableHlo
open scoped BigOperators

namespace Cert.Products.OutNorm

open Cert.Fox Cert.OutNormIdeal Cert.OutNormIdeal.Gen Cert.OutNormIdeal.Value

variable (m : (ℓ : Loc nD τ sig) → Buf (Elt Ideal) ℓ) (c : Dev nD)

/-- The entries of a point's block of the output cotangent that belong to the first attention, and to the second. -/
def first (h : S512x768.Idx → EReal) : S512x384.Idx → EReal := fun i => h (ix2 (i 0) ⟨(i 1).val, lt_of_lt_of_le (i 1).isLt (show 384 ≤ 768 by decide)⟩)
def second (h : S512x768.Idx → EReal) : S512x384.Idx → EReal := fun i =>
  h (ix2 (i 0) ⟨384 + (i 1).val, Nat.add_lt_add_left (show (i 1).val < 384 from (i 1).isLt) 384⟩)

/-- What the point's two loads of the block read. -/
theorem load_first (h : Vec Ideal S512x768 .bf16) :
    (View.ld h (Rect.unit (s := S512x768) ![0, 0] ![512, 384] inb_S512x768_S512x384_0_0) : S512x384.Idx → EReal) = first h :=
  funext fun z => congrArg h (ext2 (by show 0 + 1 * (z 0).val = (z 0).val; omega) (by show 0 + 1 * (z 1).val = (z 1).val; omega))

theorem load_second (h : Vec Ideal S512x768 .bf16) :
    (View.ld h (Rect.unit (s := S512x768) ![0, 384] ![512, 384] inb_S512x768_S512x384_0_384) : S512x384.Idx → EReal) = second h :=
  funext fun z => congrArg h (ext2 (by show 0 + 1 * (z 0).val = (z 0).val; omega) (by show 384 + 1 * (z 1).val = 384 + (z 1).val; omega))

/-- The second rows' operations are the first rows'. -/
theorem same_rows_op (y : Vec Ideal S512x384 .f32) (h : Vec Ideal S512x384 .bf16) (k : Vec Ideal S1x384 .f32) :
    k0_pay11 (F := Ideal) y h k = k0_pay5 (F := Ideal) y h k := rfl

theorem same_gain_op (y : Vec Ideal S512x384 .f32) (h : Vec Ideal S512x384 .bf16) :
    k0_pay13 (F := Ideal) y h = shapeCast S1x384 (k0_pay7 (F := Ideal) y h) shapeCasts_S384_S1x384 := rfl

/-- What the two rows' stores leave of a buffer, whatever stands for the rest. -/
theorem two_rows {κ : Kind} {sp : Space} (v' : View sig κ sp S8x384 .f32) (f : v'.ty.Contents (Elt Ideal)) (L : List (View.Piece (Elt Ideal) S8x384 .f32)) (u v : S1x384.Idx → EReal) (q : Fin 8) (j : Fin 384) :
    v'.read (Elt Ideal) (v'.writes (Elt Ideal) f
        ((⟨Rect.unit (s := S8x384) ![1, 0] ![1, 384] inb_S8x384_S1x384_1_0, v⟩ : View.Piece (Elt Ideal) S8x384 .f32)
          :: (⟨Rect.unit (s := S8x384) ![0, 0] ![1, 384] inb_S8x384_S1x384_0_0, u⟩ : View.Piece (Elt Ideal) S8x384 .f32) :: L)) (ix2 q j)
      = if q.val = 0 then u (ix2 0 j) else if q.val = 1 then v (ix2 0 j) else v'.read (Elt Ideal) (v'.writes (Elt Ideal) f L) (ix2 q j) := by
  by_cases h1 : q.val = 1
  · rw [if_neg (by omega), if_pos h1]
    exact View.read_writes_cons_rows_of_mem (o := 1) _ _ _ _ _ (ix2 q j) (ix2 0 j) rfl h1 rfl
  · refine (View.read_writes_cons_rows_of_not_mem (o := 1) (W := 1) _ _ _ _ _ (ix2 q j) rfl rfl (by
      show q.val < 1 ∨ 1 + 1 ≤ q.val
      omega)).trans ?_
    by_cases h0 : q.val = 0
    · rw [if_pos h0]
      exact View.read_writes_cons_rows_of_mem (o := 0) _ _ _ _ _ (ix2 q j) (ix2 0 j) rfl h0 rfl
    · rw [if_neg h0, if_neg h1]
      exact View.read_writes_cons_rows_of_not_mem (o := 0) (W := 1) _ _ _ _ _ (ix2 q j) rfl rfl (by
        show q.val < 0 ∨ 0 + 1 ≤ q.val
        omega)

/-- A buffer filled with zeros holds zeros. -/
theorem zeros {κ : Kind} {sp : Space} (v' : View sig κ sp S8x384 .f32) (f : v'.ty.Contents (Elt Ideal)) (z : S8x384.Idx) :
    v'.read (Elt Ideal) (v'.writes (Elt Ideal) f [⟨Rect.unit (s := S8x384) ![0, 0] S8x384.size inb_S8x384_S8x384_0_0, k0_pay2 (F := Ideal)⟩]) z = (0 : EReal) := by
  refine (View.read_writes_cons_unit_of_mem (off' := ![0, 0]) _ _ _ _ _ z z rfl (fun b => match b with
    | ⟨0, _⟩ => (Nat.zero_add _).symm
    | ⟨1, _⟩ => (Nat.zero_add _).symm)).trans ?_
  exact zero_word

/-- A load of the second row reads zero after the first row's store over the zeros. -/
theorem zero_row {κ : Kind} {sp : Space} (v' : View sig κ sp S8x384 .f32) (u : S1x384.Idx → EReal) (j : Fin 384) :
    v'.readCov [(⟨Rect.unit (s := S8x384) ![0, 0] ![1, 384] inb_S8x384_S1x384_0_0, u⟩ : View.Piece (Elt Ideal) S8x384 .f32),
        ⟨Rect.unit (s := S8x384) ![0, 0] S8x384.size inb_S8x384_S8x384_0_0, k0_pay2 (F := Ideal)⟩]
      (Rect.unit (s := S8x384) ![1, 0] ![1, 384] inb_S8x384_S1x384_1_0).toLoadRect (ix2 0 j) = (0 : EReal) := by
  unfold View.readCov
  have e : (Rect.unit (s := S8x384) ![1, 0] ![1, 384] inb_S8x384_S1x384_1_0).toLoadRect.idx (ix2 0 j) = ix2 1 j :=
    ext2 rfl (by show 0 + 1 * j.val = j.val; omega)
  refine (congrArg (v'.read (Elt Ideal) (v'.writes (Elt Ideal) v'.junk _)) e).trans ?_
  exact (View.read_writes_cons_rows_of_not_mem (o := 0) (W := 1) _ _ _ _ _ (ix2 1 j) rfl rfl (.inr (Nat.le_refl 1))).trans (zeros _ _ _)

section Body

variable (i : grid0.Coords) (p1 : Memref sig .tc .vmem S512x384 .f32) (h1 : p1.IsWhole) (p2 : Memref sig .tc .vmem S512x384 .f32) (h2 : p2.IsWhole)
  (p3 : Memref sig .tc .vmem S512x768 .bf16) (h3 : p3.IsWhole) (p4 : Memref sig .tc .vmem S1x384 .f32) (h4 : p4.IsWhole)
  (p5 : Memref sig .tc .vmem S1x384 .f32) (h5 : p5.IsWhole) (p6 : Memref sig .tc .vmem S512x384 .f32) (h6 : p6.IsWhole)
  (p7 : Memref sig .tc .vmem S512x384 .f32) (h7 : p7.IsWhole) (p8 : Memref sig .tc .vmem S8x384 .f32) (h8 : p8.IsWhole)
  (x : Vec Ideal S512x384 .f32) (y : Vec Ideal S512x384 .f32) (h : Vec Ideal S512x768 .bf16) (g : Vec Ideal S1x384 .f32) (k : Vec Ideal S1x384 .f32)
  (a : Vec Ideal S8x384 .f32)

/-- What a point writes of the first rows' cotangent … -/
theorem rows_A (hc0 : cond0_0 i) :
    out0_A_5 (F := Ideal) c i p1 h1 p2 h2 p3 h3 p4 h4 p5 h5 p6 h6 p7 h7 p8 h8 hc0 x y h g k = k0_pay5 (F := Ideal) x (first h) g := by
  unfold out0_A_5
  rw [View.read_writes_eq_canon _ _ _ (cover0_A_5 (F := Ideal) c i p1 h1 p2 h2 p3 h3 p4 h4 p5 h5 p6 h6 p7 h7 p8 h8 hc0 x y h g k)]
  unfold kernelRun0_A
  dsimp only
  sl_unfold_words
  rw [View.canon_unit_zero (S := S512x384) start_zero]
  simp only [View.readAt_eq_ld, h1.read_unread, h3.read_unread, h4.read_unread, View.ld_unit_zero (S := S512x384) start_zero, View.ld_unit_zero (S := S1x384) start_zero]
  exact congrArg (fun z : Vec Ideal S512x384 .bf16 => k0_pay5 (F := Ideal) x z g) (load_first h)

theorem rows_B (hc0 : ¬cond0_0 i) :
    out0_B_5 (F := Ideal) c i p1 h1 p2 h2 p3 h3 p4 h4 p5 h5 p6 h6 p7 h7 p8 h8 hc0 x y h g k a = k0_pay5 (F := Ideal) x (first h) g := by
  unfold out0_B_5
  rw [View.read_writes_eq_canon _ _ _ (cover0_B_5 (F := Ideal) c i p1 h1 p2 h2 p3 h3 p4 h4 p5 h5 p6 h6 p7 h7 p8 h8 hc0 x y h g k a)]
  unfold kernelRun0_B
  dsimp only
  sl_unfold_words
  rw [View.canon_unit_zero (S := S512x384) start_zero]
  simp only [View.readAt_eq_ld, h1.read_unread, h3.read_unread, h4.read_unread, View.ld_unit_zero (S := S512x384) start_zero, View.ld_unit_zero (S := S1x384) start_zero]
  exact congrArg (fun z : Vec Ideal S512x384 .bf16 => k0_pay5 (F := Ideal) x z g) (load_first h)

/-- … and of the second rows', by the same operations. -/
theorem rows'_A (hc0 : cond0_0 i) :
    out0_A_6 (F := Ideal) c i p1 h1 p2 h2 p3 h3 p4 h4 p5 h5 p6 h6 p7 h7 p8 h8 hc0 x y h g k = k0_pay5 (F := Ideal) y (second h) k := by
  unfold out0_A_6
  rw [View.read_writes_eq_canon _ _ _ (cover0_A_6 (F := Ideal) c i p1 h1 p2 h2 p3 h3 p4 h4 p5 h5 p6 h6 p7 h7 p8 h8 hc0 x y h g k)]
  unfold kernelRun0_A
  dsimp only
  sl_unfold_words
  rw [View.canon_unit_zero (S := S512x384) start_zero]
  simp only [View.readAt_eq_ld, h2.read_unread, h3.read_unread, h5.read_unread, View.ld_unit_zero (S := S512x384) start_zero, View.ld_unit_zero (S := S1x384) start_zero]
  exact (same_rows_op _ _ _).trans (congrArg (fun z : Vec Ideal S512x384 .bf16 => k0_pay5 (F := Ideal) y z k) (load_second h))

theorem rows'_B (hc0 : ¬cond0_0 i) :
    out0_B_6 (F := Ideal) c i p1 h1 p2 h2 p3 h3 p4 h4 p5 h5 p6 h6 p7 h7 p8 h8 hc0 x y h g k a = k0_pay5 (F := Ideal) y (second h) k := by
  unfold out0_B_6
  rw [View.read_writes_eq_canon _ _ _ (cover0_B_6 (F := Ideal) c i p1 h1 p2 h2 p3 h3 p4 h4 p5 h5 p6 h6 p7 h7 p8 h8 hc0 x y h g k a)]
  unfold kernelRun0_B
  dsimp only
  sl_unfold_words
  rw [View.canon_unit_zero (S := S512x384) start_zero]
  simp only [View.readAt_eq_ld, h2.read_unread, h3.read_unread, h5.read_unread, View.ld_unit_zero (S := S512x384) start_zero, View.ld_unit_zero (S := S1x384) start_zero]
  exact (same_rows_op _ _ _).trans (congrArg (fun z : Vec Ideal S512x384 .bf16 => k0_pay5 (F := Ideal) y z k) (load_second h))

/-- A point's part of the gains' cotangents: the first row is the first gain's, the second the second's, the rest zero. -/
def part (q : Fin 8) (j : Fin 384) : EReal :=
  if q.val = 0 then k0_pay7 (F := Ideal) x (first h) (ix1 j) else if q.val = 1 then k0_pay7 (F := Ideal) y (second h) (ix1 j) else 0

/-- A list of numbers as a row. -/
theorem as_row (v : S384.Idx → EReal) (j : Fin 384) : shapeCast S1x384 v shapeCasts_S384_S1x384 (ix2 0 j) = v (ix1 j) :=
  shapeCast_apply _ shapeCasts_S384_S1x384 _ (ix1 j) (by
    rewrite [Shape.rowMajor_val_two, Shape.rowMajor_val_one]
    show j.val = 0 * 384 + j.val
    omega)

/-- The first point leaves its part of the gains' cotangents … -/
theorem gain_A (hc0 : cond0_0 i) (q : Fin 8) (j : Fin 384) :
    (out0_A_7 (F := Ideal) c i p1 h1 p2 h2 p3 h3 p4 h4 p5 h5 p6 h6 p7 h7 p8 h8 hc0 x y h g k (ix2 q j) : EReal) = part x y h q j := by
  unfold out0_A_7
  unfold kernelRun0_A
  dsimp only
  sl_unfold_words
  refine (two_rows _ _ _ _ _ q j).trans ?_
  unfold part
  refine if_congr Iff.rfl ?_ (if_congr Iff.rfl ?_ (zeros _ _ _))
  · unfold k0_pay8 k0_pay6
    simp only [View.readAt_eq_ld, h1.read_unread, h2.read_unread, h3.read_unread, View.ld_unit_zero (S := S512x384) start_zero, shapeCast_self]
    refine (congrArg₂ (fun a b : EReal => a + b) (zeros _ _ _) ((as_row _ j).trans (congrFun (congrArg (fun z : Vec Ideal S512x384 .bf16 => k0_pay7 (F := Ideal) x z) (load_first h)) (ix1 j)))).trans (zero_add _)
  · unfold k0_pay1 k0_pay12
    simp only [View.readAt_eq_ld, h1.read_unread, h2.read_unread, h3.read_unread, View.ld_unit_zero (S := S512x384) start_zero, shapeCast_self]
    exact (congrArg₂ (fun a b : EReal => a + b) (zero_row _ _ j) ((congrFun (same_gain_op y _) (ix2 0 j)).trans ((as_row _ j).trans (congrFun (congrArg (fun z : Vec Ideal S512x384 .bf16 => k0_pay7 (F := Ideal) y z) (load_second h)) (ix1 j))))).trans (zero_add _)

/-- … and the later points add theirs. -/
theorem gain_B (hc0 : ¬cond0_0 i) (q : Fin 8) (j : Fin 384) :
    (out0_B_7 (F := Ideal) c i p1 h1 p2 h2 p3 h3 p4 h4 p5 h5 p6 h6 p7 h7 p8 h8 hc0 x y h g k a (ix2 q j) : EReal) = (a (ix2 q j) : EReal) + part x y h q j := by
  unfold out0_B_7
  unfold kernelRun0_B
  dsimp only
  sl_unfold_words
  refine (two_rows _ _ _ _ _ q j).trans ?_
  unfold part
  by_cases h0 : q.val = 0
  · obtain rfl : q = 0 := Fin.ext h0
    rw [if_pos h0, if_pos h0]
    unfold k0_pay8 k0_pay6
    simp only [View.readAt_eq_ld, h1.read_unread, h2.read_unread, h3.read_unread, h8.read_unread, View.ld_unit_zero (S := S512x384) start_zero, shapeCast_self]
    exact congrArg₂ (fun a b : EReal => a + b) (congrArg a (ext2 rfl (by show 0 + 1 * j.val = j.val; omega))) ((as_row _ j).trans (congrFun (congrArg (fun z : Vec Ideal S512x384 .bf16 => k0_pay7 (F := Ideal) x z) (load_first h)) (ix1 j)))
  · rw [if_neg h0, if_neg h0]
    by_cases h1' : q.val = 1
    · obtain rfl : q = 1 := Fin.ext h1'
      rw [if_pos h1', if_pos h1']
      unfold k0_pay1 k0_pay12
      simp only [View.readAt_eq_ld, h1.read_unread, h2.read_unread, h3.read_unread, h8.read_unread, View.ld_unit_zero (S := S512x384) start_zero, shapeCast_self]
      exact congrArg₂ (fun a b : EReal => a + b) (congrArg a (ext2 rfl (by show 0 + 1 * j.val = j.val; omega))) ((congrFun (same_gain_op y _) (ix2 0 j)).trans ((as_row _ j).trans (congrFun (congrArg (fun z : Vec Ideal S512x384 .bf16 => k0_pay7 (F := Ideal) y z) (load_second h)) (ix1 j))))
    · rw [if_neg h1', if_neg h1']
      exact (congrFun (h8.read_unread a) (ix2 q j)).trans (add_zero _).symm

end Body

/-- The reference's stack of two rows over six. -/
theorem stacked (u v : S1x384.Idx → EReal) (w : Cert.OutNormRefIdeal.S6x384.Idx → EReal) (q : Fin 8) (j : Fin 384) :
    concatenate S8x384 0 [⟨S1x384, u⟩, ⟨S1x384, v⟩, ⟨Cert.OutNormRefIdeal.S6x384, w⟩] Cert.OutNormRefIdeal.Gen.concatenates_S1x384_S1x384_S6x384_S8x384_d0 (ix2 q j)
      = if q.val = 0 then u (ix2 0 j) else if q.val = 1 then v (ix2 0 j) else w (ix2 ⟨q.val - 2, by omega⟩ j) := by
  match q with
  | ⟨0, _⟩ => exact congrArg u (ext2 rfl rfl)
  | ⟨1, _⟩ => exact congrArg v (ext2 rfl rfl)
  | ⟨2, _⟩ => exact congrArg w (ext2 rfl rfl)
  | ⟨3, _⟩ => exact congrArg w (ext2 rfl rfl)
  | ⟨4, _⟩ => exact congrArg w (ext2 rfl rfl)
  | ⟨5, _⟩ => exact congrArg w (ext2 rfl rfl)
  | ⟨6, _⟩ => exact congrArg w (ext2 rfl rfl)
  | ⟨7, _⟩ => exact congrArg w (ext2 rfl rfl)

/-- The length of a row of an attention's output. -/
def width : EReal := Ideal.ofBits .f32 0x43C00000#32

theorem width_eq : width = ((384 : ℝ) : EReal) := by
  simp [width, Ideal.ofBits, Ideal.ieee, -EReal.coe_mul]; norm_num

/-- A column spread over the rows' entries. -/
theorem spread_col (v : S512x1.Idx → EReal) (r : Fin 512) (j : Fin 384) :
    broadcastTo S512x384 v broadcasts_S512x1_S512x384 (ix2 r j) = v (ix2 r 0) :=
  broadcastTo_apply v _ _ _ (fun a => match a with
    | ⟨0, _⟩ => by show r.val = if (512 : Nat) = 1 then 0 else r.val; rw [if_neg (by decide)]
    | ⟨1, _⟩ => by show 0 = if (1 : Nat) = 1 then 0 else j.val; rw [if_pos rfl])

/-- A row spread over the rows. -/
theorem spread_row (v : S1x384.Idx → EReal) (r : Fin 512) (j : Fin 384) :
    broadcastTo S512x384 v broadcasts_S1x384_S512x384 (ix2 r j) = v (ix2 0 j) :=
  broadcastTo_apply v _ _ _ (fun a => match a with
    | ⟨0, _⟩ => by show 0 = if (1 : Nat) = 1 then 0 else r.val; rw [if_pos rfl]
    | ⟨1, _⟩ => by show j.val = if (384 : Nat) = 1 then 0 else j.val; rw [if_neg (by decide)])

/-- A list of numbers as a column. -/
theorem as_col (v : S512.Idx → EReal) (r : Fin 512) : shapeCast S512x1 v shapeCasts_S512_S512x1 (ix2 r 0) = v (ix1 r) :=
  shapeCast_apply _ shapeCasts_S512_S512x1 _ (ix1 r) (by
    rewrite [Shape.rowMajor_val_two, Shape.rowMajor_val_one]
    show r.val = r.val * 1 + 0
    omega)

/-- The factor of a row of a block. -/
theorem factor_apply (x : Vec Ideal S512x384 .f32) (r : Fin 512) :
    (k0_pay4 x (ix2 r 0) : EReal) = factor width (∑ k : Fin 384, x (ix2 r k) * x (ix2 r k)) :=
  congrArg (factor width) ((as_col _ r).trans (row_products (M := 512) (K := 384) x x _ r))

/-- The cotangent of a block of rows, at an index. -/
theorem rows_apply (x : Vec Ideal S512x384 .f32) (h : Vec Ideal S512x384 .bf16) (g : Vec Ideal S1x384 .f32) (r : Fin 512) (j : Fin 384) :
    (k0_pay5 x h g (ix2 r j) : EReal) = inward width (fun k => x (ix2 r k)) (fun k => (h (ix2 r k) : EReal) * g (ix2 0 k)) 0 j := by
  have ha : ∀ k : Fin 384, (mulf (k0_pay3 h) (broadcastTo S512x384 (shapeCast S1x384 g shapeCasts_S1x384_S1x384) broadcasts_S1x384_S512x384) (ix2 r k) : EReal)
      = (h (ix2 r k) : EReal) * g (ix2 0 k) := fun k => by
    refine congrArg₂ (fun a b : EReal => a * b) ?_ ((spread_row _ r k).trans ?_)
    · unfold k0_pay3
      simp only [shapeCast_self]
      rfl
    · rw [shapeCast_self]
  unfold k0_pay5 inward
  rw [zero_add]
  refine congrArg₂ (fun a b : EReal => a - b) ?_ (congrArg (fun a : EReal => x (ix2 r j) * a) ?_)
  · exact congrArg₂ (fun a b : EReal => a * b) ((spread_col _ r j).trans (factor_apply x r)) (ha j)
  · refine (spread_col _ r j).trans (congrArg₂ (fun a b : EReal => a * b) ?_ ?_)
    · exact congrArg (fun a : EReal => a * a * a) (factor_apply x r)
    · refine congrArg (fun a : EReal => Ideal.div a width) ((as_col _ r).trans ((row_products (M := 512) (K := 384) x _ _ r).trans ?_))
      exact Finset.sum_congr rfl fun k _ => congrArg (fun a : EReal => x (ix2 r k) * a) (ha k)

/-- A block's part of a gain's cotangent, at an index. -/
theorem gain_apply (x : Vec Ideal S512x384 .f32) (h : Vec Ideal S512x384 .bf16) (j : Fin 384) :
    (k0_pay7 x h (ix1 j) : EReal)
      = ∑ k : Fin 512, (h (ix2 k j) : EReal) * x (ix2 k j) * factor width (∑ l : Fin 384, x (ix2 k l) * x (ix2 k l)) := by
  unfold k0_pay7
  refine (col_sum (M := 512) (N := 384) _ _ j).trans (Finset.sum_congr rfl fun k _ => ?_)
  refine congrArg₂ (fun a b : EReal => a * b) (congrArg (fun a : EReal => a * x (ix2 k j)) ?_) ((spread_col _ k j).trans (factor_apply x k))
  unfold k0_pay3
  simp only [shapeCast_self]
  rfl

/-- The two attentions' outputs that the kernel is given. -/
def x : S8192x384.Idx → EReal := m ((c : Thread nD τ).loc main_arg0)
def y : S8192x384.Idx → EReal := m ((c : Thread nD τ).loc main_arg1)
/-- The cotangent of the normed outputs that the kernel is given. -/
def h : S8192x1024.Idx → EReal := m ((c : Thread nD τ).loc main_arg2)
/-- The two gains that the kernel is given. -/
def g : S384.Idx → EReal := m ((c : Thread nD τ).loc main_arg3)
def k : S384.Idx → EReal := m ((c : Thread nD τ).loc main_arg4)
/-- The arrays that the run leaves: the cotangents of the first rows, of the second rows and of the gains. -/
def rows : S8192x384.Idx → EReal := (dats m 0 c).arrAt 5 cfg0.N
def rows' : S8192x384.Idx → EReal := (dats m 0 c).arrAt 6 cfg0.N
def gain : S8x384.Idx → EReal := (dats m 0 c).arrAt 7 cfg0.N

/-- The columns of a cotangent that belong to the first attention's output, and to the second's. -/
def left (h : S8192x1024.Idx → EReal) : S8192x384.Idx → EReal := fun i => h (ix2 (i 0) ⟨(i 1).val, lt_of_lt_of_le (i 1).isLt (show 384 ≤ 1024 by decide)⟩)
def right (h : S8192x1024.Idx → EReal) : S8192x384.Idx → EReal := fun i =>
  h (ix2 (i 0) ⟨384 + (i 1).val, lt_of_lt_of_le (Nat.add_lt_add_left (show (i 1).val < 384 from (i 1).isLt) 384) (show 384 + 384 ≤ 1024 by decide)⟩)

/-- The blocks of a grid point. -/
theorem index_eq : ∀ t : Fin grid0.N,
    win0_0.index t = ![t.val, 0] ∧ win0_1.index t = ![t.val, 0] ∧ win0_2.index t = ![t.val, 0] ∧ win0_3.index t = ![0, 0]
      ∧ win0_4.index t = ![0, 0] ∧ win0_5.index t = ![t.val, 0] ∧ win0_6.index t = ![t.val, 0] ∧ win0_7.index t = ![0, 0] := by decide +kernel

theorem lt_N (t : Fin grid0.N) : t.val < 16 := lt_of_lt_of_eq t.isLt N_0

/-- A row of a point's block, as a row of the array. -/
def row (t : Fin grid0.N) (r : Fin 512) : Fin 8192 := ⟨512 * t.val + r.val, by have := lt_N t; omega⟩

/-- The arrays that the region is given are the arguments, the gains as rows. -/
theorem V_x : (V m c main_arg0 : S8192x384.Idx → EReal) = x m c := by
  unfold V
  simp only [hostOps0, List.flatten_cons, List.flatten_nil, List.append_nil]
  after_results_simp
  rfl

theorem V_y : (V m c main_arg1 : S8192x384.Idx → EReal) = y m c := by
  unfold V
  simp only [hostOps0, List.flatten_cons, List.flatten_nil, List.append_nil]
  after_results_simp
  rfl

theorem V_h : (V m c main_v0 : S8192x1024.Idx → EReal) = h m c := by
  unfold V
  simp only [hostOps0, List.flatten_cons, List.flatten_nil, List.append_nil]
  after_results_simp
  rfl

theorem V_g : (V m c main_v1 : S1x384.Idx → EReal) = shapeCast S1x384 (g m c) shapeCasts_S384_S1x384 := by
  unfold V
  simp only [hostOps0, List.flatten_cons, List.flatten_nil, List.append_nil]
  after_results_simp
  rfl

theorem V_k : (V m c main_v2 : S1x384.Idx → EReal) = shapeCast S1x384 (k m c) shapeCasts_S384_S1x384 := by
  unfold V
  simp only [hostOps0, List.flatten_cons, List.flatten_nil, List.append_nil]
  after_results_simp
  rfl

theorem read0 (X : (Pipeline.arrRef spec0 0).ty.Contents (Elt Ideal)) (t : Fin grid0.N) (r : Fin 512) (l : Fin 384) :
    (((cfg0.win 0).blk t).view.read (Elt Ideal) X : S512x384.Idx → EReal) (ix2 r l) = (X : S8192x384.Idx → EReal) (ix2 (row t r) l) := by
  refine congrArg X (ext2 ?_ ?_)
  · blk_simp [(index_eq t).1]
    show t.val * 512 + r.val = 512 * t.val + r.val
    omega
  · blk_simp [(index_eq t).1]

theorem read1 (X : (Pipeline.arrRef spec0 1).ty.Contents (Elt Ideal)) (t : Fin grid0.N) (r : Fin 512) (l : Fin 384) :
    (((cfg0.win 1).blk t).view.read (Elt Ideal) X : S512x384.Idx → EReal) (ix2 r l) = (X : S8192x384.Idx → EReal) (ix2 (row t r) l) := by
  refine congrArg X (ext2 ?_ ?_)
  · blk_simp [(index_eq t).2.1]
    show t.val * 512 + r.val = 512 * t.val + r.val
    omega
  · blk_simp [(index_eq t).2.1]

theorem read3 (X : (Pipeline.arrRef spec0 3).ty.Contents (Elt Ideal)) (t : Fin grid0.N) (l : Fin 384) :
    (((cfg0.win 3).blk t).view.read (Elt Ideal) X : S1x384.Idx → EReal) (ix2 0 l) = (X : S1x384.Idx → EReal) (ix2 0 l) := by
  refine congrArg X (ext2 ?_ ?_)
  · blk_simp [(index_eq t).2.2.2.1]
  · blk_simp [(index_eq t).2.2.2.1]

theorem read4 (X : (Pipeline.arrRef spec0 4).ty.Contents (Elt Ideal)) (t : Fin grid0.N) (l : Fin 384) :
    (((cfg0.win 4).blk t).view.read (Elt Ideal) X : S1x384.Idx → EReal) (ix2 0 l) = (X : S1x384.Idx → EReal) (ix2 0 l) := by
  refine congrArg X (ext2 ?_ ?_)
  · blk_simp [(index_eq t).2.2.2.2.1]
  · blk_simp [(index_eq t).2.2.2.2.1]

theorem x_at (t : Fin grid0.N) (r : Fin 512) (j : Fin 384) : (iblk m c 0 t : S512x384.Idx → EReal) (ix2 r j) = x m c (ix2 (row t r) j) :=
  (read0 (V m c (Pipeline.arrRef spec0 0)) t r j).trans (congrFun (V_x m c) _)

theorem y_at (t : Fin grid0.N) (r : Fin 512) (j : Fin 384) : (iblk m c 1 t : S512x384.Idx → EReal) (ix2 r j) = y m c (ix2 (row t r) j) :=
  (read1 (V m c (Pipeline.arrRef spec0 1)) t r j).trans (congrFun (V_y m c) _)

theorem g_at (t : Fin grid0.N) (j : Fin 384) : (iblk m c 3 t : S1x384.Idx → EReal) (ix2 0 j) = g m c (ix1 j) :=
  (read3 (V m c (Pipeline.arrRef spec0 3)) t j).trans ((congrFun (V_g m c) _).trans (as_row _ j))

theorem k_at (t : Fin grid0.N) (j : Fin 384) : (iblk m c 4 t : S1x384.Idx → EReal) (ix2 0 j) = k m c (ix1 j) :=
  (read4 (V m c (Pipeline.arrRef spec0 4)) t j).trans ((congrFun (V_k m c) _).trans (as_row _ j))

/-- A point's block of the cotangent holds the array's first 768 columns of its rows. -/
theorem h_at (t : Fin grid0.N) (r : Fin 512) (j : Fin 768) : (X0_2 m c t : S512x768.Idx → EReal) (ix2 r j) = h m c (ix2 (row t r) ⟨j.val, by omega⟩) := by
  unfold X0_2 Pipeline.Window.fill
  rw [dif_pos (moved0_2 t _)]
  refine Eq.trans ?_ (congrFun (V_h m c) _)
  refine congrArg (V m c (Pipeline.arrRef spec0 2)) (ext2 ?_ ?_)
  · blk_simp [(index_eq t).2.2.1]
    show t.val * 512 + r.val = 512 * t.val + r.val
    omega
  · blk_simp [(index_eq t).2.2.1]

theorem left_at (t : Fin grid0.N) (r : Fin 512) (j : Fin 384) : first (X0_2 m c t) (ix2 r j) = left (h m c) (ix2 (row t r) j) := h_at m c t r _

theorem right_at (t : Fin grid0.N) (r : Fin 512) (j : Fin 384) : second (X0_2 m c t) (ix2 r j) = right (h m c) (ix2 (row t r) j) := h_at m c t r _

/-- What every point leaves in its blocks of the rows' cotangents. -/
theorem rows_at (t : Fin cfg0.N) : (outsAt0 m c t.val t.isLt).1 = k0_pay5 (F := Ideal) (iblk m c 0 t) (first (X0_2 m c t)) (iblk m c 3 t) := by
  by_cases h0 : t.val % 16 = 0
  · rw [outsAt0_A m c t h0]
    dsimp only
    rw [rows_A]
  · rw [outsAt0_B m c t h0]
    dsimp only
    rw [rows_B]

theorem rows'_at (t : Fin cfg0.N) : (outsAt0 m c t.val t.isLt).2.1 = k0_pay5 (F := Ideal) (iblk m c 1 t) (second (X0_2 m c t)) (iblk m c 4 t) := by
  by_cases h0 : t.val % 16 = 0
  · rw [outsAt0_A m c t h0]
    dsimp only
    rw [rows'_A]
  · rw [outsAt0_B m c t h0]
    dsimp only
    rw [rows'_B]

/-- The array that a point's block of rows belongs to, at an index of the block. -/
theorem rows_block (t : Fin grid0.N) (r : Fin 512) (j : Fin 384) :
    rows m c (ix2 (row t r) j) = ((dats m 0 c).flushed 5 t : S512x384.Idx → EReal) (ix2 r j) := by
  refine Eq.trans ?_ (congrFun (blocks5 m c t (flush0_5 t)) (ix2 r j))
  refine congrArg (rows m c) (ext2 ?_ ?_)
  · blk_simp [(index_eq t).2.2.2.2.2.1]
    show 512 * t.val + r.val = t.val * 512 + r.val
    omega
  · blk_simp [(index_eq t).2.2.2.2.2.1]

theorem rows'_block (t : Fin grid0.N) (r : Fin 512) (j : Fin 384) :
    rows' m c (ix2 (row t r) j) = ((dats m 0 c).flushed 6 t : S512x384.Idx → EReal) (ix2 r j) := by
  refine Eq.trans ?_ (congrFun (blocks6 m c t (flush0_6 t)) (ix2 r j))
  refine congrArg (rows' m c) (ext2 ?_ ?_)
  · blk_simp [(index_eq t).2.2.2.2.2.2.1]
    show 512 * t.val + r.val = t.val * 512 + r.val
    omega
  · blk_simp [(index_eq t).2.2.2.2.2.2.1]

theorem rows_cut (o : S512x384.Idx → EReal) (t : Fin grid0.N) (r : Fin 512) (j : Fin 384) :
    ((cfg0.win 5).cut (grid0.coords t) o : S512x384.Idx → EReal) (ix2 r j) = o (ix2 r j) := rfl

theorem rows'_cut (o : S512x384.Idx → EReal) (t : Fin grid0.N) (r : Fin 512) (j : Fin 384) :
    ((cfg0.win 6).cut (grid0.coords t) o : S512x384.Idx → EReal) (ix2 r j) = o (ix2 r j) := rfl

/-- The cotangent of a row, as the kernel adds it up. -/
def inAt (x h : S8192x384.Idx → EReal) (g : S384.Idx → EReal) (r : Fin 8192) (j : Fin 384) : EReal :=
  inward width (fun k => x (ix2 r k)) (fun k => h (ix2 r k) * g (ix1 k)) 0 j

/-- Every row of the array is a row of a point's block. -/
theorem row_of (r : Fin 8192) : ∃ (t : Fin grid0.N) (s : Fin 512), r = row t s :=
  ⟨⟨r.val / 512, lt_of_lt_of_eq (show r.val / 512 < 16 by omega) N_0.symm⟩, ⟨r.val % 512, by omega⟩, Fin.ext (by show r.val = 512 * (r.val / 512) + r.val % 512; omega)⟩

/-- The rows' cotangents that the run leaves, at an index. -/
theorem rows_val (r : Fin 8192) (j : Fin 384) : rows m c (ix2 r j) = inAt (x m c) (left (h m c)) (g m c) r j := by
  obtain ⟨t, s, rfl⟩ := row_of r
  refine (rows_block m c t s j).trans ?_
  rw [flushed5, rows_at]
  refine (rows_cut _ t s j).trans ((rows_apply _ _ _ s j).trans ?_)
  exact inward_congr width j (fun l => x_at m c t s l) (fun l => congrArg₂ (fun a b : EReal => a * b) (left_at m c t s l) (g_at m c t l)) rfl

theorem rows'_val (r : Fin 8192) (j : Fin 384) : rows' m c (ix2 r j) = inAt (y m c) (right (h m c)) (k m c) r j := by
  obtain ⟨t, s, rfl⟩ := row_of r
  refine (rows'_block m c t s j).trans ?_
  rw [flushed6, rows'_at]
  refine (rows'_cut _ t s j).trans ((rows_apply _ _ _ s j).trans ?_)
  exact inward_congr width j (fun l => y_at m c t s l) (fun l => congrArg₂ (fun a b : EReal => a * b) (right_at m c t s l) (k_at m c t l)) rfl

/-- What a row adds to a gain's cotangent. -/
def term (x h : S8192x384.Idx → EReal) (j : Fin 384) (r : ℕ) : EReal := at2 h r j * at2 x r j * factor width (∑ l : Fin 384, at2 x r l * at2 x r l)

theorem term_of (x h : S8192x384.Idx → EReal) (j : Fin 384) (r : Fin 8192) :
    term x h j r = h (ix2 r j) * x (ix2 r j) * factor width (∑ l : Fin 384, x (ix2 r l) * x (ix2 r l)) := by
  unfold term
  simp only [at2_ix2]

/-- A point's part of a gain's cotangent, from a block that holds the point's rows. -/
theorem sum_eq (x h : S8192x384.Idx → EReal) (t : Fin grid0.N) (u : Vec Ideal S512x384 .f32) (v : Vec Ideal S512x384 .bf16)
    (hu : ∀ (r : Fin 512) (l : Fin 384), (u (ix2 r l) : EReal) = x (ix2 (row t r) l)) (hv : ∀ (r : Fin 512) (l : Fin 384), (v (ix2 r l) : EReal) = h (ix2 (row t r) l))
    (j : Fin 384) : (k0_pay7 (F := Ideal) u v (ix1 j) : EReal) = ∑ l ∈ Finset.range 512, term x h j (512 * t.val + l) := by
  refine (gain_apply _ _ j).trans ?_
  rw [← Fin.sum_univ_eq_sum_range (fun l => term x h j (512 * t.val + l))]
  refine Finset.sum_congr rfl fun r _ => Eq.trans ?_ (term_of x h j (row t r)).symm
  refine congrArg₂ (fun a b : EReal => a * b) (congrArg₂ (fun a b : EReal => a * b) (hv r j) (hu r j)) (congrArg (factor width) ?_)
  exact Finset.sum_congr rfl fun l _ => congrArg (fun a : EReal => a * a) (hu r l)

/-- The numbers that a point adds to the gains' cotangents. -/
def added (q : Fin 8) (j : Fin 384) (t : ℕ) : EReal :=
  if q.val = 0 then ∑ l ∈ Finset.range 512, term (x m c) (left (h m c)) j (512 * t + l)
  else if q.val = 1 then ∑ l ∈ Finset.range 512, term (y m c) (right (h m c)) j (512 * t + l) else 0

theorem part_eq (t : Fin cfg0.N) (q : Fin 8) (j : Fin 384) : part (iblk m c 0 t) (iblk m c 1 t) (X0_2 m c t) q j = added m c q j t.val := by
  unfold part added
  exact if_congr Iff.rfl (sum_eq (x m c) (left (h m c)) t _ _ (x_at m c t) (left_at m c t) j)
    (if_congr Iff.rfl (sum_eq (y m c) (right (h m c)) t _ _ (y_at m c t) (right_at m c t) j) rfl)

/-- The gains' cotangents after a point: the parts of the points so far. -/
theorem gain_at (q : Fin 8) (j : Fin 384) : ∀ (n : ℕ) (hn : n < cfg0.N),
    ((outsAt0 m c n hn).2.2 (ix2 q j) : EReal) = ∑ i ∈ Finset.range (n + 1), added m c q j i
  | 0, hn => by
    rw [outsAt0_A m c ⟨0, hn⟩ (Nat.zero_mod _)]
    dsimp only
    rw [gain_A, Finset.sum_range_one]
    exact part_eq m c ⟨0, hn⟩ q j
  | n + 1, hn => by
    have hN : n + 1 < 16 := lt_of_lt_of_eq hn N_0
    rw [outsAt0_B m c ⟨n + 1, hn⟩ (by dsimp only; omega)]
    dsimp only
    rw [gain_B, Finset.sum_range_succ]
    exact congrArg₂ (fun a b : EReal => a + b) (gain_at q j n (by omega)) (part_eq m c ⟨n + 1, hn⟩ q j)

/-- The last point, which writes the gains' cotangents back. -/
def last : Fin cfg0.N := ⟨15, lt_of_lt_of_eq (show 15 < 16 by decide) N_0.symm⟩

theorem gain_block (q : Fin 8) (j : Fin 384) : gain m c (ix2 q j) = ((dats m 0 c).flushed 7 last : S8x384.Idx → EReal) (ix2 q j) := by
  refine Eq.trans ?_ (congrFun ((dats m 0 c).read_blk_arrAt_eq_flushed 7 (fun t t' ht ht' hne => absurd (Fin.ext (by
    have := (flush0_7 t).1 ht
    have := (flush0_7 t').1 ht'
    have := lt_N t
    have := lt_N t'
    omega)) hne) cfg0.N last last.isLt ((flush0_7 last).2 rfl)) (ix2 q j))
  refine congrArg (gain m c) (ext2 ?_ ?_)
  · blk_simp [(index_eq last).2.2.2.2.2.2.2]
  · blk_simp [(index_eq last).2.2.2.2.2.2.2]

theorem gain_cut (o : S8x384.Idx → EReal) (t : Fin grid0.N) (q : Fin 8) (j : Fin 384) :
    ((cfg0.win 7).cut (grid0.coords t) o : S8x384.Idx → EReal) (ix2 q j) = o (ix2 q j) := rfl

/-- A gain's cotangent: the sum over the rows. -/
def gainAt (x h : S8192x384.Idx → EReal) (j : Fin 384) : EReal :=
  ∑ r : Fin 8192, h (ix2 r j) * x (ix2 r j) * factor width (∑ l : Fin 384, x (ix2 r l) * x (ix2 r l))

theorem total (x h : S8192x384.Idx → EReal) (j : Fin 384) :
    ∑ i ∈ Finset.range 16, ∑ l ∈ Finset.range 512, term x h j (512 * i + l) = gainAt x h j := by
  refine (sum_mul_blocks (term x h j) 512 16).trans ?_
  rw [← Fin.sum_univ_eq_sum_range (term x h j)]
  exact Finset.sum_congr rfl fun r _ => term_of x h j r

/-- The gains' cotangents that the run leaves, at an index. -/
theorem gain_val (q : Fin 8) (j : Fin 384) : gain m c (ix2 q j)
    = if q.val = 0 then gainAt (x m c) (left (h m c)) j else if q.val = 1 then gainAt (y m c) (right (h m c)) j else 0 := by
  refine (gain_block m c q j).trans ?_
  rw [flushed7]
  refine (gain_cut _ last q j).trans ((gain_at m c q j 15 last.isLt).trans ?_)
  unfold added
  by_cases h0 : q.val = 0
  · simp only [if_pos h0]
    exact total _ _ j
  · by_cases h1 : q.val = 1
    · simp only [if_neg h0, if_pos h1]
      exact total _ _ j
    · simp only [if_neg h0, if_neg h1]
      exact Finset.sum_const_zero

section Ref

open Cert.OutNormRefIdeal.Read

variable (x y : S8192x384.Idx → EReal) (h : S8192x1024.Idx → EReal) (g k : S384.Idx → EReal)

/-- The reference's mean of the squares of a row, with the number added. -/
theorem ref_under (r : Fin 8192) : (val_main_v6 (F := Ideal) x (ix2 r 0) : EReal) = Ideal.div (∑ l : Fin 384, x (ix2 r l) * x (ix2 r l)) width + eps := by
  rw [val_main_v6_apply, val_main_v4_apply, val_main_v3_apply, val_main_v5_apply, val_main_v2_apply, val_main_v1_apply, val_main_cst_0_apply, val_main_cst_1_apply]
  refine congrArg (fun s : EReal => Ideal.div s width + eps) ?_
  refine Eq.trans (congrArg₂ (fun a b : EReal => a + b) zero_word (Finset.sum_congr rfl fun k _ => ?_)) (zero_add _)
  exact congrArg (fun a : EReal => a * a) (congrArg x (ext2 rfl rfl))

/-- Its factor of a row. -/
theorem ref_factor (r : Fin 8192) : (val_main_v7 (F := Ideal) x (ix2 r 0) : EReal) = factor width (∑ l : Fin 384, x (ix2 r l) * x (ix2 r l)) :=
  (val_main_v7_apply (F := Ideal) x (ix2 r 0)).trans (congrArg Ideal.rsqrt (ref_under x r))

/-- Its cotangent of the normed rows. -/
theorem ref_left (r : Fin 8192) (j : Fin 384) : (val_main_v32 (F := Ideal) h (ix2 r j) : EReal) = left h (ix2 r j) :=
  (val_main_v32_apply (F := Ideal) h (ix2 r j)).trans (congrArg h (ext2 rfl rfl))

/-- That times the gain. -/
theorem ref_times (r : Fin 8192) (j : Fin 384) : (val_main_v37 (F := Ideal) h g (ix2 r j) : EReal) = left h (ix2 r j) * g (ix1 j) := by
  rw [val_main_v37_apply, val_main_v36_apply, val_main_v13_apply]
  exact congrArg₂ (fun a b : EReal => a * b) (ref_left h r j) (congrArg g (funext fun a => match a with
    | ⟨0, _⟩ => rfl))

/-- Its cotangent of the mean of a row's squares. -/
theorem ref_mean (r : Fin 8192) (j : Fin 384) :
    (val_main_v48 (F := Ideal) x h g (ix2 r j) : EReal) = meanCot width (fun k => x (ix2 r k)) (fun k => left h (ix2 r k) * g (ix1 k)) := by
  rw [val_main_v48_apply, val_main_v47_apply]
  refine (congrArg₂ (fun a b : EReal => a + b) zero_word (Fin.sum_univ_one _)).trans ((zero_add _).trans ?_)
  rw [show idx_main_v47 (idx_main_v48 (ix2 r j)) 0 = ix2 r 0 from ext2 rfl rfl]
  rw [val_main_v46_apply, val_main_v45_apply, val_main_cst_10_apply, val_main_v44_apply, val_main_v10_apply, val_main_v9_apply, val_main_cst_2_apply, val_main_v8_apply,
    val_main_v41_apply, val_main_v40_apply]
  unfold meanCot
  refine congrArg (fun a : EReal => Ideal.div a width) (congrArg₂ (fun a b : EReal => a * b) ?_ (congrArg (fun a : EReal => minusHalf * a) ?_))
  · refine (congrArg₂ (fun a b : EReal => a + b) zero_word (Finset.sum_congr rfl fun k _ => ?_)).trans (zero_add _)
    rw [show idx_main_v40 (idx_main_v41 (ix2 r 0)) k = ix2 r k from ext2 (by show r.val * 1 + 0 = r.val; omega) rfl, val_main_v39_apply]
    exact congrArg (fun a : EReal => x (ix2 r k) * a) (ref_times h g r k)
  · exact congrArg₂ Ideal.div (ref_factor x r) (ref_under x r)

/-- Its cotangent of the first rows. -/
theorem ref_rows (r : Fin 8192) (j : Fin 384) :
    (val_main_v52 (F := Ideal) x h g (ix2 r j) : EReal) = inAt x (left h) g r j := by
  unfold inAt
  rw [inward_eq (by norm_num) width_eq]
  unfold outward
  rw [val_main_v52_apply, val_main_v50_apply, val_main_v51_apply, val_main_v49_apply, val_main_v43_apply, val_main_v42_apply, zero_add]
  refine congrArg₂ (fun a b : EReal => a + b) (congrArg₂ (fun a b : EReal => a + b) ?_ ?_) ?_
  · refine congrArg₂ (fun a b : EReal => a * b) (ref_times h g r j) ?_
    rw [show idx_main_v42 (ix2 r j) = ix2 r 0 from ext2 rfl rfl]
    exact ref_factor x r
  · exact congrArg (fun a : EReal => x (ix2 r j) * a) (ref_mean x h g r j)
  · exact congrArg (fun a : EReal => a * x (ix2 r j)) (ref_mean x h g r j)

/-- Its cotangent of the first gain. -/
theorem ref_gain (j : Fin 384) : (val_main_v74 (F := Ideal) x h (ix2 0 j) : EReal) = gainAt x (left h) j := by
  rw [val_main_v74_apply, val_main_v38_apply]
  refine (congrArg₂ (fun a b : EReal => a + b) zero_word (Fin.sum_univ_one _)).trans ((zero_add _).trans ?_)
  rw [val_main_v35_apply, val_main_v34_apply]
  refine (congrArg₂ (fun a b : EReal => a + b) zero_word (Finset.sum_congr rfl fun r _ => ?_)).trans (zero_add _)
  rw [show idx_main_v34 (idx_main_v35 (idx_main_v38 (idx_main_v74 (ix2 0 j)) 0)) r = ix2 r j from ext2 rfl (by
    show 0 * 384 + j.val = j.val
    omega), val_main_v33_apply, val_main_v12_apply, val_main_v11_apply, show idx_main_v11 (ix2 r j) = ix2 r 0 from ext2 rfl rfl]
  refine (congrArg₂ (fun a b : EReal => x (ix2 r j) * a * b) (ref_factor x r) (ref_left h r j)).trans ?_
  rw [mul_comm, mul_assoc]

/-- A cotangent whose first columns are those that belong to the second attention's output. -/
def moved (h : S8192x1024.Idx → EReal) : S8192x1024.Idx → EReal := fun i =>
  h (ix2 (i 0) ⟨(384 + (i 1).val) % 1024, Nat.mod_lt _ (by decide)⟩)

theorem left_moved : left (moved h) = right h :=
  funext fun i => congrArg h (ext2 rfl (Nat.mod_eq_of_lt (lt_of_lt_of_le (Nat.add_lt_add_left (show (i 1).val < 384 from (i 1).isLt) 384) (show 384 + 384 ≤ 1024 by decide))))

theorem slice_moved : val_main_v53 (F := Ideal) h = val_main_v32 (F := Ideal) (moved h) := by
  funext i
  rw [eq_ix2 i]
  refine Eq.trans ?_ (Eq.trans (congrFun (left_moved h).symm _) (ref_left (moved h) _ _).symm)
  exact (val_main_v53_apply (F := Ideal) h _).trans (congrArg h (ext2 rfl rfl))

/-- Its second rows' cotangent is computed as the first's, from those columns. -/
theorem ref_rows' (r : Fin 8192) (j : Fin 384) : (val_main_v73 (F := Ideal) y h k (ix2 r j) : EReal) = inAt y (right h) k r j := by
  rw [← left_moved]
  refine Eq.trans (congrFun ?_ (ix2 r j)) (ref_rows y (moved h) k r j)
  unfold val_main_v73 val_main_v72 val_main_v71 val_main_v70 val_main_v69 val_main_v68 val_main_v67 val_main_v65 val_main_v64 val_main_v62 val_main_v61 val_main_v60 val_main_v58
  rw [slice_moved]
  rfl

theorem ref_gain' (j : Fin 384) : (val_main_v75 (F := Ideal) y h (ix2 0 j) : EReal) = gainAt y (right h) j := by
  rw [← left_moved]
  refine Eq.trans (congrFun ?_ (ix2 0 j)) (ref_gain y (moved h) j)
  unfold val_main_v75 val_main_v59 val_main_v56 val_main_v55 val_main_v54
  rw [slice_moved]
  rfl

theorem ref_gains (q : Fin 8) (j : Fin 384) : (val_main_v77 (F := Ideal) x y h (ix2 q j) : EReal)
    = if q.val = 0 then gainAt x (left h) j else if q.val = 1 then gainAt y (right h) j else 0 := by
  unfold val_main_v77
  refine (stacked _ _ _ q j).trans (if_congr Iff.rfl (ref_gain x h j) (if_congr Iff.rfl (ref_gain' y h j) ?_))
  rw [val_main_v76_apply, val_main_cst_17_apply]
  exact zero_word

end Ref

/-- The run leaves the first rows' cotangent that the reference computes … -/
theorem same_left : rows m c = Cert.OutNormRefIdeal.Read.val_main_v52 (F := Ideal) (x m c) (h m c) (g m c) := by
  funext i
  rw [eq_ix2 i]
  exact (rows_val m c _ _).trans (ref_rows _ _ _ _ _).symm

/-- … the second rows' … -/
theorem same_right : rows' m c = Cert.OutNormRefIdeal.Read.val_main_v73 (F := Ideal) (y m c) (h m c) (k m c) := by
  funext i
  rw [eq_ix2 i]
  exact (rows'_val m c _ _).trans (ref_rows' _ _ _ _ _).symm

/-- … and the gains'. -/
theorem same_gain : gain m c = Cert.OutNormRefIdeal.Read.val_main_v77 (F := Ideal) (x m c) (y m c) (h m c) := by
  funext i
  rw [eq_ix2 i]
  exact (gain_val m c _ _).trans (ref_gains _ _ _ _ _).symm

end Cert.Products.OutNorm

end
-- ==== Proof.Products.lean ====
/- The claims about the products and the norm's gradient: each runs safely, and leaves what its reference computes. -/
module

public import proofs.«01_k».proof.Defs
public import proofs.«01_k».proof.Proof.UpDx
public import proofs.«01_k».proof.Proof.Gen.UpDx.Frame
public import proofs.«01_k».proof.Proof.UpDw
public import proofs.«01_k».proof.Proof.Gen.UpDw.Frame
public import proofs.«01_k».proof.Proof.DownDx
public import proofs.«01_k».proof.Proof.Gen.DownDx.Frame
public import proofs.«01_k».proof.Proof.DownDw
public import proofs.«01_k».proof.Proof.Gen.DownDw.Frame
public import proofs.«01_k».proof.Proof.OutDx
public import proofs.«01_k».proof.Proof.Gen.OutDx.Frame
public import proofs.«01_k».proof.Proof.OutDw
public import proofs.«01_k».proof.Proof.Gen.OutDw.Frame
public import proofs.«01_k».proof.Proof.InDx
public import proofs.«01_k».proof.Proof.Gen.InDx.Frame
public import proofs.«01_k».proof.Proof.InDw
public import proofs.«01_k».proof.Proof.Gen.InDw.Frame
public import proofs.«01_k».proof.Proof.InFwd
public import proofs.«01_k».proof.Proof.Gen.InFwd.Frame
public import proofs.«01_k».proof.Proof.OutFwd
public import proofs.«01_k».proof.Proof.Gen.OutFwd.Frame
public import proofs.«01_k».proof.Proof.UpFwd
public import proofs.«01_k».proof.Proof.Gen.UpFwd.Frame
public import proofs.«01_k».proof.Proof.DownFwd
public import proofs.«01_k».proof.Proof.Gen.DownFwd.Frame
public import proofs.«01_k».proof.Proof.NormBwd
public import proofs.«01_k».proof.Proof.Gen.NormBwd.Frame
public import proofs.«01_k».proof.Proof.OutNorm
public import proofs.«01_k».proof.Proof.Gen.OutNorm.Frame
public import Idealize.ShloMosaic.Adequacy
public import Idealize.ShloMosaic.Init

@[expose] public section

noncomputable section

open Idealize.ShloMosaic Idealize.SL.Sem

/-! ## The gradient of the rows of the up-projection -/

namespace Cert.Products.UpDx

theorem frame_p : Cert.quiescent_UpDx := fun m ρ _ => Cert.UpDx.Gen.frame m ρ

theorem frame_pi : Cert.quiescent_UpDxIdeal := fun m ρ _ => Cert.UpDxIdeal.Gen.frame m ρ

theorem frame_ri : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The kernel and the reference leave the same array. -/
theorem algebraic : Cert.algebraic_UpDxIdeal_UpDxRefIdeal := by
  intro m g m' g' _ hargs
  refine ⟨fun c => Cert.UpDxRefIdeal.Read.val_main_v1 (F := Ideal) (w m c) (Products.UpDx.g m c), ?_, ?_⟩
  · exact (θ_run _ _ _).mono (fun r h c => ⟨(h c).1.trans (same m c), (h c).2⟩) (Cert.UpDxIdeal.Value.run_blocks m g)
  · refine (θ_run _ _ _).mono (fun r h c => ?_) (Cert.UpDxRefIdeal.Value.run (F := Ideal) m' g')
    obtain ⟨h1, hk⟩ := h c
    obtain ⟨e0, e1⟩ := hargs c
    rw [Cert.UpDxRefIdeal.Read.val_main_v1_eq, e0, e1] at h1
    exact ⟨h1, hk⟩

end Cert.Products.UpDx

/-! ## The gradient of the up-projection's weights -/

namespace Cert.Products.UpDw

theorem frame_p : Cert.quiescent_UpDw := fun m ρ _ => Cert.UpDw.Gen.frame m ρ

theorem frame_pi : Cert.quiescent_UpDwIdeal := fun m ρ _ => Cert.UpDwIdeal.Gen.frame m ρ

theorem frame_ri : Cert.quiescent_UpDwRefIdeal := fun m ρ _ =>
  (θ_run Cert.UpDwRefIdeal.defs _ _).mono (fun r h => ⟨fun c => (h c).2.2, sem_eq_zero_of_no_sems (by decide) r.2⟩)
    (Cert.UpDwRefIdeal.Value.run (F := Ideal) m ρ)

/-- The kernel and the reference leave the same two arrays. -/
theorem algebraic : Cert.algebraic_UpDwIdeal_UpDwRefIdeal := by
  intro m g m' g' _ hargs
  refine ⟨fun c => Cert.UpDwRefIdeal.Read.val_main_v2 (F := Ideal) (h m c) (Products.UpDw.g m c),
    fun c => Cert.UpDwRefIdeal.Read.val_main_v3 (F := Ideal) (h m c) (Products.UpDw.g m c), ?_, ?_⟩
  · exact (θ_run _ _ _).mono (fun r h c => ⟨(h c).1.trans (same_left m c), (h c).2.1.trans (same_right m c), (h c).2.2⟩)
      (Cert.UpDwIdeal.Value.run m g)
  · refine (θ_run _ _ _).mono (fun r h c => ?_) (Cert.UpDwRefIdeal.Value.run (F := Ideal) m' g')
    obtain ⟨h1, h2, hk⟩ := h c
    obtain ⟨e0, e1⟩ := hargs c
    rw [Cert.UpDwRefIdeal.Read.val_main_v2_eq, e0, e1] at h1
    rw [Cert.UpDwRefIdeal.Read.val_main_v3_eq, e0, e1] at h2
    exact ⟨h1, h2, hk⟩

end Cert.Products.UpDw

/-! ## The gradient of the rows of the down-projection -/

namespace Cert.Products.DownDx

theorem frame_p : Cert.quiescent_DownDx := fun m ρ _ => Cert.DownDx.Gen.frame m ρ

theorem frame_pi : Cert.quiescent_DownDxIdeal := fun m ρ _ => Cert.DownDxIdeal.Gen.frame m ρ

theorem frame_ri : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- The kernel and the reference leave the same array. -/
theorem algebraic : Cert.algebraic_DownDxIdeal_DownDxRefIdeal := by
  intro m g m' g' _ hargs
  refine ⟨fun c => Cert.DownDxRefIdeal.Read.val_main_v1 (F := Ideal) (w m c) (Products.DownDx.g m c), ?_, ?_⟩
  · exact (θ_run _ _ _).mono (fun r h c => ⟨(h c).1.trans (same m c), (h c).2⟩) (Cert.DownDxIdeal.Value.run_blocks m g)
  · refine (θ_run _ _ _).mono (fun r h c => ?_) (Cert.DownDxRefIdeal.Value.run (F := Ideal) m' g')
    obtain ⟨h1, hk⟩ := h c
    obtain ⟨e0, e1⟩ := hargs c
    rw [Cert.DownDxRefIdeal.Read.val_main_v1_eq, e0, e1] at h1
    exact ⟨h1, hk⟩

end Cert.Products.DownDx

/-! ## The gradient of the down-projection's weights -/

namespace Cert.Products.DownDw

theorem frame_p : Cert.quiescent_DownDw := fun m ρ _ => Cert.DownDw.Gen.frame m ρ

theorem frame_pi : Cert.quiescent_DownDwIdeal := fun m ρ _ => Cert.DownDwIdeal.Gen.frame m ρ

theorem frame_ri : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The kernel and the reference leave the same array. -/
theorem algebraic : Cert.algebraic_DownDwIdeal_DownDwRefIdeal := by
  intro m g m' g' _ hargs
  refine ⟨fun c => Cert.DownDwRefIdeal.Read.val_main_v1 (F := Ideal) (h m c) (Products.DownDw.g m c), ?_, ?_⟩
  · exact (θ_run _ _ _).mono (fun r h c => ⟨(h c).1.trans (same m c), (h c).2⟩) (Cert.DownDwIdeal.Value.run m g)
  · refine (θ_run _ _ _).mono (fun r h c => ?_) (Cert.DownDwRefIdeal.Value.run (F := Ideal) m' g')
    obtain ⟨h1, hk⟩ := h c
    obtain ⟨e0, e1⟩ := hargs c
    rw [Cert.DownDwRefIdeal.Read.val_main_v1_eq, e0, e1] at h1
    exact ⟨h1, hk⟩

end Cert.Products.DownDw

/-! ## The gradient of the rows of the output projection -/

namespace Cert.Products.OutDx

theorem frame_p : Cert.quiescent_OutDx := fun m ρ _ => Cert.OutDx.Gen.frame m ρ

theorem frame_pi : Cert.quiescent_OutDxIdeal := fun m ρ _ => Cert.OutDxIdeal.Gen.frame m ρ

theorem frame_ri : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

/-- The kernel and the reference leave the same array. -/
theorem algebraic : Cert.algebraic_OutDxIdeal_OutDxRefIdeal := by
  intro m g m' g' _ hargs
  refine ⟨fun c => Cert.OutDxRefIdeal.Read.val_main_v1 (F := Ideal) (w m c) (Products.OutDx.g m c), ?_, ?_⟩
  · exact (θ_run _ _ _).mono (fun r h c => ⟨(h c).1.trans (same m c), (h c).2⟩) (Cert.OutDxIdeal.Value.run_blocks m g)
  · refine (θ_run _ _ _).mono (fun r h c => ?_) (Cert.OutDxRefIdeal.Value.run (F := Ideal) m' g')
    obtain ⟨h1, hk⟩ := h c
    obtain ⟨e0, e1⟩ := hargs c
    rw [Cert.OutDxRefIdeal.Read.val_main_v1_eq, e0, e1] at h1
    exact ⟨h1, hk⟩

end Cert.Products.OutDx

/-! ## The gradient of the output projection's weights -/

namespace Cert.Products.OutDw

theorem frame_p : Cert.quiescent_OutDw := fun m ρ _ => Cert.OutDw.Gen.frame m ρ

theorem frame_pi : Cert.quiescent_OutDwIdeal := fun m ρ _ => Cert.OutDwIdeal.Gen.frame m ρ

theorem frame_ri : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The kernel and the reference leave the same array. -/
theorem algebraic : Cert.algebraic_OutDwIdeal_OutDwRefIdeal := by
  intro m g m' g' _ hargs
  refine ⟨fun c => Cert.OutDwRefIdeal.Read.val_main_v1 (F := Ideal) (h m c) (Products.OutDw.g m c), ?_, ?_⟩
  · exact (θ_run _ _ _).mono (fun r h c => ⟨(h c).1.trans (same m c), (h c).2⟩) (Cert.OutDwIdeal.Value.run m g)
  · refine (θ_run _ _ _).mono (fun r h c => ?_) (Cert.OutDwRefIdeal.Value.run (F := Ideal) m' g')
    obtain ⟨h1, hk⟩ := h c
    obtain ⟨e0, e1⟩ := hargs c
    rw [Cert.OutDwRefIdeal.Read.val_main_v1_eq, e0, e1] at h1
    exact ⟨h1, hk⟩

end Cert.Products.OutDw

/-! ## The gradient of the rows of the input projection -/

namespace Cert.Products.InDx

theorem frame_p : Cert.quiescent_InDx := fun m ρ _ => Cert.InDx.Gen.frame m ρ

theorem frame_pi : Cert.quiescent_InDxIdeal := fun m ρ _ => Cert.InDxIdeal.Gen.frame m ρ

theorem frame_ri : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The kernel and the reference leave the same array. -/
theorem algebraic : Cert.algebraic_InDxIdeal_InDxRefIdeal := by
  intro m g m' g' _ hargs
  refine ⟨fun c => Cert.InDxRefIdeal.Read.val_main_v1 (F := Ideal) (w m c) (Products.InDx.g m c), ?_, ?_⟩
  · exact (θ_run _ _ _).mono (fun r h c => ⟨(h c).1.trans (same m c), (h c).2⟩) (Cert.InDxIdeal.Value.run_blocks m g)
  · refine (θ_run _ _ _).mono (fun r h c => ?_) (Cert.InDxRefIdeal.Value.run (F := Ideal) m' g')
    obtain ⟨h1, hk⟩ := h c
    obtain ⟨e0, e1⟩ := hargs c
    rw [Cert.InDxRefIdeal.Read.val_main_v1_eq, e0, e1] at h1
    exact ⟨h1, hk⟩

end Cert.Products.InDx

/-! ## The gradient of the input projection's weights -/

namespace Cert.Products.InDw

theorem frame_p : Cert.quiescent_InDw := fun m ρ _ => Cert.InDw.Gen.frame m ρ

theorem frame_pi : Cert.quiescent_InDwIdeal := fun m ρ _ => Cert.InDwIdeal.Gen.frame m ρ

theorem frame_ri : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The kernel and the reference leave the same array. -/
theorem algebraic : Cert.algebraic_InDwIdeal_InDwRefIdeal := by
  intro m g m' g' _ hargs
  refine ⟨fun c => Cert.InDwRefIdeal.Read.val_main_v1 (F := Ideal) (h m c) (Products.InDw.g m c), ?_, ?_⟩
  · exact (θ_run _ _ _).mono (fun r h c => ⟨(h c).1.trans (same m c), (h c).2⟩) (Cert.InDwIdeal.Value.run m g)
  · refine (θ_run _ _ _).mono (fun r h c => ?_) (Cert.InDwRefIdeal.Value.run (F := Ideal) m' g')
    obtain ⟨h1, hk⟩ := h c
    obtain ⟨e0, e1⟩ := hargs c
    rw [Cert.InDwRefIdeal.Read.val_main_v1_eq, e0, e1] at h1
    exact ⟨h1, hk⟩

end Cert.Products.InDw

/-! ## The input projection -/

namespace Cert.Products.InFwd

theorem frame_p : Cert.quiescent_InFwd := fun m ρ _ => Cert.InFwd.Gen.frame m ρ

theorem frame_pi : Cert.quiescent_InFwdIdeal := fun m ρ _ => Cert.InFwdIdeal.Gen.frame m ρ

theorem frame_ri : Cert.quiescent_InFwdRefIdeal := fun m ρ _ =>
  (θ_run Cert.InFwdRefIdeal.defs _ _).mono (fun r h => ⟨fun c => (h c).2.2, sem_eq_zero_of_no_sems (by decide) r.2⟩)
    (Cert.InFwdRefIdeal.Value.run (F := Ideal) m ρ)

/-- The kernel and the reference leave the same two arrays. -/
theorem algebraic : Cert.algebraic_InFwdIdeal_InFwdRefIdeal := by
  intro m g m' g' _ hargs
  refine ⟨fun c => Cert.InFwdRefIdeal.Read.val_main_v13 (F := Ideal) (x m c) (Products.InFwd.g m c),
    fun c => Cert.InFwdRefIdeal.Read.val_main_v14 (F := Ideal) (x m c) (Products.InFwd.g m c) (w m c), ?_, ?_⟩
  · exact (θ_run _ _ _).mono (fun r h c => ⟨(h c).1.trans (same_left m c), (h c).2.1.trans (same_right m c), (h c).2.2⟩)
      (Cert.InFwdIdeal.Value.run_blocks m g)
  · refine (θ_run _ _ _).mono (fun r h c => ?_) (Cert.InFwdRefIdeal.Value.run (F := Ideal) m' g')
    obtain ⟨h1, h2, hk⟩ := h c
    obtain ⟨e0, e1, e2⟩ := hargs c
    rw [Cert.InFwdRefIdeal.Read.val_main_v13_eq, e0, e1] at h1
    rw [Cert.InFwdRefIdeal.Read.val_main_v14_eq, e0, e1, e2] at h2
    exact ⟨h1, h2, hk⟩

end Cert.Products.InFwd

/-! ## The output projection -/

namespace Cert.Products.OutFwd

theorem frame_p : Cert.quiescent_OutFwd := fun m ρ _ => Cert.OutFwd.Gen.frame m ρ

theorem frame_pi : Cert.quiescent_OutFwdIdeal := fun m ρ _ => Cert.OutFwdIdeal.Gen.frame m ρ

theorem frame_ri : Cert.quiescent_OutFwdRefIdeal := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

/-- The kernel and the reference leave the same array. -/
theorem algebraic : Cert.algebraic_OutFwdIdeal_OutFwdRefIdeal := by
  intro m g m' g' _ hargs
  refine ⟨fun c => Cert.OutFwdRefIdeal.Read.val_main_v1 (F := Ideal) (Products.OutFwd.g m c) (w m c) (e m c), ?_, ?_⟩
  · exact (θ_run _ _ _).mono (fun r h c => ⟨(h c).1.trans (same m c), (h c).2⟩) (Cert.OutFwdIdeal.Value.run_blocks m g)
  · refine (θ_run _ _ _).mono (fun r h c => ?_) (Cert.OutFwdRefIdeal.Value.run (F := Ideal) m' g')
    obtain ⟨h1, hk⟩ := h c
    obtain ⟨e0, e1, e2⟩ := hargs c
    rw [Cert.OutFwdRefIdeal.Read.val_main_v1_eq, e0, e1, e2] at h1
    exact ⟨h1, hk⟩

end Cert.Products.OutFwd

/-! ## The up-projection -/

namespace Cert.Products.UpFwd

theorem frame_p : Cert.quiescent_UpFwd := fun m ρ _ => Cert.UpFwd.Gen.frame m ρ

theorem frame_pi : Cert.quiescent_UpFwdIdeal := fun m ρ _ => Cert.UpFwdIdeal.Gen.frame m ρ

theorem frame_ri : Cert.quiescent_UpFwdRefIdeal := fun m ρ _ =>
  (θ_run Cert.UpFwdRefIdeal.defs _ _).mono (fun r h => ⟨fun c => (h c).2.2, sem_eq_zero_of_no_sems (by decide) r.2⟩)
    (Cert.UpFwdRefIdeal.Value.run (F := Ideal) m ρ)

/-- The kernel and the reference leave the same two arrays. -/
theorem algebraic : Cert.algebraic_UpFwdIdeal_UpFwdRefIdeal := by
  intro m g m' g' _ hargs
  refine ⟨fun c => Cert.UpFwdRefIdeal.Read.val_main_v17 (F := Ideal) (x m c) (Products.UpFwd.g m c),
    fun c => Cert.UpFwdRefIdeal.Read.val_main_v18 (F := Ideal) (x m c) (Products.UpFwd.g m c) (w m c), ?_, ?_⟩
  · exact (θ_run _ _ _).mono (fun r h c => ⟨(h c).1.trans (same_left m c), (h c).2.1.trans (same_right m c), (h c).2.2⟩)
      (Cert.UpFwdIdeal.Value.run_blocks m g)
  · refine (θ_run _ _ _).mono (fun r h c => ?_) (Cert.UpFwdRefIdeal.Value.run (F := Ideal) m' g')
    obtain ⟨h1, h2, hk⟩ := h c
    obtain ⟨e0, e1, e2⟩ := hargs c
    rw [Cert.UpFwdRefIdeal.Read.val_main_v17_eq, e0, e1] at h1
    rw [Cert.UpFwdRefIdeal.Read.val_main_v18_eq, e0, e1, e2] at h2
    exact ⟨h1, h2, hk⟩

end Cert.Products.UpFwd

/-! ## The down-projection -/

namespace Cert.Products.DownFwd

theorem frame_p : Cert.quiescent_DownFwd := fun m ρ _ => Cert.DownFwd.Gen.frame m ρ

theorem frame_pi : Cert.quiescent_DownFwdIdeal := fun m ρ _ => Cert.DownFwdIdeal.Gen.frame m ρ

theorem frame_ri : Cert.quiescent_DownFwdRefIdeal := fun m ρ _ =>
  (θ_run Cert.DownFwdRefIdeal.defs _ _).mono (fun r h => ⟨fun c => (h c).2, sem_eq_zero_of_no_sems (by decide) r.2⟩)
    (Cert.DownFwdRefIdeal.Value.run (F := Ideal) m ρ)

/-- The kernel and the reference leave the same array. -/
theorem algebraic : Cert.algebraic_DownFwdIdeal_DownFwdRefIdeal := by
  intro m g m' g' _ hargs
  refine ⟨fun c => Cert.DownFwdRefIdeal.Read.val_main_v1 (F := Ideal) (Products.DownFwd.g m c) (w m c) (e m c), ?_, ?_⟩
  · exact (θ_run _ _ _).mono (fun r h c => ⟨(h c).1.trans (same m c), (h c).2⟩) (Cert.DownFwdIdeal.Value.run_blocks m g)
  · refine (θ_run _ _ _).mono (fun r h c => ?_) (Cert.DownFwdRefIdeal.Value.run (F := Ideal) m' g')
    obtain ⟨h1, hk⟩ := h c
    obtain ⟨e0, e1, e2⟩ := hargs c
    rw [Cert.DownFwdRefIdeal.Read.val_main_v1_eq, e0, e1, e2] at h1
    exact ⟨h1, hk⟩

end Cert.Products.DownFwd

/-! ## The gradient of the norm -/

namespace Cert.Products.NormBwd

theorem frame_p : Cert.quiescent_NormBwd := fun m ρ _ => Cert.NormBwd.Gen.frame m ρ

theorem frame_pi : Cert.quiescent_NormBwdIdeal := fun m ρ _ => Cert.NormBwdIdeal.Gen.frame m ρ

theorem frame_ri : Cert.quiescent_NormBwdRefIdeal := fun m ρ _ =>
  (θ_run Cert.NormBwdRefIdeal.defs _ _).mono (fun r h => ⟨fun c => (h c).2.2.2, sem_eq_zero_of_no_sems (by decide) r.2⟩)
    (Cert.NormBwdRefIdeal.Value.run (F := Ideal) m ρ)

/-- The kernel and the reference leave the same three arrays. -/
theorem algebraic : Cert.algebraic_NormBwdIdeal_NormBwdRefIdeal := by
  intro m g m' g' _ hargs
  refine ⟨fun c => Cert.NormBwdRefIdeal.Read.val_main_v36 (F := Ideal) (x m c) (Products.NormBwd.g m c) (h m c) (d m c),
    fun c => Cert.NormBwdRefIdeal.Read.val_main_v37 (F := Ideal) (x m c) (Products.NormBwd.g m c) (h m c) (d m c),
    fun c => Cert.NormBwdRefIdeal.Read.val_main_v38 (F := Ideal) (x m c) (h m c), ?_, ?_⟩
  · refine (θ_run _ _ _).mono (fun r hr c => ?_) (Cert.NormBwdIdeal.Value.run_blocks m g)
    obtain ⟨h1, h2, h3, hk⟩ := hr c
    exact ⟨h1.trans (same_left m c), h2.trans (same_copy m c), h3.trans (same_gain m c), hk⟩
  · refine (θ_run _ _ _).mono (fun r hr c => ?_) (Cert.NormBwdRefIdeal.Value.run (F := Ideal) m' g')
    obtain ⟨h1, h2, h3, hk⟩ := hr c
    obtain ⟨e0, e1, e2, e3⟩ := hargs c
    rw [Cert.NormBwdRefIdeal.Read.val_main_v36_eq, e0, e1, e2, e3] at h1
    rw [Cert.NormBwdRefIdeal.Read.val_main_v37_eq, e0, e1, e2, e3] at h2
    rw [Cert.NormBwdRefIdeal.Read.val_main_v38_eq, e0, e2] at h3
    exact ⟨h1, h2, h3, hk⟩

end Cert.Products.NormBwd

/-! ## The gradient of the norms of the attentions' outputs -/

namespace Cert.Products.OutNorm

theorem frame_p : Cert.quiescent_OutNorm := fun m ρ _ => Cert.OutNorm.Gen.frame m ρ

theorem frame_pi : Cert.quiescent_OutNormIdeal := fun m ρ _ => Cert.OutNormIdeal.Gen.frame m ρ

theorem frame_ri : Cert.quiescent_OutNormRefIdeal := fun m ρ _ =>
  (θ_run Cert.OutNormRefIdeal.defs _ _).mono (fun r h => ⟨fun c => (h c).2.2.2, sem_eq_zero_of_no_sems (by decide) r.2⟩)
    (Cert.OutNormRefIdeal.Value.run (F := Ideal) m ρ)

/-- The kernel and the reference leave the same three arrays. -/
theorem algebraic : Cert.algebraic_OutNormIdeal_OutNormRefIdeal := by
  intro m g m' g' _ hargs
  refine ⟨fun c => Cert.OutNormRefIdeal.Read.val_main_v52 (F := Ideal) (x m c) (h m c) (Products.OutNorm.g m c),
    fun c => Cert.OutNormRefIdeal.Read.val_main_v73 (F := Ideal) (y m c) (h m c) (k m c),
    fun c => Cert.OutNormRefIdeal.Read.val_main_v77 (F := Ideal) (x m c) (y m c) (h m c), ?_, ?_⟩
  · refine (θ_run _ _ _).mono (fun r hr c => ?_) (Cert.OutNormIdeal.Value.run_blocks m g)
    obtain ⟨h1, h2, h3, hk⟩ := hr c
    exact ⟨h1.trans (same_left m c), h2.trans (same_right m c), h3.trans (same_gain m c), hk⟩
  · refine (θ_run _ _ _).mono (fun r hr c => ?_) (Cert.OutNormRefIdeal.Value.run (F := Ideal) m' g')
    obtain ⟨h1, h2, h3, hk⟩ := hr c
    obtain ⟨e0, e1, e2, e3, e4⟩ := hargs c
    rw [Cert.OutNormRefIdeal.Read.val_main_v52_eq, e0, e2, e3] at h1
    rw [Cert.OutNormRefIdeal.Read.val_main_v73_eq, e1, e2, e4] at h2
    rw [Cert.OutNormRefIdeal.Read.val_main_v77_eq, e0, e1, e2] at h3
    exact ⟨h1, h2, h3, hk⟩

end Cert.Products.OutNorm

end
-- ==== Proof.lean ====
/- The claims of this certificate, assembled from the generated frames and the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.UpFwdRefIdeal.Read
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.OutNorm
public import proofs.«01_k».proof.Proof.Gen.OutNorm.Skeleton
public import proofs.«01_k».proof.Proof.Gen.OutNorm.Launch
public import proofs.«01_k».proof.Proof.Gen.OutNorm.Points
public import proofs.«01_k».proof.Proof.Gen.OutNorm.Frame
public import proofs.«01_k».proof.Proof.Gen.OutNormIdeal
public import proofs.«01_k».proof.Proof.Gen.OutNormIdeal.Skeleton
public import proofs.«01_k».proof.Proof.Gen.OutNormIdeal.Launch
public import proofs.«01_k».proof.Proof.Gen.OutNormIdeal.Points
public import proofs.«01_k».proof.Proof.Gen.OutNormIdeal.Frame
public import proofs.«01_k».proof.Proof.Gen.OutNormIdeal.Value
public import proofs.«01_k».proof.Proof.Gen.OutNormRefIdeal
public import proofs.«01_k».proof.Proof.Gen.OutNormRefIdeal.Run
public import proofs.«01_k».proof.Proof.Gen.OutNormRefIdeal.Read
public import proofs.«01_k».proof.Proof.Cover
public import proofs.«01_k».proof.Proof.Products
public import Idealize.ShloMosaic.Adequacy
public import Idealize.ShloMosaic.Init

@[expose] public section

noncomputable section

namespace Cert.Proof

open Idealize.ShloMosaic Idealize.SL.Sem Cert.Kernel

/-- The kernel terminates without fault, keeps its arguments and leaves the counters at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The idealized kernel and the reference do so where the arguments are real numbers. -/
theorem frame_pi_finite : @Cert.quiescent_KernelIdeal_pre_finite Cert.KernelIdeal.Gen.facts Cert.Fox.preFacts :=
  fun m ρ _ => Cert.KernelIdeal.Gen.frame m ρ

theorem frame_ri_finite : @Cert.quiescent_ReferenceIdeal_pre_finite Cert.ReferenceIdeal.Gen.facts Cert.Fox.preFacts :=
  fun m ρ _ => frame_ri m ρ trivial

/-- The mask's constant stands for −∞. -/
theorem preserves : Cert.preserves_Kernel_KernelIdeal :=
  IdealRules.named_const.statement Cert.KernelIdeal.κ "mask" .f32 0xF149F2CA#32 ⊥ rfl

open Cert.Fox Cert.ReferenceIdeal.Read in
/-- On real arguments the kernel leaves the gradients of q, k and v, and of the running sums, that the reference computes. -/
theorem algebraic : @Cert.algebraic_KernelIdeal_ReferenceIdeal_on_written_pre_finite Cert.KernelIdeal.Gen.facts
    Cert.ReferenceIdeal.Gen.facts Cert.Fox.preFacts Cert.Fox.maskFacts := by
  intro m g m' g' hpre hargs
  refine ⟨fun c => val_main_v95 (F := Ideal) (a0 m c) (a1 m c) (a2 m c) (a3 m c) (a4 m c),
    fun c => val_main_v99 (F := Ideal) (a0 m c) (a1 m c) (a2 m c) (a3 m c) (a4 m c), ?_, ?_⟩
  · refine (θ_run _ _ _).mono (fun r h c => ?_) (Cert.KernelIdeal.Value.run_blocks m g)
    have H := are_of_finite _ _ _ _ _ (hpre c)
    obtain ⟨h7, h8, hk⟩ := h c
    exact ⟨fun i hi => (congrFun h7 i).trans (same_packed m c H i (lt_of_mask _ _ _ _ _ i hi)),
      fun i _ => (congrFun h8 i).trans (same_sums m c H i), hk⟩
  · refine (θ_run _ _ _).mono (fun r h c => ?_) (Cert.ReferenceIdeal.Value.run (F := Ideal) m' g')
    obtain ⟨h7, h8, hk⟩ := h c
    obtain ⟨e0, e1, e2, e3, e4⟩ := hargs c
    rw [val_main_v95_eq, e0, e1, e2, e3, e4] at h7
    rw [val_main_v99_eq, e0, e1, e2, e3, e4] at h8
    exact ⟨fun i _ => congrFun h7 i, fun i _ => congrFun h8 i, hk⟩

theorem claim : Cert.Claim :=
  ⟨Cert.Kernel.Gen.facts, Cert.KernelIdeal.Gen.facts, Cert.ReferenceIdeal.Gen.facts,
    Cert.UpDx.Gen.facts, Cert.UpDxIdeal.Gen.facts, Cert.UpDxRefIdeal.Gen.facts, Cert.UpDw.Gen.facts,
    Cert.UpDwIdeal.Gen.facts, Cert.UpDwRefIdeal.Gen.facts,
    Cert.DownDx.Gen.facts, Cert.DownDxIdeal.Gen.facts, Cert.DownDxRefIdeal.Gen.facts, Cert.DownDw.Gen.facts,
    Cert.DownDwIdeal.Gen.facts, Cert.DownDwRefIdeal.Gen.facts, Cert.OutDx.Gen.facts, Cert.OutDxIdeal.Gen.facts,
    Cert.OutDxRefIdeal.Gen.facts, Cert.OutDw.Gen.facts, Cert.OutDwIdeal.Gen.facts, Cert.OutDwRefIdeal.Gen.facts,
    Cert.InDx.Gen.facts, Cert.InDxIdeal.Gen.facts, Cert.InDxRefIdeal.Gen.facts, Cert.InDw.Gen.facts,
    Cert.InDwIdeal.Gen.facts, Cert.InDwRefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.UpFwd.Gen.facts, Cert.UpFwdIdeal.Gen.facts, Cert.UpFwdRefIdeal.Gen.facts,
    Cert.DownFwd.Gen.facts, Cert.DownFwdIdeal.Gen.facts, Cert.DownFwdRefIdeal.Gen.facts,
    Cert.NormBwd.Gen.facts, Cert.NormBwdIdeal.Gen.facts, Cert.NormBwdRefIdeal.Gen.facts,
    Cert.OutNorm.Gen.facts, Cert.OutNormIdeal.Gen.facts, Cert.OutNormRefIdeal.Gen.facts,
    Cert.Fox.preFacts, Cert.Fox.maskFacts, frame_p, frame_pi, frame_pi_finite, frame_ri, frame_ri_finite,
    Cert.Products.UpDx.frame_p, Cert.Products.UpDx.frame_pi, Cert.Products.UpDx.frame_ri,
    Cert.Products.UpDw.frame_p, Cert.Products.UpDw.frame_pi, Cert.Products.UpDw.frame_ri,
    Cert.Products.DownDx.frame_p, Cert.Products.DownDx.frame_pi, Cert.Products.DownDx.frame_ri,
    Cert.Products.DownDw.frame_p, Cert.Products.DownDw.frame_pi, Cert.Products.DownDw.frame_ri,
    Cert.Products.OutDx.frame_p, Cert.Products.OutDx.frame_pi, Cert.Products.OutDx.frame_ri,
    Cert.Products.OutDw.frame_p, Cert.Products.OutDw.frame_pi, Cert.Products.OutDw.frame_ri,
    Cert.Products.InDx.frame_p, Cert.Products.InDx.frame_pi, Cert.Products.InDx.frame_ri, Cert.Products.InDw.frame_p,
    Cert.Products.InDw.frame_pi, Cert.Products.InDw.frame_ri,
    Cert.Products.InFwd.frame_p, Cert.Products.InFwd.frame_pi, Cert.Products.InFwd.frame_ri,
    Cert.Products.OutFwd.frame_p, Cert.Products.OutFwd.frame_pi, Cert.Products.OutFwd.frame_ri,
    Cert.Products.UpFwd.frame_p, Cert.Products.UpFwd.frame_pi, Cert.Products.UpFwd.frame_ri,
    Cert.Products.DownFwd.frame_p, Cert.Products.DownFwd.frame_pi, Cert.Products.DownFwd.frame_ri,
    Cert.Products.NormBwd.frame_p, Cert.Products.NormBwd.frame_pi, Cert.Products.NormBwd.frame_ri,
    Cert.Products.OutNorm.frame_p, Cert.Products.OutNorm.frame_pi, Cert.Products.OutNorm.frame_ri,
    preserves, algebraic,
    trivial, Cert.Products.UpDx.algebraic, trivial, Cert.Products.UpDw.algebraic,
    trivial, Cert.Products.DownDx.algebraic, trivial, Cert.Products.DownDw.algebraic, trivial,
    Cert.Products.OutDx.algebraic, trivial, Cert.Products.OutDw.algebraic, trivial, Cert.Products.InDx.algebraic,
    trivial, Cert.Products.InDw.algebraic,
    trivial, Cert.Products.InFwd.algebraic, trivial, Cert.Products.OutFwd.algebraic, trivial, Cert.Products.UpFwd.algebraic, trivial, Cert.Products.DownFwd.algebraic,
    trivial, Cert.Products.NormBwd.algebraic, trivial, Cert.Products.OutNorm.algebraic⟩

end Cert.Proof

end
